-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_ln2_finite [hPre_ln2_finite : Cert.Pre_ln2_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_ln2_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_ln2_finite [hPre_ln2_finite : Cert.Pre_ln2_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_ln2_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_ln1_finite [hPre_ln1_finite : Cert.Pre_ln1_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_ln1_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_ln1_finite [hPre_ln1_finite : Cert.Pre_ln1_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_ln1_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_ln2_finite [hKernel4Ideal : Cert.Kernel4Ideal.Facts] [hPre_ln2_finite : Cert.Pre_ln2_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_ln2_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_ln2_finite [hReference4Ideal : Cert.Reference4Ideal.Facts] [hPre_ln2_finite : Cert.Pre_ln2_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_ln2_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_ln1_finite [hKernel5Ideal : Cert.Kernel5Ideal.Facts] [hPre_ln1_finite : Cert.Pre_ln1_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_ln1_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_ln1_finite [hReference5Ideal : Cert.Reference5Ideal.Facts] [hPre_ln1_finite : Cert.Pre_ln1_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_ln1_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15)
      ∧ r.2.mem ((c.tc : Thread Cert.Kernel6.nD Cert.Kernel6.τ).loc Cert.Kernel6.main_arg16) = m ((c.tc : Thread Cert.Kernel6.nD Cert.Kernel6.τ).loc Cert.Kernel6.main_arg16)
      ∧ r.2.mem ((c.tc : Thread Cert.Kernel6.nD Cert.Kernel6.τ).loc Cert.Kernel6.main_arg17) = m ((c.tc : Thread Cert.Kernel6.nD Cert.Kernel6.τ).loc Cert.Kernel6.main_arg17)
      ∧ r.2.mem ((c.tc : Thread Cert.Kernel6.nD Cert.Kernel6.τ).loc Cert.Kernel6.main_arg18) = m ((c.tc : Thread Cert.Kernel6.nD Cert.Kernel6.τ).loc Cert.Kernel6.main_arg18)
      ∧ r.2.mem ((c.tc : Thread Cert.Kernel6.nD Cert.Kernel6.τ).loc Cert.Kernel6.main_arg19) = m ((c.tc : Thread Cert.Kernel6.nD Cert.Kernel6.τ).loc Cert.Kernel6.main_arg19)
      ∧ r.2.mem ((c.tc : Thread Cert.Kernel6.nD Cert.Kernel6.τ).loc Cert.Kernel6.main_arg20) = m ((c.tc : Thread Cert.Kernel6.nD Cert.Kernel6.τ).loc Cert.Kernel6.main_arg20))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
      ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
      ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def preserves_Kernel_KernelIdeal : Prop :=
  True

def algebraic_KernelIdeal_ReferenceIdeal_on_gate_columns [hKernelIdeal : Cert.KernelIdeal.Facts] [hReferenceIdeal : Cert.ReferenceIdeal.Facts] [hOn_gate_columns : Cert.On_gate_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v13_0) i = v0 c i)
          ∧ (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v13_1) i = v1 c i)
          ∧ (∀ i : (⟨2, ![8192, 6144]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.KernelIdeal.nD Cert.KernelIdeal.τ).loc Cert.KernelIdeal.main_v13_2) i = v2 c i)
          ∧ (∀ i : (⟨2, ![1, 2048]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 i = 1#1 → r.2.mem ((c.tc : Thread Cert.KernelIdeal.nD Cert.KernelIdeal.τ).loc Cert.KernelIdeal.main_v13_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v42) i = v0 c i)
          ∧ (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v44) i = v1 c i)
          ∧ (∀ i : (⟨2, ![8192, 6144]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.ReferenceIdeal.nD Cert.ReferenceIdeal.τ).loc Cert.ReferenceIdeal.main_v46) i = v2 c i)
          ∧ (∀ i : (⟨2, ![1, 2048]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 i = 1#1 → r.2.mem ((c.tc : Thread Cert.ReferenceIdeal.nD Cert.ReferenceIdeal.τ).loc Cert.ReferenceIdeal.main_v47) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)) (v2 : (c : Dev Cert.Kernel3Ideal.nD) → Buf (Elt Ideal) ((c.tc : Thread Cert.Kernel3Ideal.nD Cert.Kernel3Ideal.τ).loc Cert.Kernel3Ideal.main_v17_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_v17_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_v22) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_ln2_finite [hKernel4Ideal : Cert.Kernel4Ideal.Facts] [hReference4Ideal : Cert.Reference4Ideal.Facts] [hPre_ln2_finite : Cert.Pre_ln2_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_ln2_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)) (v3 : (c : Dev Cert.Kernel4Ideal.nD) → Buf (Elt Ideal) ((c.tc : Thread Cert.Kernel4Ideal.nD Cert.Kernel4Ideal.τ).loc Cert.Kernel4Ideal.main_v8_3)) (v4 : (c : Dev Cert.Kernel4Ideal.nD) → Buf (Elt Ideal) ((c.tc : Thread Cert.Kernel4Ideal.nD Cert.Kernel4Ideal.τ).loc Cert.Kernel4Ideal.main_v8_4)) (v5 : (c : Dev Cert.Kernel4Ideal.nD) → Buf (Elt Ideal) ((c.tc : Thread Cert.Kernel4Ideal.nD Cert.Kernel4Ideal.τ).loc Cert.Kernel4Ideal.main_v8_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_v8_3) = v3 c
          ∧ r.2.mem ((c.tc : Thread Cert.Kernel4Ideal.nD Cert.Kernel4Ideal.τ).loc Cert.Kernel4Ideal.main_v8_4) = v4 c
          ∧ r.2.mem ((c.tc : Thread Cert.Kernel4Ideal.nD Cert.Kernel4Ideal.τ).loc Cert.Kernel4Ideal.main_v8_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v101) = v0 c
          ∧ r.2.mem ((c.tc : Thread Cert.Reference4Ideal.nD Cert.Reference4Ideal.τ).loc Cert.Reference4Ideal.main_v102) = v1 c
          ∧ r.2.mem ((c.tc : Thread Cert.Reference4Ideal.nD Cert.Reference4Ideal.τ).loc Cert.Reference4Ideal.main_v103) = v2 c
          ∧ r.2.mem ((c.tc : Thread Cert.Reference4Ideal.nD Cert.Reference4Ideal.τ).loc Cert.Reference4Ideal.main_v65) = v3 c
          ∧ r.2.mem ((c.tc : Thread Cert.Reference4Ideal.nD Cert.Reference4Ideal.τ).loc Cert.Reference4Ideal.main_v58) = v4 c
          ∧ r.2.mem ((c.tc : Thread Cert.Reference4Ideal.nD Cert.Reference4Ideal.τ).loc Cert.Reference4Ideal.main_v104) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_ln1_finite [hKernel5Ideal : Cert.Kernel5Ideal.Facts] [hReference5Ideal : Cert.Reference5Ideal.Facts] [hPre_ln1_finite : Cert.Pre_ln1_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_ln1_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v46_0)) (v1 : (c : Dev Cert.Kernel5Ideal.nD) → Buf (Elt Ideal) ((c.tc : Thread Cert.Kernel5Ideal.nD Cert.Kernel5Ideal.τ).loc Cert.Kernel5Ideal.main_v46_1)) (v2 : (c : Dev Cert.Kernel5Ideal.nD) → Buf (Elt Ideal) ((c.tc : Thread Cert.Kernel5Ideal.nD Cert.Kernel5Ideal.τ).loc Cert.Kernel5Ideal.main_v46_2)) (v3 : (c : Dev Cert.Kernel5Ideal.nD) → Buf (Elt Ideal) ((c.tc : Thread Cert.Kernel5Ideal.nD Cert.Kernel5Ideal.τ).loc Cert.Kernel5Ideal.main_v46_3)) (v4 : (c : Dev Cert.Kernel5Ideal.nD) → Buf (Elt Ideal) ((c.tc : Thread Cert.Kernel5Ideal.nD Cert.Kernel5Ideal.τ).loc Cert.Kernel5Ideal.main_v46_4)) (v5 : (c : Dev Cert.Kernel5Ideal.nD) → Buf (Elt Ideal) ((c.tc : Thread Cert.Kernel5Ideal.nD Cert.Kernel5Ideal.τ).loc Cert.Kernel5Ideal.main_v46_5)) (v6 : (c : Dev Cert.Kernel5Ideal.nD) → Buf (Elt Ideal) ((c.tc : Thread Cert.Kernel5Ideal.nD Cert.Kernel5Ideal.τ).loc Cert.Kernel5Ideal.main_v46_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v46_0) = v0 c
          ∧ r.2.mem ((c.tc : Thread Cert.Kernel5Ideal.nD Cert.Kernel5Ideal.τ).loc Cert.Kernel5Ideal.main_v46_1) = v1 c
          ∧ r.2.mem ((c.tc : Thread Cert.Kernel5Ideal.nD Cert.Kernel5Ideal.τ).loc Cert.Kernel5Ideal.main_v46_2) = v2 c
          ∧ r.2.mem ((c.tc : Thread Cert.Kernel5Ideal.nD Cert.Kernel5Ideal.τ).loc Cert.Kernel5Ideal.main_v46_3) = v3 c
          ∧ r.2.mem ((c.tc : Thread Cert.Kernel5Ideal.nD Cert.Kernel5Ideal.τ).loc Cert.Kernel5Ideal.main_v46_4) = v4 c
          ∧ r.2.mem ((c.tc : Thread Cert.Kernel5Ideal.nD Cert.Kernel5Ideal.τ).loc Cert.Kernel5Ideal.main_v46_5) = v5 c
          ∧ r.2.mem ((c.tc : Thread Cert.Kernel5Ideal.nD Cert.Kernel5Ideal.τ).loc Cert.Kernel5Ideal.main_v46_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v101) = v0 c
          ∧ r.2.mem ((c.tc : Thread Cert.Reference5Ideal.nD Cert.Reference5Ideal.τ).loc Cert.Reference5Ideal.main_v103) = v1 c
          ∧ r.2.mem ((c.tc : Thread Cert.Reference5Ideal.nD Cert.Reference5Ideal.τ).loc Cert.Reference5Ideal.main_v104) = v2 c
          ∧ r.2.mem ((c.tc : Thread Cert.Reference5Ideal.nD Cert.Reference5Ideal.τ).loc Cert.Reference5Ideal.main_v105) = v3 c
          ∧ r.2.mem ((c.tc : Thread Cert.Reference5Ideal.nD Cert.Reference5Ideal.τ).loc Cert.Reference5Ideal.main_v106) = v4 c
          ∧ r.2.mem ((c.tc : Thread Cert.Reference5Ideal.nD Cert.Reference5Ideal.τ).loc Cert.Reference5Ideal.main_v68) = v5 c
          ∧ r.2.mem ((c.tc : Thread Cert.Reference5Ideal.nD Cert.Reference5Ideal.τ).loc Cert.Reference5Ideal.main_v61) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def preserves_Kernel7_Kernel7Ideal : Prop :=
  True

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v9_0)) (v1 : (c : Dev Cert.Kernel9Ideal.nD) → Buf (Elt Ideal) ((c.tc : Thread Cert.Kernel9Ideal.nD Cert.Kernel9Ideal.τ).loc Cert.Kernel9Ideal.main_v9_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9_0) = v0 c
          ∧ r.2.mem ((c.tc : Thread Cert.Kernel9Ideal.nD Cert.Kernel9Ideal.τ).loc Cert.Kernel9Ideal.main_v9_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_v6) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v7_0)) (v1 : (c : Dev Cert.Kernel10Ideal.nD) → Buf (Elt Ideal) ((c.tc : Thread Cert.Kernel10Ideal.nD Cert.Kernel10Ideal.τ).loc Cert.Kernel10Ideal.main_v7_1)) (v2 : (c : Dev Cert.Kernel10Ideal.nD) → Buf (Elt Ideal) ((c.tc : Thread Cert.Kernel10Ideal.nD Cert.Kernel10Ideal.τ).loc Cert.Kernel10Ideal.main_v7_2)) (v3 : (c : Dev Cert.Kernel10Ideal.nD) → Buf (Elt Ideal) ((c.tc : Thread Cert.Kernel10Ideal.nD Cert.Kernel10Ideal.τ).loc Cert.Kernel10Ideal.main_v7_3)) (v4 : (c : Dev Cert.Kernel10Ideal.nD) → Buf (Elt Ideal) ((c.tc : Thread Cert.Kernel10Ideal.nD Cert.Kernel10Ideal.τ).loc Cert.Kernel10Ideal.main_v7_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7_0) = v0 c
          ∧ r.2.mem ((c.tc : Thread Cert.Kernel10Ideal.nD Cert.Kernel10Ideal.τ).loc Cert.Kernel10Ideal.main_v7_1) = v1 c
          ∧ r.2.mem ((c.tc : Thread Cert.Kernel10Ideal.nD Cert.Kernel10Ideal.τ).loc Cert.Kernel10Ideal.main_v7_2) = v2 c
          ∧ r.2.mem ((c.tc : Thread Cert.Kernel10Ideal.nD Cert.Kernel10Ideal.τ).loc Cert.Kernel10Ideal.main_v7_3) = v3 c
          ∧ r.2.mem ((c.tc : Thread Cert.Kernel10Ideal.nD Cert.Kernel10Ideal.τ).loc Cert.Kernel10Ideal.main_v7_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v42) = v0 c
          ∧ r.2.mem ((c.tc : Thread Cert.Reference10Ideal.nD Cert.Reference10Ideal.τ).loc Cert.Reference10Ideal.main_v43) = v1 c
          ∧ r.2.mem ((c.tc : Thread Cert.Reference10Ideal.nD Cert.Reference10Ideal.τ).loc Cert.Reference10Ideal.main_v45) = v2 c
          ∧ r.2.mem ((c.tc : Thread Cert.Reference10Ideal.nD Cert.Reference10Ideal.τ).loc Cert.Reference10Ideal.main_v47) = v3 c
          ∧ r.2.mem ((c.tc : Thread Cert.Reference10Ideal.nD Cert.Reference10Ideal.τ).loc Cert.Reference10Ideal.main_v49) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v11_0)) (v1 : (c : Dev Cert.Kernel11Ideal.nD) → Buf (Elt Ideal) ((c.tc : Thread Cert.Kernel11Ideal.nD Cert.Kernel11Ideal.τ).loc Cert.Kernel11Ideal.main_v11_1)) (v2 : (c : Dev Cert.Kernel11Ideal.nD) → Buf (Elt Ideal) ((c.tc : Thread Cert.Kernel11Ideal.nD Cert.Kernel11Ideal.τ).loc Cert.Kernel11Ideal.main_v11_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v11_0) = v0 c
          ∧ r.2.mem ((c.tc : Thread Cert.Kernel11Ideal.nD Cert.Kernel11Ideal.τ).loc Cert.Kernel11Ideal.main_v11_1) = v1 c
          ∧ r.2.mem ((c.tc : Thread Cert.Kernel11Ideal.nD Cert.Kernel11Ideal.τ).loc Cert.Kernel11Ideal.main_v11_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v27) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v2) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v7_0)) (v1 : (c : Dev Cert.Kernel15Ideal.nD) → Buf (Elt Ideal) ((c.tc : Thread Cert.Kernel15Ideal.nD Cert.Kernel15Ideal.τ).loc Cert.Kernel15Ideal.main_v7_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v7_0) = v0 c
          ∧ r.2.mem ((c.tc : Thread Cert.Kernel15Ideal.nD Cert.Kernel15Ideal.τ).loc Cert.Kernel15Ideal.main_v7_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_v9) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v5)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v5) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  IdealRules.named_const.Statement Cert.Kernel17Ideal.κ "c1" .f32 0x3FC48605#32 ((8388608 / 5463681 : ℝ) : EReal)
  ∧ IdealRules.named_const.Statement Cert.Kernel17Ideal.κ "c2" .f32 0x42C8E6D3#32 ((268435456 / 2672307 : ℝ) : EReal)

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v3_0)) (v1 : (c : Dev Cert.Kernel17Ideal.nD) → Buf (Elt Ideal) ((c.tc : Thread Cert.Kernel17Ideal.nD Cert.Kernel17Ideal.τ).loc Cert.Kernel17Ideal.main_v3_1)) (v2 : (c : Dev Cert.Kernel17Ideal.nD) → Buf (Elt Ideal) ((c.tc : Thread Cert.Kernel17Ideal.nD Cert.Kernel17Ideal.τ).loc Cert.Kernel17Ideal.main_v3_2)) (v3 : (c : Dev Cert.Kernel17Ideal.nD) → Buf (Elt Ideal) ((c.tc : Thread Cert.Kernel17Ideal.nD Cert.Kernel17Ideal.τ).loc Cert.Kernel17Ideal.main_v3_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3_0) = v0 c
          ∧ r.2.mem ((c.tc : Thread Cert.Kernel17Ideal.nD Cert.Kernel17Ideal.τ).loc Cert.Kernel17Ideal.main_v3_1) = v1 c
          ∧ r.2.mem ((c.tc : Thread Cert.Kernel17Ideal.nD Cert.Kernel17Ideal.τ).loc Cert.Kernel17Ideal.main_v3_2) = v2 c
          ∧ r.2.mem ((c.tc : Thread Cert.Kernel17Ideal.nD Cert.Kernel17Ideal.τ).loc Cert.Kernel17Ideal.main_v3_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_arg1) = v0 c
          ∧ r.2.mem ((c.tc : Thread Cert.Reference17Ideal.nD Cert.Reference17Ideal.τ).loc Cert.Reference17Ideal.main_v23) = v1 c
          ∧ r.2.mem ((c.tc : Thread Cert.Reference17Ideal.nD Cert.Reference17Ideal.τ).loc Cert.Reference17Ideal.main_v4) = v2 c
          ∧ r.2.mem ((c.tc : Thread Cert.Reference17Ideal.nD Cert.Reference17Ideal.τ).loc Cert.Reference17Ideal.main_v10) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  IdealRules.named_const.Statement Cert.Kernel18Ideal.κ "c1" .f32 0x3FC48605#32 ((8388608 / 5463681 : ℝ) : EReal)
  ∧ IdealRules.named_const.Statement Cert.Kernel18Ideal.κ "c2" .f32 0x42C8E6D3#32 ((268435456 / 2672307 : ℝ) : EReal)

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)) (v3 : (c : Dev Cert.Kernel18Ideal.nD) → Buf (Elt Ideal) ((c.tc : Thread Cert.Kernel18Ideal.nD Cert.Kernel18Ideal.τ).loc Cert.Kernel18Ideal.main_v4_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_v4_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v8) = v0 c
          ∧ r.2.mem ((c.tc : Thread Cert.Reference18Ideal.nD Cert.Reference18Ideal.τ).loc Cert.Reference18Ideal.main_v32) = v1 c
          ∧ r.2.mem ((c.tc : Thread Cert.Reference18Ideal.nD Cert.Reference18Ideal.τ).loc Cert.Reference18Ideal.main_v13) = v2 c
          ∧ r.2.mem ((c.tc : Thread Cert.Reference18Ideal.nD Cert.Reference18Ideal.τ).loc Cert.Reference18Ideal.main_v19) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hKernel7 : Cert.Kernel7.Facts) (hKernel7Ideal : Cert.Kernel7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_ln2_finite : Cert.Pre_ln2_finite.Facts) (hPre_ln1_finite : Cert.Pre_ln1_finite.Facts) (hOn_gate_columns : Cert.On_gate_columns.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_ln2_finite (hKernel4Ideal := hKernel4Ideal) (hPre_ln2_finite := hPre_ln2_finite)
    ∧ quiescent_Reference4Ideal (hReference4Ideal := hReference4Ideal)
    ∧ quiescent_Reference4Ideal_pre_ln2_finite (hReference4Ideal := hReference4Ideal) (hPre_ln2_finite := hPre_ln2_finite)
    ∧ quiescent_Kernel5 (hKernel5 := hKernel5)
    ∧ quiescent_Kernel5Ideal (hKernel5Ideal := hKernel5Ideal)
    ∧ quiescent_Kernel5Ideal_pre_ln1_finite (hKernel5Ideal := hKernel5Ideal) (hPre_ln1_finite := hPre_ln1_finite)
    ∧ quiescent_Reference5Ideal (hReference5Ideal := hReference5Ideal)
    ∧ quiescent_Reference5Ideal_pre_ln1_finite (hReference5Ideal := hReference5Ideal) (hPre_ln1_finite := hPre_ln1_finite)
    ∧ quiescent_Kernel6 (hKernel6 := hKernel6)
    ∧ quiescent_Kernel6Ideal (hKernel6Ideal := hKernel6Ideal)
    ∧ quiescent_Kernel7 (hKernel7 := hKernel7)
    ∧ quiescent_Kernel7Ideal (hKernel7Ideal := hKernel7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_on_gate_columns (hKernelIdeal := hKernelIdeal) (hReferenceIdeal := hReferenceIdeal) (hOn_gate_columns := hOn_gate_columns)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_ln2_finite (hKernel4Ideal := hKernel4Ideal) (hReference4Ideal := hReference4Ideal) (hPre_ln2_finite := hPre_ln2_finite)
    ∧ preserves_Kernel5_Kernel5Ideal
    ∧ algebraic_Kernel5Ideal_Reference5Ideal_pre_ln1_finite (hKernel5Ideal := hKernel5Ideal) (hReference5Ideal := hReference5Ideal) (hPre_ln1_finite := hPre_ln1_finite)
    ∧ preserves_Kernel6_Kernel6Ideal
    ∧ preserves_Kernel7_Kernel7Ideal
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== On_gate_columns.lean ====
abbrev S4x2048x1024 : Shape := ⟨3, ![4, 2048, 1024]⟩
abbrev S4x2048x6144 : Shape := ⟨3, ![4, 2048, 6144]⟩
abbrev S1x6144 : Shape := ⟨2, ![1, 6144]⟩
abbrev S1024x1024 : Shape := ⟨2, ![1024, 1024]⟩
abbrev S8192x6144 : Shape := ⟨2, ![8192, 6144]⟩
abbrev S_ : Shape := ⟨0, ![]⟩
abbrev S8192x1024 : Shape := ⟨2, ![8192, 1024]⟩
abbrev S1x2048 : Shape := ⟨2, ![1, 2048]⟩

class Facts : Prop where
  bcast_S_S8192x6144 : S_.BroadcastsInDim S8192x6144 (![] : Fin 0 → Fin S8192x6144.rank)
  bcast_S_S8192x1024 : S_.BroadcastsInDim S8192x1024 (![] : Fin 0 → Fin S8192x1024.rank)
  bcast_S_S1x2048 : S_.BroadcastsInDim S1x2048 (![] : Fin 0 → Fin S1x2048.rank)

variable [Facts]

def fn {F : FTy → Type} [FloatOps F] (main_arg0 : FVec F S4x2048x1024 .f32) (main_arg1 : FVec F S4x2048x1024 .f32) (main_arg2 : FVec F S4x2048x6144 .f32) (main_arg3 : FVec F S1x6144 .f32) (main_arg4 : FVec F S1024x1024 .f32) (main_arg5 : FVec F S4x2048x1024 .f32) : IVec S8192x1024 1 × IVec S8192x1024 1 × IVec S8192x6144 1 × IVec S1x2048 1 :=
  let main_v0 : IVec S8192x6144 32 := iotaInDim S8192x6144 32 1
  let main_c : IVec S_ 32 := constantI S_ 32 4096#32
  let main_v1 : IVec S8192x6144 32 := broadcastInDim S8192x6144 ![] bcast_S_S8192x6144 main_c
  let main_v2 : IVec S8192x6144 1 := cmpi .sge main_v0 main_v1
  let main_c_0 : IVec S_ 1 := constantI S_ 1 1#1
  let main_v3 : IVec S8192x1024 1 := broadcastInDim S8192x1024 ![] bcast_S_S8192x1024 main_c_0
  let main_c_1 : IVec S_ 1 := constantI S_ 1 1#1
  let main_v4 : IVec S8192x1024 1 := broadcastInDim S8192x1024 ![] bcast_S_S8192x1024 main_c_1
  let main_c_2 : IVec S_ 1 := constantI S_ 1 1#1
  let main_v5 : IVec S1x2048 1 := broadcastInDim S1x2048 ![] bcast_S_S1x2048 main_c_2
  (main_v3, main_v4, main_v2, main_v5)
-- ==== Pre_ln1_finite.lean ====
abbrev S4x2048x1024 : Shape := ⟨3, ![4, 2048, 1024]⟩
abbrev S4x1024 : Shape := ⟨2, ![4, 1024]⟩
abbrev S1x1024 : Shape := ⟨2, ![1, 1024]⟩
abbrev S1024x4096 : Shape := ⟨2, ![1024, 4096]⟩
abbrev S4x2048x4096 : Shape := ⟨3, ![4, 2048, 4096]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4x2048x4096 : S_.BroadcastsInDim S4x2048x4096 (![] : Fin 0 → Fin S4x2048x4096.rank)
  reducesTo_S4x2048x4096_S_d0_1_2 : S4x2048x4096.ReducesTo [0, 1, 2] S_

variable [Facts]

def fn_part2 {F : FTy → Type} [FloatOps F] (main_arg9 : FVec F S4x2048x1024 .f32) (main_v33 : IVec S_ 1) : IVec S_ 1 :=
  let main_v34 : FVec F S4x2048x1024 .f32 := Host.absf main_arg9
  let main_cst_12 : FVec F S_ .f32 := constant S_ .f32 0x7F800000#32
  let main_v35 : FVec F S4x2048x1024 .f32 := broadcastInDim S4x2048x1024 ![] bcast_S_S4x2048x1024 main_cst_12
  let main_v36 : IVec S4x2048x1024 1 := cmpf .olt main_v34 main_v35
  let main_c_13 : IVec S_ 1 := constantI S_ 1 1#1
  let main_v37 : IVec S_ 1 := (fun x v => Host.reduce IntOp.andi x v reducesTo_S4x2048x1024_S_d0_1_2 h_S_) main_v36 main_c_13
  let main_v38 : IVec S_ 1 := andi main_v33 main_v37
  main_v38

def fn_part1 {F : FTy → Type} [FloatOps F] (main_arg5 : FVec F S4x1024 .f32) (main_arg7 : FVec F S1024x4096 .f32) (main_arg8 : FVec F S4x2048x4096 .f32) (main_arg9 : FVec F S4x2048x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S4x1024 .f32 := Host.absf main_arg5
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S1024x4096 .f32 := Host.absf main_arg7
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S4x2048x4096 .f32 := Host.absf main_arg8
  let main_cst_10 : FVec F S_ .f32 := constant S_ .f32 0x7F800000#32
  let main_v30 : FVec F S4x2048x4096 .f32 := broadcastInDim S4x2048x4096 ![] bcast_S_S4x2048x4096 main_cst_10
  let main_v31 : IVec S4x2048x4096 1 := cmpf .olt main_v29 main_v30
  let main_c_11 : IVec S_ 1 := constantI S_ 1 1#1
  let main_v32 : IVec S_ 1 := (fun x v => Host.reduce IntOp.andi x v reducesTo_S4x2048x4096_S_d0_1_2 h_S_) main_v31 main_c_11
  let main_v33 : IVec S_ 1 := andi main_v28 main_v32
  fn_part2 (F := F) main_arg9 main_v33

def fn {F : FTy → Type} [FloatOps F] (main_arg0 : FVec F S4x2048x1024 .f32) (main_arg1 : FVec F S4x2048x1024 .f32) (main_arg2 : FVec F S4x1024 .f32) (main_arg3 : FVec F S1x1024 .f32) (main_arg4 : FVec F S1x1024 .f32) (main_arg5 : FVec F S4x1024 .f32) (main_arg6 : FVec F S4x1024 .f32) (main_arg7 : FVec F S1024x4096 .f32) (main_arg8 : FVec F S4x2048x4096 .f32) (main_arg9 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x1024 .f32 := Host.absf main_arg2
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg5 main_arg7 main_arg8 main_arg9 main_v13 main_v16
-- ==== Pre_ln2_finite.lean ====
abbrev S4x2048x4096 : Shape := ⟨3, ![4, 2048, 4096]⟩
abbrev S4096x1024 : Shape := ⟨2, ![4096, 1024]⟩
abbrev S4x2048x1024 : Shape := ⟨3, ![4, 2048, 1024]⟩
abbrev S4x1024 : Shape := ⟨2, ![4, 1024]⟩
abbrev S1x1024 : Shape := ⟨2, ![1, 1024]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4x1024 .f32) (main_arg5 : FVec F S1x1024 .f32) (main_arg6 : FVec F S1x1024 .f32) (main_v13 : IVec S_ 1) (main_v16 : IVec S4x2048x1024 1) : IVec S_ 1 :=
  let main_c_5 : IVec S_ 1 := constantI S_ 1 1#1
  let main_v17 : IVec S_ 1 := (fun x v => Host.reduce IntOp.andi x v reducesTo_S4x2048x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  main_v33

def fn {F : FTy → Type} [FloatOps F] (main_arg0 : FVec F S4x2048x4096 .f32) (main_arg1 : FVec F S4096x1024 .f32) (main_arg2 : FVec F S4x2048x1024 .f32) (main_arg3 : FVec F S4x2048x1024 .f32) (main_arg4 : FVec F S4x1024 .f32) (main_arg5 : FVec F S1x1024 .f32) (main_arg6 : FVec F S1x1024 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S4x2048x1024 .f32 := Host.absf main_arg3
  let main_cst_4 : FVec F S_ .f32 := constant S_ .f32 0x7F800000#32
  let main_v15 : FVec F S4x2048x1024 .f32 := broadcastInDim S4x2048x1024 ![] bcast_S_S4x2048x1024 main_cst_4
  let main_v16 : IVec S4x2048x1024 1 := cmpf .olt main_v14 main_v15
  fn_part1 (F := F) main_arg4 main_arg5 main_arg6 main_v13 main_v16
-- ==== Kernel.lean ====
abbrev S4x2048x1024 : Shape := ⟨3, ![4, 2048, 1024]⟩
abbrev S4x2048x6144 : Shape := ⟨3, ![4, 2048, 6144]⟩
abbrev S1x6144 : Shape := ⟨2, ![1, 6144]⟩
abbrev S1024x1024 : Shape := ⟨2, ![1024, 1024]⟩
abbrev S1x1x6144 : Shape := ⟨3, ![1, 1, 6144]⟩
abbrev S8192x6144 : Shape := ⟨2, ![8192, 6144]⟩
abbrev S8192x1024 : Shape := ⟨2, ![8192, 1024]⟩
abbrev S_ : Shape := ⟨0, ![]⟩
abbrev S8x128 : Shape := ⟨2, ![8, 128]⟩
abbrev S1x2048 : Shape := ⟨2, ![1, 2048]⟩
abbrev S512x1024 : Shape := ⟨2, ![512, 1024]⟩
abbrev S512x2048 : Shape := ⟨2, ![512, 2048]⟩
abbrev S1024 : Shape := ⟨1, ![1024]⟩
abbrev S1x1024 : Shape := ⟨2, ![1, 1024]⟩

abbrev nBuf : Space → Nat
  | .hbm => 24
  | .vmem => 19
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x6144, .f32⟩
  | .hbm, ⟨3, _⟩ => ⟨S1x6144, .f32⟩
  | .hbm, ⟨4, _⟩ => ⟨S1024x1024, .f32⟩
  | .hbm, ⟨5, _⟩ => ⟨S4x2048x1024, .f32⟩
  | .hbm, ⟨6, _⟩ => ⟨S1x1x6144, .f32⟩
  | .hbm, ⟨7, _⟩ => ⟨S4x2048x6144, .f32⟩
  | .hbm, ⟨8, _⟩ => ⟨S4x2048x6144, .f32⟩
  | .hbm, ⟨9, _⟩ => ⟨S4x2048x6144, .bf16⟩
  | .hbm, ⟨10, _⟩ => ⟨S8192x6144, .bf16⟩
  | .hbm, ⟨11, _⟩ => ⟨S4x2048x1024, .bf16⟩
  | .hbm, ⟨12, _⟩ => ⟨S8192x1024, .bf16⟩
  | .hbm, ⟨13, _⟩ => ⟨S1024x1024, .bf16⟩
  | .hbm, ⟨14, _⟩ => ⟨S_, .f32⟩
  | .hbm, ⟨15, _⟩ => ⟨S8x128, .f32⟩
  | .hbm, ⟨16, _⟩ => ⟨S4x2048x1024, .bf16⟩
  | .hbm, ⟨17, _⟩ => ⟨S8192x1024, .bf16⟩
  | .hbm, ⟨18, _⟩ => ⟨S4x2048x1024, .bf16⟩
  | .hbm, ⟨19, _⟩ => ⟨S8192x1024, .bf16⟩
  | .hbm, ⟨20, _⟩ => ⟨S8192x1024, .bf16⟩
  | .hbm, ⟨21, _⟩ => ⟨S8192x1024, .bf16⟩
  | .hbm, ⟨22, _⟩ => ⟨S8192x6144, .bf16⟩
  | .hbm, ⟨23, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S8x128, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x2048, .bf16⟩
  | .local _ .vmem, ⟨17, _⟩ => ⟨S512x2048, .bf16⟩
  | .local _ .vmem, ⟨18, _⟩ => ⟨S1x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let v57 : BitVec 32 := Scalar.extui v56
  let c0_i32_28 : BitVec 32 := 0#32
  let v58 : BitVec 1 := Scalar.cmpi .ne v57 c0_i32_28
  v58

def k0_cond2 (i : grid0.Coords) : BitVec 1 :=
  let arg0 : BitVec 32 := BitVec.ofNat 32 (i 0).val
  let c0_i32 : BitVec 32 := 0#32
  let v56 : BitVec 1 := Scalar.cmpi .eq arg0 c0_i32
  let v_true : BitVec 1 := 1#1
  let v59 : BitVec 1 := Scalar.xori v56 v_true
  let v60 : BitVec 32 := Scalar.extui v59
  let c0_i32_29 : BitVec 32 := 0#32
  let v61 : BitVec 1 := Scalar.cmpi .ne v60 c0_i32_29
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4x2048x1024 : Shape := ⟨3, ![4, 2048, 1024]⟩
abbrev S4x2048x6144 : Shape := ⟨3, ![4, 2048, 6144]⟩
abbrev S1x6144 : Shape := ⟨2, ![1, 6144]⟩
abbrev S1024x1024 : Shape := ⟨2, ![1024, 1024]⟩
abbrev S1x1x6144 : Shape := ⟨3, ![1, 1, 6144]⟩
abbrev S_ : Shape := ⟨0, ![]⟩
abbrev S6144 : Shape := ⟨1, ![6144]⟩
abbrev S8192x1024 : Shape := ⟨2, ![8192, 1024]⟩
abbrev S8192x6144 : Shape := ⟨2, ![8192, 6144]⟩
abbrev S1x2048 : Shape := ⟨2, ![1, 2048]⟩

abbrev nBuf : Space → Nat
  | .hbm => 64
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x6144, .f32⟩
  | .hbm, ⟨3, _⟩ => ⟨S1x6144, .f32⟩
  | .hbm, ⟨4, _⟩ => ⟨S1024x1024, .f32⟩
  | .hbm, ⟨5, _⟩ => ⟨S4x2048x1024, .f32⟩
  | .hbm, ⟨6, _⟩ => ⟨S1x1x6144, .f32⟩
  | .hbm, ⟨7, _⟩ => ⟨S4x2048x6144, .f32⟩
  | .hbm, ⟨8, _⟩ => ⟨S4x2048x6144, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S_, .f32⟩
  | .hbm, ⟨14, _⟩ => ⟨S4x2048x1024, .f32⟩
  | .hbm, ⟨15, _⟩ => ⟨S4x2048x1024, .f32⟩
  | .hbm, ⟨16, _⟩ => ⟨S_, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S_, .f32⟩
  | .hbm, ⟨27, _⟩ => ⟨S4x2048x1024, .f32⟩
  | .hbm, ⟨28, _⟩ => ⟨S4x2048x1024, .f32⟩
  | .hbm, ⟨29, _⟩ => ⟨S_, .f32⟩
  | .hbm, ⟨30, _⟩ => ⟨S4x2048x1024, .f32⟩
  | .hbm, ⟨31, _⟩ => ⟨S4x2048x1024, .f32⟩
  | .hbm, ⟨32, _⟩ => ⟨S_, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S_, .f32⟩
  | .hbm, ⟨47, _⟩ => ⟨S4x2048x6144, .f32⟩
  | .hbm, ⟨48, _⟩ => ⟨S_, .f32⟩
  | .hbm, ⟨49, _⟩ => ⟨S4x2048x6144, .f32⟩
  | .hbm, ⟨50, _⟩ => ⟨S4x2048x6144, .f32⟩
  | .hbm, ⟨51, _⟩ => ⟨S_, .f32⟩
  | .hbm, ⟨52, _⟩ => ⟨S6144, .f32⟩
  | .hbm, ⟨53, _⟩ => ⟨S1x1x6144, .f32⟩
  | .hbm, ⟨54, _⟩ => ⟨S_, .f32⟩
  | .hbm, ⟨55, _⟩ => ⟨S6144, .f32⟩
  | .hbm, ⟨56, _⟩ => ⟨S1x6144, .f32⟩
  | .hbm, ⟨57, _⟩ => ⟨S4x2048x1024, .bf16⟩
  | .hbm, ⟨58, _⟩ => ⟨S8192x1024, .bf16⟩
  | .hbm, ⟨59, _⟩ => ⟨S4x2048x1024, .bf16⟩
  | .hbm, ⟨60, _⟩ => ⟨S8192x1024, .bf16⟩
  | .hbm, ⟨61, _⟩ => ⟨S4x2048x6144, .bf16⟩
  | .hbm, ⟨62, _⟩ => ⟨S8192x6144, .bf16⟩
  | .hbm, ⟨63, _⟩ => ⟨S1x2048, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Kernel2.lean ====
abbrev S4x2048x4096 : Shape := ⟨3, ![4, 2048, 4096]⟩
abbrev S4096x1024 : Shape := ⟨2, ![4096, 1024]⟩
abbrev S4x2048x1024 : Shape := ⟨3, ![4, 2048, 1024]⟩
abbrev S_ : Shape := ⟨0, ![]⟩
abbrev S8192x4096 : Shape := ⟨2, ![8192, 4096]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 15
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x1024, .f32⟩
  | .hbm, ⟨2, _⟩ => ⟨S4x2048x1024, .f32⟩
  | .hbm, ⟨3, _⟩ => ⟨S_, .f32⟩
  | .hbm, ⟨4, _⟩ => ⟨S4x2048x4096, .f32⟩
  | .hbm, ⟨5, _⟩ => ⟨S4x2048x4096, .f32⟩
  | .hbm, ⟨6, _⟩ => ⟨S4x2048x4096, .bf16⟩
  | .hbm, ⟨7, _⟩ => ⟨S8192x4096, .bf16⟩
  | .hbm, ⟨8, _⟩ => ⟨S_, .f32⟩
  | .hbm, ⟨9, _⟩ => ⟨S4x2048x1024, .f32⟩
  | .hbm, ⟨10, _⟩ => ⟨S4x2048x1024, .f32⟩
  | .hbm, ⟨11, _⟩ => ⟨S4x2048x1024, .bf16⟩
  | .hbm, ⟨12, _⟩ => ⟨S8192x1024, .bf16⟩
  | .hbm, ⟨13, _⟩ => ⟨S4096x1024, .bf16⟩
  | .hbm, ⟨14, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4x2048x4096 : Shape := ⟨3, ![4, 2048, 4096]⟩
abbrev S4096x1024 : Shape := ⟨2, ![4096, 1024]⟩
abbrev S4x2048x1024 : Shape := ⟨3, ![4, 2048, 1024]⟩
abbrev S_ : Shape := ⟨0, ![]⟩
abbrev S8192x4096 : Shape := ⟨2, ![8192, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x1024, .f32⟩
  | .hbm, ⟨2, _⟩ => ⟨S4x2048x1024, .f32⟩
  | .hbm, ⟨3, _⟩ => ⟨S_, .f32⟩
  | .hbm, ⟨4, _⟩ => ⟨S4x2048x4096, .f32⟩
  | .hbm, ⟨5, _⟩ => ⟨S4x2048x4096, .f32⟩
  | .hbm, ⟨6, _⟩ => ⟨S_, .f32⟩
  | .hbm, ⟨7, _⟩ => ⟨S4x2048x4096, .f32⟩
  | .hbm, ⟨8, _⟩ => ⟨S4x2048x4096, .i1⟩
  | .hbm, ⟨9, _⟩ => ⟨S_, .f32⟩
  | .hbm, ⟨10, _⟩ => ⟨S4x2048x4096, .f32⟩
  | .hbm, ⟨11, _⟩ => ⟨S4x2048x4096, .f32⟩
  | .hbm, ⟨12, _⟩ => ⟨S_, .f32⟩
  | .hbm, ⟨13, _⟩ => ⟨S4x2048x4096, .f32⟩
  | .hbm, ⟨14, _⟩ => ⟨S4x2048x4096, .f32⟩
  | .hbm, ⟨15, _⟩ => ⟨S4x2048x1024, .f32⟩
  | .hbm, ⟨16, _⟩ => ⟨S4x2048x4096, .f32⟩
  | .hbm, ⟨17, _⟩ => ⟨S4x2048x4096, .f32⟩
  | .hbm, ⟨18, _⟩ => ⟨S_, .f32⟩
  | .hbm, ⟨19, _⟩ => ⟨S4x2048x4096, .f32⟩
  | .hbm, ⟨20, _⟩ => ⟨S4x2048x4096, .f32⟩
  | .hbm, ⟨21, _⟩ => ⟨S4x2048x4096, .bf16⟩
  | .hbm, ⟨22, _⟩ => ⟨S8192x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel3.lean ====
abbrev S4x2048x1024 : Shape := ⟨3, ![4, 2048, 1024]⟩
abbrev S4x1024 : Shape := ⟨2, ![4, 1024]⟩
abbrev S1024x6144 : Shape := ⟨2, ![1024, 6144]⟩
abbrev S4x2048x6144 : Shape := ⟨3, ![4, 2048, 6144]⟩
abbrev S1024x8x3x256 : Shape := ⟨4, ![1024, 8, 3, 256]⟩
abbrev S1024x8x1x256 : Shape := ⟨4, ![1024, 8, 1, 256]⟩
abbrev S1024x8x256 : Shape := ⟨3, ![1024, 8, 256]⟩
abbrev S1024x2048 : Shape := ⟨2, ![1024, 2048]⟩
abbrev S8192x6144 : Shape := ⟨2, ![8192, 6144]⟩
abbrev S_ : Shape := ⟨0, ![]⟩
abbrev S8x128 : Shape := ⟨2, ![8, 128]⟩
abbrev S8192x1024 : Shape := ⟨2, ![8192, 1024]⟩
abbrev S4x1x1024 : Shape := ⟨3, ![4, 1, 1024]⟩
abbrev S512x6144 : Shape := ⟨2, ![512, 6144]⟩
abbrev S512x1024 : Shape := ⟨2, ![512, 1024]⟩
abbrev S1x1x1024 : Shape := ⟨3, ![1, 1, 1024]⟩
abbrev S512x256 : Shape := ⟨2, ![512, 256]⟩
abbrev S512x2048 : Shape := ⟨2, ![512, 2048]⟩
abbrev S1x1024 : Shape := ⟨2, ![1, 1024]⟩
abbrev S1024 : Shape := ⟨1, ![1024]⟩

abbrev nBuf : Space → Nat
  | .hbm => 27
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S1024x6144, .f32⟩
  | .hbm, ⟨4, _⟩ => ⟨S4x2048x6144, .f32⟩
  | .hbm, ⟨5, _⟩ => ⟨S4x2048x1024, .f32⟩
  | .hbm, ⟨6, _⟩ => ⟨S1024x6144, .bf16⟩
  | .hbm, ⟨7, _⟩ => ⟨S1024x8x3x256, .bf16⟩
  | .hbm, ⟨8, _⟩ => ⟨S1024x8x1x256, .bf16⟩
  | .hbm, ⟨9, _⟩ => ⟨S1024x8x256, .bf16⟩
  | .hbm, ⟨10, _⟩ => ⟨S1024x2048, .bf16⟩
  | .hbm, ⟨11, _⟩ => ⟨S1024x8x1x256, .bf16⟩
  | .hbm, ⟨12, _⟩ => ⟨S1024x8x256, .bf16⟩
  | .hbm, ⟨13, _⟩ => ⟨S1024x2048, .bf16⟩
  | .hbm, ⟨14, _⟩ => ⟨S1024x8x1x256, .bf16⟩
  | .hbm, ⟨15, _⟩ => ⟨S1024x8x256, .bf16⟩
  | .hbm, ⟨16, _⟩ => ⟨S1024x2048, .bf16⟩
  | .hbm, ⟨17, _⟩ => ⟨S4x2048x6144, .bf16⟩
  | .hbm, ⟨18, _⟩ => ⟨S8192x6144, .bf16⟩
  | .hbm, ⟨19, _⟩ => ⟨S_, .f32⟩
  | .hbm, ⟨20, _⟩ => ⟨S8x128, .f32⟩
  | .hbm, ⟨21, _⟩ => ⟨S8192x1024, .f32⟩
  | .hbm, ⟨22, _⟩ => ⟨S8192x1024, .f32⟩
  | .hbm, ⟨23, _⟩ => ⟨S4x1x1024, .f32⟩
  | .hbm, ⟨24, _⟩ => ⟨S8192x1024, .f32⟩
  | .hbm, ⟨25, _⟩ => ⟨S4x1x1024, .f32⟩
  | .hbm, ⟨26, _⟩ => ⟨S4x1x1024, .f32⟩
  | .local _ .vmem, ⟨0, _⟩ => ⟨S512x6144, .bf16⟩
  | .local _ .vmem, ⟨1, _⟩ => ⟨S512x6144, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev main_v17_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c4_i32 : BitVec 32 := 4#32
  let c0_i32 : BitVec 32 := 0#32
  let v79 : BitVec 1 := Scalar.cmpi .eq c4_i32 c0_i32
  let c1_i32 : BitVec 32 := 1#32
  let v80 : BitVec 32 := Scalar.select v79 c1_i32 c4_i32
  let v81 : BitVec 32 := Scalar.remsi arg0 v80
  let c0_i32_45 : BitVec 32 := 0#32
  let v83 : BitVec 1 := Scalar.cmpi .slt v81 c0_i32_45
  let c0_i32_46 : BitVec 32 := 0#32
  let v84 : BitVec 1 := Scalar.cmpi .slt v80 c0_i32_46
  let v85 : BitVec 1 := Scalar.xori v83 v84
  let c0_i32_44 : BitVec 32 := 0#32
  let v82 : BitVec 1 := Scalar.cmpi .ne v81 c0_i32_44
  let v86 : BitVec 1 := Scalar.andi v85 v82
  let v87 : BitVec 32 := Scalar.addi v81 v80
  let v88 : BitVec 32 := Scalar.select v86 v87 v81
  let c0_i32_47 : BitVec 32 := 0#32
  let v89 : BitVec 1 := Scalar.cmpi .eq v88 c0_i32_47
  let v90 : BitVec 32 := Scalar.extui v89
  let c0_i32_48 : BitVec 32 := 0#32
  let v91 : BitVec 1 := Scalar.cmpi .ne v90 c0_i32_48
  v91

def k0_cond2 (i : grid0.Coords) : BitVec 1 :=
  let arg0 : BitVec 32 := BitVec.ofNat 32 (i 0).val
  let c4_i32 : BitVec 32 := 4#32
  let c0_i32 : BitVec 32 := 0#32
  let v79 : BitVec 1 := Scalar.cmpi .eq c4_i32 c0_i32
  let c1_i32 : BitVec 32 := 1#32
  let v80 : BitVec 32 := Scalar.select v79 c1_i32 c4_i32
  let v81 : BitVec 32 := Scalar.remsi arg0 v80
  let c0_i32_45 : BitVec 32 := 0#32
  let v83 : BitVec 1 := Scalar.cmpi .slt v81 c0_i32_45
  let c0_i32_46 : BitVec 32 := 0#32
  let v84 : BitVec 1 := Scalar.cmpi .slt v80 c0_i32_46
  let v85 : BitVec 1 := Scalar.xori v83 v84
  let c0_i32_44 : BitVec 32 := 0#32
  let v82 : BitVec 1 := Scalar.cmpi .ne v81 c0_i32_44
  let v86 : BitVec 1 := Scalar.andi v85 v82
  let v87 : BitVec 32 := Scalar.addi v81 v80
  let v88 : BitVec 32 := Scalar.select v86 v87 v81
  let c0_i32_47 : BitVec 32 := 0#32
  let v89 : BitVec 1 := Scalar.cmpi .eq v88 c0_i32_47
  let v_true : BitVec 1 := 1#1
  let v92 : BitVec 1 := Scalar.xori v89 v_true
  let v93 : BitVec 32 := Scalar.extui v92
  let c0_i32_49 : BitVec 32 := 0#32
  let v94 : BitVec 1 := Scalar.cmpi .ne v93 c0_i32_49
  v94

def k0_cond3 (i : grid0.Coords) : BitVec 1 :=
  let arg0 : BitVec 32 := BitVec.ofNat 32 (i 0).val
  let c4_i32_50 : BitVec 32 := 4#32
  let c0_i32_51 : BitVec 32 := 0#32
  let v95 : BitVec 1 := Scalar.cmpi .eq c4_i32_50 c0_i32_51
  let c1_i32_52 : BitVec 32 := 1#32
  let v96 : BitVec 32 := Scalar.select v95 c1_i32_52 c4_i32_50
  let v97 : BitVec 32 := Scalar.remsi arg0 v96
  let c0_i32_54 : BitVec 32 := 0#32
  let v99 : BitVec 1 := Scalar.cmpi .slt v97 c0_i32_54
  let c0_i32_55 : BitVec 32 := 0#32
  let v100 : BitVec 1 := Scalar.cmpi .slt v96 c0_i32_55
  let v101 : BitVec 1 := Scalar.xori v99 v100
  let c0_i32_53 : BitVec 32 := 0#32
  let v98 : BitVec 1 := Scalar.cmpi .ne v97 c0_i32_53
  let v102 : BitVec 1 := Scalar.andi v101 v98
  let v103 : BitVec 32 := Scalar.addi v97 v96
  let v104 : BitVec 32 := Scalar.select v102 v103 v97
  let c0_i32_56 : BitVec 32 := 0#32
  let v105 : BitVec 1 := Scalar.cmpi .eq v104 c0_i32_56
  let v106 : BitVec 32 := Scalar.extui v105
  let c0_i32_57 : BitVec 32 := 0#32
  let v107 : BitVec 1 := Scalar.cmpi .ne v106 c0_i32_57
  v107

def k0_cond4 (i : grid0.Coords) : BitVec 1 :=
  let arg0 : BitVec 32 := BitVec.ofNat 32 (i 0).val
  let c4_i32_50 : BitVec 32 := 4#32
  let c0_i32_51 : BitVec 32 := 0#32
  let v95 : BitVec 1 := Scalar.cmpi .eq c4_i32_50 c0_i32_51
  let c1_i32_52 : BitVec 32 := 1#32
  let v96 : BitVec 32 := Scalar.select v95 c1_i32_52 c4_i32_50
  let v97 : BitVec 32 := Scalar.remsi arg0 v96
  let c0_i32_54 : BitVec 32 := 0#32
  let v99 : BitVec 1 := Scalar.cmpi .slt v97 c0_i32_54
  let c0_i32_55 : BitVec 32 := 0#32
  let v100 : BitVec 1 := Scalar.cmpi .slt v96 c0_i32_55
  let v101 : BitVec 1 := Scalar.xori v99 v100
  let c0_i32_53 : BitVec 32 := 0#32
  let v98 : BitVec 1 := Scalar.cmpi .ne v97 c0_i32_53
  let v102 : BitVec 1 := Scalar.andi v101 v98
  let v103 : BitVec 32 := Scalar.addi v97 v96
  let v104 : BitVec 32 := Scalar.select v102 v103 v97
  let c0_i32_56 : BitVec 32 := 0#32
  let v105 : BitVec 1 := Scalar.cmpi .eq v104 c0_i32_56
  let true_58 : BitVec 1 := 1#1
  let v108 : BitVec 1 := Scalar.xori v105 true_58
  let v109 : BitVec 32 := Scalar.extui v108
  let c0_i32_59 : BitVec 32 := 0#32
  let v110 : BitVec 1 := Scalar.cmpi .ne v109 c0_i32_59
  v110

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S4x2048x1024 : Shape := ⟨3, ![4, 2048, 1024]⟩
abbrev S4x1024 : Shape := ⟨2, ![4, 1024]⟩
abbrev S1024x6144 : Shape := ⟨2, ![1024, 6144]⟩
abbrev S4x2048x6144 : Shape := ⟨3, ![4, 2048, 6144]⟩
abbrev S4x1x1024 : Shape := ⟨3, ![4, 1, 1024]⟩
abbrev S_ : Shape := ⟨0, ![]⟩
abbrev S8192x1024 : Shape := ⟨2, ![8192, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S1024x6144, .f32⟩
  | .hbm, ⟨4, _⟩ => ⟨S4x2048x6144, .f32⟩
  | .hbm, ⟨5, _⟩ => ⟨S4x2048x1024, .f32⟩
  | .hbm, ⟨6, _⟩ => ⟨S4x1x1024, .f32⟩
  | .hbm, ⟨7, _⟩ => ⟨S_, .f32⟩
  | .hbm, ⟨8, _⟩ => ⟨S4x1x1024, .f32⟩
  | .hbm, ⟨9, _⟩ => ⟨S4x1x1024, .f32⟩
  | .hbm, ⟨10, _⟩ => ⟨S4x2048x1024, .f32⟩
  | .hbm, ⟨11, _⟩ => ⟨S4x2048x1024, .f32⟩
  | .hbm, ⟨12, _⟩ => ⟨S4x1x1024, .f32⟩
  | .hbm, ⟨13, _⟩ => ⟨S4x2048x1024, .f32⟩
  | .hbm, ⟨14, _⟩ => ⟨S4x2048x1024, .f32⟩
  | .hbm, ⟨15, _⟩ => ⟨S4x2048x6144, .f32⟩
  | .hbm, ⟨16, _⟩ => ⟨S4x2048x1024, .f32⟩
  | .hbm, ⟨17, _⟩ => ⟨S_, .f32⟩
  | .hbm, ⟨18, _⟩ => ⟨S4x1024, .f32⟩
  | .hbm, ⟨19, _⟩ => ⟨S4x1x1024, .f32⟩
  | .hbm, ⟨20, _⟩ => ⟨S_, .f32⟩
  | .hbm, ⟨21, _⟩ => ⟨S4x1024, .f32⟩
  | .hbm, ⟨22, _⟩ => ⟨S4x2048x1024, .f32⟩
  | .hbm, ⟨23, _⟩ => ⟨S_, .f32⟩
  | .hbm, ⟨24, _⟩ => ⟨S4x1024, .f32⟩
  | .hbm, ⟨25, _⟩ => ⟨S4x1x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S_, .f32⟩
  | .hbm, ⟨30, _⟩ => ⟨S4x1024, .f32⟩
  | .hbm, ⟨31, _⟩ => ⟨S8192x1024, .f32⟩
  | .hbm, ⟨32, _⟩ => ⟨S4x1x1024, .f32⟩
  | .hbm, ⟨33, _⟩ => ⟨S4x1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Kernel4.lean ====
abbrev S4x2048x4096 : Shape := ⟨3, ![4, 2048, 4096]⟩
abbrev S4096x1024 : Shape := ⟨2, ![4096, 1024]⟩
abbrev S4x2048x1024 : Shape := ⟨3, ![4, 2048, 1024]⟩
abbrev S4x1024 : Shape := ⟨2, ![4, 1024]⟩
abbrev S1x1024 : Shape := ⟨2, ![1, 1024]⟩
abbrev S_ : Shape := ⟨0, ![]⟩
abbrev S8192x4096 : Shape := ⟨2, ![8192, 4096]⟩
abbrev S8192x1024 : Shape := ⟨2, ![8192, 1024]⟩
abbrev S4x1x1024 : Shape := ⟨3, ![4, 1, 1024]⟩
abbrev S8x128 : Shape := ⟨2, ![8, 128]⟩
abbrev S512x4096 : Shape := ⟨2, ![512, 4096]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 22
  | .vmem => 20
  | .smem => 0
  | _ => 0

abbrev bufTy : (tb : Table) → Fin (tcTables nBuf tb) → BufTy
  | .hbm, ⟨0, _⟩ => ⟨S4x2048x4096, .f32⟩
  | .hbm, ⟨1, _⟩ => ⟨S4096x1024, .f32⟩
  | .hbm, ⟨2, _⟩ => ⟨S4x2048x1024, .f32⟩
  | .hbm, ⟨3, _⟩ => ⟨S4x2048x1024, .f32⟩
  | .hbm, ⟨4, _⟩ => ⟨S4x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S4x2048x4096, .f32⟩
  | .hbm, ⟨9, _⟩ => ⟨S4x2048x4096, .f32⟩
  | .hbm, ⟨10, _⟩ => ⟨S4x2048x4096, .bf16⟩
  | .hbm, ⟨11, _⟩ => ⟨S8192x4096, .bf16⟩
  | .hbm, ⟨12, _⟩ => ⟨S4096x1024, .bf16⟩
  | .hbm, ⟨13, _⟩ => ⟨S8192x1024, .f32⟩
  | .hbm, ⟨14, _⟩ => ⟨S8192x1024, .f32⟩
  | .hbm, ⟨15, _⟩ => ⟨S4x1x1024, .f32⟩
  | .hbm, ⟨16, _⟩ => ⟨S8192x1024, .bf16⟩
  | .hbm, ⟨17, _⟩ => ⟨S8192x1024, .f32⟩
  | .hbm, ⟨18, _⟩ => ⟨S4x1x1024, .f32⟩
  | .hbm, ⟨19, _⟩ => ⟨S1x1024, .f32⟩
  | .hbm, ⟨20, _⟩ => ⟨S1x1024, .f32⟩
  | .hbm, ⟨21, _⟩ => ⟨S8x128, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | .local _ .vmem, ⟨18, _⟩ => ⟨S1x1024, .f32⟩
  | .local _ .vmem, ⟨19, _⟩ => ⟨S8x128, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c4_i32 : BitVec 32 := 4#32
  let c0_i32 : BitVec 32 := 0#32
  let v91 : BitVec 1 := Scalar.cmpi .eq c4_i32 c0_i32
  let c1_i32 : BitVec 32 := 1#32
  let v92 : BitVec 32 := Scalar.select v91 c1_i32 c4_i32
  let v93 : BitVec 32 := Scalar.remsi arg0 v92
  let c0_i32_41 : BitVec 32 := 0#32
  let v95 : BitVec 1 := Scalar.cmpi .slt v93 c0_i32_41
  let c0_i32_42 : BitVec 32 := 0#32
  let v96 : BitVec 1 := Scalar.cmpi .slt v92 c0_i32_42
  let v97 : BitVec 1 := Scalar.xori v95 v96
  let c0_i32_40 : BitVec 32 := 0#32
  let v94 : BitVec 1 := Scalar.cmpi .ne v93 c0_i32_40
  let v98 : BitVec 1 := Scalar.andi v97 v94
  let v99 : BitVec 32 := Scalar.addi v93 v92
  let v100 : BitVec 32 := Scalar.select v98 v99 v93
  let c0_i32_43 : BitVec 32 := 0#32
  let v101 : BitVec 1 := Scalar.cmpi .eq v100 c0_i32_43
  let v102 : BitVec 32 := Scalar.extui v101
  let c0_i32_44 : BitVec 32 := 0#32
  let v103 : BitVec 1 := Scalar.cmpi .ne v102 c0_i32_44
  v103

def k0_cond2 (i : grid0.Coords) : BitVec 1 :=
  let arg0 : BitVec 32 := BitVec.ofNat 32 (i 0).val
  let c4_i32 : BitVec 32 := 4#32
  let c0_i32 : BitVec 32 := 0#32
  let v91 : BitVec 1 := Scalar.cmpi .eq c4_i32 c0_i32
  let c1_i32 : BitVec 32 := 1#32
  let v92 : BitVec 32 := Scalar.select v91 c1_i32 c4_i32
  let v93 : BitVec 32 := Scalar.remsi arg0 v92
  let c0_i32_41 : BitVec 32 := 0#32
  let v95 : BitVec 1 := Scalar.cmpi .slt v93 c0_i32_41
  let c0_i32_42 : BitVec 32 := 0#32
  let v96 : BitVec 1 := Scalar.cmpi .slt v92 c0_i32_42
  let v97 : BitVec 1 := Scalar.xori v95 v96
  let c0_i32_40 : BitVec 32 := 0#32
  let v94 : BitVec 1 := Scalar.cmpi .ne v93 c0_i32_40
  let v98 : BitVec 1 := Scalar.andi v97 v94
  let v99 : BitVec 32 := Scalar.addi v93 v92
  let v100 : BitVec 32 := Scalar.select v98 v99 v93
  let c0_i32_43 : BitVec 32 := 0#32
  let v101 : BitVec 1 := Scalar.cmpi .eq v100 c0_i32_43
  let v_true : BitVec 1 := 1#1
  let v104 : BitVec 1 := Scalar.xori v101 v_true
  let v105 : BitVec 32 := Scalar.extui v104
  let c0_i32_45 : BitVec 32 := 0#32
  let v106 : BitVec 1 := Scalar.cmpi .ne v105 c0_i32_45
  v106

def k0_cond3 (i : grid0.Coords) : BitVec 1 :=
  let arg0 : BitVec 32 := BitVec.ofNat 32 (i 0).val
  let c0_i32_46 : BitVec 32 := 0#32
  let v107 : BitVec 1 := Scalar.cmpi .eq arg0 c0_i32_46
  let v108 : BitVec 32 := Scalar.extui v107
  let c0_i32_47 : BitVec 32 := 0#32
  let v109 : BitVec 1 := Scalar.cmpi .ne v108 c0_i32_47
  v109

def k0_cond4 (i : grid0.Coords) : BitVec 1 :=
  let arg0 : BitVec 32 := BitVec.ofNat 32 (i 0).val
  let c0_i32_46 : BitVec 32 := 0#32
  let v107 : BitVec 1 := Scalar.cmpi .eq arg0 c0_i32_46
  let true_48 : BitVec 1 := 1#1
  let v110 : BitVec 1 := Scalar.xori v107 true_48
  let v111 : BitVec 32 := Scalar.extui v110
  let c0_i32_49 : BitVec 32 := 0#32
  let v112 : BitVec 1 := Scalar.cmpi .ne v111 c0_i32_49
  v112

def k0_cond5 (i : grid0.Coords) : BitVec 1 :=
  let arg0 : BitVec 32 := BitVec.ofNat 32 (i 0).val
  let c0_i32_50 : BitVec 32 := 0#32
  let v113 : BitVec 1 := Scalar.cmpi .eq arg0 c0_i32_50
  let v114 : BitVec 32 := Scalar.extui v113
  let c0_i32_51 : BitVec 32 := 0#32
  let v115 : BitVec 1 := Scalar.cmpi .ne v114 c0_i32_51
  v115

def k0_cond6 (i : grid0.Coords) : BitVec 1 :=
  let arg0 : BitVec 32 := BitVec.ofNat 32 (i 0).val
  let c0_i32_50 : BitVec 32 := 0#32
  let v113 : BitVec 1 := Scalar.cmpi .eq arg0 c0_i32_50
  let true_52 : BitVec 1 := 1#1
  let v116 : BitVec 1 := Scalar.xori v113 true_52
  let v117 : BitVec 32 := Scalar.extui v116
  let c0_i32_53 : BitVec 32 := 0#32
  let v118 : BitVec 1 := Scalar.cmpi .ne v117 c0_i32_53
  v118

def k0_cond7 (i : grid0.Coords) : BitVec 1 :=
  let arg0 : BitVec 32 := BitVec.ofNat 32 (i 0).val
  let c0_i32_54 : BitVec 32 := 0#32
  let v119 : BitVec 1 := Scalar.cmpi .eq arg0 c0_i32_54
  let v120 : BitVec 32 := Scalar.extui v119
  let c0_i32_55 : BitVec 32 := 0#32
  let v121 : BitVec 1 := Scalar.cmpi .ne v120 c0_i32_55
  v121

def k0_cond8 (i : grid0.Coords) : BitVec 1 :=
  let arg0 : BitVec 32 := BitVec.ofNat 32 (i 0).val
  let c0_i32_54 : BitVec 32 := 0#32
  let v119 : BitVec 1 := Scalar.cmpi .eq arg0 c0_i32_54
  let true_56 : BitVec 1 := 1#1
  let v122 : BitVec 1 := Scalar.xori v119 true_56
  let v123 : BitVec 32 := Scalar.extui v122
  let c0_i32_57 : BitVec 32 := 0#32
  let v124 : BitVec 1 := Scalar.cmpi .ne v123 c0_i32_57
  v124

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference4Ideal.lean ====
abbrev S4x2048x4096 : Shape := ⟨3, ![4, 2048, 4096]⟩
abbrev S4096x1024 : Shape := ⟨2, ![4096, 1024]⟩
abbrev S4x2048x1024 : Shape := ⟨3, ![4, 2048, 1024]⟩
abbrev S4x1024 : Shape := ⟨2, ![4, 1024]⟩
abbrev S1x1024 : Shape := ⟨2, ![1, 1024]⟩
abbrev S_ : Shape := ⟨0, ![]⟩
abbrev S4x1x1024 : Shape := ⟨3, ![4, 1, 1024]⟩
abbrev S4x2048 : Shape := ⟨2, ![4, 2048]⟩
abbrev S4x2048x1 : Shape := ⟨3, ![4, 2048, 1]⟩
abbrev S1x1x1024 : Shape := ⟨3, ![1, 1, 1024]⟩
abbrev S1024 : Shape := ⟨1, ![1024]⟩
abbrev S8192x1024 : Shape := ⟨2, ![8192, 1024]⟩
abbrev S8x128 : Shape := ⟨2, ![8, 128]⟩

abbrev nBuf : Space → Nat
  | .hbm => 146
  | .vmem => 0
  | .smem => 0
  | _ => 0

abbrev hbmTy0_0 (i : Nat) : BufTy := match i % 128 with
  | 0 => ⟨S4x2048x4096, .f32⟩
  | 1 => ⟨S4096x1024, .f32⟩
  | 2 => ⟨S4x2048x1024, .f32⟩
  | 3 => ⟨S4x2048x1024, .f32⟩
  | 4 => ⟨S4x1024, .f32⟩
  | 5 => ⟨S1x1024, .f32⟩
  | 6 => ⟨S1x1024, .f32⟩
  | 7 => ⟨S_, .f32⟩
  | 8 => ⟨S4x2048x4096, .f32⟩
  | 9 => ⟨S4x2048x4096, .f32⟩
  | 10 => ⟨S4x2048x4096, .f32⟩
  | 11 => ⟨S4x2048x1024, .f32⟩
  | 12 => ⟨S_, .f32⟩
  | 13 => ⟨S4x2048x1024, .f32⟩
  | 14 => ⟨S4x2048x1024, .f32⟩
  | 15 => ⟨S4x1x1024, .f32⟩
  | 16 => ⟨S_, .f32⟩
  | 17 => ⟨S4x1x1024, .f32⟩
  | 18 => ⟨S4x1x1024, .f32⟩
  | 19 => ⟨S4x2048x1024, .f32⟩
  | 20 => ⟨S4x2048x1024, .f32⟩
  | 21 => ⟨S4x2048x1024, .f32⟩
  | 22 => ⟨S_, .f32⟩
  | 23 => ⟨S4x2048, .f32⟩
  | 24 => ⟨S4x2048x1, .f32⟩
  | 25 => ⟨S_, .f32⟩
  | 26 => ⟨S4x2048x1, .f32⟩
  | 27 => ⟨S4x2048x1, .f32⟩
  | 28 => ⟨S4x2048x1024, .f32⟩
  | 29 => ⟨S4x2048x1024, .f32⟩
  | 30 => ⟨S4x2048x1024, .f32⟩
  | 31 => ⟨S_, .f32⟩
  | 32 => ⟨S4x2048x1024, .f32⟩
  | 33 => ⟨S4x2048x1024, .f32⟩
  | 34 => ⟨S_, .f32⟩
  | 35 => ⟨S4x2048, .f32⟩
  | 36 => ⟨S4x2048x1, .f32⟩
  | 37 => ⟨S_, .f32⟩
  | 38 => ⟨S4x2048x1, .f32⟩
  | 39 => ⟨S4x2048x1, .f32⟩
  | 40 => ⟨S4x2048x1024, .f32⟩
  | 41 => ⟨S4x2048x1024, .f32⟩
  | 42 => ⟨S_, .f32⟩
  | 43 => ⟨S4x2048x1, .f32⟩
  | 44 => ⟨S4x2048x1, .f32⟩
  | 45 => ⟨S4x2048x1, .f32⟩
  | 46 => ⟨S4x2048x1, .f32⟩
  | 47 => ⟨S_, .f32⟩
  | 48 => ⟨S4x2048x1, .f32⟩
  | 49 => ⟨S4x2048x1, .f32⟩
  | 50 => ⟨S4x2048x1024, .f32⟩
  | 51 => ⟨S4x2048x1024, .f32⟩
  | 52 => ⟨S1x1x1024, .f32⟩
  | 53 => ⟨S4x2048x1024, .f32⟩
  | 54 => ⟨S4x2048x1024, .f32⟩
  | 55 => ⟨S1x1x1024, .f32⟩
  | 56 => ⟨S4x2048x1024, .f32⟩
  | 57 => ⟨S4x2048x1024, .f32⟩
  | 58 => ⟨S4x2048x1024, .f32⟩
  | 59 => ⟨S4x2048x1024, .f32⟩
  | 60 => ⟨S_, .f32⟩
  | 61 => ⟨S4x2048x1024, .f32⟩
  | 62 => ⟨S4x2048x1024, .f32⟩
  | 63 => ⟨S_, .f32⟩
  | 64 => ⟨S4x2048, .f32⟩
  | 65 => ⟨S_, .f32⟩
  | 66 => ⟨S4x2048, .f32⟩
  | 67 => ⟨S4x2048, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S4x2048, .f32⟩
  | 76 => ⟨S_, .f32⟩
  | 77 => ⟨S4x2048, .f32⟩
  | 78 => ⟨S4x2048, .f32⟩
  | 79 => ⟨S4x2048x1024, .f32⟩
  | 80 => ⟨S4x2048x1024, .f32⟩
  | 81 => ⟨S_, .f32⟩
  | 82 => ⟨S1024, .f32⟩
  | 83 => ⟨S1x1x1024, .f32⟩
  | 84 => ⟨S_, .f32⟩
  | 85 => ⟨S1024, .f32⟩
  | 86 => ⟨S1x1024, .f32⟩
  | 87 => ⟨S4x2048x1024, .f32⟩
  | 88 => ⟨S_, .f32⟩
  | 89 => ⟨S1024, .f32⟩
  | 90 => ⟨S1x1x1024, .f32⟩
  | 91 => ⟨S4x2048x1024, .f32⟩
  | 92 => ⟨S4x2048x1024, .f32⟩
  | 93 => ⟨S_, .f32⟩
  | 94 => ⟨S1024, .f32⟩
  | 95 => ⟨S1x1024, .f32⟩
  | 96 => ⟨S4x2048x1024, .f32⟩
  | 97 => ⟨S_, .f32⟩
  | 98 => ⟨S4x2048, .f32⟩
  | 99 => ⟨S4x2048x1, .f32⟩
  | 100 => ⟨S4x2048x1024, .f32⟩
  | 101 => ⟨S4x2048x1024, .f32⟩
  | 102 => ⟨S4x2048x1, .f32⟩
  | 103 => ⟨S4x2048x1024, .f32⟩
  | 104 => ⟨S_, .f32⟩
  | 105 => ⟨S4x2048, .f32⟩
  | 106 => ⟨S4x2048x1, .f32⟩
  | 107 => ⟨S_, .f32⟩
  | 108 => ⟨S4x2048x1, .f32⟩
  | 109 => ⟨S4x2048x1, .f32⟩
  | 110 => ⟨S_, .f32⟩
  | 111 => ⟨S4x2048, .f32⟩
  | 112 => ⟨S4x2048x1024, .f32⟩
  | 113 => ⟨S4x2048x1024, .f32⟩
  | 114 => ⟨S4x2048x1024, .f32⟩
  | 115 => ⟨S_, .f32⟩
  | 116 => ⟨S4x2048, .f32⟩
  | 117 => ⟨S4x2048x1, .f32⟩
  | 118 => ⟨S4x2048x1024, .f32⟩
  | 119 => ⟨S4x2048x1, .f32⟩
  | 120 => ⟨S_, .f32⟩
  | 121 => ⟨S4x2048x1, .f32⟩
  | 122 => ⟨S4x2048x1, .f32⟩
  | 123 => ⟨S_, .f32⟩
  | 124 => ⟨S4x2048, .f32⟩
  | 125 => ⟨S4x2048x1024, .f32⟩
  | 126 => ⟨S4x2048x1024, .f32⟩
  | 127 => ⟨S4x2048x1024, .f32⟩
  | _ => ⟨S4x2048x4096, .f32⟩

abbrev hbmTy0_1 (i : Nat) : BufTy := match i % 128 with
  | 0 => ⟨S4x2048x1024, .f32⟩
  | 1 => ⟨S4x2048x1024, .f32⟩
  | 2 => ⟨S_, .f32⟩
  | 3 => ⟨S4x1024, .f32⟩
  | 4 => ⟨S4x1x1024, .f32⟩
  | 5 => ⟨S_, .f32⟩
  | 6 => ⟨S4x1024, .f32⟩
  | 7 => ⟨S_, .f32⟩
  | 8 => ⟨S4x2048x1024, .f32⟩
  | 9 => ⟨S4x2048x1024, .f32⟩
  | 10 => ⟨S_, .f32⟩
  | 11 => ⟨S4x2048x1024, .f32⟩
  | 12 => ⟨S4x2048x1024, .f32⟩
  | 13 => ⟨S4x2048x1024, .bf16⟩
  | 14 => ⟨S8192x1024, .bf16⟩
  | 15 => ⟨S8192x1024, .f32⟩
  | 16 => ⟨S4x1x1024, .f32⟩
  | 17 => ⟨S8x128, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_cst_13 : Ref sig .tc := ⟨.hbm, 72, rfl⟩
abbrev main_cst_14 : Ref sig .tc := ⟨.hbm, 73, rfl⟩
abbrev main_v49 : Ref sig .tc := ⟨.hbm, 74, rfl⟩
abbrev main_v50 : Ref sig .tc := ⟨.hbm, 75, rfl⟩
abbrev main_cst_15 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_16 : Ref sig .tc := ⟨.hbm, 81, rfl⟩
abbrev main_v55 : Ref sig .tc := ⟨.hbm, 82, rfl⟩
abbrev main_v56 : Ref sig .tc := ⟨.hbm, 83, rfl⟩
abbrev main_cst_17 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_18 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_19 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_20 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_21 : Ref sig .tc := ⟨.hbm, 104, rfl⟩
abbrev main_v73 : Ref sig .tc := ⟨.hbm, 105, rfl⟩
abbrev main_v74 : Ref sig .tc := ⟨.hbm, 106, rfl⟩
abbrev main_cst_22 : Ref sig .tc := ⟨.hbm, 107, rfl⟩
abbrev main_v75 : Ref sig .tc := ⟨.hbm, 108, rfl⟩
abbrev main_v76 : Ref sig .tc := ⟨.hbm, 109, rfl⟩
abbrev main_cst_23 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_24 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_25 : Ref sig .tc := ⟨.hbm, 120, rfl⟩
abbrev main_v85 : Ref sig .tc := ⟨.hbm, 121, rfl⟩
abbrev main_v86 : Ref sig .tc := ⟨.hbm, 122, rfl⟩
abbrev main_cst_26 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_27 : Ref sig .tc := ⟨.hbm, 130, rfl⟩
abbrev main_v93 : Ref sig .tc := ⟨.hbm, 131, rfl⟩
abbrev main_v94 : Ref sig .tc := ⟨.hbm, 132, rfl⟩
abbrev main_cst_28 : Ref sig .tc := ⟨.hbm, 133, rfl⟩
abbrev main_v95 : Ref sig .tc := ⟨.hbm, 134, rfl⟩
abbrev main_cst_29 : Ref sig .tc := ⟨.hbm, 135, rfl⟩
abbrev main_v96 : Ref sig .tc := ⟨.hbm, 136, rfl⟩
abbrev main_v97 : Ref sig .tc := ⟨.hbm, 137, rfl⟩
abbrev main_cst_30 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩

abbrev nD : Nat := 1
abbrev τ : Topo := Topo.v7x

variable {F : FTy → Type} [FloatOps F]
-- ==== Kernel5.lean ====
abbrev S4x2048x1024 : Shape := ⟨3, ![4, 2048, 1024]⟩
abbrev S4x1024 : Shape := ⟨2, ![4, 1024]⟩
abbrev S1x1024 : Shape := ⟨2, ![1, 1024]⟩
abbrev S1024x4096 : Shape := ⟨2, ![1024, 4096]⟩
abbrev S4x2048x4096 : Shape := ⟨3, ![4, 2048, 4096]⟩
abbrev S_ : Shape := ⟨0, ![]⟩
abbrev S4x1x1024 : Shape := ⟨3, ![4, 1, 1024]⟩
abbrev S4x2048 : Shape := ⟨2, ![4, 2048]⟩
abbrev S4x2048x1 : Shape := ⟨3, ![4, 2048, 1]⟩
abbrev S1x1x1024 : Shape := ⟨3, ![1, 1, 1024]⟩
abbrev S8192x4096 : Shape := ⟨2, ![8192, 4096]⟩
abbrev S8x128 : Shape := ⟨2, ![8, 128]⟩
abbrev S8192x1024 : Shape := ⟨2, ![8192, 1024]⟩
abbrev S8192x1 : Shape := ⟨2, ![8192, 1]⟩
abbrev S8192x128 : Shape := ⟨2, ![8192, 128]⟩
abbrev S512x4096 : Shape := ⟨2, ![512, 4096]⟩
abbrev S512x1024 : Shape := ⟨2, ![512, 1024]⟩
abbrev S512x128 : Shape := ⟨2, ![512, 128]⟩
abbrev S512x1 : Shape := ⟨2, ![512, 1]⟩
abbrev S512 : Shape := ⟨1, ![512]⟩
abbrev S1024 : Shape := ⟨1, ![1024]⟩

abbrev nBuf : Space → Nat
  | .hbm => 71
  | .vmem => 31
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x1024, .f32⟩
  | .hbm, ⟨3, _⟩ => ⟨S1x1024, .f32⟩
  | .hbm, ⟨4, _⟩ => ⟨S1x1024, .f32⟩
  | .hbm, ⟨5, _⟩ => ⟨S4x1024, .f32⟩
  | .hbm, ⟨6, _⟩ => ⟨S4x1024, .f32⟩
  | .hbm, ⟨7, _⟩ => ⟨S1024x4096, .f32⟩
  | .hbm, ⟨8, _⟩ => ⟨S4x2048x4096, .f32⟩
  | .hbm, ⟨9, _⟩ => ⟨S4x2048x1024, .f32⟩
  | .hbm, ⟨10, _⟩ => ⟨S_, .f32⟩
  | .hbm, ⟨11, _⟩ => ⟨S4x2048x1024, .f32⟩
  | .hbm, ⟨12, _⟩ => ⟨S4x2048x1024, .f32⟩
  | .hbm, ⟨13, _⟩ => ⟨S4x1x1024, .f32⟩
  | .hbm, ⟨14, _⟩ => ⟨S_, .f32⟩
  | .hbm, ⟨15, _⟩ => ⟨S4x1x1024, .f32⟩
  | .hbm, ⟨16, _⟩ => ⟨S4x1x1024, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x1, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S1x1x1024, .f32⟩
  | .hbm, ⟨44, _⟩ => ⟨S4x2048x1024, .f32⟩
  | .hbm, ⟨45, _⟩ => ⟨S4x2048x1024, .f32⟩
  | .hbm, ⟨46, _⟩ => ⟨S1x1x1024, .f32⟩
  | .hbm, ⟨47, _⟩ => ⟨S4x2048x1024, .f32⟩
  | .hbm, ⟨48, _⟩ => ⟨S4x2048x1024, .f32⟩
  | .hbm, ⟨49, _⟩ => ⟨S8192x4096, .f32⟩
  | .hbm, ⟨50, _⟩ => ⟨S8192x4096, .bf16⟩
  | .hbm, ⟨51, _⟩ => ⟨S1024x4096, .bf16⟩
  | .hbm, ⟨52, _⟩ => ⟨S_, .f32⟩
  | .hbm, ⟨53, _⟩ => ⟨S8x128, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S8192x1, .f32⟩
  | .hbm, ⟨59, _⟩ => ⟨S8192x128, .f32⟩
  | .hbm, ⟨60, _⟩ => ⟨S8192x1024, .f32⟩
  | .hbm, ⟨61, _⟩ => ⟨S8192x1024, .bf16⟩
  | .hbm, ⟨62, _⟩ => ⟨S4x1x1024, .f32⟩
  | .hbm, ⟨63, _⟩ => ⟨S4x1x1024, .f32⟩
  | .hbm, ⟨64, _⟩ => ⟨S8192x1024, .f32⟩
  | .hbm, ⟨65, _⟩ => ⟨S8192x1024, .bf16⟩
  | .hbm, ⟨66, _⟩ => ⟨S4x1x1024, .f32⟩
  | .hbm, ⟨67, _⟩ => ⟨S4x1x1024, .f32⟩
  | .hbm, ⟨68, _⟩ => ⟨S4x1x1024, .f32⟩
  | .hbm, ⟨69, _⟩ => ⟨S1x1024, .f32⟩
  | .hbm, ⟨70, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S8x128, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x128, .f32⟩
  | .local _ .vmem, ⟨11, _⟩ => ⟨S512x128, .f32⟩
  | .local _ .vmem, ⟨12, _⟩ => ⟨S512x1024, .bf16⟩
  | .local _ .vmem, ⟨13, _⟩ => ⟨S512x1024, .bf16⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S1x1x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S1x1x1024, .f32⟩
  | .local _ .vmem, ⟨29, _⟩ => ⟨S1x1024, .f32⟩
  | .local _ .vmem, ⟨30, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46_0 : Ref sig .tc := ⟨.hbm, 64, rfl⟩
abbrev main_v46_1 : Ref sig .tc := ⟨.hbm, 65, rfl⟩
abbrev main_v46_2 : Ref sig .tc := ⟨.hbm, 66, rfl⟩
abbrev main_v46_3 : Ref sig .tc := ⟨.hbm, 67, rfl⟩
abbrev main_v46_4 : Ref sig .tc := ⟨.hbm, 68, rfl⟩
abbrev main_v46_5 : Ref sig .tc := ⟨.hbm, 69, rfl⟩
abbrev main_v46_6 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem17_0 : DmaSem sig := 30

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c4_i32 : BitVec 32 := 4#32
  let c0_i32 : BitVec 32 := 0#32
  let v68 : BitVec 1 := Scalar.cmpi .eq c4_i32 c0_i32
  let c1_i32 : BitVec 32 := 1#32
  let v69 : BitVec 32 := Scalar.select v68 c1_i32 c4_i32
  let v70 : BitVec 32 := Scalar.remsi arg0 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_40 : BitVec 32 := 0#32
  let v78 : BitVec 1 := Scalar.cmpi .eq v77 c0_i32_40
  let v79 : BitVec 32 := Scalar.extui v78
  let c0_i32_41 : BitVec 32 := 0#32
  let v80 : BitVec 1 := Scalar.cmpi .ne v79 c0_i32_41
  v80

def k0_cond2 (i : grid0.Coords) : BitVec 1 :=
  let arg0 : BitVec 32 := BitVec.ofNat 32 (i 0).val
  let c4_i32 : BitVec 32 := 4#32
  let c0_i32 : BitVec 32 := 0#32
  let v68 : BitVec 1 := Scalar.cmpi .eq c4_i32 c0_i32
  let c1_i32 : BitVec 32 := 1#32
  let v69 : BitVec 32 := Scalar.select v68 c1_i32 c4_i32
  let v70 : BitVec 32 := Scalar.remsi arg0 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_40 : BitVec 32 := 0#32
  let v78 : BitVec 1 := Scalar.cmpi .eq v77 c0_i32_40
  let v_true : BitVec 1 := 1#1
  let v81 : BitVec 1 := Scalar.xori v78 v_true
  let v82 : BitVec 32 := Scalar.extui v81
  let c0_i32_42 : BitVec 32 := 0#32
  let v83 : BitVec 1 := Scalar.cmpi .ne v82 c0_i32_42
  v83

def k0_cond3 (i : grid0.Coords) : BitVec 1 :=
  let arg0 : BitVec 32 := BitVec.ofNat 32 (i 0).val
  let c4_i32_43 : BitVec 32 := 4#32
  let c0_i32_44 : BitVec 32 := 0#32
  let v84 : BitVec 1 := Scalar.cmpi .eq c4_i32_43 c0_i32_44
  let c1_i32_45 : BitVec 32 := 1#32
  let v85 : BitVec 32 := Scalar.select v84 c1_i32_45 c4_i32_43
  let v86 : BitVec 32 := Scalar.remsi arg0 v85
  let c0_i32_47 : BitVec 32 := 0#32
  let v88 : BitVec 1 := Scalar.cmpi .slt v86 c0_i32_47
  let c0_i32_48 : BitVec 32 := 0#32
  let v89 : BitVec 1 := Scalar.cmpi .slt v85 c0_i32_48
  let v90 : BitVec 1 := Scalar.xori v88 v89
  let c0_i32_46 : BitVec 32 := 0#32
  let v87 : BitVec 1 := Scalar.cmpi .ne v86 c0_i32_46
  let v91 : BitVec 1 := Scalar.andi v90 v87
  let v92 : BitVec 32 := Scalar.addi v86 v85
  let v93 : BitVec 32 := Scalar.select v91 v92 v86
  let c0_i32_49 : BitVec 32 := 0#32
  let v94 : BitVec 1 := Scalar.cmpi .eq v93 c0_i32_49
  let v95 : BitVec 32 := Scalar.extui v94
  let c0_i32_50 : BitVec 32 := 0#32
  let v96 : BitVec 1 := Scalar.cmpi .ne v95 c0_i32_50
  v96

def k0_cond4 (i : grid0.Coords) : BitVec 1 :=
  let arg0 : BitVec 32 := BitVec.ofNat 32 (i 0).val
  let c4_i32_43 : BitVec 32 := 4#32
  let c0_i32_44 : BitVec 32 := 0#32
  let v84 : BitVec 1 := Scalar.cmpi .eq c4_i32_43 c0_i32_44
  let c1_i32_45 : BitVec 32 := 1#32
  let v85 : BitVec 32 := Scalar.select v84 c1_i32_45 c4_i32_43
  let v86 : BitVec 32 := Scalar.remsi arg0 v85
  let c0_i32_47 : BitVec 32 := 0#32
  let v88 : BitVec 1 := Scalar.cmpi .slt v86 c0_i32_47
  let c0_i32_48 : BitVec 32 := 0#32
  let v89 : BitVec 1 := Scalar.cmpi .slt v85 c0_i32_48
  let v90 : BitVec 1 := Scalar.xori v88 v89
  let c0_i32_46 : BitVec 32 := 0#32
  let v87 : BitVec 1 := Scalar.cmpi .ne v86 c0_i32_46
  let v91 : BitVec 1 := Scalar.andi v90 v87
  let v92 : BitVec 32 := Scalar.addi v86 v85
  let v93 : BitVec 32 := Scalar.select v91 v92 v86
  let c0_i32_49 : BitVec 32 := 0#32
  let v94 : BitVec 1 := Scalar.cmpi .eq v93 c0_i32_49
  let true_51 : BitVec 1 := 1#1
  let v97 : BitVec 1 := Scalar.xori v94 true_51
  let v98 : BitVec 32 := Scalar.extui v97
  let c0_i32_52 : BitVec 32 := 0#32
  let v99 : BitVec 1 := Scalar.cmpi .ne v98 c0_i32_52
  v99

def k0_cond5 (i : grid0.Coords) : BitVec 1 :=
  let arg0 : BitVec 32 := BitVec.ofNat 32 (i 0).val
  let c4_i32_53 : BitVec 32 := 4#32
  let c0_i32_54 : BitVec 32 := 0#32
  let v100 : BitVec 1 := Scalar.cmpi .eq c4_i32_53 c0_i32_54
  let c1_i32_55 : BitVec 32 := 1#32
  let v101 : BitVec 32 := Scalar.select v100 c1_i32_55 c4_i32_53
  let v102 : BitVec 32 := Scalar.remsi arg0 v101
  let c0_i32_57 : BitVec 32 := 0#32
  let v104 : BitVec 1 := Scalar.cmpi .slt v102 c0_i32_57
  let c0_i32_58 : BitVec 32 := 0#32
  let v105 : BitVec 1 := Scalar.cmpi .slt v101 c0_i32_58
  let v106 : BitVec 1 := Scalar.xori v104 v105
  let c0_i32_56 : BitVec 32 := 0#32
  let v103 : BitVec 1 := Scalar.cmpi .ne v102 c0_i32_56
  let v107 : BitVec 1 := Scalar.andi v106 v103
  let v108 : BitVec 32 := Scalar.addi v102 v101
  let v109 : BitVec 32 := Scalar.select v107 v108 v102
  let c0_i32_59 : BitVec 32 := 0#32
  let v110 : BitVec 1 := Scalar.cmpi .eq v109 c0_i32_59
  let v111 : BitVec 32 := Scalar.extui v110
  let c0_i32_60 : BitVec 32 := 0#32
  let v112 : BitVec 1 := Scalar.cmpi .ne v111 c0_i32_60
  v112

def k0_cond6 (i : grid0.Coords) : BitVec 1 :=
  let arg0 : BitVec 32 := BitVec.ofNat 32 (i 0).val
  let c4_i32_53 : BitVec 32 := 4#32
  let c0_i32_54 : BitVec 32 := 0#32
  let v100 : BitVec 1 := Scalar.cmpi .eq c4_i32_53 c0_i32_54
  let c1_i32_55 : BitVec 32 := 1#32
  let v101 : BitVec 32 := Scalar.select v100 c1_i32_55 c4_i32_53
  let v102 : BitVec 32 := Scalar.remsi arg0 v101
  let c0_i32_57 : BitVec 32 := 0#32
  let v104 : BitVec 1 := Scalar.cmpi .slt v102 c0_i32_57
  let c0_i32_58 : BitVec 32 := 0#32
  let v105 : BitVec 1 := Scalar.cmpi .slt v101 c0_i32_58
  let v106 : BitVec 1 := Scalar.xori v104 v105
  let c0_i32_56 : BitVec 32 := 0#32
  let v103 : BitVec 1 := Scalar.cmpi .ne v102 c0_i32_56
  let v107 : BitVec 1 := Scalar.andi v106 v103
  let v108 : BitVec 32 := Scalar.addi v102 v101
  let v109 : BitVec 32 := Scalar.select v107 v108 v102
  let c0_i32_59 : BitVec 32 := 0#32
  let v110 : BitVec 1 := Scalar.cmpi .eq v109 c0_i32_59
  let true_61 : BitVec 1 := 1#1
  let v113 : BitVec 1 := Scalar.xori v110 true_61
  let v114 : BitVec 32 := Scalar.extui v113
  let c0_i32_62 : BitVec 32 := 0#32
  let v115 : BitVec 1 := Scalar.cmpi .ne v114 c0_i32_62
  v115

def k0_cond7 (i : grid0.Coords) : BitVec 1 :=
  let arg0 : BitVec 32 := BitVec.ofNat 32 (i 0).val
  let c0_i32_63 : BitVec 32 := 0#32
  let v116 : BitVec 1 := Scalar.cmpi .eq arg0 c0_i32_63
  let v117 : BitVec 32 := Scalar.extui v116
  let c0_i32_64 : BitVec 32 := 0#32
  let v118 : BitVec 1 := Scalar.cmpi .ne v117 c0_i32_64
  v118

def k0_cond8 (i : grid0.Coords) : BitVec 1 :=
  let arg0 : BitVec 32 := BitVec.ofNat 32 (i 0).val
  let c0_i32_63 : BitVec 32 := 0#32
  let v116 : BitVec 1 := Scalar.cmpi .eq arg0 c0_i32_63
  let true_65 : BitVec 1 := 1#1
  let v119 : BitVec 1 := Scalar.xori v116 true_65
  let v120 : BitVec 32 := Scalar.extui v119
  let c0_i32_66 : BitVec 32 := 0#32
  let v121 : BitVec 1 := Scalar.cmpi .ne v120 c0_i32_66
  v121

def k0_cond9 (i : grid0.Coords) : BitVec 1 :=
  let arg0 : BitVec 32 := BitVec.ofNat 32 (i 0).val
  let c0_i32_67 : BitVec 32 := 0#32
  let v122 : BitVec 1 := Scalar.cmpi .eq arg0 c0_i32_67
  let v123 : BitVec 32 := Scalar.extui v122
  let c0_i32_68 : BitVec 32 := 0#32
  let v124 : BitVec 1 := Scalar.cmpi .ne v123 c0_i32_68
  v124

def k0_cond10 (i : grid0.Coords) : BitVec 1 :=
  let arg0 : BitVec 32 := BitVec.ofNat 32 (i 0).val
  let c0_i32_67 : BitVec 32 := 0#32
  let v122 : BitVec 1 := Scalar.cmpi .eq arg0 c0_i32_67
  let true_69 : BitVec 1 := 1#1
  let v125 : BitVec 1 := Scalar.xori v122 true_69
  let v126 : BitVec 32 := Scalar.extui v125
  let c0_i32_70 : BitVec 32 := 0#32
  let v127 : BitVec 1 := Scalar.cmpi .ne v126 c0_i32_70
  v127

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_14 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_15 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference5Ideal.lean ====
abbrev S4x2048x1024 : Shape := ⟨3, ![4, 2048, 1024]⟩
abbrev S4x1024 : Shape := ⟨2, ![4, 1024]⟩
abbrev S1x1024 : Shape := ⟨2, ![1, 1024]⟩
abbrev S1024x4096 : Shape := ⟨2, ![1024, 4096]⟩
abbrev S4x2048x4096 : Shape := ⟨3, ![4, 2048, 4096]⟩
abbrev S_ : Shape := ⟨0, ![]⟩
abbrev S4x1x1024 : Shape := ⟨3, ![4, 1, 1024]⟩
abbrev S4x2048 : Shape := ⟨2, ![4, 2048]⟩
abbrev S4x2048x1 : Shape := ⟨3, ![4, 2048, 1]⟩
abbrev S1x1x1024 : Shape := ⟨3, ![1, 1, 1024]⟩
abbrev S1024 : Shape := ⟨1, ![1024]⟩
abbrev S8192x1024 : Shape := ⟨2, ![8192, 1024]⟩

abbrev nBuf : Space → Nat
  | .hbm => 145
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S4x1024, .f32⟩
  | 3 => ⟨S1x1024, .f32⟩
  | 4 => ⟨S1x1024, .f32⟩
  | 5 => ⟨S4x1024, .f32⟩
  | 6 => ⟨S4x1024, .f32⟩
  | 7 => ⟨S1024x4096, .f32⟩
  | 8 => ⟨S4x2048x4096, .f32⟩
  | 9 => ⟨S4x2048x1024, .f32⟩
  | 10 => ⟨S_, .f32⟩
  | 11 => ⟨S4x2048x1024, .f32⟩
  | 12 => ⟨S4x2048x1024, .f32⟩
  | 13 => ⟨S4x1x1024, .f32⟩
  | 14 => ⟨S_, .f32⟩
  | 15 => ⟨S4x1x1024, .f32⟩
  | 16 => ⟨S4x1x1024, .f32⟩
  | 17 => ⟨S4x2048x1024, .f32⟩
  | 18 => ⟨S4x2048x1024, .f32⟩
  | 19 => ⟨S4x2048x1024, .f32⟩
  | 20 => ⟨S_, .f32⟩
  | 21 => ⟨S4x2048, .f32⟩
  | 22 => ⟨S4x2048x1, .f32⟩
  | 23 => ⟨S_, .f32⟩
  | 24 => ⟨S4x2048x1, .f32⟩
  | 25 => ⟨S4x2048x1, .f32⟩
  | 26 => ⟨S4x2048x1024, .f32⟩
  | 27 => ⟨S4x2048x1024, .f32⟩
  | 28 => ⟨S4x2048x1024, .f32⟩
  | 29 => ⟨S_, .f32⟩
  | 30 => ⟨S4x2048x1024, .f32⟩
  | 31 => ⟨S4x2048x1024, .f32⟩
  | 32 => ⟨S_, .f32⟩
  | 33 => ⟨S4x2048, .f32⟩
  | 34 => ⟨S4x2048x1, .f32⟩
  | 35 => ⟨S_, .f32⟩
  | 36 => ⟨S4x2048x1, .f32⟩
  | 37 => ⟨S4x2048x1, .f32⟩
  | 38 => ⟨S4x2048x1024, .f32⟩
  | 39 => ⟨S4x2048x1024, .f32⟩
  | 40 => ⟨S_, .f32⟩
  | 41 => ⟨S4x2048x1, .f32⟩
  | 42 => ⟨S4x2048x1, .f32⟩
  | 43 => ⟨S4x2048x1, .f32⟩
  | 44 => ⟨S4x2048x1, .f32⟩
  | 45 => ⟨S_, .f32⟩
  | 46 => ⟨S4x2048x1, .f32⟩
  | 47 => ⟨S4x2048x1, .f32⟩
  | 48 => ⟨S4x2048x1024, .f32⟩
  | 49 => ⟨S4x2048x1024, .f32⟩
  | 50 => ⟨S1x1x1024, .f32⟩
  | 51 => ⟨S4x2048x1024, .f32⟩
  | 52 => ⟨S4x2048x1024, .f32⟩
  | 53 => ⟨S1x1x1024, .f32⟩
  | 54 => ⟨S4x2048x1024, .f32⟩
  | 55 => ⟨S4x2048x1024, .f32⟩
  | 56 => ⟨S4x1x1024, .f32⟩
  | 57 => ⟨S_, .f32⟩
  | 58 => ⟨S4x1x1024, .f32⟩
  | 59 => ⟨S4x1x1024, .f32⟩
  | 60 => ⟨S4x2048x1024, .f32⟩
  | 61 => ⟨S4x2048x1024, .f32⟩
  | 62 => ⟨S4x1x1024, .f32⟩
  | 63 => ⟨S4x2048x1024, .f32⟩
  | 64 => ⟨S4x2048x1024, .f32⟩
  | 65 => ⟨S4x2048x4096, .f32⟩
  | 66 => ⟨S4x2048x1024, .f32⟩
  | 67 => ⟨S_, .f32⟩
  | 68 => ⟨S4x1024, .f32⟩
  | 69 => ⟨S4x1x1024, .f32⟩
  | 70 => ⟨S_, .f32⟩
  | 71 => ⟨S4x1024, .f32⟩
  | 72 => ⟨S4x2048x1024, .f32⟩
  | 73 => ⟨S_, .f32⟩
  | 74 => ⟨S4x1024, .f32⟩
  | 75 => ⟨S4x1x1024, .f32⟩
  | 76 => ⟨S4x2048x1024, .f32⟩
  | 77 => ⟨S4x2048x1024, .f32⟩
  | 78 => ⟨S4x2048x1024, .f32⟩
  | 79 => ⟨S_, .f32⟩
  | 80 => ⟨S4x1024, .f32⟩
  | 81 => ⟨S4x2048x1024, .f32⟩
  | 82 => ⟨S_, .f32⟩
  | 83 => ⟨S1024, .f32⟩
  | 84 => ⟨S1x1x1024, .f32⟩
  | 85 => ⟨S_, .f32⟩
  | 86 => ⟨S1024, .f32⟩
  | 87 => ⟨S1x1024, .f32⟩
  | 88 => ⟨S4x2048x1024, .f32⟩
  | 89 => ⟨S_, .f32⟩
  | 90 => ⟨S1024, .f32⟩
  | 91 => ⟨S1x1x1024, .f32⟩
  | 92 => ⟨S4x2048x1024, .f32⟩
  | 93 => ⟨S4x2048x1024, .f32⟩
  | 94 => ⟨S_, .f32⟩
  | 95 => ⟨S1024, .f32⟩
  | 96 => ⟨S1x1024, .f32⟩
  | 97 => ⟨S4x2048x1024, .f32⟩
  | 98 => ⟨S_, .f32⟩
  | 99 => ⟨S4x2048, .f32⟩
  | 100 => ⟨S4x2048x1, .f32⟩
  | 101 => ⟨S4x2048x1024, .f32⟩
  | 102 => ⟨S4x2048x1024, .f32⟩
  | 103 => ⟨S4x2048x1, .f32⟩
  | 104 => ⟨S4x2048x1024, .f32⟩
  | 105 => ⟨S_, .f32⟩
  | 106 => ⟨S4x2048, .f32⟩
  | 107 => ⟨S4x2048x1, .f32⟩
  | 108 => ⟨S_, .f32⟩
  | 109 => ⟨S4x2048x1, .f32⟩
  | 110 => ⟨S4x2048x1, .f32⟩
  | 111 => ⟨S_, .f32⟩
  | 112 => ⟨S4x2048, .f32⟩
  | 113 => ⟨S4x2048x1024, .f32⟩
  | 114 => ⟨S4x2048x1024, .f32⟩
  | 115 => ⟨S4x2048x1024, .f32⟩
  | 116 => ⟨S_, .f32⟩
  | 117 => ⟨S4x2048, .f32⟩
  | 118 => ⟨S4x2048x1, .f32⟩
  | 119 => ⟨S4x2048x1024, .f32⟩
  | 120 => ⟨S4x2048x1, .f32⟩
  | 121 => ⟨S_, .f32⟩
  | 122 => ⟨S4x2048x1, .f32⟩
  | 123 => ⟨S4x2048x1, .f32⟩
  | 124 => ⟨S_, .f32⟩
  | 125 => ⟨S4x2048, .f32⟩
  | 126 => ⟨S4x2048x1024, .f32⟩
  | 127 => ⟨S4x2048x1024, .f32⟩
  | _ => ⟨S4x2048x1024, .f32⟩

abbrev hbmTy0_1 (i : Nat) : BufTy := match i % 128 with
  | 0 => ⟨S4x2048x1024, .f32⟩
  | 1 => ⟨S4x2048x1024, .f32⟩
  | 2 => ⟨S4x2048x1024, .f32⟩
  | 3 => ⟨S_, .f32⟩
  | 4 => ⟨S4x1024, .f32⟩
  | 5 => ⟨S4x1x1024, .f32⟩
  | 6 => ⟨S_, .f32⟩
  | 7 => ⟨S4x1024, .f32⟩
  | 8 => ⟨S_, .f32⟩
  | 9 => ⟨S4x2048x1024, .f32⟩
  | 10 => ⟨S4x2048x1024, .f32⟩
  | 11 => ⟨S8192x1024, .f32⟩
  | 12 => ⟨S4x2048x1024, .bf16⟩
  | 13 => ⟨S8192x1024, .bf16⟩
  | 14 => ⟨S4x1x1024, .f32⟩
  | 15 => ⟨S4x1x1024, .f32⟩
  | 16 => ⟨S4x1x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_cst_13 : Ref sig .tc := ⟨.hbm, 82, rfl⟩
abbrev main_v58 : Ref sig .tc := ⟨.hbm, 83, rfl⟩
abbrev main_v59 : Ref sig .tc := ⟨.hbm, 84, rfl⟩
abbrev main_cst_14 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_15 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_16 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_17 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_18 : Ref sig .tc := ⟨.hbm, 105, rfl⟩
abbrev main_v76 : Ref sig .tc := ⟨.hbm, 106, rfl⟩
abbrev main_v77 : Ref sig .tc := ⟨.hbm, 107, rfl⟩
abbrev main_cst_19 : Ref sig .tc := ⟨.hbm, 108, rfl⟩
abbrev main_v78 : Ref sig .tc := ⟨.hbm, 109, rfl⟩
abbrev main_v79 : Ref sig .tc := ⟨.hbm, 110, rfl⟩
abbrev main_cst_20 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_21 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_22 : Ref sig .tc := ⟨.hbm, 121, rfl⟩
abbrev main_v88 : Ref sig .tc := ⟨.hbm, 122, rfl⟩
abbrev main_v89 : Ref sig .tc := ⟨.hbm, 123, rfl⟩
abbrev main_cst_23 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_24 : Ref sig .tc := ⟨.hbm, 131, rfl⟩
abbrev main_v96 : Ref sig .tc := ⟨.hbm, 132, rfl⟩
abbrev main_v97 : Ref sig .tc := ⟨.hbm, 133, rfl⟩
abbrev main_cst_25 : Ref sig .tc := ⟨.hbm, 134, rfl⟩
abbrev main_v98 : Ref sig .tc := ⟨.hbm, 135, rfl⟩
abbrev main_cst_26 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩

abbrev nD : Nat := 1
abbrev τ : Topo := Topo.v7x

variable {F : FTy → Type} [FloatOps F]
-- ==== Kernel6.lean ====
abbrev S4x2048x6144 : Shape := ⟨3, ![4, 2048, 6144]⟩
abbrev S4x2048x1280 : Shape := ⟨3, ![4, 2048, 1280]⟩
abbrev S4x2048x768 : Shape := ⟨3, ![4, 2048, 768]⟩
abbrev S4x1280 : Shape := ⟨2, ![4, 1280]⟩
abbrev S1x1280 : Shape := ⟨2, ![1, 1280]⟩
abbrev S10x128x128 : Shape := ⟨3, ![10, 128, 128]⟩
abbrev S6x128x128 : Shape := ⟨3, ![6, 128, 128]⟩
abbrev S128x6 : Shape := ⟨2, ![128, 6]⟩
abbrev S1x768 : Shape := ⟨2, ![1, 768]⟩
abbrev S1x4096 : Shape := ⟨2, ![1, 4096]⟩
abbrev S1x256x4096 : Shape := ⟨3, ![1, 256, 4096]⟩
abbrev S1x16x1280 : Shape := ⟨3, ![1, 16, 1280]⟩
abbrev S1x256x1280 : Shape := ⟨3, ![1, 256, 1280]⟩
abbrev S1x8x1280 : Shape := ⟨3, ![1, 8, 1280]⟩
abbrev S1x256x768 : Shape := ⟨3, ![1, 256, 768]⟩
abbrev S10x264x128 : Shape := ⟨3, ![10, 264, 128]⟩
abbrev S10x256x128 : Shape := ⟨3, ![10, 256, 128]⟩
abbrev S8x1280 : Shape := ⟨2, ![8, 1280]⟩
abbrev S32x1280 : Shape := ⟨2, ![32, 1280]⟩
abbrev S256x1280 : Shape := ⟨2, ![256, 1280]⟩
abbrev S10x8x128 : Shape := ⟨3, ![10, 8, 128]⟩
abbrev S16x1280 : Shape := ⟨2, ![16, 1280]⟩
abbrev S8x128 : Shape := ⟨2, ![8, 128]⟩
abbrev S1x8x128 : Shape := ⟨3, ![1, 8, 128]⟩
abbrev S1x256x128 : Shape := ⟨3, ![1, 256, 128]⟩
abbrev S256x128 : Shape := ⟨2, ![256, 128]⟩
abbrev S1x32x128 : Shape := ⟨3, ![1, 32, 128]⟩
abbrev S32x128 : Shape := ⟨2, ![32, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S256x768 : Shape := ⟨2, ![256, 768]⟩
abbrev S256 : Shape := ⟨1, ![256]⟩
abbrev S256x1 : Shape := ⟨2, ![256, 1]⟩
abbrev S128x1 : Shape := ⟨2, ![128, 1]⟩
abbrev S128x768 : Shape := ⟨2, ![128, 768]⟩
abbrev S768 : Shape := ⟨1, ![768]⟩

abbrev nBuf : Space → Nat
  | .hbm => 34
  | .vmem => 58
  | .smem => 0
  | _ => 0

abbrev bufTy : (tb : Table) → Fin (tcTables nBuf tb) → BufTy
  | .hbm, ⟨0, _⟩ => ⟨S4x2048x6144, .bf16⟩
  | .hbm, ⟨1, _⟩ => ⟨S4x2048x1280, .f32⟩
  | .hbm, ⟨2, _⟩ => ⟨S4x2048x1280, .bf16⟩
  | .hbm, ⟨3, _⟩ => ⟨S4x2048x768, .bf16⟩
  | .hbm, ⟨4, _⟩ => ⟨S4x2048x6144, .bf16⟩
  | .hbm, ⟨5, _⟩ => ⟨S4x2048x1280, .f32⟩
  | .hbm, ⟨6, _⟩ => ⟨S4x2048x1280, .f32⟩
  | .hbm, ⟨7, _⟩ => ⟨S4x2048x1280, .f32⟩
  | .hbm, ⟨8, _⟩ => ⟨S4x2048x1280, .f32⟩
  | .hbm, ⟨9, _⟩ => ⟨S4x2048x1280, .f32⟩
  | .hbm, ⟨10, _⟩ => ⟨S4x1280, .f32⟩
  | .hbm, ⟨11, _⟩ => ⟨S1x1280, .f32⟩
  | .hbm, ⟨12, _⟩ => ⟨S10x128x128, .bf16⟩
  | .hbm, ⟨13, _⟩ => ⟨S1x1280, .f32⟩
  | .hbm, ⟨14, _⟩ => ⟨S10x128x128, .bf16⟩
  | .hbm, ⟨15, _⟩ => ⟨S1x1280, .f32⟩
  | .hbm, ⟨16, _⟩ => ⟨S1x1280, .f32⟩
  | .hbm, ⟨17, _⟩ => ⟨S6x128x128, .f32⟩
  | .hbm, ⟨18, _⟩ => ⟨S128x6, .f32⟩
  | .hbm, ⟨19, _⟩ => ⟨S1x768, .f32⟩
  | .hbm, ⟨20, _⟩ => ⟨S1x768, .f32⟩
  | .hbm, ⟨21, _⟩ => ⟨S4x2048x6144, .bf16⟩
  | .hbm, ⟨22, _⟩ => ⟨S1x4096, .f32⟩
  | .hbm, ⟨23, _⟩ => ⟨S4x1280, .f32⟩
  | .hbm, ⟨24, _⟩ => ⟨S1x1280, .f32⟩
  | .hbm, ⟨25, _⟩ => ⟨S10x128x128, .f32⟩
  | .hbm, ⟨26, _⟩ => ⟨S1x1280, .f32⟩
  | .hbm, ⟨27, _⟩ => ⟨S10x128x128, .f32⟩
  | .hbm, ⟨28, _⟩ => ⟨S1x1280, .f32⟩
  | .hbm, ⟨29, _⟩ => ⟨S1x1280, .f32⟩
  | .hbm, ⟨30, _⟩ => ⟨S6x128x128, .f32⟩
  | .hbm, ⟨31, _⟩ => ⟨S128x6, .f32⟩
  | .hbm, ⟨32, _⟩ => ⟨S1x768, .f32⟩
  | .hbm, ⟨33, _⟩ => ⟨S1x768, .f32⟩
  | .local _ .vmem, ⟨0, _⟩ => ⟨S1x256x4096, .bf16⟩
  | .local _ .vmem, ⟨1, _⟩ => ⟨S1x256x4096, .bf16⟩
  | .local _ .vmem, ⟨2, _⟩ => ⟨S1x16x1280, .bf16⟩
  | .local _ .vmem, ⟨3, _⟩ => ⟨S1x16x1280, .bf16⟩
  | .local _ .vmem, ⟨4, _⟩ => ⟨S1x256x1280, .f32⟩
  | .local _ .vmem, ⟨5, _⟩ => ⟨S1x256x1280, .f32⟩
  | .local _ .vmem, ⟨6, _⟩ => ⟨S1x8x1280, .f32⟩
  | .local _ .vmem, ⟨7, _⟩ => ⟨S1x8x1280, .f32⟩
  | .local _ .vmem, ⟨8, _⟩ => ⟨S1x256x1280, .bf16⟩
  | .local _ .vmem, ⟨9, _⟩ => ⟨S1x256x1280, .bf16⟩
  | .local _ .vmem, ⟨10, _⟩ => ⟨S1x256x768, .bf16⟩
  | .local _ .vmem, ⟨11, _⟩ => ⟨S1x256x768, .bf16⟩
  | .local _ .vmem, ⟨12, _⟩ => ⟨S1x256x1280, .f32⟩
  | .local _ .vmem, ⟨13, _⟩ => ⟨S1x256x1280, .f32⟩
  | .local _ .vmem, ⟨14, _⟩ => ⟨S1x256x1280, .f32⟩
  | .local _ .vmem, ⟨15, _⟩ => ⟨S1x256x1280, .f32⟩
  | .local _ .vmem, ⟨16, _⟩ => ⟨S1x256x1280, .f32⟩
  | .local _ .vmem, ⟨17, _⟩ => ⟨S1x256x1280, .f32⟩
  | .local _ .vmem, ⟨18, _⟩ => ⟨S1x256x1280, .f32⟩
  | .local _ .vmem, ⟨19, _⟩ => ⟨S1x256x1280, .f32⟩
  | .local _ .vmem, ⟨20, _⟩ => ⟨S1x256x1280, .f32⟩
  | .local _ .vmem, ⟨21, _⟩ => ⟨S1x256x1280, .f32⟩
  | .local _ .vmem, ⟨22, _⟩ => ⟨S4x1280, .f32⟩
  | .local _ .vmem, ⟨23, _⟩ => ⟨S1x1280, .f32⟩
  | .local _ .vmem, ⟨24, _⟩ => ⟨S10x128x128, .bf16⟩
  | .local _ .vmem, ⟨25, _⟩ => ⟨S1x1280, .f32⟩
  | .local _ .vmem, ⟨26, _⟩ => ⟨S10x128x128, .bf16⟩
  | .local _ .vmem, ⟨27, _⟩ => ⟨S1x1280, .f32⟩
  | .local _ .vmem, ⟨28, _⟩ => ⟨S1x1280, .f32⟩
  | .local _ .vmem, ⟨29, _⟩ => ⟨S6x128x128, .f32⟩
  | .local _ .vmem, ⟨30, _⟩ => ⟨S128x6, .f32⟩
  | .local _ .vmem, ⟨31, _⟩ => ⟨S1x768, .f32⟩
  | .local _ .vmem, ⟨32, _⟩ => ⟨S1x768, .f32⟩
  | .local _ .vmem, ⟨33, _⟩ => ⟨S1x256x4096, .bf16⟩
  | .local _ .vmem, ⟨34, _⟩ => ⟨S1x256x4096, .bf16⟩
  | .local _ .vmem, ⟨35, _⟩ => ⟨S1x4096, .f32⟩
  | .local _ .vmem, ⟨36, _⟩ => ⟨S4x1280, .f32⟩
  | .local _ .vmem, ⟨37, _⟩ => ⟨S1x1280, .f32⟩
  | .local _ .vmem, ⟨38, _⟩ => ⟨S10x128x128, .f32⟩
  | .local _ .vmem, ⟨39, _⟩ => ⟨S1x1280, .f32⟩
  | .local _ .vmem, ⟨40, _⟩ => ⟨S10x128x128, .f32⟩
  | .local _ .vmem, ⟨41, _⟩ => ⟨S1x1280, .f32⟩
  | .local _ .vmem, ⟨42, _⟩ => ⟨S1x1280, .f32⟩
  | .local _ .vmem, ⟨43, _⟩ => ⟨S6x128x128, .f32⟩
  | .local _ .vmem, ⟨44, _⟩ => ⟨S128x6, .f32⟩
  | .local _ .vmem, ⟨45, _⟩ => ⟨S1x768, .f32⟩
  | .local _ .vmem, ⟨46, _⟩ => ⟨S1x768, .f32⟩
  | .local _ .vmem, ⟨47, _⟩ => ⟨S10x264x128, .f32⟩
  | .local _ .vmem, ⟨48, _⟩ => ⟨S10x264x128, .f32⟩
  | .local _ .vmem, ⟨49, _⟩ => ⟨S10x256x128, .f32⟩
  | .local _ .vmem, ⟨50, _⟩ => ⟨S10x264x128, .f32⟩
  | .local _ .vmem, ⟨51, _⟩ => ⟨S8x1280, .f32⟩
  | .local _ .vmem, ⟨52, _⟩ => ⟨S32x1280, .f32⟩
  | .local _ .vmem, ⟨53, _⟩ => ⟨S32x1280, .f32⟩
  | .local _ .vmem, ⟨54, _⟩ => ⟨S32x1280, .f32⟩
  | .local _ .vmem, ⟨55, _⟩ => ⟨S32x1280, .f32⟩
  | .local _ .vmem, ⟨56, _⟩ => ⟨S256x1280, .f32⟩
  | .local _ .vmem, ⟨57, _⟩ => ⟨S256x1280, .f32⟩
  | _, _ => ⟨S4x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0_0 : Ref sig .tc := ⟨.hbm, 21, rfl⟩
abbrev main_v0_1 : Ref sig .tc := ⟨.hbm, 22, rfl⟩
abbrev main_v0_2 : Ref sig .tc := ⟨.hbm, 23, rfl⟩
abbrev main_v0_3 : Ref sig .tc := ⟨.hbm, 24, rfl⟩
abbrev main_v0_4 : Ref sig .tc := ⟨.hbm, 25, rfl⟩
abbrev main_v0_5 : Ref sig .tc := ⟨.hbm, 26, rfl⟩
abbrev main_v0_6 : Ref sig .tc := ⟨.hbm, 27, rfl⟩
abbrev main_v0_7 : Ref sig .tc := ⟨.hbm, 28, rfl⟩
abbrev main_v0_8 : Ref sig .tc := ⟨.hbm, 29, rfl⟩
abbrev main_v0_9 : Ref sig .tc := ⟨.hbm, 30, rfl⟩
abbrev main_v0_10 : Ref sig .tc := ⟨.hbm, 31, rfl⟩
abbrev main_v0_11 : Ref sig .tc := ⟨.hbm, 32, rfl⟩
abbrev main_v0_12 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg24_0 : Ref sig .tc := ⟨.vmem, 36, rfl⟩
abbrev cc0_stg25_0 : Ref sig .tc := ⟨.vmem, 37, rfl⟩
abbrev cc0_stg26_0 : Ref sig .tc := ⟨.vmem, 38, rfl⟩
abbrev cc0_stg27_0 : Ref sig .tc := ⟨.vmem, 39, rfl⟩
abbrev cc0_stg28_0 : Ref sig .tc := ⟨.vmem, 40, rfl⟩
abbrev cc0_stg29_0 : Ref sig .tc := ⟨.vmem, 41, rfl⟩
abbrev cc0_stg30_0 : Ref sig .tc := ⟨.vmem, 42, rfl⟩
abbrev cc0_stg31_0 : Ref sig .tc := ⟨.vmem, 43, rfl⟩
abbrev cc0_stg32_0 : Ref sig .tc := ⟨.vmem, 44, rfl⟩
abbrev cc0_stg33_0 : Ref sig .tc := ⟨.vmem, 45, rfl⟩
abbrev cc0_stg34_0 : Ref sig .tc := ⟨.vmem, 46, rfl⟩
abbrev cc0_scratch0 : Ref sig .tc := ⟨.vmem, 47, rfl⟩
abbrev cc0_scratch1 : Ref sig .tc := ⟨.vmem, 48, rfl⟩
abbrev cc0_scratch2 : Ref sig .tc := ⟨.vmem, 49, rfl⟩
abbrev cc0_scratch3 : Ref sig .tc := ⟨.vmem, 50, rfl⟩
abbrev cc0_scratch4 : Ref sig .tc := ⟨.vmem, 51, rfl⟩
abbrev cc0_scratch5 : Ref sig .tc := ⟨.vmem, 52, rfl⟩
abbrev cc0_scratch6 : Ref sig .tc := ⟨.vmem, 53, rfl⟩
abbrev cc0_scratch7 : Ref sig .tc := ⟨.vmem, 54, rfl⟩
abbrev cc0_scratch8 : Ref sig .tc := ⟨.vmem, 55, rfl⟩
abbrev cc0_scratch9 : Ref sig .tc := ⟨.vmem, 56, rfl⟩
abbrev cc0_scratch10 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem22_0 : DmaSem sig := 33
abbrev cc0_sem22_1 : DmaSem sig := 34
abbrev cc0_sem23_0 : DmaSem sig := 35
abbrev cc0_sem24_0 : DmaSem sig := 36
abbrev cc0_sem25_0 : DmaSem sig := 37
abbrev cc0_sem26_0 : DmaSem sig := 38
abbrev cc0_sem27_0 : DmaSem sig := 39
abbrev cc0_sem28_0 : DmaSem sig := 40
abbrev cc0_sem29_0 : DmaSem sig := 41
abbrev cc0_sem30_0 : DmaSem sig := 42
abbrev cc0_sem31_0 : DmaSem sig := 43
abbrev cc0_sem32_0 : DmaSem sig := 44
abbrev cc0_sem33_0 : DmaSem sig := 45
abbrev cc0_sem34_0 : DmaSem sig := 46

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_10 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_28 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_30 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_33 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1280 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1280 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1280 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S4x1280 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1280 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S10x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1280 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S10x128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1280 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1280 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S6x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S128x6 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x768 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x768 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 2 → Memref sig .tc .vmem S1x256x4096 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 1 → Memref sig .tc .vmem S1x4096 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S4x1280 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S1x1280 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S10x128x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 1 → Memref sig .tc .vmem S1x1280 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false, false]

abbrev stage0_28 : Fin 1 → Memref sig .tc .vmem S10x128x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false, false]

abbrev stage0_29 : Fin 1 → Memref sig .tc .vmem S1x1280 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false, false]

abbrev stage0_30 : Fin 1 → Memref sig .tc .vmem S1x1280 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false, false]

abbrev stage0_31 : Fin 1 → Memref sig .tc .vmem S6x128x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false, false]

abbrev stage0_32 : Fin 1 → Memref sig .tc .vmem S128x6 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false, false]

abbrev stage0_33 : Fin 1 → Memref sig .tc .vmem S1x768 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false, false]

abbrev stage0_34 : Fin 1 → Memref sig .tc .vmem S1x768 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false, false]
-- ==== Kernel7.lean ====
abbrev S4x2048x6144 : Shape := ⟨3, ![4, 2048, 6144]⟩
abbrev S4x1280 : Shape := ⟨2, ![4, 1280]⟩
abbrev S1x1280 : Shape := ⟨2, ![1, 1280]⟩
abbrev S10x128x128 : Shape := ⟨3, ![10, 128, 128]⟩
abbrev S6x128x128 : Shape := ⟨3, ![6, 128, 128]⟩
abbrev S128x6 : Shape := ⟨2, ![128, 6]⟩
abbrev S1x768 : Shape := ⟨2, ![1, 768]⟩
abbrev S4x2048x1280 : Shape := ⟨3, ![4, 2048, 1280]⟩
abbrev S4x2048x768 : Shape := ⟨3, ![4, 2048, 768]⟩
abbrev S1x256x4096 : Shape := ⟨3, ![1, 256, 4096]⟩
abbrev S1x256x1280 : Shape := ⟨3, ![1, 256, 1280]⟩
abbrev S1x256x768 : Shape := ⟨3, ![1, 256, 768]⟩
abbrev S10x264x128 : Shape := ⟨3, ![10, 264, 128]⟩
abbrev S10x256x128 : Shape := ⟨3, ![10, 256, 128]⟩
abbrev S8x1280 : Shape := ⟨2, ![8, 1280]⟩
abbrev S32x1280 : Shape := ⟨2, ![32, 1280]⟩
abbrev S256x1280 : Shape := ⟨2, ![256, 1280]⟩
abbrev S10x8x128 : Shape := ⟨3, ![10, 8, 128]⟩
abbrev S1x256x128 : Shape := ⟨3, ![1, 256, 128]⟩
abbrev S256x128 : Shape := ⟨2, ![256, 128]⟩
abbrev S1x32x128 : Shape := ⟨3, ![1, 32, 128]⟩
abbrev S32x128 : Shape := ⟨2, ![32, 128]⟩
abbrev S1x128 : Shape := ⟨2, ![1, 128]⟩
abbrev S1x128x128 : Shape := ⟨3, ![1, 128, 128]⟩
abbrev S128x128 : Shape := ⟨2, ![128, 128]⟩
abbrev S256x768 : Shape := ⟨2, ![256, 768]⟩
abbrev S256 : Shape := ⟨1, ![256]⟩
abbrev S256x1 : Shape := ⟨2, ![256, 1]⟩
abbrev S128x1 : Shape := ⟨2, ![128, 1]⟩
abbrev S128x768 : Shape := ⟨2, ![128, 768]⟩

abbrev nBuf : Space → Nat
  | .hbm => 20
  | .vmem => 37
  | .smem => 0
  | _ => 0

abbrev bufTy : (tb : Table) → Fin (tcTables nBuf tb) → BufTy
  | .hbm, ⟨0, _⟩ => ⟨S4x2048x6144, .bf16⟩
  | .hbm, ⟨1, _⟩ => ⟨S4x1280, .f32⟩
  | .hbm, ⟨2, _⟩ => ⟨S1x1280, .f32⟩
  | .hbm, ⟨3, _⟩ => ⟨S10x128x128, .bf16⟩
  | .hbm, ⟨4, _⟩ => ⟨S1x1280, .f32⟩
  | .hbm, ⟨5, _⟩ => ⟨S10x128x128, .bf16⟩
  | .hbm, ⟨6, _⟩ => ⟨S1x1280, .f32⟩
  | .hbm, ⟨7, _⟩ => ⟨S1x1280, .f32⟩
  | .hbm, ⟨8, _⟩ => ⟨S6x128x128, .f32⟩
  | .hbm, ⟨9, _⟩ => ⟨S128x6, .f32⟩
  | .hbm, ⟨10, _⟩ => ⟨S1x768, .f32⟩
  | .hbm, ⟨11, _⟩ => ⟨S1x768, .f32⟩
  | .hbm, ⟨12, _⟩ => ⟨S4x2048x1280, .f32⟩
  | .hbm, ⟨13, _⟩ => ⟨S4x2048x1280, .bf16⟩
  | .hbm, ⟨14, _⟩ => ⟨S4x2048x768, .bf16⟩
  | .hbm, ⟨15, _⟩ => ⟨S4x2048x1280, .f32⟩
  | .hbm, ⟨16, _⟩ => ⟨S4x2048x1280, .f32⟩
  | .hbm, ⟨17, _⟩ => ⟨S4x2048x1280, .f32⟩
  | .hbm, ⟨18, _⟩ => ⟨S4x2048x1280, .f32⟩
  | .hbm, ⟨19, _⟩ => ⟨S4x2048x1280, .f32⟩
  | .local _ .vmem, ⟨0, _⟩ => ⟨S1x256x4096, .bf16⟩
  | .local _ .vmem, ⟨1, _⟩ => ⟨S1x256x4096, .bf16⟩
  | .local _ .vmem, ⟨2, _⟩ => ⟨S4x1280, .f32⟩
  | .local _ .vmem, ⟨3, _⟩ => ⟨S1x1280, .f32⟩
  | .local _ .vmem, ⟨4, _⟩ => ⟨S10x128x128, .bf16⟩
  | .local _ .vmem, ⟨5, _⟩ => ⟨S1x1280, .f32⟩
  | .local _ .vmem, ⟨6, _⟩ => ⟨S10x128x128, .bf16⟩
  | .local _ .vmem, ⟨7, _⟩ => ⟨S1x1280, .f32⟩
  | .local _ .vmem, ⟨8, _⟩ => ⟨S1x1280, .f32⟩
  | .local _ .vmem, ⟨9, _⟩ => ⟨S6x128x128, .f32⟩
  | .local _ .vmem, ⟨10, _⟩ => ⟨S128x6, .f32⟩
  | .local _ .vmem, ⟨11, _⟩ => ⟨S1x768, .f32⟩
  | .local _ .vmem, ⟨12, _⟩ => ⟨S1x768, .f32⟩
  | .local _ .vmem, ⟨13, _⟩ => ⟨S1x256x1280, .f32⟩
  | .local _ .vmem, ⟨14, _⟩ => ⟨S1x256x1280, .f32⟩
  | .local _ .vmem, ⟨15, _⟩ => ⟨S1x256x1280, .bf16⟩
  | .local _ .vmem, ⟨16, _⟩ => ⟨S1x256x1280, .bf16⟩
  | .local _ .vmem, ⟨17, _⟩ => ⟨S1x256x768, .bf16⟩
  | .local _ .vmem, ⟨18, _⟩ => ⟨S1x256x768, .bf16⟩
  | .local _ .vmem, ⟨19, _⟩ => ⟨S1x256x1280, .f32⟩
  | .local _ .vmem, ⟨20, _⟩ => ⟨S1x256x1280, .f32⟩
  | .local _ .vmem, ⟨21, _⟩ => ⟨S1x256x1280, .f32⟩
  | .local _ .vmem, ⟨22, _⟩ => ⟨S1x256x1280, .f32⟩
  | .local _ .vmem, ⟨23, _⟩ => ⟨S1x256x1280, .f32⟩
  | .local _ .vmem, ⟨24, _⟩ => ⟨S1x256x1280, .f32⟩
  | .local _ .vmem, ⟨25, _⟩ => ⟨S1x256x1280, .f32⟩
  | .local _ .vmem, ⟨26, _⟩ => ⟨S1x256x1280, .f32⟩
  | .local _ .vmem, ⟨27, _⟩ => ⟨S1x256x1280, .f32⟩
  | .local _ .vmem, ⟨28, _⟩ => ⟨S1x256x1280, .f32⟩
  | .local _ .vmem, ⟨29, _⟩ => ⟨S10x264x128, .f32⟩
  | .local _ .vmem, ⟨30, _⟩ => ⟨S10x256x128, .f32⟩
  | .local _ .vmem, ⟨31, _⟩ => ⟨S8x1280, .f32⟩
  | .local _ .vmem, ⟨32, _⟩ => ⟨S32x1280, .f32⟩
  | .local _ .vmem, ⟨33, _⟩ => ⟨S32x1280, .f32⟩
  | .local _ .vmem, ⟨34, _⟩ => ⟨S32x1280, .f32⟩
  | .local _ .vmem, ⟨35, _⟩ => ⟨S256x1280, .f32⟩
  | .local _ .vmem, ⟨36, _⟩ => ⟨S256x1280, .f32⟩
  | _, _ => ⟨S4x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_scratch6 : Ref sig .tc := ⟨.vmem, 35, rfl⟩
abbrev cc0_scratch7 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S10x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S10x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S6x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x6 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1280 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1280 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x768 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1280 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1280 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x1280 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x1280 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1280 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Kernel8.lean ====
abbrev S4x2048x4096 : Shape := ⟨3, ![4, 2048, 4096]⟩
abbrev S4096x1024 : Shape := ⟨2, ![4096, 1024]⟩
abbrev S4x2048x1024 : Shape := ⟨3, ![4, 2048, 1024]⟩
abbrev S_ : Shape := ⟨0, ![]⟩
abbrev S8192x4096 : Shape := ⟨2, ![8192, 4096]⟩
abbrev S8192x1024 : Shape := ⟨2, ![8192, 1024]⟩
abbrev S1024x1024 : Shape := ⟨2, ![1024, 1024]⟩

abbrev nBuf : Space → Nat
  | .hbm => 14
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x1024, .f32⟩
  | .hbm, ⟨2, _⟩ => ⟨S4x2048x1024, .f32⟩
  | .hbm, ⟨3, _⟩ => ⟨S_, .f32⟩
  | .hbm, ⟨4, _⟩ => ⟨S4x2048x4096, .f32⟩
  | .hbm, ⟨5, _⟩ => ⟨S4x2048x4096, .f32⟩
  | .hbm, ⟨6, _⟩ => ⟨S4x2048x4096, .bf16⟩
  | .hbm, ⟨7, _⟩ => ⟨S8192x4096, .bf16⟩
  | .hbm, ⟨8, _⟩ => ⟨S_, .f32⟩
  | .hbm, ⟨9, _⟩ => ⟨S4x2048x1024, .f32⟩
  | .hbm, ⟨10, _⟩ => ⟨S4x2048x1024, .f32⟩
  | .hbm, ⟨11, _⟩ => ⟨S4x2048x1024, .bf16⟩
  | .hbm, ⟨12, _⟩ => ⟨S8192x1024, .bf16⟩
  | .hbm, ⟨13, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4x2048x4096 : Shape := ⟨3, ![4, 2048, 4096]⟩
abbrev S4096x1024 : Shape := ⟨2, ![4096, 1024]⟩
abbrev S4x2048x1024 : Shape := ⟨3, ![4, 2048, 1024]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x1024, .f32⟩
  | .hbm, ⟨2, _⟩ => ⟨S4x2048x1024, .f32⟩
  | .hbm, ⟨3, _⟩ => ⟨S_, .f32⟩
  | .hbm, ⟨4, _⟩ => ⟨S4x2048x4096, .f32⟩
  | .hbm, ⟨5, _⟩ => ⟨S4x2048x4096, .f32⟩
  | .hbm, ⟨6, _⟩ => ⟨S4x2048x4096, .f32⟩
  | .hbm, ⟨7, _⟩ => ⟨S4x2048x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel9.lean ====
abbrev S64x1024 : Shape := ⟨2, ![64, 1024]⟩
abbrev S1024x768 : Shape := ⟨2, ![1024, 768]⟩
abbrev S1x768 : Shape := ⟨2, ![1, 768]⟩
abbrev S64x768 : Shape := ⟨2, ![64, 768]⟩
abbrev S_ : Shape := ⟨0, ![]⟩
abbrev S768 : Shape := ⟨1, ![768]⟩

abbrev nBuf : Space → Nat
  | .hbm => 18
  | .vmem => 4
  | .smem => 0
  | _ => 0

abbrev bufTy : (tb : Table) → Fin (tcTables nBuf tb) → BufTy
  | .hbm, ⟨0, _⟩ => ⟨S64x1024, .f32⟩
  | .hbm, ⟨1, _⟩ => ⟨S1024x768, .f32⟩
  | .hbm, ⟨2, _⟩ => ⟨S1x768, .f32⟩
  | .hbm, ⟨3, _⟩ => ⟨S64x768, .f32⟩
  | .hbm, ⟨4, _⟩ => ⟨S_, .f32⟩
  | .hbm, ⟨5, _⟩ => ⟨S64x1024, .f32⟩
  | .hbm, ⟨6, _⟩ => ⟨S64x1024, .f32⟩
  | .hbm, ⟨7, _⟩ => ⟨S64x1024, .f32⟩
  | .hbm, ⟨8, _⟩ => ⟨S_, .f32⟩
  | .hbm, ⟨9, _⟩ => ⟨S64x1024, .f32⟩
  | .hbm, ⟨10, _⟩ => ⟨S64x1024, .f32⟩
  | .hbm, ⟨11, _⟩ => ⟨S_, .f32⟩
  | .hbm, ⟨12, _⟩ => ⟨S64x1024, .f32⟩
  | .hbm, ⟨13, _⟩ => ⟨S64x1024, .f32⟩
  | .hbm, ⟨14, _⟩ => ⟨S64x1024, .f32⟩
  | .hbm, ⟨15, _⟩ => ⟨S64x1024, .bf16⟩
  | .hbm, ⟨16, _⟩ => ⟨S1024x768, .f32⟩
  | .hbm, ⟨17, _⟩ => ⟨S1x768, .f32⟩
  | .local _ .vmem, ⟨0, _⟩ => ⟨S64x1024, .bf16⟩
  | .local _ .vmem, ⟨1, _⟩ => ⟨S64x768, .f32⟩
  | .local _ .vmem, ⟨2, _⟩ => ⟨S1024x768, .f32⟩
  | .local _ .vmem, ⟨3, _⟩ => ⟨S1x768, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S64x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference9Ideal.lean ====
abbrev S64x1024 : Shape := ⟨2, ![64, 1024]⟩
abbrev S1024x768 : Shape := ⟨2, ![1024, 768]⟩
abbrev S1x768 : Shape := ⟨2, ![1, 768]⟩
abbrev S64x768 : Shape := ⟨2, ![64, 768]⟩
abbrev S_ : Shape := ⟨0, ![]⟩
abbrev S768 : Shape := ⟨1, ![768]⟩
abbrev S768x1024 : Shape := ⟨2, ![768, 1024]⟩

abbrev nBuf : Space → Nat
  | .hbm => 22
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S1024x768, .f32⟩
  | .hbm, ⟨2, _⟩ => ⟨S1x768, .f32⟩
  | .hbm, ⟨3, _⟩ => ⟨S64x768, .f32⟩
  | .hbm, ⟨4, _⟩ => ⟨S64x1024, .f32⟩
  | .hbm, ⟨5, _⟩ => ⟨S64x1024, .f32⟩
  | .hbm, ⟨6, _⟩ => ⟨S_, .f32⟩
  | .hbm, ⟨7, _⟩ => ⟨S64x1024, .f32⟩
  | .hbm, ⟨8, _⟩ => ⟨S64x1024, .f32⟩
  | .hbm, ⟨9, _⟩ => ⟨S_, .f32⟩
  | .hbm, ⟨10, _⟩ => ⟨S64x1024, .f32⟩
  | .hbm, ⟨11, _⟩ => ⟨S64x1024, .f32⟩
  | .hbm, ⟨12, _⟩ => ⟨S64x1024, .f32⟩
  | .hbm, ⟨13, _⟩ => ⟨S64x768, .f32⟩
  | .hbm, ⟨14, _⟩ => ⟨S64x768, .f32⟩
  | .hbm, ⟨15, _⟩ => ⟨S64x768, .f32⟩
  | .hbm, ⟨16, _⟩ => ⟨S64x768, .f32⟩
  | .hbm, ⟨17, _⟩ => ⟨S_, .f32⟩
  | .hbm, ⟨18, _⟩ => ⟨S768, .f32⟩
  | .hbm, ⟨19, _⟩ => ⟨S1x768, .f32⟩
  | .hbm, ⟨20, _⟩ => ⟨S768x1024, .f32⟩
  | .hbm, ⟨21, _⟩ => ⟨S1024x768, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel10.lean ====
abbrev S4x2048x1024 : Shape := ⟨3, ![4, 2048, 1024]⟩
abbrev S1024x1024 : Shape := ⟨2, ![1024, 1024]⟩
abbrev S4x1024 : Shape := ⟨2, ![4, 1024]⟩
abbrev S1x1024 : Shape := ⟨2, ![1, 1024]⟩
abbrev S8192x1024 : Shape := ⟨2, ![8192, 1024]⟩
abbrev S4x1x1024 : Shape := ⟨3, ![4, 1, 1024]⟩
abbrev S8192x128 : Shape := ⟨2, ![8192, 128]⟩
abbrev S512x1024 : Shape := ⟨2, ![512, 1024]⟩
abbrev S1x1x1024 : Shape := ⟨3, ![1, 1, 1024]⟩
abbrev S512x128 : Shape := ⟨2, ![512, 128]⟩
abbrev S512 : Shape := ⟨1, ![512]⟩
abbrev S512x1 : Shape := ⟨2, ![512, 1]⟩

abbrev nBuf : Space → Nat
  | .hbm => 20
  | .vmem => 23
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S4x1024, .f32⟩
  | .hbm, ⟨4, _⟩ => ⟨S1x1024, .f32⟩
  | .hbm, ⟨5, _⟩ => ⟨S1x1024, .f32⟩
  | .hbm, ⟨6, _⟩ => ⟨S4x1024, .f32⟩
  | .hbm, ⟨7, _⟩ => ⟨S4x1024, .f32⟩
  | .hbm, ⟨8, _⟩ => ⟨S4x2048x1024, .bf16⟩
  | .hbm, ⟨9, _⟩ => ⟨S8192x1024, .bf16⟩
  | .hbm, ⟨10, _⟩ => ⟨S1024x1024, .bf16⟩
  | .hbm, ⟨11, _⟩ => ⟨S8192x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S8192x1024, .bf16⟩
  | .hbm, ⟨16, _⟩ => ⟨S8192x1024, .f32⟩
  | .hbm, ⟨17, _⟩ => ⟨S8192x1024, .bf16⟩
  | .hbm, ⟨18, _⟩ => ⟨S8192x1024, .bf16⟩
  | .hbm, ⟨19, _⟩ => ⟨S8192x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x128, .f32⟩
  | .local _ .vmem, ⟨22, _⟩ => ⟨S512x128, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference10Ideal.lean ====
abbrev S4x2048x1024 : Shape := ⟨3, ![4, 2048, 1024]⟩
abbrev S1024x1024 : Shape := ⟨2, ![1024, 1024]⟩
abbrev S4x1024 : Shape := ⟨2, ![4, 1024]⟩
abbrev S1x1024 : Shape := ⟨2, ![1, 1024]⟩
abbrev S_ : Shape := ⟨0, ![]⟩
abbrev S4x1x1024 : Shape := ⟨3, ![4, 1, 1024]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S8192x1 : Shape := ⟨2, ![8192, 1]⟩
abbrev S8192x128 : Shape := ⟨2, ![8192, 128]⟩

abbrev nBuf : Space → Nat
  | .hbm => 66
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S4x1024, .f32⟩
  | .hbm, ⟨4, _⟩ => ⟨S1x1024, .f32⟩
  | .hbm, ⟨5, _⟩ => ⟨S1x1024, .f32⟩
  | .hbm, ⟨6, _⟩ => ⟨S4x1024, .f32⟩
  | .hbm, ⟨7, _⟩ => ⟨S4x1024, .f32⟩
  | .hbm, ⟨8, _⟩ => ⟨S4x2048x1024, .f32⟩
  | .hbm, ⟨9, _⟩ => ⟨S_, .f32⟩
  | .hbm, ⟨10, _⟩ => ⟨S4x2048x1024, .f32⟩
  | .hbm, ⟨11, _⟩ => ⟨S4x2048x1024, .f32⟩
  | .hbm, ⟨12, _⟩ => ⟨S4x1x1024, .f32⟩
  | .hbm, ⟨13, _⟩ => ⟨S_, .f32⟩
  | .hbm, ⟨14, _⟩ => ⟨S4x1x1024, .f32⟩
  | .hbm, ⟨15, _⟩ => ⟨S4x1x1024, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S_, .f32⟩
  | .hbm, ⟨35, _⟩ => ⟨S4x2048x1, .f32⟩
  | .hbm, ⟨36, _⟩ => ⟨S4x2048x1, .f32⟩
  | .hbm, ⟨37, _⟩ => ⟨S4x2048x1, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S1x1x1024, .f32⟩
  | .hbm, ⟨43, _⟩ => ⟨S4x2048x1024, .f32⟩
  | .hbm, ⟨44, _⟩ => ⟨S4x2048x1024, .f32⟩
  | .hbm, ⟨45, _⟩ => ⟨S1x1x1024, .f32⟩
  | .hbm, ⟨46, _⟩ => ⟨S4x2048x1024, .f32⟩
  | .hbm, ⟨47, _⟩ => ⟨S4x2048x1024, .f32⟩
  | .hbm, ⟨48, _⟩ => ⟨S4x1x1024, .f32⟩
  | .hbm, ⟨49, _⟩ => ⟨S_, .f32⟩
  | .hbm, ⟨50, _⟩ => ⟨S4x1x1024, .f32⟩
  | .hbm, ⟨51, _⟩ => ⟨S4x1x1024, .f32⟩
  | .hbm, ⟨52, _⟩ => ⟨S4x2048x1024, .f32⟩
  | .hbm, ⟨53, _⟩ => ⟨S4x2048x1024, .f32⟩
  | .hbm, ⟨54, _⟩ => ⟨S4x1x1024, .f32⟩
  | .hbm, ⟨55, _⟩ => ⟨S4x2048x1024, .f32⟩
  | .hbm, ⟨56, _⟩ => ⟨S4x2048x1024, .f32⟩
  | .hbm, ⟨57, _⟩ => ⟨S8192x1024, .f32⟩
  | .hbm, ⟨58, _⟩ => ⟨S8192x1024, .bf16⟩
  | .hbm, ⟨59, _⟩ => ⟨S8192x1024, .f32⟩
  | .hbm, ⟨60, _⟩ => ⟨S8192x1024, .f32⟩
  | .hbm, ⟨61, _⟩ => ⟨S8192x1024, .bf16⟩
  | .hbm, ⟨62, _⟩ => ⟨S8192x1024, .f32⟩
  | .hbm, ⟨63, _⟩ => ⟨S8192x1024, .bf16⟩
  | .hbm, ⟨64, _⟩ => ⟨S8192x1, .f32⟩
  | .hbm, ⟨65, _⟩ => ⟨S8192x128, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Kernel11.lean ====
abbrev S4x2048x1280 : Shape := ⟨3, ![4, 2048, 1280]⟩
abbrev S4x2048x768 : Shape := ⟨3, ![4, 2048, 768]⟩
abbrev S1280x1024 : Shape := ⟨2, ![1280, 1024]⟩
abbrev S768x1024 : Shape := ⟨2, ![768, 1024]⟩
abbrev S4x2048x6144 : Shape := ⟨3, ![4, 2048, 6144]⟩
abbrev S1x6144 : Shape := ⟨2, ![1, 6144]⟩
abbrev S1x1x6144 : Shape := ⟨3, ![1, 1, 6144]⟩
abbrev S8192x6144 : Shape := ⟨2, ![8192, 6144]⟩
abbrev S8192x768 : Shape := ⟨2, ![8192, 768]⟩
abbrev S8192x1280 : Shape := ⟨2, ![8192, 1280]⟩
abbrev S8192x1024 : Shape := ⟨2, ![8192, 1024]⟩
abbrev S512x768 : Shape := ⟨2, ![512, 768]⟩
abbrev S512x1280 : Shape := ⟨2, ![512, 1280]⟩
abbrev S512x1024 : Shape := ⟨2, ![512, 1024]⟩

abbrev nBuf : Space → Nat
  | .hbm => 20
  | .vmem => 16
  | .smem => 0
  | _ => 0

abbrev bufTy : (tb : Table) → Fin (tcTables nBuf tb) → BufTy
  | .hbm, ⟨0, _⟩ => ⟨S4x2048x1280, .f32⟩
  | .hbm, ⟨1, _⟩ => ⟨S4x2048x768, .f32⟩
  | .hbm, ⟨2, _⟩ => ⟨S1280x1024, .f32⟩
  | .hbm, ⟨3, _⟩ => ⟨S768x1024, .f32⟩
  | .hbm, ⟨4, _⟩ => ⟨S4x2048x6144, .f32⟩
  | .hbm, ⟨5, _⟩ => ⟨S1x6144, .f32⟩
  | .hbm, ⟨6, _⟩ => ⟨S1x1x6144, .f32⟩
  | .hbm, ⟨7, _⟩ => ⟨S4x2048x6144, .f32⟩
  | .hbm, ⟨8, _⟩ => ⟨S4x2048x6144, .f32⟩
  | .hbm, ⟨9, _⟩ => ⟨S4x2048x6144, .bf16⟩
  | .hbm, ⟨10, _⟩ => ⟨S8192x6144, .bf16⟩
  | .hbm, ⟨11, _⟩ => ⟨S4x2048x768, .bf16⟩
  | .hbm, ⟨12, _⟩ => ⟨S8192x768, .bf16⟩
  | .hbm, ⟨13, _⟩ => ⟨S768x1024, .bf16⟩
  | .hbm, ⟨14, _⟩ => ⟨S4x2048x1280, .bf16⟩
  | .hbm, ⟨15, _⟩ => ⟨S8192x1280, .bf16⟩
  | .hbm, ⟨16, _⟩ => ⟨S1280x1024, .bf16⟩
  | .hbm, ⟨17, _⟩ => ⟨S8192x1024, .bf16⟩
  | .hbm, ⟨18, _⟩ => ⟨S8192x1024, .bf16⟩
  | .hbm, ⟨19, _⟩ => ⟨S8192x1024, .bf16⟩
  | .local _ .vmem, ⟨0, _⟩ => ⟨S512x768, .bf16⟩
  | .local _ .vmem, ⟨1, _⟩ => ⟨S512x768, .bf16⟩
  | .local _ .vmem, ⟨2, _⟩ => ⟨S768x1024, .bf16⟩
  | .local _ .vmem, ⟨3, _⟩ => ⟨S512x1280, .bf16⟩
  | .local _ .vmem, ⟨4, _⟩ => ⟨S512x1280, .bf16⟩
  | .local _ .vmem, ⟨5, _⟩ => ⟨S1280x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S4x2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1280x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S4x2048x1280 : Shape := ⟨3, ![4, 2048, 1280]⟩
abbrev S4x2048x768 : Shape := ⟨3, ![4, 2048, 768]⟩
abbrev S1280x1024 : Shape := ⟨2, ![1280, 1024]⟩
abbrev S768x1024 : Shape := ⟨2, ![768, 1024]⟩
abbrev S4x2048x6144 : Shape := ⟨3, ![4, 2048, 6144]⟩
abbrev S1x6144 : Shape := ⟨2, ![1, 6144]⟩
abbrev S1x1x6144 : Shape := ⟨3, ![1, 1, 6144]⟩
abbrev S4x2048x1024 : Shape := ⟨3, ![4, 2048, 1024]⟩
abbrev S_ : Shape := ⟨0, ![]⟩
abbrev S8192x1024 : Shape := ⟨2, ![8192, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x1280, .f32⟩
  | .hbm, ⟨1, _⟩ => ⟨S4x2048x768, .f32⟩
  | .hbm, ⟨2, _⟩ => ⟨S1280x1024, .f32⟩
  | .hbm, ⟨3, _⟩ => ⟨S768x1024, .f32⟩
  | .hbm, ⟨4, _⟩ => ⟨S4x2048x6144, .f32⟩
  | .hbm, ⟨5, _⟩ => ⟨S1x6144, .f32⟩
  | .hbm, ⟨6, _⟩ => ⟨S1x1x6144, .f32⟩
  | .hbm, ⟨7, _⟩ => ⟨S4x2048x6144, .f32⟩
  | .hbm, ⟨8, _⟩ => ⟨S4x2048x6144, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S_, .f32⟩
  | .hbm, ⟨15, _⟩ => ⟨S4x2048x1024, .f32⟩
  | .hbm, ⟨16, _⟩ => ⟨S4x2048x1024, .f32⟩
  | .hbm, ⟨17, _⟩ => ⟨S_, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S_, .f32⟩
  | .hbm, ⟨25, _⟩ => ⟨S4x2048x1024, .f32⟩
  | .hbm, ⟨26, _⟩ => ⟨S4x2048x1024, .f32⟩
  | .hbm, ⟨27, _⟩ => ⟨S_, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S4x2048x1024, .bf16⟩
  | .hbm, ⟨33, _⟩ => ⟨S8192x1024, .bf16⟩
  | .hbm, ⟨34, _⟩ => ⟨S4x2048x1024, .bf16⟩
  | .hbm, ⟨35, _⟩ => ⟨S8192x1024, .bf16⟩
  | .hbm, ⟨36, _⟩ => ⟨S4x2048x1024, .bf16⟩
  | .hbm, ⟨37, _⟩ => ⟨S8192x1024, .bf16⟩
  | _, _ => ⟨S4x2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel12.lean ====
abbrev S64x1024 : Shape := ⟨2, ![64, 1024]⟩
abbrev S1024x768 : Shape := ⟨2, ![1024, 768]⟩
abbrev S64x768 : Shape := ⟨2, ![64, 768]⟩

abbrev nBuf : Space → Nat
  | .hbm => 4
  | .vmem => 4
  | .smem => 0
  | _ => 0

abbrev bufTy : (tb : Table) → Fin (tcTables nBuf tb) → BufTy
  | .hbm, ⟨0, _⟩ => ⟨S64x1024, .f32⟩
  | .hbm, ⟨1, _⟩ => ⟨S1024x768, .f32⟩
  | .hbm, ⟨2, _⟩ => ⟨S64x1024, .bf16⟩
  | .hbm, ⟨3, _⟩ => ⟨S64x768, .f32⟩
  | .local _ .vmem, ⟨0, _⟩ => ⟨S64x1024, .f32⟩
  | .local _ .vmem, ⟨1, _⟩ => ⟨S1024x768, .f32⟩
  | .local _ .vmem, ⟨2, _⟩ => ⟨S64x1024, .bf16⟩
  | .local _ .vmem, ⟨3, _⟩ => ⟨S64x768, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference12Ideal.lean ====
abbrev S64x1024 : Shape := ⟨2, ![64, 1024]⟩
abbrev S1024x768 : Shape := ⟨2, ![1024, 768]⟩
abbrev S_ : Shape := ⟨0, ![]⟩
abbrev S64x768 : Shape := ⟨2, ![64, 768]⟩

abbrev nBuf : Space → Nat
  | .hbm => 13
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S1024x768, .f32⟩
  | .hbm, ⟨2, _⟩ => ⟨S64x1024, .f32⟩
  | .hbm, ⟨3, _⟩ => ⟨S64x1024, .f32⟩
  | .hbm, ⟨4, _⟩ => ⟨S_, .f32⟩
  | .hbm, ⟨5, _⟩ => ⟨S64x1024, .f32⟩
  | .hbm, ⟨6, _⟩ => ⟨S64x1024, .f32⟩
  | .hbm, ⟨7, _⟩ => ⟨S_, .f32⟩
  | .hbm, ⟨8, _⟩ => ⟨S64x1024, .f32⟩
  | .hbm, ⟨9, _⟩ => ⟨S64x1024, .f32⟩
  | .hbm, ⟨10, _⟩ => ⟨S64x1024, .f32⟩
  | .hbm, ⟨11, _⟩ => ⟨S64x1024, .bf16⟩
  | .hbm, ⟨12, _⟩ => ⟨S64x768, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== Kernel13.lean ====
abbrev S4x2048x1024 : Shape := ⟨3, ![4, 2048, 1024]⟩
abbrev S4x1024 : Shape := ⟨2, ![4, 1024]⟩
abbrev S4x1x1024 : Shape := ⟨3, ![4, 1, 1024]⟩
abbrev S1x2048x1024 : Shape := ⟨3, ![1, 2048, 1024]⟩
abbrev S1x1x1024 : Shape := ⟨3, ![1, 1, 1024]⟩
abbrev S2048x1024 : Shape := ⟨2, ![2048, 1024]⟩
abbrev S1x1024 : Shape := ⟨2, ![1, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S4x1x1024, .f32⟩
  | .hbm, ⟨4, _⟩ => ⟨S4x1x1024, .f32⟩
  | .hbm, ⟨5, _⟩ => ⟨S4x2048x1024, .bf16⟩
  | .local _ .vmem, ⟨0, _⟩ => ⟨S1x2048x1024, .f32⟩
  | .local _ .vmem, ⟨1, _⟩ => ⟨S1x2048x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x2048x1024, .bf16⟩
  | .local _ .vmem, ⟨7, _⟩ => ⟨S1x2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S4x2048x1024 : Shape := ⟨3, ![4, 2048, 1024]⟩
abbrev S4x1024 : Shape := ⟨2, ![4, 1024]⟩
abbrev S4x1x1024 : Shape := ⟨3, ![4, 1, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S4x1x1024, .f32⟩
  | .hbm, ⟨4, _⟩ => ⟨S_, .f32⟩
  | .hbm, ⟨5, _⟩ => ⟨S4x1x1024, .f32⟩
  | .hbm, ⟨6, _⟩ => ⟨S4x1x1024, .f32⟩
  | .hbm, ⟨7, _⟩ => ⟨S4x2048x1024, .f32⟩
  | .hbm, ⟨8, _⟩ => ⟨S4x2048x1024, .f32⟩
  | .hbm, ⟨9, _⟩ => ⟨S4x1x1024, .f32⟩
  | .hbm, ⟨10, _⟩ => ⟨S4x2048x1024, .f32⟩
  | .hbm, ⟨11, _⟩ => ⟨S4x2048x1024, .f32⟩
  | .hbm, ⟨12, _⟩ => ⟨S4x2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel14.lean ====
abbrev S4x2048x1024 : Shape := ⟨3, ![4, 2048, 1024]⟩
abbrev S1024x4096 : Shape := ⟨2, ![1024, 4096]⟩
abbrev S8192x1024 : Shape := ⟨2, ![8192, 1024]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S1024x4096, .f32⟩
  | .hbm, ⟨2, _⟩ => ⟨S4x2048x1024, .bf16⟩
  | .hbm, ⟨3, _⟩ => ⟨S8192x1024, .bf16⟩
  | .hbm, ⟨4, _⟩ => ⟨S1024x4096, .bf16⟩
  | .hbm, ⟨5, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4x2048x1024 : Shape := ⟨3, ![4, 2048, 1024]⟩
abbrev S1024x4096 : Shape := ⟨2, ![1024, 4096]⟩
abbrev S4x2048x4096 : Shape := ⟨3, ![4, 2048, 4096]⟩
abbrev S_ : Shape := ⟨0, ![]⟩
abbrev S8192x4096 : Shape := ⟨2, ![8192, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x4096, .f32⟩
  | .hbm, ⟨2, _⟩ => ⟨S4x2048x4096, .f32⟩
  | .hbm, ⟨3, _⟩ => ⟨S_, .f32⟩
  | .hbm, ⟨4, _⟩ => ⟨S4x2048x4096, .f32⟩
  | .hbm, ⟨5, _⟩ => ⟨S4x2048x4096, .f32⟩
  | .hbm, ⟨6, _⟩ => ⟨S4x2048x4096, .bf16⟩
  | .hbm, ⟨7, _⟩ => ⟨S8192x4096, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel15.lean ====
abbrev S4x2048x1024 : Shape := ⟨3, ![4, 2048, 1024]⟩
abbrev S1280x1024 : Shape := ⟨2, ![1280, 1024]⟩
abbrev S768x1024 : Shape := ⟨2, ![768, 1024]⟩
abbrev S8192x1024 : Shape := ⟨2, ![8192, 1024]⟩
abbrev S_ : Shape := ⟨0, ![]⟩
abbrev S8x128 : Shape := ⟨2, ![8, 128]⟩
abbrev S8192x1280 : Shape := ⟨2, ![8192, 1280]⟩
abbrev S8192x768 : Shape := ⟨2, ![8192, 768]⟩
abbrev S512x1024 : Shape := ⟨2, ![512, 1024]⟩
abbrev S512x1280 : Shape := ⟨2, ![512, 1280]⟩
abbrev S512x768 : Shape := ⟨2, ![512, 768]⟩

abbrev nBuf : Space → Nat
  | .hbm => 14
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1280x1024, .f32⟩
  | .hbm, ⟨3, _⟩ => ⟨S768x1024, .f32⟩
  | .hbm, ⟨4, _⟩ => ⟨S4x2048x1024, .bf16⟩
  | .hbm, ⟨5, _⟩ => ⟨S8192x1024, .bf16⟩
  | .hbm, ⟨6, _⟩ => ⟨S1280x1024, .bf16⟩
  | .hbm, ⟨7, _⟩ => ⟨S_, .f32⟩
  | .hbm, ⟨8, _⟩ => ⟨S8x128, .f32⟩
  | .hbm, ⟨9, _⟩ => ⟨S4x2048x1024, .bf16⟩
  | .hbm, ⟨10, _⟩ => ⟨S8192x1024, .bf16⟩
  | .hbm, ⟨11, _⟩ => ⟨S768x1024, .bf16⟩
  | .hbm, ⟨12, _⟩ => ⟨S8192x1280, .bf16⟩
  | .hbm, ⟨13, _⟩ => ⟨S8192x768, .bf16⟩
  | .local _ .vmem, ⟨0, _⟩ => ⟨S512x1024, .bf16⟩
  | .local _ .vmem, ⟨1, _⟩ => ⟨S512x1024, .bf16⟩
  | .local _ .vmem, ⟨2, _⟩ => ⟨S1280x1024, .bf16⟩
  | .local _ .vmem, ⟨3, _⟩ => ⟨S8x128, .f32⟩
  | .local _ .vmem, ⟨4, _⟩ => ⟨S512x1024, .bf16⟩
  | .local _ .vmem, ⟨5, _⟩ => ⟨S512x1024, .bf16⟩
  | .local _ .vmem, ⟨6, _⟩ => ⟨S768x1024, .bf16⟩
  | .local _ .vmem, ⟨7, _⟩ => ⟨S512x1280, .bf16⟩
  | .local _ .vmem, ⟨8, _⟩ => ⟨S512x1280, .bf16⟩
  | .local _ .vmem, ⟨9, _⟩ => ⟨S512x768, .bf16⟩
  | .local _ .vmem, ⟨10, _⟩ => ⟨S512x768, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S4x2048x1024 : Shape := ⟨3, ![4, 2048, 1024]⟩
abbrev S1280x1024 : Shape := ⟨2, ![1280, 1024]⟩
abbrev S768x1024 : Shape := ⟨2, ![768, 1024]⟩
abbrev S_ : Shape := ⟨0, ![]⟩
abbrev S4x2048x1280 : Shape := ⟨3, ![4, 2048, 1280]⟩
abbrev S4x2048x768 : Shape := ⟨3, ![4, 2048, 768]⟩
abbrev S8192x1280 : Shape := ⟨2, ![8192, 1280]⟩
abbrev S8192x768 : Shape := ⟨2, ![8192, 768]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1280x1024, .f32⟩
  | .hbm, ⟨3, _⟩ => ⟨S768x1024, .f32⟩
  | .hbm, ⟨4, _⟩ => ⟨S_, .f32⟩
  | .hbm, ⟨5, _⟩ => ⟨S4x2048x1280, .f32⟩
  | .hbm, ⟨6, _⟩ => ⟨S_, .f32⟩
  | .hbm, ⟨7, _⟩ => ⟨S4x2048x768, .f32⟩
  | .hbm, ⟨8, _⟩ => ⟨S4x2048x1024, .f32⟩
  | .hbm, ⟨9, _⟩ => ⟨S4x2048x1024, .f32⟩
  | .hbm, ⟨10, _⟩ => ⟨S4x2048x768, .f32⟩
  | .hbm, ⟨11, _⟩ => ⟨S4x2048x1280, .f32⟩
  | .hbm, ⟨12, _⟩ => ⟨S4x2048x1280, .bf16⟩
  | .hbm, ⟨13, _⟩ => ⟨S8192x1280, .bf16⟩
  | .hbm, ⟨14, _⟩ => ⟨S4x2048x768, .bf16⟩
  | .hbm, ⟨15, _⟩ => ⟨S8192x768, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel16.lean ====
abbrev S4x2048x1024 : Shape := ⟨3, ![4, 2048, 1024]⟩
abbrev S1024x6144 : Shape := ⟨2, ![1024, 6144]⟩
abbrev S4x2048x6144 : Shape := ⟨3, ![4, 2048, 6144]⟩
abbrev S8192x1024 : Shape := ⟨2, ![8192, 1024]⟩
abbrev S8192x6144 : Shape := ⟨2, ![8192, 6144]⟩
abbrev S_ : Shape := ⟨0, ![]⟩
abbrev S8x128 : Shape := ⟨2, ![8, 128]⟩
abbrev S8x1024x768 : Shape := ⟨3, ![8, 1024, 768]⟩
abbrev S2048x1024 : Shape := ⟨2, ![2048, 1024]⟩
abbrev S2048x1536 : Shape := ⟨2, ![2048, 1536]⟩
abbrev S2x1024x768 : Shape := ⟨3, ![2, 1024, 768]⟩
abbrev S1024x1536 : Shape := ⟨2, ![1024, 1536]⟩
abbrev S1024x768 : Shape := ⟨2, ![1024, 768]⟩
abbrev S1x1024x768 : Shape := ⟨3, ![1, 1024, 768]⟩

abbrev nBuf : Space → Nat
  | .hbm => 10
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S1024x6144, .f32⟩
  | .hbm, ⟨2, _⟩ => ⟨S4x2048x6144, .f32⟩
  | .hbm, ⟨3, _⟩ => ⟨S4x2048x1024, .bf16⟩
  | .hbm, ⟨4, _⟩ => ⟨S8192x1024, .bf16⟩
  | .hbm, ⟨5, _⟩ => ⟨S4x2048x6144, .bf16⟩
  | .hbm, ⟨6, _⟩ => ⟨S8192x6144, .bf16⟩
  | .hbm, ⟨7, _⟩ => ⟨S_, .f32⟩
  | .hbm, ⟨8, _⟩ => ⟨S8x128, .f32⟩
  | .hbm, ⟨9, _⟩ => ⟨S8x1024x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S8x128, .f32⟩
  | .local _ .vmem, ⟨5, _⟩ => ⟨S2x1024x768, .bf16⟩
  | .local _ .vmem, ⟨6, _⟩ => ⟨S2x1024x768, .bf16⟩
  | .local _ .vmem, ⟨7, _⟩ => ⟨S1024x1536, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2x1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S4x2048x1024 : Shape := ⟨3, ![4, 2048, 1024]⟩
abbrev S1024x6144 : Shape := ⟨2, ![1024, 6144]⟩
abbrev S4x2048x6144 : Shape := ⟨3, ![4, 2048, 6144]⟩
abbrev S6144x1024 : Shape := ⟨2, ![6144, 1024]⟩
abbrev S1024x8x768 : Shape := ⟨3, ![1024, 8, 768]⟩
abbrev S8x1024x768 : Shape := ⟨3, ![8, 1024, 768]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x6144, .f32⟩
  | .hbm, ⟨2, _⟩ => ⟨S4x2048x6144, .f32⟩
  | .hbm, ⟨3, _⟩ => ⟨S4x2048x6144, .f32⟩
  | .hbm, ⟨4, _⟩ => ⟨S6144x1024, .f32⟩
  | .hbm, ⟨5, _⟩ => ⟨S1024x6144, .f32⟩
  | .hbm, ⟨6, _⟩ => ⟨S1024x8x768, .f32⟩
  | .hbm, ⟨7, _⟩ => ⟨S8x1024x768, .f32⟩
  | .hbm, ⟨8, _⟩ => ⟨S8x1024x768, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S1024x768 : Shape := ⟨2, ![1024, 768]⟩
abbrev S1x1024x768 : Shape := ⟨3, ![1, 1024, 768]⟩
abbrev S_ : Shape := ⟨0, ![]⟩
abbrev S1 : Shape := ⟨1, ![1]⟩
abbrev S512x768 : Shape := ⟨2, ![512, 768]⟩
abbrev S1x512x768 : Shape := ⟨3, ![1, 512, 768]⟩

abbrev nBuf : Space → Nat
  | .hbm => 11
  | .vmem => 16
  | .smem => 1
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1x1024x768, .f32⟩
  | .hbm, ⟨5, _⟩ => ⟨S_, .i32⟩
  | .hbm, ⟨6, _⟩ => ⟨S1, .i32⟩
  | .hbm, ⟨7, _⟩ => ⟨S1024x768, .f32⟩
  | .hbm, ⟨8, _⟩ => ⟨S1024x768, .f32⟩
  | .hbm, ⟨9, _⟩ => ⟨S1024x768, .f32⟩
  | .hbm, ⟨10, _⟩ => ⟨S1024x768, .f32⟩
  | .local _ .vmem, ⟨0, _⟩ => ⟨S512x768, .f32⟩
  | .local _ .vmem, ⟨1, _⟩ => ⟨S512x768, .f32⟩
  | .local _ .vmem, ⟨2, _⟩ => ⟨S1x512x768, .f32⟩
  | .local _ .vmem, ⟨3, _⟩ => ⟨S1x512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | .local _ .smem, ⟨0, _⟩ => ⟨S1, .i32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel17Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference17Ideal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S1024x768 : Shape := ⟨2, ![1024, 768]⟩
abbrev S8x1024x768 : Shape := ⟨3, ![8, 1024, 768]⟩
abbrev S_ : Shape := ⟨0, ![]⟩
abbrev S1 : Shape := ⟨1, ![1]⟩
abbrev S512x768 : Shape := ⟨2, ![512, 768]⟩
abbrev S8x512x768 : Shape := ⟨3, ![8, 512, 768]⟩
abbrev S1x512x768 : Shape := ⟨3, ![1, 512, 768]⟩

abbrev nBuf : Space → Nat
  | .hbm => 13
  | .vmem => 18
  | .smem => 1
  | _ => 0

abbrev bufTy : (tb : Table) → Fin (tcTables nBuf tb) → BufTy
  | .hbm, ⟨0, _⟩ => ⟨S1024x768, .f32⟩
  | .hbm, ⟨1, _⟩ => ⟨S8x1024x768, .f32⟩
  | .hbm, ⟨2, _⟩ => ⟨S8x1024x768, .f32⟩
  | .hbm, ⟨3, _⟩ => ⟨S1024x768, .f32⟩
  | .hbm, ⟨4, _⟩ => ⟨S1024x768, .f32⟩
  | .hbm, ⟨5, _⟩ => ⟨S8x1024x768, .bf16⟩
  | .hbm, ⟨6, _⟩ => ⟨S8x1024x768, .bf16⟩
  | .hbm, ⟨7, _⟩ => ⟨S_, .i32⟩
  | .hbm, ⟨8, _⟩ => ⟨S1, .i32⟩
  | .hbm, ⟨9, _⟩ => ⟨S1024x768, .f32⟩
  | .hbm, ⟨10, _⟩ => ⟨S1024x768, .f32⟩
  | .hbm, ⟨11, _⟩ => ⟨S1024x768, .f32⟩
  | .hbm, ⟨12, _⟩ => ⟨S1024x768, .f32⟩
  | .local _ .vmem, ⟨0, _⟩ => ⟨S512x768, .f32⟩
  | .local _ .vmem, ⟨1, _⟩ => ⟨S512x768, .f32⟩
  | .local _ .vmem, ⟨2, _⟩ => ⟨S8x512x768, .bf16⟩
  | .local _ .vmem, ⟨3, _⟩ => ⟨S8x512x768, .bf16⟩
  | .local _ .vmem, ⟨4, _⟩ => ⟨S1x512x768, .bf16⟩
  | .local _ .vmem, ⟨5, _⟩ => ⟨S1x512x768, .bf16⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | .local _ .vmem, ⟨16, _⟩ => ⟨S512x768, .f32⟩
  | .local _ .vmem, ⟨17, _⟩ => ⟨S512x768, .f32⟩
  | .local _ .smem, ⟨0, _⟩ => ⟨S1, .i32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel18Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference18Ideal.lean ====
abbrev S1024x768 : Shape := ⟨2, ![1024, 768]⟩
abbrev S8x1024x768 : Shape := ⟨3, ![8, 1024, 768]⟩
abbrev S1x1024x768 : Shape := ⟨3, ![1, 1024, 768]⟩
abbrev S7x1024x768 : Shape := ⟨3, ![7, 1024, 768]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S8x1024x768, .f32⟩
  | .hbm, ⟨2, _⟩ => ⟨S8x1024x768, .f32⟩
  | .hbm, ⟨3, _⟩ => ⟨S1024x768, .f32⟩
  | .hbm, ⟨4, _⟩ => ⟨S1024x768, .f32⟩
  | .hbm, ⟨5, _⟩ => ⟨S8x1024x768, .bf16⟩
  | .hbm, ⟨6, _⟩ => ⟨S8x1024x768, .f32⟩
  | .hbm, ⟨7, _⟩ => ⟨S8x1024x768, .bf16⟩
  | .hbm, ⟨8, _⟩ => ⟨S8x1024x768, .f32⟩
  | .hbm, ⟨9, _⟩ => ⟨S1x1024x768, .f32⟩
  | .hbm, ⟨10, _⟩ => ⟨S1024x768, .f32⟩
  | .hbm, ⟨11, _⟩ => ⟨S7x1024x768, .f32⟩
  | .hbm, ⟨12, _⟩ => ⟨S_, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S_, .f32⟩
  | .hbm, ⟨19, _⟩ => ⟨S1024x768, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S_, .f32⟩
  | .hbm, ⟨34, _⟩ => ⟨S1024x768, .f32⟩
  | .hbm, ⟨35, _⟩ => ⟨S1024x768, .f32⟩
  | .hbm, ⟨36, _⟩ => ⟨S1024x768, .f32⟩
  | .hbm, ⟨37, _⟩ => ⟨S_, .f32⟩
  | .hbm, ⟨38, _⟩ => ⟨S1024x768, .f32⟩
  | .hbm, ⟨39, _⟩ => ⟨S1024x768, .f32⟩
  | .hbm, ⟨40, _⟩ => ⟨S1024x768, .f32⟩
  | .hbm, ⟨41, _⟩ => ⟨S_, .f32⟩
  | .hbm, ⟨42, _⟩ => ⟨S1024x768, .f32⟩
  | .hbm, ⟨43, _⟩ => ⟨S1024x768, .f32⟩
  | .hbm, ⟨44, _⟩ => ⟨S1024x768, .f32⟩
  | .hbm, ⟨45, _⟩ => ⟨S_, .f32⟩
  | .hbm, ⟨46, _⟩ => ⟨S1024x768, .f32⟩
  | .hbm, ⟨47, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== Proof.Common.lean ====
module

public import Idealize.ShloMosaic.Lib.Pipeline.ValueKit

@[expose] public section

noncomputable section

open Idealize.ShloMosaic

namespace Cert.Common

/-- The single-precision word of the number two. -/
theorem two : Ideal.ofBits .f32 0x40000000#32 = ((2 : ℝ) : EReal) := by
  simp [Ideal.ofBits, Ideal.ieee, -EReal.coe_mul]; norm_num

/-- A nonnegative finite factor may be taken out of a sum, whatever the terms. -/
theorem factor_sum {ι : Type} (s : Finset ι) (a : EReal) (h0 : 0 ≤ a) (h1 : a ≠ ⊤) (f : ι → EReal) :
    ∑ k ∈ s, a * f k = a * ∑ k ∈ s, f k := by
  classical
  induction s using Finset.induction_on with
  | empty => simp
  | insert i s hi ih =>
    rw [Finset.sum_insert hi, Finset.sum_insert hi, ih, EReal.left_distrib_of_nonneg_of_ne_top h0 h1]

/-- The single-precision word of one half. -/
theorem half : Ideal.ofBits .f32 0x3F000000#32 = ((1 / 2 : ℝ) : EReal) := by
  simp [Ideal.ofBits, Ideal.ieee, -EReal.coe_mul]; norm_num

theorem exp_bot : Ideal.exp ⊥ = 0 := rfl
theorem exp_top : Ideal.exp ⊤ = ⊤ := rfl
theorem exp_coe (x : ℝ) : Ideal.exp (x : EReal) = ((Real.exp x : ℝ) : EReal) := rfl
theorem tanh_bot : Ideal.tanh ⊥ = -1 := rfl
theorem tanh_top : Ideal.tanh ⊤ = 1 := rfl
theorem tanh_coe (x : ℝ) : Ideal.tanh (x : EReal) = ((Real.tanh x : ℝ) : EReal) := rfl
theorem div_of_ne (x : EReal) {y : EReal} (h : y ≠ 0) : Ideal.div x y = x * y⁻¹ := if_neg h

/-- The logistic function is a shifted hyperbolic tangent, at the infinities too. -/
theorem half_tanh (z : EReal) : ((1 / 2 : ℝ) : EReal) * Ideal.tanh (((1 / 2 : ℝ) : EReal) * z) + ((1 / 2 : ℝ) : EReal)
    = Ideal.div 1 (1 + Ideal.exp (-z)) := by
  induction z with
  | bot =>
    rw [EReal.coe_mul_bot_of_pos (by norm_num), EReal.neg_bot, tanh_bot, exp_top]
    rw [EReal.add_top_of_ne_bot (by decide), div_of_ne _ (by decide), EReal.inv_top, mul_zero, mul_neg, mul_one,
      ← EReal.coe_neg, ← EReal.coe_add]
    norm_num
  | top =>
    rw [EReal.coe_mul_top_of_pos (by norm_num), EReal.neg_top, tanh_top, exp_bot]
    rw [add_zero, div_of_ne _ one_ne_zero, mul_one, ← EReal.coe_add, one_mul, ← EReal.coe_one, ← EReal.coe_inv]
    norm_num
  | coe x =>
    have he : (0 : ℝ) < Real.exp (-x) := Real.exp_pos _
    have h1 : (1 : EReal) + ((Real.exp (-x) : ℝ) : EReal) = ((1 + Real.exp (-x) : ℝ) : EReal) := by push_cast; rfl
    rw [← EReal.coe_mul, tanh_coe, ← EReal.coe_neg, exp_coe, h1,
      div_of_ne _ (by exact_mod_cast (by positivity : (1 + Real.exp (-x) : ℝ) ≠ 0)), one_mul, ← EReal.coe_inv,
      ← EReal.coe_mul, ← EReal.coe_add]
    refine congrArg _ ?_
    rw [Real.tanh_eq_sinh_div_cosh, Real.sinh_eq, Real.cosh_eq]
    have hx : Real.exp (-x) = Real.exp (-(1 / 2 * x)) * Real.exp (-(1 / 2 * x)) := by rw [← Real.exp_add]; ring_nf
    have hm : Real.exp (1 / 2 * x) * Real.exp (-(1 / 2 * x)) = 1 := by rw [← Real.exp_add]; simp
    have hp : 0 < Real.exp (1 / 2 * x) := Real.exp_pos _
    have hn : 0 < Real.exp (-(1 / 2 * x)) := Real.exp_pos _
    rw [hx]
    generalize Real.exp (1 / 2 * x) = p at *
    generalize Real.exp (-(1 / 2 * x)) = q at *
    field_simp
    linear_combination (2 * q) * hm

/-- A host sum over the two leading axes of three. -/
theorem reduce_leading {n0 n1 n2 : Nat} {t : Shape} (h : (⟨3, ![n0, n1, n2]⟩ : Shape).ReducesTo [0, 1] t)
    (v : (⟨3, ![n0, n1, n2]⟩ : Shape).Idx → EReal) (init : EReal) (j : t.Idx) (l : Fin n2)
    (hl : ∀ b, (j b : ℕ) = l) : Ideal.hostReduceAdd h v init j = init + ∑ a : Fin n0, ∑ b : Fin n1, v (ix3 a b l) := by
  have hrank : t.rank = 1 := h.1
  have fiber : ∀ i : (⟨3, ![n0, n1, n2]⟩ : Shape).Idx, h.drop i = j ↔ ∃ k : Fin n0 × Fin n1, ix3 k.1 k.2 l = i := by
    refine fun i => ⟨fun e => ⟨(i 0, i 1), funext fun a => Fin.ext ?_⟩, ?_⟩
    · match a with
      | ⟨0, _⟩ => rfl
      | ⟨1, _⟩ => rfl
      | ⟨2, _⟩ =>
        have e0 := congrArg Fin.val (congrFun e ⟨0, by omega⟩)
        exact (hl _).symm.trans e0.symm
    · rintro ⟨k, rfl⟩
      funext b
      apply Fin.ext
      match b with
      | ⟨0, hb⟩ => exact (hl ⟨0, hb⟩).symm
      | ⟨_ + 1, hb⟩ => exact absurd hb (by omega)
  refine congrArg (init + ·) ((Finset.sum_filter_eq_sum_of_fiber _ (fun k : Fin n0 × Fin n1 => ix3 k.1 k.2 l)
    (fun _ _ e => Prod.ext (congrFun e 0) (congrFun e 1)) fiber v).trans ?_)
  exact Fintype.sum_prod_type _

/-- Row `r` of tile `t`, and row `s` of batch `b`, of the 8192 rows. -/
def tileRow (t : ℕ) (h : t < 16) (r : Fin 512) : Fin 8192 := ⟨t * 512 + r, by omega⟩
def batchRow (b : Fin 4) (s : Fin 2048) : Fin 8192 := ⟨b * 2048 + s, by omega⟩

/-- The four tiles of a batch hold its rows, the sixteen tiles all rows, and so do the batches. -/
theorem sum_batch (f : Fin 8192 → EReal) (b : Fin 4) (h : ∀ s : Fin 4, 4 * (b : ℕ) + s < 16) :
    ∑ s : Fin 4, ∑ r : Fin 512, f (tileRow (4 * b + s) (h s) r) = ∑ s : Fin 2048, f (batchRow b s) :=
  Fin.sum_mul_add_congr fun s k hl => congrArg f (Fin.ext (by
    show (4 * (b : ℕ) + s) * 512 + k = (b : ℕ) * 2048 + (s * 512 + k); omega))
theorem sum_tiles (f : Fin 8192 → EReal) (q : ℕ) (hq : q = 0) (h : ∀ s : Fin 16, 16 * q + (s : ℕ) < 16) :
    ∑ s : Fin 16, ∑ r : Fin 512, f (tileRow (16 * q + s) (h s) r) = ∑ R : Fin 8192, f R := by
  subst hq
  exact Fin.sum_mul_add_congr fun s k hl => congrArg f (Fin.ext (by
    show (16 * 0 + (s : ℕ)) * 512 + k = s * 512 + k; omega))
theorem sum_batches (f : Fin 8192 → EReal) : ∑ R : Fin 8192, f R = ∑ b : Fin 4, ∑ s : Fin 2048, f (batchRow b s) :=
  Fin.sum_univ_tiles 4 2048 rfl f
theorem batchRow_div (b : Fin 4) (s : Fin 2048) (h : (batchRow b s : ℕ) / 2048 < 4) :
    (⟨(batchRow b s : ℕ) / 2048, h⟩ : Fin 4) = b := Fin.ext (by show (b * 2048 + s : ℕ) / 2048 = b; omega)
theorem batchRow_mod (b : Fin 4) (s : Fin 2048) (h : (batchRow b s : ℕ) % 2048 < 2048) :
    (⟨(batchRow b s : ℕ) % 2048, h⟩ : Fin 2048) = s := Fin.ext (by show (b * 2048 + s : ℕ) % 2048 = s; omega)

end Cert.Common

end
-- ==== Proof.Adam.lean ====
/- One step of the optimiser for a matrix: the two moments it keeps and the change of the weights, entry by entry. -/
module

public import proofs.«01_k».proof.Proof.Gen.Kernel17Ideal.Frame
public import proofs.«01_k».proof.Proof.Gen.Reference17Ideal.Read
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.Kernel17Ideal.Value

open Cert.Kernel17Ideal Cert.Kernel17Ideal.Gen

variable (m : (ℓ : Loc nD τ sig) → Buf (Elt Ideal) ℓ)

/-- No window's index map reads the table. -/
theorem ok {m : (ℓ : Loc nD τ sig) → Buf (Elt Ideal) ℓ} : Ok m := trivial

/-- One entry's new moments and its change. -/
def mean (g μ : EReal) : EReal := Ideal.ofBits .f32 0x3F666666#32 * μ + Ideal.ofBits .f32 0x3DCCCCCD#32 * g
def square (g ν : EReal) : EReal := Ideal.ofBits .f32 0x3F7FBE77#32 * ν + Ideal.ofBits .f32 0x3A83126F#32 * (g * g)
def change (w g μ ν : EReal) : EReal := Ideal.ofBits .f32 0xBA83126F#32 *
  (Ideal.div (mean g μ * ((8388608 / 5463681 : ℝ) : EReal))
      (Ideal.sqrt (square g ν * ((268435456 / 2672307 : ℝ) : EReal)) + Ideal.ofBits .f32 0x322BCC77#32)
    + Ideal.ofBits .f32 0x3C23D70A#32 * w)

variable (W : FVec Ideal S512x768 .f32) (G : FVec Ideal S1x512x768 .f32) (M N : FVec Ideal S512x768 .f32)

/-- The body's arithmetic, entry by entry. -/
theorem pay_grad (i : Fin 512) (j : Fin 768) : k0_pay1 (F := Ideal) G (ix2 i j) = G (ix3 0 i j) := by
  pointwise [k0_pay1]
theorem pay_mean (i : Fin 512) (j : Fin 768) : k0_pay2 (F := Ideal) G M (ix2 i j) = mean (G (ix3 0 i j)) (M (ix2 i j)) := by
  rw [← pay_grad G i j]
  generalize hP : k0_pay1 (F := Ideal) G = P
  pointwise [k0_pay2, mean, hP]
theorem pay_square (i : Fin 512) (j : Fin 768) : k0_pay3 (F := Ideal) G N (ix2 i j)
    = square (G (ix3 0 i j)) (N (ix2 i j)) := by
  rw [← pay_grad G i j]
  generalize hP : k0_pay1 (F := Ideal) G = P
  pointwise [k0_pay3, square, hP]
theorem named_one : Named.named (F := Ideal) κ "c1" (φ := .f32) 0x3FC48605#32 = ((8388608 / 5463681 : ℝ) : EReal) :=
  IdealRules.named_const.ideal_named_scalar _ _ _ _ rfl
theorem named_two : Named.named (F := Ideal) κ "c2" (φ := .f32) 0x42C8E6D3#32 = ((268435456 / 2672307 : ℝ) : EReal) :=
  IdealRules.named_const.ideal_named_scalar _ _ _ _ rfl
theorem pay_change (i : Fin 512) (j : Fin 768) : k0_pay4 (F := Ideal) G M N W (ix2 i j)
    = change (W (ix2 i j)) (G (ix3 0 i j)) (M (ix2 i j)) (N (ix2 i j)) := by
  unfold change
  rw [← pay_mean G M i j, ← pay_square G N i j]
  generalize hP : k0_pay2 (F := Ideal) G M = P
  generalize hQ : k0_pay3 (F := Ideal) G N = Q
  pointwise [k0_pay4, hP, hQ, named_one, named_two]

variable (c : Dev nD) (t : Fin (cfgM m ok).N)

/-- An entry of a point's block is the array's entry 512 rows a point further down. -/
def row (i : Fin 512) : Fin 1024 := ⟨t.val * 512 + i, by
  have h : t.val < 2 := t.isLt.trans_le (by show grid0.N ≤ 2; decide)
  omega⟩
theorem index : ∀ t : Fin grid0.N, cc0_transform_0 (grid0.coords t) = ![t.val, 0]
    ∧ cc0_transform_1 (grid0.coords t) = ![0, t.val, 0] := by decide +kernel

theorem blk_matrix (X : FVec Ideal S1024x768 .f32) (i : Fin 512) (j : Fin 768) :
    (((cfgM m ok).win 0).blk t).view.read (Elt Ideal) X (ix2 i j) = X (ix2 (row m t i) j) := by
  refine congrArg X (funext fun a => Fin.ext ?_)
  refine (Pipeline.Window.rect_emb_val ((cfgM m ok).win 0) t (ix2 i j) a rfl).trans ?_
  show cc0_transform_0 (grid0.coords t) a * _ + _ = _
  rw [(index t).1]
  fin_cases a
  · rfl
  · exact Nat.zero_add _
theorem blk_slot (X : FVec Ideal S1x1024x768 .f32) (i : Fin 512) (j : Fin 768) :
    (((cfgM m ok).win 1).blk t).view.read (Elt Ideal) X (ix3 0 i j) = X (ix3 0 (row m t i) j) := by
  refine congrArg X (funext fun a => Fin.ext ?_)
  refine (Pipeline.Window.rect_emb_val ((cfgM m ok).win 1) t (ix3 0 i j) a rfl).trans ?_
  show cc0_transform_1 (grid0.coords t) a * _ + _ = _
  rw [(index t).2]
  fin_cases a
  · rfl
  · rfl
  · exact Nat.zero_add _

/-- The blocks of a window of results fill its array. -/
def noTable : (pcfg0 (F := Ideal)).Adm := ⟨fun | 0 => fun _ => (0#32 : BitVec 32), trivial⟩
theorem covers : ((cfg0 noTable).win 4).Covers := by decide +kernel

/-- A point's block whose entries are an array's is that array's block. -/
theorem filled (A : S512x768.Idx → EReal) (G : FVec Ideal S1024x768 .f32)
    (h : ∀ (i : Fin 512) (j : Fin 768), A (ix2 i j) = G (ix2 (row m t i) j)) (y : S512x768.Idx) :
    A y = (((cfgM m ok).win 0).blk t).view.read (Elt Ideal) G y := by
  idx_vars y
  exact (h y0 y1).trans (blk_matrix m t G y0 y1).symm

/-- The arguments, as arrays of extended reals, and the gradient's at the slot the grid reads. -/
abbrev argW : FVec Ideal S1024x768 .f32 := m ((c : Thread nD τ).loc main_arg0)
abbrev argG : FVec Ideal S1024x768 .f32 := m ((c : Thread nD τ).loc main_arg1)
abbrev argM : FVec Ideal S1024x768 .f32 := m ((c : Thread nD τ).loc main_arg2)
abbrev argN : FVec Ideal S1024x768 .f32 := m ((c : Thread nD τ).loc main_arg3)
theorem slot (i : Fin 1024) (j : Fin 768) :
    (V m c main_v0 : FVec Ideal S1x1024x768 .f32) (ix3 0 i j) = argG m c (ix2 i j) := by
  entry_read
  pointwise

/-- The blocks a point reads, entry by entry. -/
def blockW : FVec Ideal S512x768 .f32 := iblk m ok c 0 t
def blockG : FVec Ideal S1x512x768 .f32 := iblk m ok c 1 t
def blockM : FVec Ideal S512x768 .f32 := iblk m ok c 2 t
def blockN : FVec Ideal S512x768 .f32 := iblk m ok c 3 t
theorem blkW (i : Fin 512) (j : Fin 768) : blockW m c t (ix2 i j) = argW m c (ix2 (row m t i) j) :=
  (blk_matrix m t _ i j).trans (congrFun (V_main_arg0 m c) _)
theorem blkG (i : Fin 512) (j : Fin 768) : blockG m c t (ix3 0 i j) = argG m c (ix2 (row m t i) j) :=
  (blk_slot m t _ i j).trans (slot m c _ j)
theorem blkM (i : Fin 512) (j : Fin 768) : blockM m c t (ix2 i j) = argM m c (ix2 (row m t i) j) :=
  (blk_matrix m t (V m c main_arg2) i j).trans (congrFun (V_main_arg2 m c) _)
theorem blkN (i : Fin 512) (j : Fin 768) : blockN m c t (ix2 i j) = argN m c (ix2 (row m t i) j) :=
  (blk_matrix m t (V m c main_arg3) i j).trans (congrFun (V_main_arg3 m c) _)

/-- What a point writes. -/
theorem out_grad (y) : (outsAt0 m ok c t).1 y = k0_pay1 (F := Ideal) (blockG m c t) y := by
  unfold outsAt0
  frame_out
  exact congrFun (congrArg (k0_pay1 (F := Ideal)) (Memref.IsWhole.read_unread _ _)) y
theorem out_change (y) : (outsAt0 m ok c t).2.1 y
    = k0_pay4 (F := Ideal) (blockG m c t) (blockM m c t) (blockN m c t) (blockW m c t) y := by
  unfold outsAt0
  frame_out
  exact congrFun (congr (congr (congr (congrArg (k0_pay4 (F := Ideal)) (Memref.IsWhole.read_unread _ _))
    (Memref.IsWhole.read_unread _ _)) (Memref.IsWhole.read_unread _ _)) (Memref.IsWhole.read_unread _ _)) y
theorem out_mean (y) : (outsAt0 m ok c t).2.2.1 y = k0_pay2 (F := Ideal) (blockG m c t) (blockM m c t) y := by
  unfold outsAt0
  frame_out
  exact congrFun (congr (congrArg (k0_pay2 (F := Ideal)) (Memref.IsWhole.read_unread _ _)) (Memref.IsWhole.read_unread _ _)) y
theorem out_square (y) : (outsAt0 m ok c t).2.2.2 y = k0_pay3 (F := Ideal) (blockG m c t) (blockN m c t) y := by
  unfold outsAt0
  frame_out
  exact congrFun (congr (congrArg (k0_pay3 (F := Ideal)) (Memref.IsWhole.read_unread _ _)) (Memref.IsWhole.read_unread _ _)) y

/-- The arrays after the run. -/
theorem final_grad : (dats m ok 0 c).arrAt 4 (cfgM m ok).N = argG m c := by
  refine (dats m ok 0 c).arrAt_eq_of_covers 4 _ covers fun t _ y => ?_
  blk_simp
  rw [after0_4]
  refine (out_grad m c t y).trans (filled m t (k0_pay1 (F := Ideal) (blockG m c t)) (argG m c) (fun i j => ?_) y)
  rw [pay_grad, blkG]
theorem final_change : (dats m ok 0 c).arrAt 5 (cfgM m ok).N = fun i : S1024x768.Idx =>
    change (argW m c i) (argG m c i) (argM m c i) (argN m c i) := by
  refine (dats m ok 0 c).arrAt_eq_of_covers 5 _ covers fun t _ y => ?_
  blk_simp
  rw [after0_5]
  refine (out_change m c t y).trans (filled m t
    (k0_pay4 (F := Ideal) (blockG m c t) (blockM m c t) (blockN m c t) (blockW m c t))
    (fun i => change (argW m c i) (argG m c i) (argM m c i) (argN m c i)) (fun i j => ?_) y)
  rw [pay_change, blkG, blkW, blkM, blkN]
theorem final_mean : (dats m ok 0 c).arrAt 6 (cfgM m ok).N = fun i : S1024x768.Idx => mean (argG m c i) (argM m c i) := by
  refine (dats m ok 0 c).arrAt_eq_of_covers 6 _ covers fun t _ y => ?_
  blk_simp
  rw [after0_6]
  refine (out_mean m c t y).trans (filled m t (k0_pay2 (F := Ideal) (blockG m c t) (blockM m c t))
    (fun i => mean (argG m c i) (argM m c i)) (fun i j => ?_) y)
  rw [pay_mean, blkG, blkM]
theorem final_square : (dats m ok 0 c).arrAt 7 (cfgM m ok).N
    = fun i : S1024x768.Idx => square (argG m c i) (argN m c i) := by
  refine (dats m ok 0 c).arrAt_eq_of_covers 7 _ covers fun t _ y => ?_
  blk_simp
  rw [after0_7]
  refine (out_square m c t y).trans (filled m t (k0_pay3 (F := Ideal) (blockG m c t) (blockN m c t))
    (fun i => square (argG m c i) (argN m c i)) (fun i j => ?_) y)
  rw [pay_square, blkG, blkN]

/-- The run, with its four arrays. -/
theorem run (ρ : Dev nD → PrngReg) : θ_run defs (onTc (τ := τ) (main (F := Ideal))) ⟨m, fun _ => 0, ρ⟩ fun r => ∀ c : Dev nD,
    r.2.mem ((c : Thread nD τ).loc main_v3_0) = argG m c
    ∧ r.2.mem ((c : Thread nD τ).loc main_v3_1) = (fun i : S1024x768.Idx =>
        change (argW m c i) (argG m c i) (argM m c i) (argN m c i))
    ∧ r.2.mem ((c : Thread nD τ).loc main_v3_2) = (fun i : S1024x768.Idx => mean (argG m c i) (argM m c i))
    ∧ r.2.mem ((c : Thread nD τ).loc main_v3_3) = (fun i : S1024x768.Idx => square (argG m c i) (argN m c i))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨((h.1 c).1 4).trans (final_grad m c), ((h.1 c).1 5).trans (final_change m c),
    ((h.1 c).1 6).trans (final_mean m c), ((h.1 c).1 7).trans (final_square m c), h.2 c⟩)
    (θ_run_and (run_main m ρ ok) (unchanged m ρ ok))

end Cert.Kernel17Ideal.Value

namespace Cert.Reference17Ideal.Value

open Cert.Reference17Ideal Cert.Reference17Ideal.Read
open Cert.Kernel17Ideal.Value (mean square change)

variable (W G M N : FVec Ideal S1024x768 .f32)

/-- The single-precision words the reference divides by, of 1 − 0.9¹⁰ and 1 − 0.999¹⁰. -/
theorem word_mean : Ideal.ofBits .f32 0x3F26BD02#32 = ((5463681 / 8388608 : ℝ) : EReal) := by
  simp [Ideal.ofBits, Ideal.ieee, -EReal.coe_mul]; norm_num
theorem word_square : Ideal.ofBits .f32 0x3C231ACC#32 = ((2672307 / 268435456 : ℝ) : EReal) := by
  simp [Ideal.ofBits, Ideal.ieee, -EReal.coe_mul]; norm_num
theorem div_mean (x : EReal) : Ideal.div x (Ideal.ofBits .f32 0x3F26BD02#32) = x * ((8388608 / 5463681 : ℝ) : EReal) := by
  rw [word_mean, Ideal.div_coe (by norm_num)]; norm_num
theorem div_square (x : EReal) :
    Ideal.div x (Ideal.ofBits .f32 0x3C231ACC#32) = x * ((268435456 / 2672307 : ℝ) : EReal) := by
  rw [word_square, Ideal.div_coe (by norm_num)]; norm_num

theorem entry_mean (i : Fin 1024) (j : Fin 768) :
    val_main_v4 (F := Ideal) G M (ix2 i j) = mean (G (ix2 i j)) (M (ix2 i j)) := by
  pointwise [val_main_v4, val_main_v3, val_main_v2, val_main_v1, val_main_v0, val_main_cst, val_main_cst_0, mean]
theorem entry_square (i : Fin 1024) (j : Fin 768) :
    val_main_v10 (F := Ideal) G N (ix2 i j) = square (G (ix2 i j)) (N (ix2 i j)) := by
  pointwise [val_main_v10, val_main_v9, val_main_v8, val_main_v7, val_main_v6, val_main_v5, val_main_cst_1,
    val_main_cst_2, square]
theorem entry_change (i : Fin 1024) (j : Fin 768) : val_main_v23 (F := Ideal) W G M N (ix2 i j)
    = change (W (ix2 i j)) (G (ix2 i j)) (M (ix2 i j)) (N (ix2 i j)) := by
  unfold change
  rw [← entry_mean, ← entry_square, ← div_mean, ← div_square]
  generalize hP : val_main_v4 (F := Ideal) G M = P
  generalize hQ : val_main_v10 (F := Ideal) G N = Q
  pointwise [val_main_v23, val_main_v22, val_main_v21, val_main_v20, val_main_v19, val_main_v18, val_main_v17,
    val_main_v16, val_main_v15, val_main_v14, val_main_v13, val_main_v12, val_main_v11, val_main_cst_3, val_main_cst_4,
    val_main_cst_5, val_main_cst_6, val_main_cst_7, hP, hQ]

/-- The reference's arrays are the kernel's. -/
theorem agree_mean : val_main_v4 (F := Ideal) G M = fun i => mean (G i) (M i) := by
  funext i; idx_vars i; exact entry_mean G M i0 i1
theorem agree_square : val_main_v10 (F := Ideal) G N = fun i => square (G i) (N i) := by
  funext i; idx_vars i; exact entry_square G N i0 i1
theorem agree_change : val_main_v23 (F := Ideal) W G M N = fun i => change (W i) (G i) (M i) (N i) := by
  funext i; idx_vars i; exact entry_change W G M N i0 i1

end Cert.Reference17Ideal.Value

end
-- ==== Proof.Sum.lean ====
/- One step of the optimiser on the sum of the devices' gradients: eight parts, one of them the device's own. -/
module

public import proofs.«01_k».proof.Proof.Gen.Kernel18.Frame
public import proofs.«01_k».proof.Proof.Gen.Kernel18Ideal.Frame
public import proofs.«01_k».proof.Proof.Gen.Reference18Ideal.Read
public import proofs.«01_k».proof.Proof.Adam

@[expose] public section

set_option maxRecDepth 16384

noncomputable section

open Idealize.ShloMosaic Idealize.ShloMosaic.TcCoe Idealize.SL.Sem
open Idealize.ShloMosaic.Pipeline (Dat)

namespace Cert.Kernel18.Value

open Cert.Kernel18 Cert.Kernel18.Gen

/-- The table says which of the eight parts is the device's own: the first. Its block is inside the array. -/
def zero : pre0.Contents (Elt Bits) := fun | 0 => fun _ => (0#32 : BitVec 32)
theorem ok_zero : ok0 (F := Bits) zero := by decide +kernel
theorem ok (m : (ℓ : Loc nD τ sig) → Buf (Elt Bits) ℓ) : Ok m := by
  have h : tbl m = zero := by
    funext j
    obtain rfl : j = 0 := Subsingleton.elim _ _
    show V m 0 main_v3 = _
    entry_read
    rfl
  rw [Ok, h]
  exact ok_zero

end Cert.Kernel18.Value

namespace Cert.Kernel18Ideal.Value

open Cert.Kernel18Ideal Cert.Kernel18Ideal.Gen
open Cert.Kernel17Ideal.Value (mean square change)

variable (m : (ℓ : Loc nD τ sig) → Buf (Elt Ideal) ℓ)

/-- The table, for the ideal program. -/
def zero : pre0.Contents (Elt Ideal) := fun | 0 => fun _ => (0#32 : BitVec 32)
theorem ok_zero : ok0 (F := Ideal) zero := by decide +kernel
theorem tbl_zero : tbl m = zero := by
  funext j
  obtain rfl : j = 0 := Subsingleton.elim _ _
  show V m 0 main_v3 = _
  entry_read
  rfl
theorem ok : Ok m := by
  rw [Ok, tbl_zero]
  exact ok_zero

variable (W M N : FVec Ideal S512x768 .f32) (O : FVec Ideal S1x512x768 .bf16) (P : FVec Ideal S8x512x768 .bf16)

/-- A choice between the own part and the part sent, at the own part's place and at another's. -/
theorem own_part {α : Type} (a b : α) : Scalar.select (Scalar.cmpi .eq (0#32 : BitVec 32) 0#32) a b = a := rfl
theorem sent_part {α : Type} (k : BitVec 32) (h : Scalar.cmpi .eq (0#32 : BitVec 32) k = 0#1) (a b : α) :
    Scalar.select (Scalar.cmpi .eq (0#32 : BitVec 32) k) a b = b := by
  rw [h]; rfl

/-- The parts as the body loads them, and its sum of the first seven, at any word in the table. -/
abbrev part0 : FVec Ideal S1x512x768 .bf16 :=
  View.ld (Val := Elt Ideal) (e' := .bf16) P (Rect.unit (s := S8x512x768) ![0, 0, 0] S1x512x768.size inb_S8x512x768_S1x512x768_0_0_0)
abbrev part1 : FVec Ideal S1x512x768 .bf16 :=
  View.ld (Val := Elt Ideal) (e' := .bf16) P (Rect.unit (s := S8x512x768) ![1, 0, 0] S1x512x768.size inb_S8x512x768_S1x512x768_1_0_0)
abbrev part2 : FVec Ideal S1x512x768 .bf16 :=
  View.ld (Val := Elt Ideal) (e' := .bf16) P (Rect.unit (s := S8x512x768) ![2, 0, 0] S1x512x768.size inb_S8x512x768_S1x512x768_2_0_0)
abbrev part3 : FVec Ideal S1x512x768 .bf16 :=
  View.ld (Val := Elt Ideal) (e' := .bf16) P (Rect.unit (s := S8x512x768) ![3, 0, 0] S1x512x768.size inb_S8x512x768_S1x512x768_3_0_0)
abbrev part4 : FVec Ideal S1x512x768 .bf16 :=
  View.ld (Val := Elt Ideal) (e' := .bf16) P (Rect.unit (s := S8x512x768) ![4, 0, 0] S1x512x768.size inb_S8x512x768_S1x512x768_4_0_0)
abbrev part5 : FVec Ideal S1x512x768 .bf16 :=
  View.ld (Val := Elt Ideal) (e' := .bf16) P (Rect.unit (s := S8x512x768) ![5, 0, 0] S1x512x768.size inb_S8x512x768_S1x512x768_5_0_0)
abbrev part6 : FVec Ideal S1x512x768 .bf16 :=
  View.ld (Val := Elt Ideal) (e' := .bf16) P (Rect.unit (s := S8x512x768) ![6, 0, 0] S1x512x768.size inb_S8x512x768_S1x512x768_6_0_0)
abbrev part7 : FVec Ideal S1x512x768 .bf16 :=
  View.ld (Val := Elt Ideal) (e' := .bf16) P (Rect.unit (s := S8x512x768) ![7, 0, 0] S1x512x768.size inb_S8x512x768_S1x512x768_7_0_0)
abbrev seven (k : BitVec 32) : FVec Ideal S512x768 .f32 :=
  k0_pay4 (F := Ideal) (k0_pay2 (F := Ideal) k O (part0 P) k O (part1 P) k O (part2 P)) (Scalar.cmpi .eq k 3#32)
    (k0_pay3 (F := Ideal) O) (part3 P) k O (part4 P) k O (part5 P) k O (part6 P)

/-- The sum, entry by entry. -/
def total (i : Fin 512) (j : Fin 768) : EReal := O (ix3 0 i j) + P (ix3 1 i j) + P (ix3 2 i j) + P (ix3 3 i j)
  + P (ix3 4 i j) + P (ix3 5 i j) + P (ix3 6 i j) + P (ix3 7 i j)
theorem pay_three (X Y Z : FVec Ideal S1x512x768 .bf16) (i : Fin 512) (j : Fin 768) :
    k0_pay2 (F := Ideal) 0#32 O X 0#32 O Y 0#32 O Z (ix2 i j) = O (ix3 0 i j) + Y (ix3 0 i j) + Z (ix3 0 i j) := by
  pointwise [k0_pay2, own_part, sent_part 1#32 rfl, sent_part 2#32 rfl]
theorem pay_seven (A : FVec Ideal S512x768 .f32) (B : FVec Ideal S512x768 .bf16)
    (X Y Z T : FVec Ideal S1x512x768 .bf16) (i : Fin 512) (j : Fin 768) :
    k0_pay4 (F := Ideal) A (Scalar.cmpi .eq 0#32 3#32) B X 0#32 O Y 0#32 O Z 0#32 O T (ix2 i j)
      = A (ix2 i j) + X (ix3 0 i j) + Y (ix3 0 i j) + Z (ix3 0 i j) + T (ix3 0 i j) := by
  pointwise [k0_pay4, sent_part 3#32 rfl, sent_part 4#32 rfl, sent_part 5#32 rfl,
    sent_part 6#32 rfl]
theorem pay_eight (A : FVec Ideal S512x768 .f32) (X : FVec Ideal S1x512x768 .bf16) (i : Fin 512) (j : Fin 768) :
    k0_pay5 (F := Ideal) A 0#32 O X (ix2 i j) = A (ix2 i j) + X (ix3 0 i j) := by
  pointwise [k0_pay5, sent_part 7#32 rfl]
theorem pay_total (i : Fin 512) (j : Fin 768) :
    k0_pay5 (F := Ideal) (seven O P 0#32) 0#32 O (part7 P) (ix2 i j) = total O P i j := by
  rw [pay_eight, seven, pay_seven, pay_three]
  unfold part1 part2 part3 part4 part5 part6 part7
  pointwise [total]
theorem pay_mean (A : FVec Ideal S512x768 .f32) (k : BitVec 32) (X : FVec Ideal S1x512x768 .bf16) (i : Fin 512) (j : Fin 768) :
    k0_pay6 (F := Ideal) A k O X M (ix2 i j) = mean (k0_pay5 (F := Ideal) A k O X (ix2 i j)) (M (ix2 i j)) := by
  generalize hP : k0_pay5 (F := Ideal) A k O X = G
  pointwise [k0_pay6, mean, hP]
theorem pay_square (A : FVec Ideal S512x768 .f32) (k : BitVec 32) (X : FVec Ideal S1x512x768 .bf16) (i : Fin 512) (j : Fin 768) :
    k0_pay7 (F := Ideal) A k O X N (ix2 i j) = square (k0_pay5 (F := Ideal) A k O X (ix2 i j)) (N (ix2 i j)) := by
  generalize hP : k0_pay5 (F := Ideal) A k O X = G
  pointwise [k0_pay7, square, hP]
theorem named_one : Named.named (F := Ideal) κ "c1" (φ := .f32) 0x3FC48605#32 = ((8388608 / 5463681 : ℝ) : EReal) :=
  IdealRules.named_const.ideal_named_scalar _ _ _ _ rfl
theorem named_two : Named.named (F := Ideal) κ "c2" (φ := .f32) 0x42C8E6D3#32 = ((268435456 / 2672307 : ℝ) : EReal) :=
  IdealRules.named_const.ideal_named_scalar _ _ _ _ rfl
theorem pay_change (A : FVec Ideal S512x768 .f32) (k : BitVec 32) (X : FVec Ideal S1x512x768 .bf16) (i : Fin 512) (j : Fin 768) :
    k0_pay1 (F := Ideal) (k0_pay8 (F := Ideal) A k O X M N) W (ix2 i j)
      = change (W (ix2 i j)) (k0_pay5 (F := Ideal) A k O X (ix2 i j)) (M (ix2 i j)) (N (ix2 i j)) := by
  unfold change
  rw [← pay_mean, ← pay_square]
  generalize hP : k0_pay6 (F := Ideal) A k O X M = P
  generalize hQ : k0_pay7 (F := Ideal) A k O X N = Q
  pointwise [k0_pay1, k0_pay8, hP, hQ, named_one, named_two]

variable (c : Dev nD) (t : Fin (cfgM m (ok m)).N)

/-- An entry of a point's block is the array's entry 512 rows a point further down. -/
def row (i : Fin 512) : Fin 1024 := ⟨t.val * 512 + i, by
  have h : t.val < 2 := t.isLt.trans_le (by show grid0.N ≤ 2; decide)
  omega⟩
theorem index : ∀ t : Fin grid0.N, cc0_transform_0 (grid0.coords t) = ![t.val, 0]
    ∧ cc0_transform_1 (grid0.coords t) = ![0, t.val, 0]
    ∧ cc0_transform_2 inb_S1_S1_0 numel1_S1 zero (grid0.coords t) = ![0, t.val, 0] := by decide +kernel

theorem blk_matrix (X : FVec Ideal S1024x768 .f32) (i : Fin 512) (j : Fin 768) :
    (((cfgM m (ok m)).win 0).blk t).view.read (Elt Ideal) X (ix2 i j) = X (ix2 (row m t i) j) := by
  refine congrArg X (funext fun a => Fin.ext ?_)
  refine (Pipeline.Window.rect_emb_val ((cfgM m (ok m)).win 0) t (ix2 i j) a rfl).trans ?_
  show cc0_transform_0 (grid0.coords t) a * _ + _ = _
  rw [(index t).1]
  fin_cases a
  · rfl
  · exact Nat.zero_add _
theorem blk_parts (X : FVec Ideal S8x1024x768 .bf16) (d : Fin 8) (i : Fin 512) (j : Fin 768) :
    (((cfgM m (ok m)).win 1).blk t).view.read (Elt Ideal) X (ix3 d i j) = X (ix3 d (row m t i) j) := by
  refine congrArg X (funext fun a => Fin.ext ?_)
  refine (Pipeline.Window.rect_emb_val ((cfgM m (ok m)).win 1) t (ix3 d i j) a rfl).trans ?_
  show cc0_transform_1 (grid0.coords t) a * _ + _ = _
  rw [(index t).2.1]
  fin_cases a
  · exact Nat.zero_add _
  · rfl
  · exact Nat.zero_add _
theorem blk_own (X : FVec Ideal S8x1024x768 .bf16) (i : Fin 512) (j : Fin 768) :
    (((cfgM m (ok m)).win 2).blk t).view.read (Elt Ideal) X (ix3 0 i j) = X (ix3 0 (row m t i) j) := by
  refine congrArg X (funext fun a => Fin.ext ?_)
  refine (Pipeline.Window.rect_emb_val ((cfgM m (ok m)).win 2) t (ix3 0 i j) a rfl).trans ?_
  show cc0_transform_2 inb_S1_S1_0 numel1_S1 (tbl m) (grid0.coords t) a * _ + _ = _
  rw [tbl_zero, (index t).2.2]
  fin_cases a
  · rfl
  · rfl
  · exact Nat.zero_add _

/-- The blocks of a window of results fill its array. -/
def theTable : (pcfg0 (F := Ideal)).Adm := ⟨zero, ok_zero⟩
theorem covers : ((cfg0 theTable).win 5).Covers := by decide +kernel

/-- A point's block whose entries are an array's is that array's block. -/
theorem filled (A : S512x768.Idx → EReal) (G : FVec Ideal S1024x768 .f32)
    (h : ∀ (i : Fin 512) (j : Fin 768), A (ix2 i j) = G (ix2 (row m t i) j)) (y : S512x768.Idx) :
    A y = (((cfgM m (ok m)).win 0).blk t).view.read (Elt Ideal) G y := by
  idx_vars y
  exact (h y0 y1).trans (blk_matrix m t G y0 y1).symm

/-- The arguments, as arrays of extended reals. -/
abbrev argW : FVec Ideal S1024x768 .f32 := m ((c : Thread nD τ).loc main_arg0)
abbrev argO : FVec Ideal S8x1024x768 .f32 := m ((c : Thread nD τ).loc main_arg1)
abbrev argP : FVec Ideal S8x1024x768 .f32 := m ((c : Thread nD τ).loc main_arg2)
abbrev argM : FVec Ideal S1024x768 .f32 := m ((c : Thread nD τ).loc main_arg3)
abbrev argN : FVec Ideal S1024x768 .f32 := m ((c : Thread nD τ).loc main_arg4)
theorem parts_entry (d : Fin 8) (i : Fin 1024) (j : Fin 768) :
    (V m c main_v0 : FVec Ideal S8x1024x768 .bf16) (ix3 d i j) = argP m c (ix3 d i j) := by
  entry_read
  pointwise
theorem own_entry (d : Fin 8) (i : Fin 1024) (j : Fin 768) :
    (V m c main_v1 : FVec Ideal S8x1024x768 .bf16) (ix3 d i j) = argO m c (ix3 d i j) := by
  entry_read
  pointwise

/-- The blocks a point reads, entry by entry. -/
def blockW : FVec Ideal S512x768 .f32 := iblk m (ok m) c 0 t
def blockP : FVec Ideal S8x512x768 .bf16 := iblk m (ok m) c 1 t
def blockO : FVec Ideal S1x512x768 .bf16 := iblk m (ok m) c 2 t
def blockM : FVec Ideal S512x768 .f32 := iblk m (ok m) c 3 t
def blockN : FVec Ideal S512x768 .f32 := iblk m (ok m) c 4 t
theorem blkW (i : Fin 512) (j : Fin 768) : blockW m c t (ix2 i j) = argW m c (ix2 (row m t i) j) :=
  (blk_matrix m t _ i j).trans (congrFun (V_main_arg0 m c) _)
theorem blkP (d : Fin 8) (i : Fin 512) (j : Fin 768) : blockP m c t (ix3 d i j) = argP m c (ix3 d (row m t i) j) :=
  (blk_parts m t _ d i j).trans (parts_entry m c d _ j)
theorem blkO (i : Fin 512) (j : Fin 768) : blockO m c t (ix3 0 i j) = argO m c (ix3 0 (row m t i) j) :=
  (blk_own m t _ i j).trans (own_entry m c 0 _ j)
theorem blkM (i : Fin 512) (j : Fin 768) : blockM m c t (ix2 i j) = argM m c (ix2 (row m t i) j) :=
  (blk_matrix m t (V m c main_arg3) i j).trans (congrFun (V_main_arg3 m c) _)
theorem blkN (i : Fin 512) (j : Fin 768) : blockN m c t (ix2 i j) = argN m c (ix2 (row m t i) j) :=
  (blk_matrix m t (V m c main_arg4) i j).trans (congrFun (V_main_arg4 m c) _)

/-- What a point writes: the word it reads from the table is zero. -/
theorem word_zero : View.readAt (Elt Ideal) (View.whole main_v3) (Rect.unit (s := S1) ![0] S1.size inb_S1_S1_0).toLoadRect
    (tbl m 0) (Shape.Idx.first (numel1_S1 ▸ Nat.one_pos)) = (0#32 : BitVec 32) := by
  rw [tbl_zero]; rfl
theorem grad_congr {k : BitVec 32} {O' : FVec Ideal S1x512x768 .bf16} {P' : FVec Ideal S8x512x768 .bf16}
    (hk : k = 0#32) (hO : O' = O) (hP : P' = P) :
    k0_pay5 (F := Ideal) (seven O' P' k) k O' (part7 P') = k0_pay5 (F := Ideal) (seven O P 0#32) 0#32 O (part7 P) := by
  subst hk hO hP; rfl
theorem mean_congr {k : BitVec 32} {O' : FVec Ideal S1x512x768 .bf16} {P' : FVec Ideal S8x512x768 .bf16}
    {M' : FVec Ideal S512x768 .f32} (hk : k = 0#32) (hO : O' = O) (hP : P' = P) (hM : M' = M) :
    k0_pay6 (F := Ideal) (seven O' P' k) k O' (part7 P') M' = k0_pay6 (F := Ideal) (seven O P 0#32) 0#32 O (part7 P) M := by
  subst hk hO hP hM; rfl
theorem square_congr {k : BitVec 32} {O' : FVec Ideal S1x512x768 .bf16} {P' : FVec Ideal S8x512x768 .bf16}
    {N' : FVec Ideal S512x768 .f32} (hk : k = 0#32) (hO : O' = O) (hP : P' = P) (hN : N' = N) :
    k0_pay7 (F := Ideal) (seven O' P' k) k O' (part7 P') N' = k0_pay7 (F := Ideal) (seven O P 0#32) 0#32 O (part7 P) N := by
  subst hk hO hP hN; rfl
theorem change_congr {k : BitVec 32} {O' : FVec Ideal S1x512x768 .bf16} {P' : FVec Ideal S8x512x768 .bf16}
    {M' N' W' : FVec Ideal S512x768 .f32} (hk : k = 0#32) (hO : O' = O) (hP : P' = P) (hM : M' = M) (hN : N' = N)
    (hW : W' = W) : k0_pay1 (F := Ideal) (k0_pay8 (F := Ideal) (seven O' P' k) k O' (part7 P') M' N') W'
      = k0_pay1 (F := Ideal) (k0_pay8 (F := Ideal) (seven O P 0#32) 0#32 O (part7 P) M N) W := by
  subst hk hO hP hM hN hW; rfl
abbrev sumAt : FVec Ideal S512x768 .f32 := seven (blockO m c t) (blockP m c t) 0#32
theorem out_grad (y) : (outsAt0 m (ok m) c t).1 y
    = k0_pay5 (F := Ideal) (sumAt m c t) 0#32 (blockO m c t) (part7 (blockP m c t)) y := by
  unfold outsAt0
  frame_out
  exact congrFun (grad_congr _ _ (word_zero m) (Memref.IsWhole.read_unread _ _) (Memref.IsWhole.read_unread _ _)) y
theorem out_change (y) : (outsAt0 m (ok m) c t).2.1 y = k0_pay1 (F := Ideal) (k0_pay8 (F := Ideal) (sumAt m c t) 0#32
    (blockO m c t) (part7 (blockP m c t)) (blockM m c t) (blockN m c t)) (blockW m c t) y := by
  unfold outsAt0
  frame_out
  exact congrFun (change_congr _ _ _ _ _ (word_zero m) (Memref.IsWhole.read_unread _ _) (Memref.IsWhole.read_unread _ _)
    (Memref.IsWhole.read_unread _ _) (Memref.IsWhole.read_unread _ _) (Memref.IsWhole.read_unread _ _)) y
theorem out_mean (y) : (outsAt0 m (ok m) c t).2.2.1 y
    = k0_pay6 (F := Ideal) (sumAt m c t) 0#32 (blockO m c t) (part7 (blockP m c t)) (blockM m c t) y := by
  unfold outsAt0
  frame_out
  exact congrFun (mean_congr _ _ _ (word_zero m) (Memref.IsWhole.read_unread _ _) (Memref.IsWhole.read_unread _ _)
    (Memref.IsWhole.read_unread _ _)) y
theorem out_square (y) : (outsAt0 m (ok m) c t).2.2.2 y
    = k0_pay7 (F := Ideal) (sumAt m c t) 0#32 (blockO m c t) (part7 (blockP m c t)) (blockN m c t) y := by
  unfold outsAt0
  frame_out
  exact congrFun (square_congr _ _ _ (word_zero m) (Memref.IsWhole.read_unread _ _) (Memref.IsWhole.read_unread _ _)
    (Memref.IsWhole.read_unread _ _)) y

/-- The sum of a device's own part and the seven sent to it. -/
def sumOf (O P : FVec Ideal S8x1024x768 .f32) : FVec Ideal S1024x768 .f32 := fun i => O (ix3 0 (i 0) (i 1))
  + P (ix3 1 (i 0) (i 1)) + P (ix3 2 (i 0) (i 1)) + P (ix3 3 (i 0) (i 1)) + P (ix3 4 (i 0) (i 1)) + P (ix3 5 (i 0) (i 1))
  + P (ix3 6 (i 0) (i 1)) + P (ix3 7 (i 0) (i 1))
abbrev gradient : FVec Ideal S1024x768 .f32 := sumOf (argO m c) (argP m c)
theorem total_sum (i : Fin 512) (j : Fin 768) :
    k0_pay5 (F := Ideal) (sumAt m c t) 0#32 (blockO m c t) (part7 (blockP m c t)) (ix2 i j)
      = gradient m c (ix2 (row m t i) j) := by
  rw [sumAt, pay_total, total, blkO, blkP, blkP, blkP, blkP, blkP, blkP, blkP]
  rfl

/-- The arrays after the run. -/
theorem final_grad : (dats m (ok m) 0 c).arrAt 5 (cfgM m (ok m)).N = gradient m c := by
  refine (dats m (ok m) 0 c).arrAt_eq_of_covers 5 _ covers fun t _ y => ?_
  blk_simp
  rw [after0_5]
  exact (out_grad m c t y).trans (filled m t
    (k0_pay5 (F := Ideal) (sumAt m c t) 0#32 (blockO m c t) (part7 (blockP m c t))) (gradient m c) (total_sum m c t) y)
theorem final_change : (dats m (ok m) 0 c).arrAt 6 (cfgM m (ok m)).N = fun i : S1024x768.Idx =>
    change (argW m c i) (gradient m c i) (argM m c i) (argN m c i) := by
  refine (dats m (ok m) 0 c).arrAt_eq_of_covers 6 _ covers fun t _ y => ?_
  blk_simp
  rw [after0_6]
  refine (out_change m c t y).trans (filled m t
    (k0_pay1 (F := Ideal) (k0_pay8 (F := Ideal) (sumAt m c t) 0#32
      (blockO m c t) (part7 (blockP m c t)) (blockM m c t) (blockN m c t)) (blockW m c t))
    (fun i => change (argW m c i) (gradient m c i) (argM m c i) (argN m c i)) (fun i j => ?_) y)
  rw [pay_change, total_sum, blkW, blkM, blkN]
theorem final_mean : (dats m (ok m) 0 c).arrAt 7 (cfgM m (ok m)).N
    = fun i : S1024x768.Idx => mean (gradient m c i) (argM m c i) := by
  refine (dats m (ok m) 0 c).arrAt_eq_of_covers 7 _ covers fun t _ y => ?_
  blk_simp
  rw [after0_7]
  refine (out_mean m c t y).trans (filled m t
    (k0_pay6 (F := Ideal) (sumAt m c t) 0#32 (blockO m c t) (part7 (blockP m c t)) (blockM m c t))
    (fun i => mean (gradient m c i) (argM m c i)) (fun i j => ?_) y)
  rw [pay_mean, total_sum, blkM]
theorem final_square : (dats m (ok m) 0 c).arrAt 8 (cfgM m (ok m)).N
    = fun i : S1024x768.Idx => square (gradient m c i) (argN m c i) := by
  refine (dats m (ok m) 0 c).arrAt_eq_of_covers 8 _ covers fun t _ y => ?_
  blk_simp
  rw [after0_8]
  refine (out_square m c t y).trans (filled m t
    (k0_pay7 (F := Ideal) (sumAt m c t) 0#32 (blockO m c t) (part7 (blockP m c t)) (blockN m c t))
    (fun i => square (gradient m c i) (argN m c i)) (fun i j => ?_) y)
  rw [pay_square, total_sum, blkN]

/-- The run, with its four arrays. -/
theorem run (ρ : Dev nD → PrngReg) : θ_run defs (onTc (τ := τ) (main (F := Ideal))) ⟨m, fun _ => 0, ρ⟩ fun r => ∀ c : Dev nD,
    r.2.mem ((c : Thread nD τ).loc main_v4_0) = gradient m c
    ∧ r.2.mem ((c : Thread nD τ).loc main_v4_1) = (fun i : S1024x768.Idx =>
        change (argW m c i) (gradient m c i) (argM m c i) (argN m c i))
    ∧ r.2.mem ((c : Thread nD τ).loc main_v4_2) = (fun i : S1024x768.Idx => mean (gradient m c i) (argM m c i))
    ∧ r.2.mem ((c : Thread nD τ).loc main_v4_3) = (fun i : S1024x768.Idx => square (gradient m c i) (argN m c i))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c => ⟨((h.1 c).1 5).trans (final_grad m c), ((h.1 c).1 6).trans (final_change m c),
    ((h.1 c).1 7).trans (final_mean m c), ((h.1 c).1 8).trans (final_square m c), h.2 c⟩)
    (θ_run_and (run_main m ρ (ok m)) (unchanged m ρ (ok m)))

end Cert.Kernel18Ideal.Value

namespace Cert.Reference18Ideal.Value

open Cert.Reference18Ideal Cert.Reference18Ideal.Read
open Cert.Kernel17Ideal.Value (mean square change)
open Cert.Reference17Ideal.Value (div_mean div_square)
open Cert.Kernel18Ideal.Value (sumOf)

variable (W M N : FVec Ideal S1024x768 .f32) (O P : FVec Ideal S8x1024x768 .f32)

/-- The reference's sum, whose first term is the word of zero. -/
theorem entry_sum (i : Fin 1024) (j : Fin 768) : val_main_v8 (F := Ideal) O P (ix2 i j) = sumOf O P (ix2 i j) := by
  have own : val_main_v5 (F := Ideal) O (ix2 i j) = O (ix3 0 i j) := by
    pointwise [val_main_v5, val_main_v4, val_main_v1, val_main_v0]
  have sent (k : Fin 7) : val_main_v6 (F := Ideal) P (ix3 k i j) = P (ix3 k.succ i j) := by
    fin_cases k <;> (pointwise [val_main_v6, val_main_v3, val_main_v2]; rfl)
  have sum : val_main_v7 (F := Ideal) P (ix2 i j) = ∑ k : Fin 7, P (ix3 k.succ i j) := by
    refine (val_main_v7_apply P (ix2 i j)).trans ?_
    rw [val_main_cst_apply]
    refine (congrArg (· + _) (Ideal.ofBits_zero .f32)).trans ((zero_add _).trans (Finset.sum_congr rfl fun k _ => ?_))
    exact (congrArg _ (by funext a; fin_cases a <;> rfl)).trans (sent k)
  refine (val_main_v8_apply (F := Ideal) O P (ix2 i j)).trans ?_
  rw [own, sum, Fin.sum_univ_seven]
  show O (ix3 0 i j) + _ = O (ix3 0 i j) + P (ix3 1 i j) + P (ix3 2 i j) + P (ix3 3 i j) + P (ix3 4 i j) + P (ix3 5 i j)
    + P (ix3 6 i j) + P (ix3 7 i j)
  simp only [← add_assoc]
  rfl
theorem entry_mean (i : Fin 1024) (j : Fin 768) :
    val_main_v13 (F := Ideal) O P M (ix2 i j) = mean (val_main_v8 (F := Ideal) O P (ix2 i j)) (M (ix2 i j)) := by
  generalize hG : val_main_v8 (F := Ideal) O P = G
  pointwise [val_main_v13, val_main_v12, val_main_v11, val_main_v10, val_main_v9, val_main_cst_0, val_main_cst_1, mean, hG]
theorem entry_square (i : Fin 1024) (j : Fin 768) :
    val_main_v19 (F := Ideal) O P N (ix2 i j) = square (val_main_v8 (F := Ideal) O P (ix2 i j)) (N (ix2 i j)) := by
  generalize hG : val_main_v8 (F := Ideal) O P = G
  pointwise [val_main_v19, val_main_v18, val_main_v17, val_main_v16, val_main_v15, val_main_v14, val_main_cst_2,
    val_main_cst_3, square, hG]
theorem entry_change (i : Fin 1024) (j : Fin 768) : val_main_v32 (F := Ideal) W O P M N (ix2 i j)
    = change (W (ix2 i j)) (val_main_v8 (F := Ideal) O P (ix2 i j)) (M (ix2 i j)) (N (ix2 i j)) := by
  unfold change
  rw [← entry_mean, ← entry_square, ← div_mean, ← div_square]
  generalize hA : val_main_v13 (F := Ideal) O P M = A
  generalize hB : val_main_v19 (F := Ideal) O P N = B
  pointwise [val_main_v32, val_main_v31, val_main_v30, val_main_v29, val_main_v28, val_main_v27, val_main_v26,
    val_main_v25, val_main_v24, val_main_v23, val_main_v22, val_main_v21, val_main_v20, val_main_cst_4, val_main_cst_5,
    val_main_cst_6, val_main_cst_7, val_main_cst_8, hA, hB]

/-- The reference's arrays are the kernel's. -/
theorem agree_sum : val_main_v8 (F := Ideal) O P = sumOf O P := by
  funext i; idx_vars i; exact entry_sum O P i0 i1
theorem agree_mean : val_main_v13 (F := Ideal) O P M = fun i => mean (sumOf O P i) (M i) := by
  funext i; idx_vars i; rw [entry_mean, agree_sum]
theorem agree_square : val_main_v19 (F := Ideal) O P N = fun i => square (sumOf O P i) (N i) := by
  funext i; idx_vars i; rw [entry_square, agree_sum]
theorem agree_change : val_main_v32 (F := Ideal) W O P M N = fun i => change (W i) (sumOf O P i) (M i) (N i) := by
  funext i; idx_vars i; rw [entry_change, agree_sum]

end Cert.Reference18Ideal.Value

end
-- ==== Proof.Frames.lean ====
/- The frames of the programs: each runs to its end without a fault, leaves its arguments as they were, and leaves
   every semaphore counter at zero. The kernels' are the generated frames; a reference declares no semaphore, so only
   its arguments are left to read off its run. -/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.Gen.Kernel10.Frame
public import proofs.«01_k».proof.Proof.Gen.Kernel10Ideal.Frame
public import proofs.«01_k».proof.Proof.Gen.Kernel11.Frame
public import proofs.«01_k».proof.Proof.Gen.Kernel11Ideal.Frame
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import proofs.«01_k».proof.Proof.Gen.Kernel15.Frame
public import proofs.«01_k».proof.Proof.Gen.Kernel15Ideal.Frame
public import proofs.«01_k».proof.Proof.Gen.Kernel16.Frame
public import proofs.«01_k».proof.Proof.Gen.Kernel16Ideal.Frame
public import proofs.«01_k».proof.Proof.Gen.Kernel17.Frame
public import proofs.«01_k».proof.Proof.Gen.Kernel17Ideal.Frame
public import proofs.«01_k».proof.Proof.Gen.Kernel18.Frame
public import proofs.«01_k».proof.Proof.Gen.Kernel18Ideal.Frame
public import proofs.«01_k».proof.Proof.Sum
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Pre_ln2_finite
public import proofs.«01_k».proof.Proof.Gen.Pre_ln1_finite
public import Idealize.ShloMosaic.Lib.Quiescent

@[expose] public section

set_option maxRecDepth 16384

noncomputable section

open Idealize.ShloMosaic Idealize.ShloMosaic.TcCoe Idealize.SL.Sem

namespace Cert.Frames

theorem kernel : Cert.quiescent_Kernel := fun m ρ _ => Cert.Kernel.Gen.frame m ρ
theorem kernelIdeal : Cert.quiescent_KernelIdeal := fun m ρ _ => Cert.KernelIdeal.Gen.frame m ρ
theorem kernel2 : Cert.quiescent_Kernel2 := fun m ρ _ => Cert.Kernel2.Gen.frame m ρ
theorem kernel2Ideal : Cert.quiescent_Kernel2Ideal := fun m ρ _ => Cert.Kernel2Ideal.Gen.frame m ρ
theorem kernel3 : Cert.quiescent_Kernel3 := fun m ρ _ => Cert.Kernel3.Gen.frame m ρ
theorem kernel3Ideal : Cert.quiescent_Kernel3Ideal := fun m ρ _ => Cert.Kernel3Ideal.Gen.frame m ρ

theorem kernel4 : Cert.quiescent_Kernel4 := fun m ρ _ => Cert.Kernel4.Gen.frame m ρ
theorem kernel4Ideal : Cert.quiescent_Kernel4Ideal := fun m ρ _ => Cert.Kernel4Ideal.Gen.frame m ρ
theorem kernel4Ideal_pre : Cert.quiescent_Kernel4Ideal_pre_ln2_finite := fun m ρ _ => Cert.Kernel4Ideal.Gen.frame m ρ
theorem kernel5 : Cert.quiescent_Kernel5 := fun m ρ _ => Cert.Kernel5.Gen.frame m ρ
theorem kernel5Ideal : Cert.quiescent_Kernel5Ideal := fun m ρ _ => Cert.Kernel5Ideal.Gen.frame m ρ
theorem kernel5Ideal_pre : Cert.quiescent_Kernel5Ideal_pre_ln1_finite := fun m ρ _ => Cert.Kernel5Ideal.Gen.frame m ρ

theorem referenceIdeal : Cert.quiescent_ReferenceIdeal := fun m ρ _ =>
  (θ_run Cert.ReferenceIdeal.defs _ _).mono
    (fun r h => ⟨fun c => (h c).2.2.2.2, sem_eq_zero_of_no_sems (by decide) r.2⟩) (Cert.ReferenceIdeal.Value.run m ρ)

theorem reference2Ideal : Cert.quiescent_Reference2Ideal := fun m ρ _ =>
  (θ_run Cert.Reference2Ideal.defs _ _).mono
    (fun r h => ⟨fun c => (h c).2, sem_eq_zero_of_no_sems (by decide) r.2⟩) (Cert.Reference2Ideal.Value.run m ρ)

theorem reference3Ideal : Cert.quiescent_Reference3Ideal := fun m ρ _ =>
  (θ_run Cert.Reference3Ideal.defs _ _).mono
    (fun r h => ⟨fun c => (h c).2.2.2, sem_eq_zero_of_no_sems (by decide) r.2⟩) (Cert.Reference3Ideal.Value.run m ρ)

theorem reference4Ideal : Cert.quiescent_Reference4Ideal := fun m ρ _ =>
  (θ_run Cert.Reference4Ideal.defs _ _).mono
    (fun r h => ⟨fun c => (h c).2.2.2.2.2.2, sem_eq_zero_of_no_sems (by decide) r.2⟩) (Cert.Reference4Ideal.Value.run m ρ)
theorem reference4Ideal_pre : Cert.quiescent_Reference4Ideal_pre_ln2_finite := fun m ρ _ =>
  reference4Ideal m ρ trivial

theorem reference5Ideal : Cert.quiescent_Reference5Ideal := fun m ρ _ =>
  (θ_run Cert.Reference5Ideal.defs _ _).mono
    (fun r h => ⟨fun c => (h c).2.2.2.2.2.2.2, sem_eq_zero_of_no_sems (by decide) r.2⟩) (Cert.Reference5Ideal.Value.run m ρ)
theorem reference5Ideal_pre : Cert.quiescent_Reference5Ideal_pre_ln1_finite := fun m ρ _ =>
  reference5Ideal m ρ trivial

theorem kernel8 : Cert.quiescent_Kernel8 := fun m ρ _ => Cert.Kernel8.Gen.frame m ρ
theorem kernel8Ideal : Cert.quiescent_Kernel8Ideal := fun m ρ _ => Cert.Kernel8Ideal.Gen.frame m ρ
theorem kernel9 : Cert.quiescent_Kernel9 := fun m ρ _ => Cert.Kernel9.Gen.frame m ρ
theorem kernel9Ideal : Cert.quiescent_Kernel9Ideal := fun m ρ _ => Cert.Kernel9Ideal.Gen.frame m ρ
theorem kernel10 : Cert.quiescent_Kernel10 := fun m ρ _ => Cert.Kernel10.Gen.frame m ρ
theorem kernel10Ideal : Cert.quiescent_Kernel10Ideal := fun m ρ _ => Cert.Kernel10Ideal.Gen.frame m ρ
theorem kernel11 : Cert.quiescent_Kernel11 := fun m ρ _ => Cert.Kernel11.Gen.frame m ρ
theorem kernel11Ideal : Cert.quiescent_Kernel11Ideal := fun m ρ _ => Cert.Kernel11Ideal.Gen.frame m ρ
theorem kernel12 : Cert.quiescent_Kernel12 := fun m ρ _ => Cert.Kernel12.Gen.frame m ρ
theorem kernel12Ideal : Cert.quiescent_Kernel12Ideal := fun m ρ _ => Cert.Kernel12Ideal.Gen.frame m ρ
theorem kernel13 : Cert.quiescent_Kernel13 := fun m ρ _ => Cert.Kernel13.Gen.frame m ρ
theorem kernel13Ideal : Cert.quiescent_Kernel13Ideal := fun m ρ _ => Cert.Kernel13Ideal.Gen.frame m ρ
theorem kernel14 : Cert.quiescent_Kernel14 := fun m ρ _ => Cert.Kernel14.Gen.frame m ρ
theorem kernel14Ideal : Cert.quiescent_Kernel14Ideal := fun m ρ _ => Cert.Kernel14Ideal.Gen.frame m ρ
theorem kernel15 : Cert.quiescent_Kernel15 := fun m ρ _ => Cert.Kernel15.Gen.frame m ρ
theorem kernel15Ideal : Cert.quiescent_Kernel15Ideal := fun m ρ _ => Cert.Kernel15Ideal.Gen.frame m ρ
theorem kernel16 : Cert.quiescent_Kernel16 := fun m ρ _ => Cert.Kernel16.Gen.frame m ρ
theorem kernel16Ideal : Cert.quiescent_Kernel16Ideal := fun m ρ _ => Cert.Kernel16Ideal.Gen.frame m ρ
theorem kernel17 : Cert.quiescent_Kernel17 := fun m ρ _ => Cert.Kernel17.Gen.frame m ρ trivial
theorem kernel17Ideal : Cert.quiescent_Kernel17Ideal := fun m ρ _ => Cert.Kernel17Ideal.Gen.frame m ρ trivial
theorem kernel18 : Cert.quiescent_Kernel18 := fun m ρ _ => Cert.Kernel18.Gen.frame m ρ (Cert.Kernel18.Value.ok m)
theorem kernel18Ideal : Cert.quiescent_Kernel18Ideal := fun m ρ _ =>
  Cert.Kernel18Ideal.Gen.frame m ρ (Cert.Kernel18Ideal.Value.ok m)

theorem reference8Ideal : Cert.quiescent_Reference8Ideal := fun m ρ _ =>
  (θ_run Cert.Reference8Ideal.defs _ _).mono
    (fun r h => ⟨fun c => (h c).2, sem_eq_zero_of_no_sems (by decide) r.2⟩) (Cert.Reference8Ideal.Value.run m ρ)
theorem reference9Ideal : Cert.quiescent_Reference9Ideal := fun m ρ _ =>
  (θ_run Cert.Reference9Ideal.defs _ _).mono
    (fun r h => ⟨fun c => (h c).2.2, sem_eq_zero_of_no_sems (by decide) r.2⟩) (Cert.Reference9Ideal.Value.run m ρ)
theorem reference10Ideal : Cert.quiescent_Reference10Ideal := fun m ρ _ =>
  (θ_run Cert.Reference10Ideal.defs _ _).mono
    (fun r h => ⟨fun c => (h c).2.2.2.2.2, sem_eq_zero_of_no_sems (by decide) r.2⟩) (Cert.Reference10Ideal.Value.run m ρ)
theorem reference11Ideal : Cert.quiescent_Reference11Ideal := fun m ρ _ =>
  (θ_run Cert.Reference11Ideal.defs _ _).mono
    (fun r h => ⟨fun c => (h c).2.2.2, sem_eq_zero_of_no_sems (by decide) r.2⟩) (Cert.Reference11Ideal.Value.run m ρ)
theorem reference12Ideal : Cert.quiescent_Reference12Ideal := fun m ρ _ =>
  (θ_run Cert.Reference12Ideal.defs _ _).mono
    (fun r h => ⟨fun c => (h c).2.2, sem_eq_zero_of_no_sems (by decide) r.2⟩) (Cert.Reference12Ideal.Value.run m ρ)
theorem reference13Ideal : Cert.quiescent_Reference13Ideal := fun m ρ _ =>
  (θ_run Cert.Reference13Ideal.defs _ _).mono
    (fun r h => ⟨fun c => (h c).2, sem_eq_zero_of_no_sems (by decide) r.2⟩) (Cert.Reference13Ideal.Value.run m ρ)
theorem reference14Ideal : Cert.quiescent_Reference14Ideal := fun m ρ _ =>
  (θ_run Cert.Reference14Ideal.defs _ _).mono
    (fun r h => ⟨fun c => (h c).2, sem_eq_zero_of_no_sems (by decide) r.2⟩) (Cert.Reference14Ideal.Value.run m ρ)
theorem reference15Ideal : Cert.quiescent_Reference15Ideal := fun m ρ _ =>
  (θ_run Cert.Reference15Ideal.defs _ _).mono
    (fun r h => ⟨fun c => (h c).2.2, sem_eq_zero_of_no_sems (by decide) r.2⟩) (Cert.Reference15Ideal.Value.run m ρ)
theorem reference16Ideal : Cert.quiescent_Reference16Ideal := fun m ρ _ =>
  (θ_run Cert.Reference16Ideal.defs _ _).mono
    (fun r h => ⟨fun c => (h c).2, sem_eq_zero_of_no_sems (by decide) r.2⟩) (Cert.Reference16Ideal.Value.run m ρ)
theorem reference17Ideal : Cert.quiescent_Reference17Ideal := fun m ρ _ =>
  (θ_run Cert.Reference17Ideal.defs _ _).mono
    (fun r h => ⟨fun c => (h c).2.2.2.2, sem_eq_zero_of_no_sems (by decide) r.2⟩) (Cert.Reference17Ideal.Value.run m ρ)
theorem reference18Ideal : Cert.quiescent_Reference18Ideal := fun m ρ _ =>
  (θ_run Cert.Reference18Ideal.defs _ _).mono
    (fun r h => ⟨fun c => (h c).2.2.2.2, sem_eq_zero_of_no_sems (by decide) r.2⟩) (Cert.Reference18Ideal.Value.run m ρ)

end Cert.Frames
-- ==== Proof.Keeps.lean ====
/- A body that only loads and stores KEEPS an invariant which lets it take any of its buffers out,
   whole and at some contents, and put it back at any other: a step at a time, with nothing said of
   the values. -/
module

public import Idealize.ShloMosaic.Lib.Pipeline.FrameBody

@[expose] public section

noncomputable section

namespace Cert.Keeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

local notation "𝕄" => MT nD τ sig Unit Val ℕ (UR sig nD τ) ℕ

/-- `I` lends out `M`, at some contents, against its return at any. -/
def Lends (c : Thread nD τ) (I : sProp 𝕄) {sp : Space} {s : Shape} {e : EltTy} (M : Memref sig c.2.kind sp s e) : Prop :=
  I ⊢ iprop((∃ d, owns c M fullShare d) ∗ ((∃ d, owns c M fullShare d) -∗ I))

/-- `p` runs from `I` to `I`, whatever it returns. -/
def Keeps (defs : Defs nD τ sig Val Λ) (c : Thread nD τ) (I : sProp 𝕄) {α : Type} (p : Prog (TpuEff nD τ sig Val Λ c.2) α) : Prop :=
  ∀ (E : Set ℕ) (K : α → sProp 𝕄), iprop(I ∗ (∀ a, I -∗ K a)) ⊢ wp frame (wpE defs Variants.none c none) E p K

variable {defs : Defs nD τ sig Val Λ} {c : Thread nD τ} {I : sProp (MT nD τ sig Unit Val ℕ (UR sig nD τ) ℕ)}

theorem keeps_pure {α : Type} (a : α) : Keeps defs c I (pure a : Prog (TpuEff nD τ sig Val Λ c.2) α) := fun E K => by
  refine BIBase.Entails.trans ?_ (le_wp_ret _ _ _ a K)
  iintro ⟨HI, HK⟩
  iapply HK
  iexact HI

theorem keeps_bind {α β : Type} {p : Prog (TpuEff nD τ sig Val Λ c.2) α} {f : α → Prog (TpuEff nD τ sig Val Λ c.2) β}
    (hp : Keeps defs c I p) (hf : ∀ a, Keeps defs c I (f a)) : Keeps defs c I (p >>= f) := fun E K => by
  rw [wp_bind]
  refine BIBase.Entails.trans ?_ (hp E fun a => wp frame (wpE defs Variants.none c none) E (f a) K)
  iintro ⟨HI, HK⟩
  isplitl [HI]
  · iexact HI
  iintro %a HI
  iapply (hf a E K)
  isplitl [HI]
  · iexact HI
  iexact HK

theorem keeps_dite {α : Type} {b : Prop} [Decidable b] {p : b → Prog (TpuEff nD τ sig Val Λ c.2) α} {q : ¬b → Prog (TpuEff nD τ sig Val Λ c.2) α}
    (hp : ∀ h, Keeps defs c I (p h)) (hq : ∀ h, Keeps defs c I (q h)) : Keeps defs c I (dite b p q) := by
  by_cases h : b
  · rw [dif_pos h]; exact hp h
  · rw [dif_neg h]; exact hq h

theorem forall_psigma {α : Type} {β : α → Type} {P : (Σ' a, β a) → Prop} (h : ∀ a b, P ⟨a, b⟩) : ∀ p, P p :=
  fun p => h p.1 p.2

theorem keeps_load {cs : CoreSpace} {s : Shape} {e : EltTy} {M : Memref sig c.2.kind cs s e} {r : LoadRect s} {hl : M.view.LoadsAt r}
    (hM : Lends c I M) : Keeps defs c I (Prog.lift (.load M r hl)) := fun E K => by
  refine (sep_mono_left hM).trans ?_
  unfold owns Prog.lift
  iintro ⟨⟨⟨%d, %f, -, H⟩, Hb⟩, HK⟩
  iapply (wp_load Variants.none c none E (M.view.setOn_subset_set r.set)) $$ [H]
  · iexact H
  iintro H
  iapply le_wp_ret
  iapply HK
  iapply Hb
  iexists _, f
  isplitr
  · ipureintro; rfl
  iexact H

theorem keeps_store {cs : CoreSpace} {s : Shape} {e : EltTy} {M : Memref sig c.2.kind cs s e} {r : Rect s} {w : r.shape.Idx → Val e}
    {Mk : Finset r.shape.Idx} {hx : (M.access r).Stores Mk} {hm : Mk = Finset.univ ∨ ∀ a, r.stride a = 1}
    (hM : Lends c I M) : Keeps defs c I (Prog.lift (.store M r w Mk hx hm)) := fun E K => by
  refine (sep_mono_left hM).trans ?_
  unfold owns Prog.lift
  iintro ⟨⟨⟨%d, %f, -, H⟩, Hb⟩, HK⟩
  iapply (wp_store Variants.none c none E (((M.access r).setOn_subset_set Mk).trans (M.view.set_slice_subset r))) $$ [H]
  · iexact H
  iintro H
  iapply le_wp_ret
  iapply HK
  iapply Hb
  iexists _, _
  isplitr; swap
  · iexact H
  ipureintro; rfl

end Cert.Keeps

end
-- ==== Proof.MixBwdBody.lean ====
/- The mixing kernel's backward body keeps any invariant that lends out its buffers. -/
module

public import proofs.«01_k».proof.Proof.Keeps
public import proofs.«01_k».proof.Kernel6Ideal

@[expose] public section

set_option maxRecDepth 16384

noncomputable section

namespace Cert.Kernel6Ideal.Mix

open Idealize.ShloMosaic Idealize.ShloMosaic.TcCoe
open Idealize.SL Idealize.SL.BI Cert.Keeps

variable [Cert.Kernel6Ideal.Facts] {F : FTy → Type} [FloatOps F]

local notation "𝕄" => MT nD τ sig Unit (Elt F) ℕ (UR sig nD τ) ℕ

set_option maxHeartbeats 0 in
theorem keeps_body (c : Dev nD) (I : sProp 𝕄) (i : grid0.Coords) (arg2 : Memref sig .tc .vmem S1x256x4096 .bf16) (harg2 : arg2.IsWhole) (arg3 : Memref sig .tc .vmem S1x16x1280 .bf16) (harg3 : arg3.IsWhole) (arg4 : Memref sig .tc .vmem S1x256x1280 .f32) (harg4 : arg4.IsWhole) (arg5 : Memref sig .tc .vmem S1x8x1280 .f32) (harg5 : arg5.IsWhole) (arg6 : Memref sig .tc .vmem S1x256x1280 .bf16) (harg6 : arg6.IsWhole) (arg7 : Memref sig .tc .vmem S1x256x768 .bf16) (harg7 : arg7.IsWhole) (arg8 : Memref sig .tc .hbm S4x2048x6144 .bf16) (harg8 : arg8.IsWhole) (arg9 : Memref sig .tc .vmem S1x256x1280 .f32) (harg9 : arg9.IsWhole) (arg10 : Memref sig .tc .vmem S1x256x1280 .f32) (harg10 : arg10.IsWhole) (arg11 : Memref sig .tc .vmem S1x256x1280 .f32) (harg11 : arg11.IsWhole) (arg12 : Memref sig .tc .vmem S1x256x1280 .f32) (harg12 : arg12.IsWhole) (arg13 : Memref sig .tc .vmem S1x256x1280 .f32) (harg13 : arg13.IsWhole) (arg14 : Memref sig .tc .vmem S4x1280 .f32) (harg14 : arg14.IsWhole) (arg15 : Memref sig .tc .vmem S1x1280 .f32) (harg15 : arg15.IsWhole) (arg16 : Memref sig .tc .vmem S10x128x128 .bf16) (harg16 : arg16.IsWhole) (arg17 : Memref sig .tc .vmem S1x1280 .f32) (harg17 : arg17.IsWhole) (arg18 : Memref sig .tc .vmem S10x128x128 .bf16) (harg18 : arg18.IsWhole) (arg19 : Memref sig .tc .vmem S1x1280 .f32) (harg19 : arg19.IsWhole) (arg20 : Memref sig .tc .vmem S1x1280 .f32) (harg20 : arg20.IsWhole) (arg21 : Memref sig .tc .vmem S6x128x128 .f32) (harg21 : arg21.IsWhole) (arg22 : Memref sig .tc .vmem S128x6 .f32) (harg22 : arg22.IsWhole) (arg23 : Memref sig .tc .vmem S1x768 .f32) (harg23 : arg23.IsWhole) (arg24 : Memref sig .tc .vmem S1x768 .f32) (harg24 : arg24.IsWhole) (arg25 : Memref sig .tc .vmem S1x256x4096 .bf16) (harg25 : arg25.IsWhole) (arg26 : Memref sig .tc .vmem S1x4096 .f32) (harg26 : arg26.IsWhole) (arg27 : Memref sig .tc .vmem S4x1280 .f32) (harg27 : arg27.IsWhole) (arg28 : Memref sig .tc .vmem S1x1280 .f32) (harg28 : arg28.IsWhole) (arg29 : Memref sig .tc .vmem S10x128x128 .f32) (harg29 : arg29.IsWhole) (arg30 : Memref sig .tc .vmem S1x1280 .f32) (harg30 : arg30.IsWhole) (arg31 : Memref sig .tc .vmem S10x128x128 .f32) (harg31 : arg31.IsWhole) (arg32 : Memref sig .tc .vmem S1x1280 .f32) (harg32 : arg32.IsWhole) (arg33 : Memref sig .tc .vmem S1x1280 .f32) (harg33 : arg33.IsWhole) (arg34 : Memref sig .tc .vmem S6x128x128 .f32) (harg34 : arg34.IsWhole) (arg35 : Memref sig .tc .vmem S128x6 .f32) (harg35 : arg35.IsWhole) (arg36 : Memref sig .tc .vmem S1x768 .f32) (harg36 : arg36.IsWhole) (arg37 : Memref sig .tc .vmem S1x768 .f32) (harg37 : arg37.IsWhole) (arg38 : Memref sig .tc .vmem S10x264x128 .f32) (harg38 : arg38.IsWhole) (arg39 : Memref sig .tc .vmem S10x264x128 .f32) (harg39 : arg39.IsWhole) (arg40 : Memref sig .tc .vmem S10x256x128 .f32) (harg40 : arg40.IsWhole) (arg41 : Memref sig .tc .vmem S10x264x128 .f32) (harg41 : arg41.IsWhole) (arg42 : Memref sig .tc .vmem S8x1280 .f32) (harg42 : arg42.IsWhole) (arg43 : Memref sig .tc .vmem S32x1280 .f32) (harg43 : arg43.IsWhole) (arg44 : Memref sig .tc .vmem S32x1280 .f32) (harg44 : arg44.IsWhole) (arg45 : Memref sig .tc .vmem S32x1280 .f32) (harg45 : arg45.IsWhole) (arg46 : Memref sig .tc .vmem S32x1280 .f32) (harg46 : arg46.IsWhole) (arg47 : Memref sig .tc .vmem S256x1280 .f32) (harg47 : arg47.IsWhole) (arg48 : Memref sig .tc .vmem S256x1280 .f32) (harg48 : arg48.IsWhole)
    (h2 : Lends (c : Thread nD τ) I arg2) (h3 : Lends (c : Thread nD τ) I arg3) (h4 : Lends (c : Thread nD τ) I arg4) (h5 : Lends (c : Thread nD τ) I arg5) (h6 : Lends (c : Thread nD τ) I arg6) (h7 : Lends (c : Thread nD τ) I arg7) (h9 : Lends (c : Thread nD τ) I arg9) (h10 : Lends (c : Thread nD τ) I arg10) (h11 : Lends (c : Thread nD τ) I arg11) (h12 : Lends (c : Thread nD τ) I arg12) (h13 : Lends (c : Thread nD τ) I arg13) (h14 : Lends (c : Thread nD τ) I arg14) (h15 : Lends (c : Thread nD τ) I arg15) (h16 : Lends (c : Thread nD τ) I arg16) (h17 : Lends (c : Thread nD τ) I arg17) (h18 : Lends (c : Thread nD τ) I arg18) (h19 : Lends (c : Thread nD τ) I arg19) (h20 : Lends (c : Thread nD τ) I arg20) (h21 : Lends (c : Thread nD τ) I arg21) (h22 : Lends (c : Thread nD τ) I arg22) (h23 : Lends (c : Thread nD τ) I arg23) (h24 : Lends (c : Thread nD τ) I arg24) (h25 : Lends (c : Thread nD τ) I arg25) (h26 : Lends (c : Thread nD τ) I arg26) (h27 : Lends (c : Thread nD τ) I arg27) (h28 : Lends (c : Thread nD τ) I arg28) (h29 : Lends (c : Thread nD τ) I arg29) (h30 : Lends (c : Thread nD τ) I arg30) (h31 : Lends (c : Thread nD τ) I arg31) (h32 : Lends (c : Thread nD τ) I arg32) (h33 : Lends (c : Thread nD τ) I arg33) (h34 : Lends (c : Thread nD τ) I arg34) (h35 : Lends (c : Thread nD τ) I arg35) (h36 : Lends (c : Thread nD τ) I arg36) (h37 : Lends (c : Thread nD τ) I arg37) (h38 : Lends (c : Thread nD τ) I arg38) (h39 : Lends (c : Thread nD τ) I arg39) (h40 : Lends (c : Thread nD τ) I arg40) (h41 : Lends (c : Thread nD τ) I arg41) (h42 : Lends (c : Thread nD τ) I arg42) (h43 : Lends (c : Thread nD τ) I arg43) (h44 : Lends (c : Thread nD τ) I arg44) (h45 : Lends (c : Thread nD τ) I arg45) (h46 : Lends (c : Thread nD τ) I arg46) (h47 : Lends (c : Thread nD τ) I arg47) (h48 : Lends (c : Thread nD τ) I arg48) :
    Keeps (defs₀ (F := F)) (c : Thread nD τ) I (cc0_mix_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48) := by
  unfold cc0_mix_bwd
  repeat' first
    | with_reducible exact keeps_pure _
    | (with_reducible refine keeps_load ?_; assumption)
    | (with_reducible refine keeps_store ?_; assumption)
    | with_reducible refine keeps_bind ?_ ?_
    | with_reducible refine forall_psigma fun _ => ?_
    | with_reducible refine keeps_dite (fun _ => ?_) (fun _ => ?_)
    | with_reducible intro _
    | refine keeps_bind ?_ ?_
    | refine keeps_dite (fun _ => ?_) (fun _ => ?_)
    | exact keeps_pure _

end Cert.Kernel6Ideal.Mix

end
-- ==== Proof.Lends.lean ====
/- Which buffers an invariant lends out, by where they stand in it. -/
module

public import proofs.«01_k».proof.Proof.Keeps

@[expose] public section

noncomputable section

namespace Cert.Keeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

local notation "𝕄" => MT nD τ sig Unit Val ℕ (UR sig nD τ) ℕ

variable {defs : Defs nD τ sig Val Λ} {c : Thread nD τ} {I : sProp (MT nD τ sig Unit Val ℕ (UR sig nD τ) ℕ)}

theorem keeps_run {p : Prog (TpuEff nD τ sig Val Λ c.2) PUnit} (h : Keeps defs c I p) :
    I ⊢ wp frame (wpE defs Variants.none c none) Set.univ p fun _ => I := by
  refine BIBase.Entails.trans ?_ (h Set.univ fun _ => I)
  iintro HI
  isplitl [HI]
  · iexact HI
  iintro %a HI
  iexact HI

section Lends

variable {J : sProp (MT nD τ sig Unit Val ℕ (UR sig nD τ) ℕ)} {sp : Space} {s : Shape} {e : EltTy} {M : Memref sig c.2.kind sp s e}

theorem lends_left (h : Lends c I M) : Lends c iprop(I ∗ J) M := by
  unfold Lends at h ⊢
  refine (sep_mono_left h).trans ?_
  iintro ⟨⟨H, Hb⟩, HJ⟩
  isplitl [H]
  · iexact H
  iintro H
  isplitl [H Hb]
  · iapply Hb; iexact H
  iexact HJ

theorem lends_right (h : Lends c I M) : Lends c iprop(J ∗ I) M := by
  unfold Lends at h ⊢
  refine (sep_mono_right h).trans ?_
  iintro ⟨HJ, H, Hb⟩
  isplitl [H]
  · iexact H
  iintro H
  isplitl [HJ]
  · iexact HJ
  iapply Hb; iexact H

/-- A family of holdings lends out each of its members. -/
theorem lends_mem {ι : Type} [DecidableEq ι] {S : Finset ι} {Φ : ι → sProp (MT nD τ sig Unit Val ℕ (UR sig nD τ) ℕ)} {i : ι} (hi : i ∈ S)
    (h : Φ i = iprop(∃ d, owns c M fullShare d)) : Lends c (bigSep S Φ) M := by
  unfold Lends
  rw [show bigSep S Φ = iprop(Φ i ∗ bigSep (S.erase i) Φ) from bigSep_erase hi, h]
  iintro ⟨H, Hb⟩
  isplitl [H]
  · iexact H
  iintro H
  isplitl [H]
  · iexact H
  iexact Hb

end Lends

end Cert.Keeps

end
-- ==== Proof.MixBwdFrame.lean ====
/- The frame of the mixing kernel's backward call: every window forgotten, nothing said of any value. -/
module

public import proofs.«01_k».proof.Proof.MixBwdBody
public import proofs.«01_k».proof.Proof.Lends
public import proofs.«01_k».proof.Proof.Gen.Kernel6Ideal.Frame

@[expose] public section

set_option maxRecDepth 16384

noncomputable section

namespace Cert.Kernel6Ideal.Mix

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Keeps Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays as the call finds them; of what the body leaves, nothing named. -/
def dats (_ : Fin 1) (c : Dev nD) : Dat τ (Elt F) Unit ℕ (UR sig nD τ) ℕ cfg0 c where
  A w := V m c (Pipeline.arrRef spec0 w)
  after w t := Dat.unnamed (cfg := cfg0) w t
  Φ _ := Pipeline.ΦA spec0 c
  q w := Pipeline.shareOf spec0 w
  owed _ := 0

/-- What the body holds at a point, before and after: every buffer, at some contents. -/
def Inv (c : Dev nD) (t : Fin cfg0.N) : sProp 𝕄 :=
  iprop(Pipeline.ΦA spec0 c ∗ (dats m 0 c).owesAt () t.castSucc
    ∗ bigSep Finset.univ fun w : Fin cfg0.W => iprop(∃ X, owns (c : Thread nD τ) ((cfg0.win w).stage (cfg0.slots t w)) fullShare X))

theorem lends_window (c : Dev nD) (t : Fin cfg0.N) (w : Fin cfg0.W) :
    Lends (c : Thread nD τ) (Inv m c t) ((cfg0.win w).stage (cfg0.slots t w)) := by
  unfold Inv
  exact lends_right (lends_right (lends_mem (Finset.mem_univ w) rfl))

theorem lends_scratch (c : Dev nD) (t : Fin cfg0.N) (b : Ref sig .tc)
    (hb : b ∈ (Finset.univ.filter fun b : Ref sig .tc => b.isScoped) \ Finset.univ.image (Pipeline.stageRef spec0)) :
    Lends (c : Thread nD τ) (Inv m c t) (Memref.whole b) := by
  unfold Inv Pipeline.ΦA Pipeline.scopedRest
  refine lends_left (lends_left (lends_mem hb ?_))
  simp only [owns_whole]

theorem keeps_point (c : Dev nD) (t : Fin cfg0.N) : Keeps (defs₀ (F := F)) (c : Thread nD τ) (Inv m c t) (bodyAt0 t) := by
  unfold bodyAt0
  apply keeps_body
  exacts [lends_window m c t 0, lends_window m c t 1, lends_window m c t 2, lends_window m c t 3, lends_window m c t 4, lends_window m c t 5, lends_window m c t 6, lends_window m c t 7, lends_window m c t 8, lends_window m c t 9, lends_window m c t 10, lends_window m c t 11, lends_window m c t 12, lends_window m c t 13, lends_window m c t 14, lends_window m c t 15, lends_window m c t 16, lends_window m c t 17, lends_window m c t 18, lends_window m c t 19, lends_window m c t 20, lends_window m c t 21, lends_window m c t 22, lends_window m c t 23, lends_window m c t 24, lends_window m c t 25, lends_window m c t 26, lends_window m c t 27, lends_window m c t 28, lends_window m c t 29, lends_window m c t 30, lends_window m c t 31, lends_window m c t 32, lends_window m c t 33, lends_window m c t 34,
    lends_scratch m c t cc0_scratch0 (by decide), lends_scratch m c t cc0_scratch1 (by decide), lends_scratch m c t cc0_scratch2 (by decide), lends_scratch m c t cc0_scratch3 (by decide), lends_scratch m c t cc0_scratch4 (by decide), lends_scratch m c t cc0_scratch5 (by decide), lends_scratch m c t cc0_scratch6 (by decide), lends_scratch m c t cc0_scratch7 (by decide), lends_scratch m c t cc0_scratch8 (by decide), lends_scratch m c t cc0_scratch9 (by decide), lends_scratch m c t cc0_scratch10 (by decide)]

theorem body_obligation (c : Dev nD) :
    BodyObligation (dats (F := F) m 0 c) (defs₀ (F := F)) Variants.none () Set.univ (fun _ => true) := fun t =>
  Idealize.ShloMosaic.triple_restated (keeps_run (keeps_point m c t)) rfl .rfl fun _ => .rfl

theorem run_main_quiescent : θ_run defs (onTc (τ := τ) (main (F := F))) (s₀ m ρ)
    (fun r => Pipeline.RDat.FramePost (cfgs 0) (fun c => (dats m 0 c).toRForget fun _ => true) (V m) r ∧ r.2.sem = fun _ => 0) :=
  Pipeline.θ_run_frame_forget_shared (Q' := _) cfgs (dats m) (0 : Fin 1) launch₀0 defs₀ Variants.none (fun _ => true) m ρ main
    (hbody := fun c => (body_obligation m c).loose) (hq := fun _ _ _ => rfl) (howed := fun _ _ => rfl)
    (V := V m) (hmain := hmain m Variants.none) (hA := fun _ _ => rfl) (hΦ := fun _ _ => rfl)

set_option maxHeartbeats 2100000 in
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  (θ_run defs _ _).mono (fun _ hr => ⟨fun c => have h : Pipeline.RDat.FramePost (cfgs 0) (fun c => (dats m 0 c).toRForget fun _ => true) (V m) _ := hr.1;
    ⟨(Pipeline.RDat.FramePost.arr_in h c 1 rfl).trans (V_main_arg0 m c),
    (Pipeline.RDat.FramePost.arr_in h c 3 rfl).trans (V_main_arg1 m c),
    (Pipeline.RDat.FramePost.arr_in h c 4 rfl).trans (V_main_arg2 m c),
    (Pipeline.RDat.FramePost.arr_in h c 5 rfl).trans (V_main_arg3 m c),
    ((h c).2 main_arg4 (Pipeline.mem_restRefs_of main_arg4 (by decide) (by decide))).trans (V_main_arg4 m c),
    (Pipeline.RDat.FramePost.arr_in h c 6 rfl).trans (V_main_arg5 m c),
    (Pipeline.RDat.FramePost.arr_in h c 7 rfl).trans (V_main_arg6 m c),
    (Pipeline.RDat.FramePost.arr_in h c 8 rfl).trans (V_main_arg7 m c),
    (Pipeline.RDat.FramePost.arr_in h c 9 rfl).trans (V_main_arg8 m c),
    (Pipeline.RDat.FramePost.arr_in h c 10 rfl).trans (V_main_arg9 m c),
    (Pipeline.RDat.FramePost.arr_in h c 11 rfl).trans (V_main_arg10 m c),
    (Pipeline.RDat.FramePost.arr_in h c 12 rfl).trans (V_main_arg11 m c),
    (Pipeline.RDat.FramePost.arr_in h c 13 rfl).trans (V_main_arg12 m c),
    (Pipeline.RDat.FramePost.arr_in h c 14 rfl).trans (V_main_arg13 m c),
    (Pipeline.RDat.FramePost.arr_in h c 15 rfl).trans (V_main_arg14 m c),
    (Pipeline.RDat.FramePost.arr_in h c 16 rfl).trans (V_main_arg15 m c),
    (Pipeline.RDat.FramePost.arr_in h c 17 rfl).trans (V_main_arg16 m c),
    (Pipeline.RDat.FramePost.arr_in h c 18 rfl).trans (V_main_arg17 m c),
    (Pipeline.RDat.FramePost.arr_in h c 19 rfl).trans (V_main_arg18 m c),
    (Pipeline.RDat.FramePost.arr_in h c 20 rfl).trans (V_main_arg19 m c),
    (Pipeline.RDat.FramePost.arr_in h c 21 rfl).trans (V_main_arg20 m c)⟩, hr.2⟩) (run_main_quiescent m ρ)

end Cert.Kernel6Ideal.Mix

end
-- ==== Proof.MixFwdBody.lean ====
/- The mixing kernel's forward body keeps any invariant that lends out its buffers. -/
module

public import proofs.«01_k».proof.Proof.Keeps
public import proofs.«01_k».proof.Kernel7Ideal

@[expose] public section

set_option maxRecDepth 16384

noncomputable section

namespace Cert.Kernel7Ideal.Mix

open Idealize.ShloMosaic Idealize.ShloMosaic.TcCoe
open Idealize.SL Idealize.SL.BI Cert.Keeps

variable [Cert.Kernel7Ideal.Facts] {F : FTy → Type} [FloatOps F]

local notation "𝕄" => MT nD τ sig Unit (Elt F) ℕ (UR sig nD τ) ℕ

set_option maxHeartbeats 0 in
theorem keeps_body (c : Dev nD) (I : sProp 𝕄) (i : grid0.Coords) (arg2 : Memref sig .tc .vmem S1x256x4096 .bf16) (harg2 : arg2.IsWhole) (arg3 : Memref sig .tc .vmem S4x1280 .f32) (harg3 : arg3.IsWhole) (arg4 : Memref sig .tc .vmem S1x1280 .f32) (harg4 : arg4.IsWhole) (arg5 : Memref sig .tc .vmem S10x128x128 .bf16) (harg5 : arg5.IsWhole) (arg6 : Memref sig .tc .vmem S1x1280 .f32) (harg6 : arg6.IsWhole) (arg7 : Memref sig .tc .vmem S10x128x128 .bf16) (harg7 : arg7.IsWhole) (arg8 : Memref sig .tc .vmem S1x1280 .f32) (harg8 : arg8.IsWhole) (arg9 : Memref sig .tc .vmem S1x1280 .f32) (harg9 : arg9.IsWhole) (arg10 : Memref sig .tc .vmem S6x128x128 .f32) (harg10 : arg10.IsWhole) (arg11 : Memref sig .tc .vmem S128x6 .f32) (harg11 : arg11.IsWhole) (arg12 : Memref sig .tc .vmem S1x768 .f32) (harg12 : arg12.IsWhole) (arg13 : Memref sig .tc .vmem S1x768 .f32) (harg13 : arg13.IsWhole) (arg14 : Memref sig .tc .vmem S1x256x1280 .f32) (harg14 : arg14.IsWhole) (arg15 : Memref sig .tc .vmem S1x256x1280 .bf16) (harg15 : arg15.IsWhole) (arg16 : Memref sig .tc .vmem S1x256x768 .bf16) (harg16 : arg16.IsWhole) (arg17 : Memref sig .tc .vmem S1x256x1280 .f32) (harg17 : arg17.IsWhole) (arg18 : Memref sig .tc .vmem S1x256x1280 .f32) (harg18 : arg18.IsWhole) (arg19 : Memref sig .tc .vmem S1x256x1280 .f32) (harg19 : arg19.IsWhole) (arg20 : Memref sig .tc .vmem S1x256x1280 .f32) (harg20 : arg20.IsWhole) (arg21 : Memref sig .tc .vmem S1x256x1280 .f32) (harg21 : arg21.IsWhole) (arg22 : Memref sig .tc .vmem S10x264x128 .f32) (harg22 : arg22.IsWhole) (arg23 : Memref sig .tc .vmem S10x256x128 .f32) (harg23 : arg23.IsWhole) (arg24 : Memref sig .tc .vmem S8x1280 .f32) (harg24 : arg24.IsWhole) (arg25 : Memref sig .tc .vmem S32x1280 .f32) (harg25 : arg25.IsWhole) (arg26 : Memref sig .tc .vmem S32x1280 .f32) (harg26 : arg26.IsWhole) (arg27 : Memref sig .tc .vmem S32x1280 .f32) (harg27 : arg27.IsWhole) (arg28 : Memref sig .tc .vmem S256x1280 .f32) (harg28 : arg28.IsWhole) (arg29 : Memref sig .tc .vmem S256x1280 .f32) (harg29 : arg29.IsWhole)
    (h2 : Lends (c : Thread nD τ) I arg2) (h3 : Lends (c : Thread nD τ) I arg3) (h4 : Lends (c : Thread nD τ) I arg4) (h5 : Lends (c : Thread nD τ) I arg5) (h6 : Lends (c : Thread nD τ) I arg6) (h7 : Lends (c : Thread nD τ) I arg7) (h8 : Lends (c : Thread nD τ) I arg8) (h9 : Lends (c : Thread nD τ) I arg9) (h10 : Lends (c : Thread nD τ) I arg10) (h11 : Lends (c : Thread nD τ) I arg11) (h12 : Lends (c : Thread nD τ) I arg12) (h13 : Lends (c : Thread nD τ) I arg13) (h14 : Lends (c : Thread nD τ) I arg14) (h15 : Lends (c : Thread nD τ) I arg15) (h16 : Lends (c : Thread nD τ) I arg16) (h17 : Lends (c : Thread nD τ) I arg17) (h18 : Lends (c : Thread nD τ) I arg18) (h19 : Lends (c : Thread nD τ) I arg19) (h20 : Lends (c : Thread nD τ) I arg20) (h21 : Lends (c : Thread nD τ) I arg21) (h22 : Lends (c : Thread nD τ) I arg22) (h23 : Lends (c : Thread nD τ) I arg23) (h24 : Lends (c : Thread nD τ) I arg24) (h25 : Lends (c : Thread nD τ) I arg25) (h26 : Lends (c : Thread nD τ) I arg26) (h27 : Lends (c : Thread nD τ) I arg27) (h28 : Lends (c : Thread nD τ) I arg28) (h29 : Lends (c : Thread nD τ) I arg29) :
    Keeps (defs₀ (F := F)) (c : Thread nD τ) I (cc0_mix_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) := by
  unfold cc0_mix_fwd
  repeat' first
    | with_reducible exact keeps_pure _
    | (with_reducible refine keeps_load ?_; assumption)
    | (with_reducible refine keeps_store ?_; assumption)
    | with_reducible refine keeps_bind ?_ ?_
    | with_reducible refine forall_psigma fun _ => ?_
    | with_reducible refine keeps_dite (fun _ => ?_) (fun _ => ?_)
    | with_reducible intro _
    | refine keeps_bind ?_ ?_
    | refine keeps_dite (fun _ => ?_) (fun _ => ?_)
    | exact keeps_pure _

end Cert.Kernel7Ideal.Mix

end
-- ==== Proof.MixFwdFrame.lean ====
/- The frame of the mixing kernel's forward call: every window forgotten, nothing said of any value. -/
module

public import proofs.«01_k».proof.Proof.MixFwdBody
public import proofs.«01_k».proof.Proof.Lends
public import proofs.«01_k».proof.Proof.Gen.Kernel7Ideal.Frame

@[expose] public section

set_option maxRecDepth 16384

noncomputable section

namespace Cert.Kernel7Ideal.Mix

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Keeps Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays as the call finds them; of what the body leaves, nothing named. -/
def dats (_ : Fin 1) (c : Dev nD) : Dat τ (Elt F) Unit ℕ (UR sig nD τ) ℕ cfg0 c where
  A w := V m c (Pipeline.arrRef spec0 w)
  after w t := Dat.unnamed (cfg := cfg0) w t
  Φ _ := Pipeline.ΦA spec0 c
  q w := Pipeline.shareOf spec0 w
  owed _ := 0

/-- What the body holds at a point, before and after: every buffer, at some contents. -/
def Inv (c : Dev nD) (t : Fin cfg0.N) : sProp 𝕄 :=
  iprop(Pipeline.ΦA spec0 c ∗ (dats m 0 c).owesAt () t.castSucc
    ∗ bigSep Finset.univ fun w : Fin cfg0.W => iprop(∃ X, owns (c : Thread nD τ) ((cfg0.win w).stage (cfg0.slots t w)) fullShare X))

theorem lends_window (c : Dev nD) (t : Fin cfg0.N) (w : Fin cfg0.W) :
    Lends (c : Thread nD τ) (Inv m c t) ((cfg0.win w).stage (cfg0.slots t w)) := by
  unfold Inv
  exact lends_right (lends_right (lends_mem (Finset.mem_univ w) rfl))

theorem lends_scratch (c : Dev nD) (t : Fin cfg0.N) (b : Ref sig .tc)
    (hb : b ∈ (Finset.univ.filter fun b : Ref sig .tc => b.isScoped) \ Finset.univ.image (Pipeline.stageRef spec0)) :
    Lends (c : Thread nD τ) (Inv m c t) (Memref.whole b) := by
  unfold Inv Pipeline.ΦA Pipeline.scopedRest
  refine lends_left (lends_left (lends_mem hb ?_))
  simp only [owns_whole]

theorem keeps_point (c : Dev nD) (t : Fin cfg0.N) : Keeps (defs₀ (F := F)) (c : Thread nD τ) (Inv m c t) (bodyAt0 t) := by
  unfold bodyAt0
  apply keeps_body
  exacts [lends_window m c t 0, lends_window m c t 1, lends_window m c t 2, lends_window m c t 3, lends_window m c t 4, lends_window m c t 5, lends_window m c t 6, lends_window m c t 7, lends_window m c t 8, lends_window m c t 9, lends_window m c t 10, lends_window m c t 11, lends_window m c t 12, lends_window m c t 13, lends_window m c t 14, lends_window m c t 15, lends_window m c t 16, lends_window m c t 17, lends_window m c t 18, lends_window m c t 19,
    lends_scratch m c t cc0_scratch0 (by decide), lends_scratch m c t cc0_scratch1 (by decide), lends_scratch m c t cc0_scratch2 (by decide), lends_scratch m c t cc0_scratch3 (by decide), lends_scratch m c t cc0_scratch4 (by decide), lends_scratch m c t cc0_scratch5 (by decide), lends_scratch m c t cc0_scratch6 (by decide), lends_scratch m c t cc0_scratch7 (by decide)]

theorem body_obligation (c : Dev nD) :
    BodyObligation (dats (F := F) m 0 c) (defs₀ (F := F)) Variants.none () Set.univ (fun _ => true) := fun t =>
  Idealize.ShloMosaic.triple_restated (keeps_run (keeps_point m c t)) rfl .rfl fun _ => .rfl

theorem run_main_quiescent : θ_run defs (onTc (τ := τ) (main (F := F))) (s₀ m ρ)
    (fun r => Pipeline.RDat.FramePost (cfgs 0) (fun c => (dats m 0 c).toRForget fun _ => true) (V m) r ∧ r.2.sem = fun _ => 0) :=
  Pipeline.θ_run_frame_forget_shared (Q' := _) cfgs (dats m) (0 : Fin 1) launch0.to₀ defs₀ Variants.none (fun _ => true) m ρ main
    (hbody := fun c => (body_obligation m c).loose) (hq := fun _ _ _ => rfl) (howed := fun _ _ => rfl)
    (V := V m) (hmain := hmain m Variants.none) (hA := fun _ _ => rfl) (hΦ := fun _ _ => rfl)

set_option maxHeartbeats 2100000 in
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ hr => ⟨fun c => have h : Pipeline.RDat.FramePost (cfgs 0) (fun c => (dats m 0 c).toRForget fun _ => true) (V m) _ := hr.1;
    ⟨(Pipeline.RDat.FramePost.arr_in h c 0 rfl).trans (V_main_arg0 m c),
    (Pipeline.RDat.FramePost.arr_in h c 1 rfl).trans (V_main_arg1 m c),
    (Pipeline.RDat.FramePost.arr_in h c 2 rfl).trans (V_main_arg2 m c),
    (Pipeline.RDat.FramePost.arr_in h c 3 rfl).trans (V_main_arg3 m c),
    (Pipeline.RDat.FramePost.arr_in h c 4 rfl).trans (V_main_arg4 m c),
    (Pipeline.RDat.FramePost.arr_in h c 5 rfl).trans (V_main_arg5 m c),
    (Pipeline.RDat.FramePost.arr_in h c 6 rfl).trans (V_main_arg6 m c),
    (Pipeline.RDat.FramePost.arr_in h c 7 rfl).trans (V_main_arg7 m c),
    (Pipeline.RDat.FramePost.arr_in h c 8 rfl).trans (V_main_arg8 m c),
    (Pipeline.RDat.FramePost.arr_in h c 9 rfl).trans (V_main_arg9 m c),
    (Pipeline.RDat.FramePost.arr_in h c 10 rfl).trans (V_main_arg10 m c),
    (Pipeline.RDat.FramePost.arr_in h c 11 rfl).trans (V_main_arg11 m c)⟩, hr.2⟩) (run_main_quiescent m ρ)

end Cert.Kernel7Ideal.Mix

end
-- ==== Proof.MixFrames.lean ====
/- The frames of the mixing kernel's two calls, at the ideal model's values and at the machine's words. The two programs
   of a call have the same text, so the run is made once, over any values, and read at the words. -/
module

public import proofs.«01_k».proof.Defs
public import proofs.«01_k».proof.Proof.MixBwdFrame
public import proofs.«01_k».proof.Proof.MixFwdFrame
public import proofs.«01_k».proof.Proof.Gen.Kernel6
public import proofs.«01_k».proof.Proof.Gen.Kernel7
public import Idealize.ShloMosaic.Lib.Quiescent

@[expose] public section

set_option maxRecDepth 16384

noncomputable section

open Idealize.ShloMosaic Idealize.ShloMosaic.TcCoe Idealize.SL.Sem

namespace Cert.Frames

theorem kernel6Ideal : Cert.quiescent_Kernel6Ideal := fun m ρ _ => Cert.Kernel6Ideal.Mix.quiescent m ρ
theorem kernel6 : Cert.quiescent_Kernel6 := fun m ρ _ => by
  refine Eq.mp ?_ (Cert.Kernel6Ideal.Mix.quiescent (F := Bits) m ρ)
  sl_kernel_rfl

theorem kernel7Ideal : Cert.quiescent_Kernel7Ideal := fun m ρ _ => Cert.Kernel7Ideal.Mix.quiescent m ρ
theorem kernel7 : Cert.quiescent_Kernel7 := fun m ρ _ => by
  refine Eq.mp ?_ (Cert.Kernel7Ideal.Mix.quiescent (F := Bits) m ρ)
  sl_kernel_rfl

end Cert.Frames
-- ==== Proof.Dup.lean ====
module

public import proofs.«01_k».proof.Proof.Gen.Kernel2Ideal.Value
public import proofs.«01_k».proof.Proof.Gen.Reference2Ideal.Read
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

/-- What the grid leaves, over the arrays it reads: a row of the first times a row of the second, times the third. -/
def product (A : FVec Ideal S8192x1024 .bf16) (B : FVec Ideal S4096x1024 .bf16) (C : FVec Ideal S8192x4096 .bf16) :
    FVec Ideal S8192x4096 .bf16 := fun i =>
  (∑ k : Fin 1024, A (ix2 (i 0) k) * B (ix2 (i 1) k)) * C (ix2 (i 0) (i 1))

variable (m : (ℓ : Loc nD τ sig) → Buf (Elt Ideal) ℓ)

theorem idx : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

theorem point (c : Dev nD) (t : Fin cfg0.N) (y) : k0_pay1 (iblk m c 0 t) (iblk m c 1 t) (iblk m c 2 t) y
    = product (V m c main_v7) (V m c main_v8) (V m c main_v3) (((cfg0.win 3).blk t).view.emb y) := by
  pointwise [k0_pay1, product]
  blk_point [iblk, idx t]

theorem final (c : Dev nD) :
    (dats m 0 c).arrAt 3 (cfgs 0).N = product (V m c main_v7) (V m c main_v8) (V m c main_v3) := by
  refine (dats m 0 c).arrAt_eq_of_covers 3 _ (by decide +kernel) fun t _ y => ?_
  blk_simp
  rw [after0_3]; frame_out
  exact point m c t y

/-- The arguments, as arrays of extended reals. -/
abbrev argX (c : Dev nD) : FVec Ideal S4x2048x4096 .f32 := m ((c : Thread nD τ).loc main_arg0)
abbrev argW (c : Dev nD) : FVec Ideal S4096x1024 .f32 := m ((c : Thread nD τ).loc main_arg1)
abbrev argD (c : Dev nD) : FVec Ideal S4x2048x1024 .f32 := m ((c : Thread nD τ).loc main_arg2)

/-- The three arrays the grid reads, at an entry, over the arguments. -/
theorem rowsD (c : Dev nD) (r : Fin 8192) (k : Fin 1024) :
    (V m c main_v7 : FVec Ideal S8192x1024 .bf16) (ix2 r k) = Ideal.ofBits .f32 0x40000000#32
      * argD m c
          (ix3 ⟨(r : ℕ) / 2048, by omega⟩ ⟨(r : ℕ) % 2048, by omega⟩ k) := by
  entry_read
  pointwise

theorem rowsW (c : Dev nD) (r : Fin 4096) (k : Fin 1024) :
    (V m c main_v8 : FVec Ideal S4096x1024 .bf16) (ix2 r k)
      = argW m c (ix2 r k) := by
  entry_read
  pointwise

theorem rowsX (c : Dev nD) (r : Fin 8192) (n : Fin 4096) :
    (V m c main_v3 : FVec Ideal S8192x4096 .bf16) (ix2 r n) = max
      (argX m c        (ix3 ⟨(r : ℕ) / 2048, by omega⟩ ⟨(r : ℕ) % 2048, by omega⟩ n)) 0 := by
  entry_read
  pointwise

end Cert.Kernel2Ideal.Value

namespace Cert.Reference2Ideal.Value

open Cert.Reference2Ideal Cert.Reference2Ideal.Read

theorem entry (X : FVec Ideal S4x2048x4096 .f32) (W : FVec Ideal S4096x1024 .f32) (D : FVec Ideal S4x2048x1024 .f32)
    (r : Fin 8192) (n : Fin 4096) :
    val_main_v13 (F := Ideal) X W D (ix2 r n)
      = (∑ k : Fin 1024, (Ideal.ofBits .f32 0x40000000#32
            * D (ix3 ⟨(r : ℕ) / 2048, by omega⟩ ⟨(r : ℕ) % 2048, by omega⟩ k)) * W (ix2 n k))
          * max (X (ix3 ⟨(r : ℕ) / 2048, by omega⟩ ⟨(r : ℕ) % 2048, by omega⟩ n)) 0 := by
  pointwise [val_main_v13, val_main_v12, val_main_v11, val_main_v10, val_main_cst_2, val_main_v9, val_main_v8,
    val_main_v6, val_main_v5, val_main_v4, val_main_cst_1, val_main_v3, val_main_cst_0, val_main_v2, val_main_v1,
    val_main_cst, val_main_v0, val_main_call0_v0, val_main_call0_cst]
  generalize (⟨(r : ℕ) / 2048, by omega⟩ : Fin 4) = a
  generalize (⟨(r : ℕ) % 2048, by omega⟩ : Fin 2048) = b
  rw [Common.two]
  by_cases h : 0 < X (ix3 a b n)
  · rw [if_pos h, ← mul_assoc, mul_comm _ ((2 : ℝ) : EReal)]
    simp only [mul_assoc]
    rw [Common.factor_sum _ _ (by norm_num) (EReal.coe_ne_top _), mul_assoc]
  · rw [if_neg h, max_eq_right (not_lt.mp h), mul_zero]

/-- The kernel's array is the reference's. -/
theorem agree (m : (ℓ : Loc Kernel2Ideal.nD Kernel2Ideal.τ Kernel2Ideal.sig) → Buf (Elt Ideal) ℓ) (c : Dev Kernel2Ideal.nD) :
    (Kernel2Ideal.Gen.dats m 0 c).arrAt 3 (Kernel2Ideal.cfgs 0).N
      = val_main_v13 (F := Ideal) (Kernel2Ideal.Value.argX m c) (Kernel2Ideal.Value.argW m c)
          (Kernel2Ideal.Value.argD m c) := by
  rw [Kernel2Ideal.Value.final]
  refine funext fun i => ?_
  idx_vars i
  refine Eq.trans ?_ (entry _ _ _ i0 i1).symm
  exact congrArg₂ (fun a b : EReal => a * b)
    (Finset.sum_congr rfl fun k _ => congrArg₂ (fun a b : EReal => a * b) (Kernel2Ideal.Value.rowsD m c i0 k)
      (Kernel2Ideal.Value.rowsW m c i1 k)) (Kernel2Ideal.Value.rowsX m c i0 i1)

end Cert.Reference2Ideal.Value

end
-- ==== Proof.Final.lean ====
module

public import proofs.«01_k».proof.Proof.Gen.Kernel3Ideal.Value
public import proofs.«01_k».proof.Proof.Gen.Reference3Ideal.Read
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen

/-- Column `l` of group `g`, within part `q` of the columns: three parts of eight groups of 256. -/
def col (q : ℕ) (hq : q < 3) (g : Fin 8) (l : Fin 256) : Fin 6144 := ⟨g * 768 + q * 256 + l, by omega⟩
/-- The same column within its part. -/
def lane (g : Fin 8) (l : Fin 256) : Fin 2048 := ⟨g * 256 + l, by omega⟩

/-- A row times a row, the three parts of the second one kept apart. -/
def dot3 (a : Fin 6144 → EReal) (w0 w1 w2 : Fin 2048 → EReal) : EReal :=
  (∑ g : Fin 8, ∑ l : Fin 256, a (col 0 (by omega) g l) * w0 (lane g l))
    + (∑ g : Fin 8, ∑ l : Fin 256, a (col 1 (by omega) g l) * w1 (lane g l))
    + (∑ g : Fin 8, ∑ l : Fin 256, a (col 2 (by omega) g l) * w2 (lane g l))

/-- A sum over eight pieces laid side by side. -/
theorem sum_pieces (p : Fin 8 → Fin 256 → EReal) (w : Fin 2048 → EReal) :
    ∑ x : Fin 2048, (if h : (x : ℕ) < 256 then p 0 ⟨x, h⟩
      else if h : (x : ℕ) - 256 < 256 then p 1 ⟨x - 256, h⟩
      else if h : (x : ℕ) - 256 - 256 < 256 then p 2 ⟨x - 256 - 256, h⟩
      else if h : (x : ℕ) - 256 - 256 - 256 < 256 then p 3 ⟨x - 256 - 256 - 256, h⟩
      else if h : (x : ℕ) - 256 - 256 - 256 - 256 < 256 then p 4 ⟨x - 256 - 256 - 256 - 256, h⟩
      else if h : (x : ℕ) - 256 - 256 - 256 - 256 - 256 < 256 then p 5 ⟨x - 256 - 256 - 256 - 256 - 256, h⟩
      else if h : (x : ℕ) - 256 - 256 - 256 - 256 - 256 - 256 < 256 then p 6 ⟨x - 256 - 256 - 256 - 256 - 256 - 256, h⟩
      else p 7 ⟨x - 256 - 256 - 256 - 256 - 256 - 256 - 256, by omega⟩) * w x
      = ∑ g : Fin 8, ∑ l : Fin 256, p g l * w (lane g l) := by
  rw [Fin.sum_univ_tiles 8 256 rfl]
  refine Finset.sum_congr rfl fun g _ => Finset.sum_congr rfl fun l _ => ?_
  refine congrArg₂ (fun a b : EReal => a * b) ?_ rfl
  have hl := l.isLt
  fin_cases g <;> simp (disch := omega) only [dif_pos, dif_neg] <;> exact congrArg _ (Fin.ext (by simp <;> omega))

/-- The product the body computes, over the pieces it loads. -/
theorem dot_pieces (A : FVec Ideal S512x6144 .bf16) (W0 W1 W2 : FVec Ideal S1024x2048 .bf16)
    (a b d : Fin 8 → FVec Ideal S512x256 .bf16)
    (ha : ∀ g r l, a g (ix2 r l) = A (ix2 r (col 0 (by omega) g l)))
    (hb : ∀ g r l, b g (ix2 r l) = A (ix2 r (col 1 (by omega) g l)))
    (hd : ∀ g r l, d g (ix2 r l) = A (ix2 r (col 2 (by omega) g l))) (r : Fin 512) (n : Fin 1024) :
    k0_pay9 (F := Ideal) (k0_pay3 (a 0) (a 1) (a 2) (a 3) (a 4) (a 5) (a 6) (a 7) W0)
        (k0_pay4 (b 0)) (k0_pay5 (b 1)) (k0_pay6 (b 2)) (k0_pay7 (b 3)) (k0_pay8 (b 4)) (b 5) (b 6) (b 7) W1
        (d 0) (d 1) (d 2) (d 3) (d 4) (d 5) (d 6) (d 7) W2 (ix2 r n)
      = dot3 (fun k => A (ix2 r k)) (fun k => W0 (ix2 n k)) (fun k => W1 (ix2 n k)) (fun k => W2 (ix2 n k)) := by
  unfold dot3
  simp only [← ha, ← hb, ← hd]
  pointwise [k0_pay9, k0_pay3, k0_pay4, k0_pay5, k0_pay6, k0_pay7, k0_pay8]
  exact congrArg₂ (fun a b : EReal => a + b) (congrArg₂ (fun a b : EReal => a + b)
    (sum_pieces (fun g l => a g (ix2 r l)) fun k => W0 (ix2 n k))
    (sum_pieces (fun g l => b g (ix2 r l)) fun k => W1 (ix2 n k)))
    (sum_pieces (fun g l => d g (ix2 r l)) fun k => W2 (ix2 n k))

variable (m : (ℓ : Loc nD τ sig) → Buf (Elt Ideal) ℓ)

theorem idx : ∀ t : Fin cfg0.N, win0_0.index t = ![t.val, 0] ∧ win0_1.index t = ![0, 0]
    ∧ win0_2.index t = ![0, 0] ∧ win0_3.index t = ![0, 0] ∧ win0_5.index t = ![t.val, 0] ∧ win0_6.index t = ![t.val, 0]
    ∧ win0_7.index t = ![t.val / 4, 0, 0] ∧ win0_8.index t = ![t.val, 0] ∧ win0_9.index t = ![t.val / 4, 0, 0]
    ∧ win0_10.index t = ![t.val / 4, 0, 0] :=
  (by decide +kernel : ∀ t : Fin grid0.N, _)

/-- The entry of the product at a point, over the blocks the point loads. -/
def dotAt (c : Dev nD) (t : Fin cfg0.N) (r : Fin 512) (n : Fin 1024) : EReal :=
  dot3 (fun k => (iblk m c 0 t : FVec Ideal S512x6144 .bf16) (ix2 r k))
    (fun k => (iblk m c 1 t : FVec Ideal S1024x2048 .bf16) (ix2 n k))
    (fun k => (iblk m c 2 t : FVec Ideal S1024x2048 .bf16) (ix2 n k))
    (fun k => (iblk m c 3 t : FVec Ideal S1024x2048 .bf16) (ix2 n k))

/-- What the first point of a batch leaves: the sums start at nothing. -/
theorem outA (c : Dev nD) (t : Fin cfg0.N) (h : t.val % 4 = 0) : ∃ D : FVec Ideal S512x1024 .f32,
    (∀ r n, D (ix2 r n) = dotAt m c t r n)
    ∧ (∀ y, (outsAt0 m c t.val t.isLt).1 y = k0_pay10 D (iblk m c 5 t) (iblk m c 7 t) y)
    ∧ (∀ y, (outsAt0 m c t.val t.isLt).2.1 y = k0_pay13 D (iblk m c 6 t) y)
    ∧ (∀ y, (outsAt0 m c t.val t.isLt).2.2 y = k0_pay1 (k0_pay12 D) y) := by
  apply Exists.intro
  refine ⟨?dot, fun y => ?a, fun y => ?b, fun y => ?d⟩
  case a => rw [outsAt0_A m c t h (not_not.2 h) h (not_not.2 h)]; frame_out; rfl
  case b => rw [outsAt0_A m c t h (not_not.2 h) h (not_not.2 h)]; frame_out
  case d => rw [outsAt0_A m c t h (not_not.2 h) h (not_not.2 h)]; frame_out
  case dot =>
    unfold dotAt
    generalize (iblk m c 0 t) = A
    refine dot_pieces A _ _ _ ![_, _, _, _, _, _, _, _] ![_, _, _, _, _, _, _, _] ![_, _, _, _, _, _, _, _] ?_ ?_ ?_
    all_goals (intro g r l; fin_cases g <;> (show View.ld _ _ _ = _; pointwise; first
      | rfl | exact congrArg (fun k => A (ix2 r k)) (Fin.ext (by simp [col]))))

/-- What a later point of a batch leaves, over what the point before it left. -/
theorem outB (c : Dev nD) (t : Fin cfg0.N) (h : ¬t.val % 4 = 0) : ∃ D : FVec Ideal S512x1024 .f32,
    (∀ r n, D (ix2 r n) = dotAt m c t r n)
    ∧ (∀ y, (outsAt0 m c t.val t.isLt).1 y = k0_pay10 D (iblk m c 5 t) (iblk m c 7 t) y)
    ∧ (∀ y, (outsAt0 m c t.val t.isLt).2.1 y = k0_pay14 D (iblk m c 6 t) (outsAt0 m c (t.val - 1) (by omega)).2.1 y)
    ∧ (∀ y, (outsAt0 m c t.val t.isLt).2.2 y = k0_pay2 (k0_pay12 D) (outsAt0 m c (t.val - 1) (by omega)).2.2 y) := by
  apply Exists.intro
  refine ⟨?dot, fun y => ?a, fun y => ?b, fun y => ?d⟩
  case a => rw [outsAt0_B m c t h h h h]; frame_out; rfl
  case b => rw [outsAt0_B m c t h h h h]; frame_out
  case d => rw [outsAt0_B m c t h h h h]; frame_out
  case dot =>
    unfold dotAt
    generalize (iblk m c 0 t) = A
    refine dot_pieces A _ _ _ ![_, _, _, _, _, _, _, _] ![_, _, _, _, _, _, _, _] ![_, _, _, _, _, _, _, _] ?_ ?_ ?_
    all_goals (intro g r l; fin_cases g <;> (show View.ld _ _ _ = _; pointwise; first
      | rfl | exact congrArg (fun k => A (ix2 r k)) (Fin.ext (by simp [col]))))

/-- The body's arithmetic around the product, entry by entry. -/
theorem pay_dx (D P : FVec Ideal S512x1024 .f32) (s : FVec Ideal S1x1x1024 .f32) (r : Fin 512) (n : Fin 1024) :
    k0_pay10 D P s (ix2 r n) = P (ix2 r n) + D (ix2 r n) * (1 + s (ix3 0 0 n)) := by
  pointwise [k0_pay10]

theorem pay_dsc (D X : FVec Ideal S512x1024 .f32) (a b : Fin 1) (n : Fin 1024) :
    k0_pay13 D X (ix3 a b n) = ∑ r : Fin 512, D (ix2 r n) * X (ix2 r n) := by
  pointwise [k0_pay13, k0_pay11]

theorem pay_dsc_add (D X : FVec Ideal S512x1024 .f32) (S : FVec Ideal S1x1x1024 .f32) (a b : Fin 1) (n : Fin 1024) :
    k0_pay14 D X S (ix3 a b n) = S (ix3 a b n) + ∑ r : Fin 512, D (ix2 r n) * X (ix2 r n) := by
  obtain rfl : a = 0 := Subsingleton.elim _ _
  obtain rfl : b = 0 := Subsingleton.elim _ _
  pointwise [k0_pay14, k0_pay11]

theorem pay_dsh (D : FVec Ideal S512x1024 .f32) (a b : Fin 1) (n : Fin 1024) :
    k0_pay1 (k0_pay12 D) (ix3 a b n) = ∑ r : Fin 512, D (ix2 r n) := by
  pointwise [k0_pay1, k0_pay12]

theorem pay_dsh_add (D : FVec Ideal S512x1024 .f32) (S : FVec Ideal S1x1x1024 .f32) (a b : Fin 1) (n : Fin 1024) :
    k0_pay2 (k0_pay12 D) S (ix3 a b n) = S (ix3 a b n) + ∑ r : Fin 512, D (ix2 r n) := by
  obtain rfl : a = 0 := Subsingleton.elim _ _
  obtain rfl : b = 0 := Subsingleton.elim _ _
  pointwise [k0_pay2, k0_pay12]

/-- The arrays the grid reads, entry by entry. -/
def rowA (c : Dev nD) (r : Fin 8192) (k : Fin 6144) : EReal := (V m c main_v12 : FVec Ideal S8192x6144 .bf16) (ix2 r k)
def part0 (c : Dev nD) (n : Fin 1024) (k : Fin 2048) : EReal := (V m c main_v4 : FVec Ideal S1024x2048 .bf16) (ix2 n k)
def part1 (c : Dev nD) (n : Fin 1024) (k : Fin 2048) : EReal := (V m c main_v7 : FVec Ideal S1024x2048 .bf16) (ix2 n k)
def part2 (c : Dev nD) (n : Fin 1024) (k : Fin 2048) : EReal := (V m c main_v10 : FVec Ideal S1024x2048 .bf16) (ix2 n k)
def rowP (c : Dev nD) (r : Fin 8192) (n : Fin 1024) : EReal := (V m c main_v14 : FVec Ideal S8192x1024 .f32) (ix2 r n)
def rowX (c : Dev nD) (r : Fin 8192) (n : Fin 1024) : EReal := (V m c main_v15 : FVec Ideal S8192x1024 .f32) (ix2 r n)
def rowS (c : Dev nD) (b : Fin 4) (n : Fin 1024) : EReal := (V m c main_v16 : FVec Ideal S4x1x1024 .f32) (ix3 b 0 n)

/-- The blocks of a point are those arrays' entries. -/
theorem blkA (c : Dev nD) (t : Fin cfg0.N) (r : Fin 512) (R : Fin 8192) (hR : (R : ℕ) = t.val * 512 + r) (k : Fin 6144) :
    (iblk m c 0 t : FVec Ideal S512x6144 .bf16) (ix2 r k) = rowA m c R k := by
  unfold rowA; blk_ext [iblk, idx t]
theorem blk0 (c : Dev nD) (t : Fin cfg0.N) (n : Fin 1024) (k : Fin 2048) :
    (iblk m c 1 t : FVec Ideal S1024x2048 .bf16) (ix2 n k) = part0 m c n k := by
  unfold part0; blk_ext [iblk, idx t]
theorem blk1 (c : Dev nD) (t : Fin cfg0.N) (n : Fin 1024) (k : Fin 2048) :
    (iblk m c 2 t : FVec Ideal S1024x2048 .bf16) (ix2 n k) = part1 m c n k := by
  unfold part1; blk_ext [iblk, idx t]
theorem blk2 (c : Dev nD) (t : Fin cfg0.N) (n : Fin 1024) (k : Fin 2048) :
    (iblk m c 3 t : FVec Ideal S1024x2048 .bf16) (ix2 n k) = part2 m c n k := by
  unfold part2; blk_ext [iblk, idx t]
theorem blkP (c : Dev nD) (t : Fin cfg0.N) (r : Fin 512) (R : Fin 8192) (hR : (R : ℕ) = t.val * 512 + r) (n : Fin 1024) :
    (iblk m c 5 t : FVec Ideal S512x1024 .f32) (ix2 r n) = rowP m c R n := by
  unfold rowP; blk_ext [iblk, idx t]
theorem blkX (c : Dev nD) (t : Fin cfg0.N) (r : Fin 512) (R : Fin 8192) (hR : (R : ℕ) = t.val * 512 + r) (n : Fin 1024) :
    (iblk m c 6 t : FVec Ideal S512x1024 .f32) (ix2 r n) = rowX m c R n := by
  unfold rowX; blk_ext [iblk, idx t]
theorem blkS (c : Dev nD) (t : Fin cfg0.N) (b : Fin 4) (hb : (b : ℕ) = t.val / 4) (n : Fin 1024) :
    (iblk m c 7 t : FVec Ideal S1x1x1024 .f32) (ix3 0 0 n) = rowS m c b n := by
  unfold rowS; blk_ext [iblk, idx t]

/-- The product, over the whole arrays. -/
def dotAll (c : Dev nD) (r : Fin 8192) (n : Fin 1024) : EReal :=
  dot3 (rowA m c r) (part0 m c n) (part1 m c n) (part2 m c n)

theorem dotAt_eq (c : Dev nD) (t : Fin cfg0.N) (r : Fin 512) (R : Fin 8192) (hR : (R : ℕ) = t.val * 512 + r)
    (n : Fin 1024) : dotAt m c t r n = dotAll m c R n := by
  unfold dotAt dotAll
  exact congr (congr (congr (congrArg dot3 (funext (blkA m c t r R hR))) (funext (blk0 m c t n)))
    (funext (blk1 m c t n))) (funext (blk2 m c t n))

/-- Row `s` of batch `b`. -/
def row (b : Fin 4) (s : Fin 2048) : Fin 8192 := ⟨b * 2048 + s, by omega⟩

/-- The three results over the whole arrays. -/
def dx (c : Dev nD) (r : Fin 8192) (n : Fin 1024) : EReal :=
  rowP m c r n + dotAll m c r n * (1 + rowS m c ⟨(r : ℕ) / 2048, by omega⟩ n)
def dsc (c : Dev nD) (b : Fin 4) (n : Fin 1024) : EReal :=
  ∑ s : Fin 2048, dotAll m c (row b s) n * rowX m c (row b s) n
def dsh (c : Dev nD) (b : Fin 4) (n : Fin 1024) : EReal := ∑ s : Fin 2048, dotAll m c (row b s) n

theorem out_dx (c : Dev nD) (t : Fin cfg0.N) (r : Fin 512) (n : Fin 1024) (R : Fin 8192) (N : Fin 1024)
    (hR : (R : ℕ) = t.val * 512 + r) (hN : (N : ℕ) = n) : (outsAt0 m c t.val t.isLt).1 (ix2 r n) = dx m c R N := by
  obtain rfl : N = n := Fin.ext hN
  have key : ∀ D : FVec Ideal S512x1024 .f32, (∀ r n, D (ix2 r n) = dotAt m c t r n) →
      k0_pay10 D (iblk m c 5 t) (iblk m c 7 t) (ix2 r N) = dx m c R N := fun D hD => by
    refine (pay_dx D _ _ r N).trans ?_
    rw [hD, dotAt_eq m c t r R hR, blkP m c t r R hR, blkS m c t ⟨(R : ℕ) / 2048, by omega⟩ (by show (R : ℕ) / 2048 = _; omega)]
    rfl
  by_cases h : t.val % 4 = 0
  · obtain ⟨D, hD, ha, -⟩ := outA m c t h
    exact (ha _).trans (key D hD)
  · obtain ⟨D, hD, ha, -⟩ := outB m c t h
    exact (ha _).trans (key D hD)

theorem final_dx (c : Dev nD) : (dats m 0 c).arrAt 8 (cfgs 0).N
    = fun i : S8192x1024.Idx => dx m c (i 0) (i 1) := by
  refine (dats m 0 c).arrAt_eq_of_covers 8 _ (by decide +kernel) fun t _ y => ?_
  blk_simp
  rw [after0_8]
  idx_vars y
  exact out_dx m c t y0 y1 _ _ (by blk_simp [idx t]) (by blk_simp [idx t])

/-- The terms a point adds to the two sums. -/
def termX (c : Dev nD) (t : Fin cfg0.N) (n : Fin 1024) : EReal :=
  ∑ r : Fin 512, dotAt m c t r n * (iblk m c 6 t : FVec Ideal S512x1024 .f32) (ix2 r n)
def term1 (c : Dev nD) (t : Fin cfg0.N) (n : Fin 1024) : EReal := ∑ r : Fin 512, dotAt m c t r n

/-- The four points of batch `b` add up its rows. -/
theorem sum_dsc (c : Dev nD) (b : Fin 4) (h : ∀ s : Fin 4, 4 * (b : ℕ) + s < cfg0.N) (n : Fin 1024) :
    ∑ s : Fin 4, termX m c ⟨4 * b + s, h s⟩ n = dsc m c b n := by
  refine Fin.sum_mul_add_congr fun s k hl => ?_
  have hR : (row b ⟨s * 512 + k, hl⟩ : ℕ) = (⟨4 * b + s, h s⟩ : Fin cfg0.N).val * 512 + k := by
    show (b : ℕ) * 2048 + (s * 512 + k) = (4 * b + s) * 512 + k; omega
  rw [dotAt_eq m c _ k _ hR, blkX m c _ k _ hR]
theorem sum_dsh (c : Dev nD) (b : Fin 4) (h : ∀ s : Fin 4, 4 * (b : ℕ) + s < cfg0.N) (n : Fin 1024) :
    ∑ s : Fin 4, term1 m c ⟨4 * b + s, h s⟩ n = dsh m c b n := by
  refine Fin.sum_mul_add_congr fun s k hl => ?_
  have hR : (row b ⟨s * 512 + k, hl⟩ : ℕ) = (⟨4 * b + s, h s⟩ : Fin cfg0.N).val * 512 + k := by
    show (b : ℕ) * 2048 + (s * 512 + k) = (4 * b + s) * 512 + k; omega
  rw [dotAt_eq m c _ k _ hR]

theorem final_dsc (c : Dev nD) : (dats m 0 c).arrAt 9 (cfgs 0).N
    = fun i : S4x1x1024.Idx => dsc m c (i 0) (i 2) := by
  refine (dats m 0 c).arrAt_eq_of_covers 9 _ (by decide +kernel) fun t hf y => ?_
  blk_simp
  idx_vars y
  rw [after0_9, Pipeline.eq_sum_fin_of_reset_step_apply_of_flush (fun n h => (outsAt0 m c n h).2.1) 4 (fun _ => 0)
    (fun t j => termX m c t (j 2))
    (fun t h j => by
      obtain ⟨D, hD, -, hb, -⟩ := outA m c t h
      idx_vars j
      refine (hb _).trans ((pay_dsc D _ _ _ _).trans ?_)
      simp only [hD, zero_add]; rfl)
    (fun t h j => by
      obtain ⟨D, hD, -, hb, -⟩ := outB m c t h
      idx_vars j
      refine (hb _).trans ((pay_dsc_add D _ _ _ _ _).trans ?_)
      simp only [hD]; rfl)
    t ((flush0_9 t).mp hf) _, zero_add]
  have hN : t.val < 16 := lt_of_lt_of_eq t.isLt N_0
  refine (sum_dsc m c ⟨t.val / 4, by omega⟩ (Pipeline.run_point_lt_of_flush t ((flush0_9 t).mp hf)) y2).trans ?_
  refine congrArg₂ (dsc m c) (Fin.ext ?_) (Fin.ext ?_) <;> blk_simp [idx t]

theorem final_dsh (c : Dev nD) : (dats m 0 c).arrAt 10 (cfgs 0).N
    = fun i : S4x1x1024.Idx => dsh m c (i 0) (i 2) := by
  refine (dats m 0 c).arrAt_eq_of_covers 10 _ (by decide +kernel) fun t hf y => ?_
  blk_simp
  idx_vars y
  rw [after0_10, Pipeline.eq_sum_fin_of_reset_step_apply_of_flush (fun n h => (outsAt0 m c n h).2.2) 4 (fun _ => 0)
    (fun t j => term1 m c t (j 2))
    (fun t h j => by
      obtain ⟨D, hD, -, -, hb⟩ := outA m c t h
      idx_vars j
      refine (hb _).trans ((pay_dsh D _ _ _).trans ?_)
      simp only [hD, zero_add]; rfl)
    (fun t h j => by
      obtain ⟨D, hD, -, -, hb⟩ := outB m c t h
      idx_vars j
      refine (hb _).trans ((pay_dsh_add D _ _ _ _).trans ?_)
      simp only [hD]; rfl)
    t ((flush0_10 t).mp hf) _, zero_add]
  have hN : t.val < 16 := lt_of_lt_of_eq t.isLt N_0
  refine (sum_dsh m c ⟨t.val / 4, by omega⟩ (Pipeline.run_point_lt_of_flush t ((flush0_10 t).mp hf)) y2).trans ?_
  refine congrArg₂ (dsh m c) (Fin.ext ?_) (Fin.ext ?_) <;> blk_simp [idx t]

/-- The three parts together are one row. -/
theorem dot3_eq (a w : Fin 6144 → EReal) (w0 w1 w2 : Fin 2048 → EReal)
    (h0 : ∀ g l, w0 (lane g l) = w (col 0 (by omega) g l)) (h1 : ∀ g l, w1 (lane g l) = w (col 1 (by omega) g l))
    (h2 : ∀ g l, w2 (lane g l) = w (col 2 (by omega) g l)) : dot3 a w0 w1 w2 = ∑ k : Fin 6144, a k * w k := by
  unfold dot3
  simp only [h0, h1, h2]
  rw [Fin.sum_univ_tiles 8 768 rfl, ← Finset.sum_add_distrib, ← Finset.sum_add_distrib]
  refine Finset.sum_congr rfl fun g _ => ?_
  rw [Fin.sum_univ_tiles 3 256 rfl, Fin.sum_univ_three]
  refine congrArg₂ (fun a b : EReal => a + b) (congrArg₂ (fun a b : EReal => a + b) ?_ ?_) ?_ <;>
    (refine Finset.sum_congr rfl fun l _ => ?_
     refine congrArg (fun k => a k * w k) (Fin.ext ?_)
     simp [col, add_assoc])

/-- The arguments, as arrays of extended reals. -/
abbrev argX (c : Dev nD) : FVec Ideal S4x2048x1024 .f32 := m ((c : Thread nD τ).loc main_arg0)
abbrev argSc (c : Dev nD) : FVec Ideal S4x1024 .f32 := m ((c : Thread nD τ).loc main_arg1)
abbrev argSh (c : Dev nD) : FVec Ideal S4x1024 .f32 := m ((c : Thread nD τ).loc main_arg2)
abbrev argW (c : Dev nD) : FVec Ideal S1024x6144 .f32 := m ((c : Thread nD τ).loc main_arg3)
abbrev argA (c : Dev nD) : FVec Ideal S4x2048x6144 .f32 := m ((c : Thread nD τ).loc main_arg4)
abbrev argP (c : Dev nD) : FVec Ideal S4x2048x1024 .f32 := m ((c : Thread nD τ).loc main_arg5)

theorem rowA_eq (c : Dev nD) (r : Fin 8192) (k : Fin 6144) : rowA m c r k
    = argA m c (ix3 ⟨(r : ℕ) / 2048, by omega⟩ ⟨(r : ℕ) % 2048, by omega⟩ k) := by
  unfold rowA; entry_read; pointwise
theorem rowP_eq (c : Dev nD) (r : Fin 8192) (n : Fin 1024) : rowP m c r n
    = argP m c (ix3 ⟨(r : ℕ) / 2048, by omega⟩ ⟨(r : ℕ) % 2048, by omega⟩ n) := by
  unfold rowP; entry_read; pointwise
theorem rowX_eq (c : Dev nD) (r : Fin 8192) (n : Fin 1024) : rowX m c r n
    = argX m c (ix3 ⟨(r : ℕ) / 2048, by omega⟩ ⟨(r : ℕ) % 2048, by omega⟩ n) := by
  unfold rowX; entry_read; pointwise
theorem rowS_eq (c : Dev nD) (b : Fin 4) (n : Fin 1024) : rowS m c b n = argSc m c (ix2 b n) := by
  unfold rowS; entry_read; pointwise
theorem part0_eq (c : Dev nD) (n : Fin 1024) (g : Fin 8) (l : Fin 256) :
    part0 m c n (lane g l) = argW m c (ix2 n (col 0 (by omega) g l)) := by
  unfold part0; entry_read; pointwise; blk_ext [lane, col]
theorem part1_eq (c : Dev nD) (n : Fin 1024) (g : Fin 8) (l : Fin 256) :
    part1 m c n (lane g l) = argW m c (ix2 n (col 1 (by omega) g l)) := by
  unfold part1; entry_read; pointwise; blk_ext [lane, col]
theorem part2_eq (c : Dev nD) (n : Fin 1024) (g : Fin 8) (l : Fin 256) :
    part2 m c n (lane g l) = argW m c (ix2 n (col 2 (by omega) g l)) := by
  unfold part2; entry_read; pointwise; blk_ext [lane, col]

theorem dotAll_eq (c : Dev nD) (r : Fin 8192) (n : Fin 1024) : dotAll m c r n = ∑ k : Fin 6144,
    argA m c (ix3 ⟨(r : ℕ) / 2048, by omega⟩ ⟨(r : ℕ) % 2048, by omega⟩ k) * argW m c (ix2 n k) := by
  refine (dot3_eq _ (fun k => argW m c (ix2 n k)) _ _ _ (part0_eq m c n) (part1_eq m c n) (part2_eq m c n)).trans ?_
  exact Finset.sum_congr rfl fun k _ => congrArg (fun x : EReal => x * argW m c (ix2 n k)) (rowA_eq m c r k)

end Cert.Kernel3Ideal.Value

namespace Cert.Reference3Ideal.Value

open Cert.Reference3Ideal Cert.Reference3Ideal.Read

variable (X : FVec Ideal S4x2048x1024 .f32) (Sc : FVec Ideal S4x1024 .f32) (W : FVec Ideal S1024x6144 .f32)
  (A : FVec Ideal S4x2048x6144 .f32) (P : FVec Ideal S4x2048x1024 .f32)

theorem entry_dx (r : Fin 8192) (n : Fin 1024) : val_main_v20 (F := Ideal) Sc W A P (ix2 r n)
    = P (ix3 ⟨(r : ℕ) / 2048, by omega⟩ ⟨(r : ℕ) % 2048, by omega⟩ n)
      + (∑ k : Fin 6144, A (ix3 ⟨(r : ℕ) / 2048, by omega⟩ ⟨(r : ℕ) % 2048, by omega⟩ k) * W (ix2 n k))
        * (1 + Sc (ix2 ⟨(r : ℕ) / 2048, by omega⟩ n)) := by
  pointwise [val_main_v20, val_main_v18, val_main_v17, val_main_v16, val_main_v2, val_main_v1, val_main_cst, val_main_v0,
    val_main_v9]

theorem entry_dsc (a : Fin 4) (b : Fin 1) (n : Fin 1024) : val_main_v21 (F := Ideal) X W A (ix3 a b n)
    = ∑ s : Fin 2048, X (ix3 a s n) * ∑ k : Fin 6144, A (ix3 a s k) * W (ix2 n k) := by
  pointwise [val_main_v21, val_main_v19, val_main_cst_3, val_main_v15, val_main_v14, val_main_cst_2, val_main_v13,
    val_main_v9]
  exact Fin.sum_univ_one _

theorem entry_dsh (a : Fin 4) (b : Fin 1) (n : Fin 1024) : val_main_v22 (F := Ideal) W A (ix3 a b n)
    = ∑ s : Fin 2048, ∑ k : Fin 6144, A (ix3 a s k) * W (ix2 n k) := by
  pointwise [val_main_v22, val_main_v12, val_main_cst_1, val_main_v11, val_main_v10, val_main_cst_0, val_main_v9]
  exact Fin.sum_univ_one _

end Cert.Reference3Ideal.Value

namespace Cert.Kernel3Ideal.Value

open Cert.Kernel3Ideal Cert.Kernel3Ideal.Gen

variable (m : (ℓ : Loc nD τ sig) → Buf (Elt Ideal) ℓ)

theorem row_div (b : Fin 4) (s : Fin 2048) (h : (row b s : ℕ) / 2048 < 4) : (⟨(row b s : ℕ) / 2048, h⟩ : Fin 4) = b :=
  Fin.ext (by show (b * 2048 + s : ℕ) / 2048 = b; omega)
theorem row_mod (b : Fin 4) (s : Fin 2048) (h : (row b s : ℕ) % 2048 < 2048) :
    (⟨(row b s : ℕ) % 2048, h⟩ : Fin 2048) = s :=
  Fin.ext (by show (b * 2048 + s : ℕ) % 2048 = s; omega)

/-- The kernel's arrays are the reference's. -/
theorem agree_dx (c : Dev nD) : (dats m 0 c).arrAt 8 (cfgs 0).N
    = Cert.Reference3Ideal.Read.val_main_v20 (F := Ideal) (argSc m c) (argW m c) (argA m c) (argP m c) := by
  rw [final_dx]
  refine funext fun i => ?_
  idx_vars i
  refine Eq.trans ?_ (Cert.Reference3Ideal.Value.entry_dx _ _ _ _ i0 i1).symm
  show dx m c i0 i1 = _
  unfold dx
  rw [rowP_eq, dotAll_eq, rowS_eq]

theorem agree_dsc (c : Dev nD) : (dats m 0 c).arrAt 9 (cfgs 0).N
    = Cert.Reference3Ideal.Read.val_main_v21 (F := Ideal) (argX m c) (argW m c) (argA m c) := by
  rw [final_dsc]
  refine funext fun i => ?_
  idx_vars i
  refine Eq.trans ?_ (Cert.Reference3Ideal.Value.entry_dsc _ _ _ i0 i1 i2).symm
  show dsc m c i0 i2 = _
  unfold dsc
  refine Finset.sum_congr rfl fun s _ => ?_
  rw [rowX_eq, dotAll_eq, mul_comm]
  simp only [row_div, row_mod]

theorem agree_dsh (c : Dev nD) : (dats m 0 c).arrAt 10 (cfgs 0).N
    = Cert.Reference3Ideal.Read.val_main_v22 (F := Ideal) (argW m c) (argA m c) := by
  rw [final_dsh]
  refine funext fun i => ?_
  idx_vars i
  refine Eq.trans ?_ (Cert.Reference3Ideal.Value.entry_dsh _ _ i0 i1 i2).symm
  show dsh m c i0 i2 = _
  unfold dsh
  refine Finset.sum_congr rfl fun s _ => ?_
  rw [dotAll_eq]
  simp only [row_div, row_mod]

end Cert.Kernel3Ideal.Value
-- ==== Proof.Merge.lean ====
module

public import proofs.«01_k».proof.Proof.Gen.KernelIdeal.Value
public import proofs.«01_k».proof.Proof.Gen.ReferenceIdeal.Read
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

theorem idx : ∀ t : Fin cfg0.N, win0_0.index t = ![t.val, 0] ∧ win0_1.index t = ![0, 0]
    ∧ win0_3.index t = ![t.val, 0] ∧ win0_4.index t = ![t.val, 0] ∧ win0_5.index t = ![t.val, 4]
    ∧ win0_6.index t = ![t.val, 5] ∧ win0_7.index t = ![t.val, 0] ∧ win0_8.index t = ![t.val, 0]
    ∧ win0_9.index t = ![t.val, 2] ∧ win0_10.index t = ![0, 0] :=
  (by decide +kernel : ∀ t : Fin grid0.N, _)

/-- The product and the two gates at a point, as the body computes them from its blocks. -/
abbrev dotB (c : Dev nD) (t : Fin cfg0.N) : FVec Ideal S512x1024 .f32 := k0_pay8 (iblk m c 0 t) (iblk m c 1 t)
abbrev gateA (c : Dev nD) (t : Fin cfg0.N) : FVec Ideal S512x1024 .f32 := k0_pay9 (iblk m c 5 t)
abbrev gateB (c : Dev nD) (t : Fin cfg0.N) : FVec Ideal S512x1024 .f32 := k0_pay10 (iblk m c 6 t)
/-- The gates' gradients there. -/
abbrev gradA (c : Dev nD) (t : Fin cfg0.N) : FVec Ideal S512x1024 .f32 :=
  k0_pay11 (iblk m c 0 t) (iblk m c 1 t) (iblk m c 3 t) (iblk m c 5 t)
abbrev gradB (c : Dev nD) (t : Fin cfg0.N) : FVec Ideal S512x1024 .f32 :=
  k0_pay12 (iblk m c 0 t) (iblk m c 1 t) (iblk m c 4 t) (iblk m c 6 t)

abbrev one : Ideal .f32 := Scalar.ofBits (F := Ideal) .f32 0x3F800000#32

/-- What the first point leaves. -/
theorem outA (c : Dev nD) (t : Fin cfg0.N) (h0 : t.val % 16 = 0) (h1 : ¬1 ≤ t.val) :
    (∀ y, (outsAt0 m c t.val t.isLt).1 y = k0_pay3 (dotB m c t) (gateA m c t) y)
    ∧ (∀ y, (outsAt0 m c t.val t.isLt).2.1 y = k0_pay4 (dotB m c t) (gateB m c t) y)
    ∧ (∀ r n, (outsAt0 m c t.val t.isLt).2.2.1 (ix2 r n) = if h : (n : ℕ) < 1024
        then k0_pay5 (gradA m c t) (ix2 r ⟨n, h⟩)
        else k0_pay6 (gateB m c t) (gradB m c t) one (ix2 r ⟨n - 1024, by omega⟩))
    ∧ (∀ y, (outsAt0 m c t.val t.isLt).2.2.2 y = k0_pay2 (gateB m c t) (gradA m c t) (gradB m c t) one y) := by
  refine ⟨fun y => ?a, fun y => ?b, fun r n => ?d, fun y => ?e⟩
  case a => rw [outsAt0_A m c t h0 h1]; frame_out
  case b => rw [outsAt0_A m c t h0 h1]; frame_out
  case d =>
    rw [outsAt0_A m c t h0 h1]; frame_out
    clear h0 h1
    canon_tiles x h
    case piece0 =>
      rw [dif_neg (by have e : (n : ℕ) = 1024 + x 1 := h1; omega)]
      idx_vars x
      refine congrArg _ (congrArg₂ ix2 (Fin.ext h0.symm) (Fin.ext ?_))
      have e : (n : ℕ) = 1024 + x1 := h1
      show (x1 : ℕ) = n - 1024
      omega
    case piece1 =>
      rw [dif_pos (by have e : (n : ℕ) = x 1 := h1; omega)]
      idx_vars x
      exact congrArg _ (congrArg₂ ix2 (Fin.ext h0.symm) (Fin.ext h1.symm))
  case e => rw [outsAt0_A m c t h0 h1]; frame_out

/-- What a later point leaves, over what the point before it left. -/
theorem outB (c : Dev nD) (t : Fin cfg0.N) (h0 : ¬t.val % 16 = 0) (h1 : 1 ≤ t.val) :
    (∀ y, (outsAt0 m c t.val t.isLt).1 y = k0_pay3 (dotB m c t) (gateA m c t) y)
    ∧ (∀ y, (outsAt0 m c t.val t.isLt).2.1 y = k0_pay4 (dotB m c t) (gateB m c t) y)
    ∧ (∀ r n, (outsAt0 m c t.val t.isLt).2.2.1 (ix2 r n) = if h : (n : ℕ) < 1024
        then k0_pay5 (gradA m c t) (ix2 r ⟨n, h⟩)
        else k0_pay6 (gateB m c t) (gradB m c t) one (ix2 r ⟨n - 1024, by omega⟩))
    ∧ (∀ y, (outsAt0 m c t.val t.isLt).2.2.2 y = k0_pay7 (gateB m c t) (gradA m c t) (gradB m c t) one
        (outsAt0 m c (t.val - 1) (by omega)).2.2.2 y) := by
  refine ⟨fun y => ?a, fun y => ?b, fun r n => ?d, fun y => ?e⟩
  case a => rw [outsAt0_B m c t h0 h1]; frame_out
  case b => rw [outsAt0_B m c t h0 h1]; frame_out
  case d =>
    rw [outsAt0_B m c t h0 h1]; frame_out
    clear h0 h1
    canon_tiles x h
    case piece0 =>
      rw [dif_neg (by have e : (n : ℕ) = 1024 + x 1 := h1; omega)]
      idx_vars x
      refine congrArg _ (congrArg₂ ix2 (Fin.ext h0.symm) (Fin.ext ?_))
      have e : (n : ℕ) = 1024 + x1 := h1
      show (x1 : ℕ) = n - 1024
      omega
    case piece1 =>
      rw [dif_pos (by have e : (n : ℕ) = x 1 := h1; omega)]
      idx_vars x
      exact congrArg _ (congrArg₂ ix2 (Fin.ext h0.symm) (Fin.ext h1.symm))
  case e => rw [outsAt0_B m c t h0 h1]; frame_out

/-- The logistic function, as the reference spells it. -/
def logi (z : EReal) : EReal := Ideal.div 1 (1 + Ideal.exp (-z))

/-- The body's arithmetic, entry by entry. -/
theorem pay_dot (A : FVec Ideal S512x1024 .bf16) (W : FVec Ideal S1024x1024 .bf16) (r : Fin 512) (n : Fin 1024) :
    k0_pay8 (F := Ideal) A W (ix2 r n) = ∑ k : Fin 1024, A (ix2 r k) * W (ix2 n k) := by
  pointwise [k0_pay8]
theorem pay_gateA (Z : FVec Ideal S512x1024 .bf16) (r : Fin 512) (n : Fin 1024) :
    k0_pay9 (F := Ideal) Z (ix2 r n) = logi (Z (ix2 r n)) := by
  pointwise [k0_pay9]
  rw [Common.half]
  exact Common.half_tanh _
theorem pay_gateB (Z : FVec Ideal S512x1024 .bf16) (r : Fin 512) (n : Fin 1024) :
    k0_pay10 (F := Ideal) Z (ix2 r n) = logi (Z (ix2 r n)) := by
  pointwise [k0_pay10]
  rw [Common.half]
  exact Common.half_tanh _
theorem pay_gradA (A Y Z : FVec Ideal S512x1024 .bf16) (W : FVec Ideal S1024x1024 .bf16) (r : Fin 512) (n : Fin 1024) :
    k0_pay11 (F := Ideal) A W Y Z (ix2 r n) = (∑ k : Fin 1024, A (ix2 r k) * W (ix2 n k)) * Y (ix2 r n)
      * logi (Z (ix2 r n)) * (1 - logi (Z (ix2 r n))) := by
  pointwise [k0_pay11]
  rw [pay_gateA, pay_dot]
theorem pay_gradB (A Y Z : FVec Ideal S512x1024 .bf16) (W : FVec Ideal S1024x1024 .bf16) (r : Fin 512) (n : Fin 1024) :
    k0_pay12 (F := Ideal) A W Y Z (ix2 r n) = (∑ k : Fin 1024, A (ix2 r k) * W (ix2 n k)) * Y (ix2 r n)
      * logi (Z (ix2 r n)) := by
  pointwise [k0_pay12]
  rw [pay_gateB, pay_dot]
theorem pay_dya (D S : FVec Ideal S512x1024 .f32) (r : Fin 512) (n : Fin 1024) :
    k0_pay3 (F := Ideal) D S (ix2 r n) = D (ix2 r n) * S (ix2 r n) := by pointwise [k0_pay3]
theorem pay_dyb (D S : FVec Ideal S512x1024 .f32) (r : Fin 512) (n : Fin 1024) :
    k0_pay4 (F := Ideal) D S (ix2 r n) = D (ix2 r n) * S (ix2 r n) := by pointwise [k0_pay4]
theorem pay_storeA (G : FVec Ideal S512x1024 .f32) (r : Fin 512) (n : Fin 1024) :
    k0_pay5 (F := Ideal) G (ix2 r n) = G (ix2 r n) := by pointwise [k0_pay5]
theorem pay_storeB (S P : FVec Ideal S512x1024 .f32) (r : Fin 512) (n : Fin 1024) :
    k0_pay6 (F := Ideal) S P one (ix2 r n) = P (ix2 r n) * (1 - S (ix2 r n)) := by pointwise [k0_pay6, k0_pay1]
theorem pay_bias (S G P : FVec Ideal S512x1024 .f32) (r : Fin 1) (n : Fin 2048) :
    k0_pay2 (F := Ideal) S G P one (ix2 r n) = if h : (n : ℕ) < 1024 then ∑ q : Fin 512, G (ix2 q ⟨n, h⟩)
      else ∑ q : Fin 512, P (ix2 q ⟨n - 1024, by omega⟩) * (1 - S (ix2 q ⟨n - 1024, by omega⟩)) := by
  pointwise [k0_pay2, k0_pay1]
theorem pay_bias_add (S G P : FVec Ideal S512x1024 .f32) (B : FVec Ideal S1x2048 .f32) (r : Fin 1) (n : Fin 2048) :
    k0_pay7 (F := Ideal) S G P one B (ix2 r n) = B (ix2 r n) + k0_pay2 (F := Ideal) S G P one (ix2 r n) := by
  obtain rfl : r = 0 := Subsingleton.elim _ _
  pointwise [k0_pay7]

/-- The arrays the grid reads, entry by entry. -/
def rowD (c : Dev nD) (r : Fin 8192) (k : Fin 1024) : EReal := (V m c main_v6 : FVec Ideal S8192x1024 .bf16) (ix2 r k)
def rowW (c : Dev nD) (n : Fin 1024) (k : Fin 1024) : EReal := (V m c main_v7 : FVec Ideal S1024x1024 .bf16) (ix2 n k)
def rowYa (c : Dev nD) (r : Fin 8192) (n : Fin 1024) : EReal := (V m c main_v10 : FVec Ideal S8192x1024 .bf16) (ix2 r n)
def rowYb (c : Dev nD) (r : Fin 8192) (n : Fin 1024) : EReal := (V m c main_v12 : FVec Ideal S8192x1024 .bf16) (ix2 r n)
def rowZ (c : Dev nD) (r : Fin 8192) (n : Fin 6144) : EReal := (V m c main_v4 : FVec Ideal S8192x6144 .bf16) (ix2 r n)

/-- The blocks of a point are those arrays' entries. -/
theorem blkD (c : Dev nD) (t : Fin cfg0.N) (r : Fin 512) (R : Fin 8192) (hR : (R : ℕ) = t.val * 512 + r) (k : Fin 1024) :
    (iblk m c 0 t : FVec Ideal S512x1024 .bf16) (ix2 r k) = rowD m c R k := by
  unfold rowD; blk_ext [iblk, idx t]
theorem blkW (c : Dev nD) (t : Fin cfg0.N) (n : Fin 1024) (k : Fin 1024) :
    (iblk m c 1 t : FVec Ideal S1024x1024 .bf16) (ix2 n k) = rowW m c n k := by
  unfold rowW; blk_ext [iblk, idx t]
theorem blkYa (c : Dev nD) (t : Fin cfg0.N) (r : Fin 512) (R : Fin 8192) (hR : (R : ℕ) = t.val * 512 + r) (n : Fin 1024) :
    (iblk m c 3 t : FVec Ideal S512x1024 .bf16) (ix2 r n) = rowYa m c R n := by
  unfold rowYa; blk_ext [iblk, idx t]
theorem blkYb (c : Dev nD) (t : Fin cfg0.N) (r : Fin 512) (R : Fin 8192) (hR : (R : ℕ) = t.val * 512 + r) (n : Fin 1024) :
    (iblk m c 4 t : FVec Ideal S512x1024 .bf16) (ix2 r n) = rowYb m c R n := by
  unfold rowYb; blk_ext [iblk, idx t]
theorem blkZa (c : Dev nD) (t : Fin cfg0.N) (r : Fin 512) (R : Fin 8192) (hR : (R : ℕ) = t.val * 512 + r) (n : Fin 1024) :
    (iblk m c 5 t : FVec Ideal S512x1024 .bf16) (ix2 r n) = rowZ m c R ⟨4096 + n, by omega⟩ := by
  unfold rowZ; blk_ext [iblk, idx t]
theorem blkZb (c : Dev nD) (t : Fin cfg0.N) (r : Fin 512) (R : Fin 8192) (hR : (R : ℕ) = t.val * 512 + r) (n : Fin 1024) :
    (iblk m c 6 t : FVec Ideal S512x1024 .bf16) (ix2 r n) = rowZ m c R ⟨5120 + n, by omega⟩ := by
  unfold rowZ; blk_ext [iblk, idx t]

/-- The product and the two gates, over the whole arrays. -/
def dm (c : Dev nD) (r : Fin 8192) (n : Fin 1024) : EReal := ∑ k : Fin 1024, rowD m c r k * rowW m c n k
def sA (c : Dev nD) (r : Fin 8192) (n : Fin 1024) : EReal := logi (rowZ m c r ⟨4096 + n, by omega⟩)
def sB (c : Dev nD) (r : Fin 8192) (n : Fin 1024) : EReal := logi (rowZ m c r ⟨5120 + n, by omega⟩)

/-- The four results. -/
def dya (c : Dev nD) (r : Fin 8192) (n : Fin 1024) : EReal := dm m c r n * sA m c r n
def dyb (c : Dev nD) (r : Fin 8192) (n : Fin 1024) : EReal := dm m c r n * sB m c r n
def dga (c : Dev nD) (r : Fin 8192) (n : Fin 1024) : EReal :=
  dm m c r n * rowYa m c r n * sA m c r n * (1 - sA m c r n)
def dgb (c : Dev nD) (r : Fin 8192) (n : Fin 1024) : EReal :=
  dm m c r n * rowYb m c r n * sB m c r n * (1 - sB m c r n)
def dg (c : Dev nD) (r : Fin 8192) (n : Fin 2048) : EReal :=
  if h : (n : ℕ) < 1024 then dga m c r ⟨n, h⟩ else dgb m c r ⟨n - 1024, by omega⟩

/-- The two factors of the product at a point. -/
abbrev inD (c : Dev nD) (t : Fin cfg0.N) : FVec Ideal S512x1024 .bf16 := iblk m c 0 t
abbrev inW (c : Dev nD) (t : Fin cfg0.N) : FVec Ideal S1024x1024 .bf16 := iblk m c 1 t

section point
variable (c : Dev nD) (t : Fin cfg0.N) (r : Fin 512) (R : Fin 8192) (hR : (R : ℕ) = t.val * 512 + r) (n : Fin 1024)
include hR

theorem sumB_eq : (∑ k : Fin 1024, inD m c t (ix2 r k) * inW m c t (ix2 n k)) = dm m c R n :=
  Finset.sum_congr rfl fun k _ => congrArg₂ (fun a b : EReal => a * b) (blkD m c t r R hR k) (blkW m c t n k)
theorem dotB_eq : dotB m c t (ix2 r n) = dm m c R n := (pay_dot _ _ r n).trans (sumB_eq m c t r R hR n)
theorem gateA_eq : gateA m c t (ix2 r n) = sA m c R n :=
  (pay_gateA _ r n).trans (congrArg logi (blkZa m c t r R hR n))
theorem gateB_eq : gateB m c t (ix2 r n) = sB m c R n :=
  (pay_gateB _ r n).trans (congrArg logi (blkZb m c t r R hR n))
theorem gradA_eq : gradA m c t (ix2 r n) = dga m c R n := by
  refine (pay_gradA _ _ _ _ r n).trans ?_
  rw [sumB_eq m c t r R hR, blkYa m c t r R hR, blkZa m c t r R hR]
  rfl
theorem gradB_eq : gradB m c t (ix2 r n) = dm m c R n * rowYb m c R n * sB m c R n := by
  refine (pay_gradB _ _ _ _ r n).trans ?_
  rw [sumB_eq m c t r R hR, blkYb m c t r R hR, blkZb m c t r R hR]
  rfl
end point

/-- The two ways a point can go. -/
theorem cases16 (t : Fin cfg0.N) : (t.val % 16 = 0 ∧ ¬1 ≤ t.val) ∨ (¬t.val % 16 = 0 ∧ 1 ≤ t.val) := by
  have hN : t.val < 16 := lt_of_lt_of_eq t.isLt N_0
  omega

theorem out_dya (c : Dev nD) (t : Fin cfg0.N) (r : Fin 512) (n : Fin 1024) (R : Fin 8192) (N : Fin 1024)
    (hR : (R : ℕ) = t.val * 512 + r) (hN : (N : ℕ) = n) : (outsAt0 m c t.val t.isLt).1 (ix2 r n) = dya m c R N := by
  obtain rfl : N = n := Fin.ext hN
  have h : (outsAt0 m c t.val t.isLt).1 (ix2 r N) = k0_pay3 (dotB m c t) (gateA m c t) (ix2 r N) := by
    rcases cases16 t with ⟨h0, h1⟩ | ⟨h0, h1⟩
    · exact (outA m c t h0 h1).1 _
    · exact (outB m c t h0 h1).1 _
  refine h.trans ((pay_dya _ _ r N).trans ?_)
  rw [dotB_eq m c t r R hR, gateA_eq m c t r R hR]
  rfl

theorem out_dyb (c : Dev nD) (t : Fin cfg0.N) (r : Fin 512) (n : Fin 1024) (R : Fin 8192) (N : Fin 1024)
    (hR : (R : ℕ) = t.val * 512 + r) (hN : (N : ℕ) = n) : (outsAt0 m c t.val t.isLt).2.1 (ix2 r n) = dyb m c R N := by
  obtain rfl : N = n := Fin.ext hN
  have h : (outsAt0 m c t.val t.isLt).2.1 (ix2 r N) = k0_pay4 (dotB m c t) (gateB m c t) (ix2 r N) := by
    rcases cases16 t with ⟨h0, h1⟩ | ⟨h0, h1⟩
    · exact (outA m c t h0 h1).2.1 _
    · exact (outB m c t h0 h1).2.1 _
  refine h.trans ((pay_dyb _ _ r N).trans ?_)
  rw [dotB_eq m c t r R hR, gateB_eq m c t r R hR]
  rfl

theorem out_dg (c : Dev nD) (t : Fin cfg0.N) (r : Fin 512) (n : Fin 2048) (R : Fin 8192) (N : Fin 2048)
    (hR : (R : ℕ) = t.val * 512 + r) (hN : (N : ℕ) = n) : (outsAt0 m c t.val t.isLt).2.2.1 (ix2 r n) = dg m c R N := by
  obtain rfl : N = n := Fin.ext hN
  have h : (outsAt0 m c t.val t.isLt).2.2.1 (ix2 r N) = if h : (N : ℕ) < 1024
      then k0_pay5 (gradA m c t) (ix2 r ⟨N, h⟩)
      else k0_pay6 (gateB m c t) (gradB m c t) one (ix2 r ⟨N - 1024, by omega⟩) := by
    rcases cases16 t with ⟨h0, h1⟩ | ⟨h0, h1⟩
    · exact (outA m c t h0 h1).2.2.1 _ _
    · exact (outB m c t h0 h1).2.2.1 _ _
  refine h.trans ?_
  unfold dg
  split
  · exact (pay_storeA _ r _).trans (gradA_eq m c t r R hR _)
  · refine (pay_storeB _ _ r _).trans ?_
    rw [gradB_eq m c t r R hR, gateB_eq m c t r R hR]
    rfl

theorem final_dya (c : Dev nD) : (dats m 0 c).arrAt 7 (cfgs 0).N = fun i : S8192x1024.Idx => dya m c (i 0) (i 1) := by
  refine (dats m 0 c).arrAt_eq_of_covers 7 _ (by decide +kernel) fun t _ y => ?_
  blk_simp
  rw [after0_7]
  idx_vars y
  exact out_dya m c t y0 y1 _ _ (by blk_simp [idx t]) (by blk_simp [idx t])

theorem final_dyb (c : Dev nD) : (dats m 0 c).arrAt 8 (cfgs 0).N = fun i : S8192x1024.Idx => dyb m c (i 0) (i 1) := by
  refine (dats m 0 c).arrAt_eq_of_covers 8 _ (by decide +kernel) fun t _ y => ?_
  blk_simp
  rw [after0_8]
  idx_vars y
  exact out_dyb m c t y0 y1 _ _ (by blk_simp [idx t]) (by blk_simp [idx t])

/-- A column of the last third, within it. -/
def tail (n : Fin 6144) : Fin 2048 := ⟨n - 4096, by omega⟩

/-- Of the third result only the last third of the columns is written. -/
theorem final_dg (c : Dev nD) (r : Fin 8192) (n : Fin 6144) (h : 4096 ≤ (n : ℕ)) :
    ((dats m 0 c).arrAt 9 (cfgs 0).N : FVec Ideal S8192x6144 .bf16) (ix2 r n) = dg m c r (tail n) := by
  have key : (dats m 0 c).arrAt 9 (cfgs 0).N = fun i : S8192x6144.Idx =>
      if 4096 ≤ (i 1 : ℕ) then dg m c (i 0) (tail (i 1)) else (dats m 0 c).A 9 i := by
    refine (dats m 0 c).arrAt_eq_of_coversWhere 9 _ (fun β => 2 ≤ β 1) (by decide +kernel) (fun t hf y => ?_)
      (fun j => by blk_simp [Pipeline.Window.cell_apply]; omega)
    blk_simp
    rw [after0_9]
    idx_vars y
    exact out_dg m c t y0 y1 _ _ (by blk_simp [idx t]) (by unfold tail; blk_simp [idx t]; show 2 * 2048 + (y1 : ℕ) - 4096 = y1; omega)
  exact (congrFun key (ix2 r n)).trans (if_pos h)

/-- The term a point adds to the sum of the rows. -/
def term (c : Dev nD) (t : Fin cfg0.N) (n : Fin 2048) : EReal :=
  k0_pay2 (F := Ideal) (gateB m c t) (gradA m c t) (gradB m c t) one (ix2 0 n)

theorem term_eq (c : Dev nD) (t : Fin cfg0.N) (R : Fin 512 → Fin 8192) (hR : ∀ r, (R r : ℕ) = t.val * 512 + r)
    (n : Fin 2048) : term m c t n = ∑ q : Fin 512, dg m c (R q) n := by
  refine (pay_bias _ _ _ 0 n).trans ?_
  unfold dg
  split
  · exact Finset.sum_congr rfl fun q _ => gradA_eq m c t q _ (hR q) _
  · refine Finset.sum_congr rfl fun q _ => ?_
    rw [gradB_eq m c t q _ (hR q), gateB_eq m c t q _ (hR q)]
    rfl

theorem sum_terms (c : Dev nD) (h : ∀ s : Fin 16, (s : ℕ) < cfg0.N) (n : Fin 2048) :
    ∑ s : Fin 16, term m c ⟨s, h s⟩ n = ∑ r : Fin 8192, dg m c r n := by
  rw [Fin.sum_univ_tiles 16 512 rfl]
  exact Finset.sum_congr rfl fun s _ => term_eq m c _ _ (fun r => rfl) n

theorem final_dbias (c : Dev nD) : (dats m 0 c).arrAt 10 (cfgs 0).N
    = fun i : S1x2048.Idx => ∑ r : Fin 8192, dg m c r (i 1) := by
  refine (dats m 0 c).arrAt_eq_of_covers 10 _ (by decide +kernel) fun t hf y => ?_
  blk_simp
  idx_vars y
  rw [after0_10, Pipeline.eq_sum_fin_of_reset_step_apply_of_flush (fun n h => (outsAt0 m c n h).2.2.2) 16 (fun _ => 0)
    (fun t j => term m c t (j 1))
    (fun t h j => by
      have hN : t.val < 16 := lt_of_lt_of_eq t.isLt N_0
      idx_vars j
      obtain rfl : j0 = 0 := Subsingleton.elim _ _
      rw [zero_add]
      exact (outA m c t h (by omega)).2.2.2 _)
    (fun t h j => by
      idx_vars j
      obtain rfl : j0 = 0 := Subsingleton.elim _ _
      exact ((outB m c t h (by omega)).2.2.2 _).trans (pay_bias_add _ _ _ _ _ _))
    t ((flush0_10 t).mp hf) _, zero_add]
  have hN : t.val < 16 := lt_of_lt_of_eq t.isLt N_0
  have h0 : t.val / 16 = 0 := by omega
  have e : (((View.whole main_v13_3).slice (win0_10.rect t)).emb (ix2 y0 y1) 1 : Fin 2048) = y1 :=
    Fin.ext (by blk_simp [idx t])
  have k : ∀ h : ∀ s : Fin 16, 16 * (t.val / 16) + (s : ℕ) < cfg0.N,
      ∑ s : Fin 16, term m c ⟨16 * (t.val / 16) + s, h s⟩ y1 = ∑ r : Fin 8192, dg m c r y1 := fun h =>
    (Finset.sum_congr rfl fun s _ => congrArg (fun p => term m c p y1)
      (Fin.ext (by show 16 * (t.val / 16) + (s : ℕ) = s; omega))).trans
      (sum_terms m c (fun s => lt_of_lt_of_eq s.isLt N_0.symm) y1)
  exact (k _).trans (congrArg (fun q : Fin 2048 => ∑ r : Fin 8192, dg m c r q) e.symm)

/-- The arguments, as arrays of extended reals. -/
abbrev argYa (c : Dev nD) : FVec Ideal S4x2048x1024 .f32 := m ((c : Thread nD τ).loc main_arg0)
abbrev argYb (c : Dev nD) : FVec Ideal S4x2048x1024 .f32 := m ((c : Thread nD τ).loc main_arg1)
abbrev argZ (c : Dev nD) : FVec Ideal S4x2048x6144 .f32 := m ((c : Thread nD τ).loc main_arg2)
abbrev argB (c : Dev nD) : FVec Ideal S1x6144 .f32 := m ((c : Thread nD τ).loc main_arg3)
abbrev argW (c : Dev nD) : FVec Ideal S1024x1024 .f32 := m ((c : Thread nD τ).loc main_arg4)
abbrev argD (c : Dev nD) : FVec Ideal S4x2048x1024 .f32 := m ((c : Thread nD τ).loc main_arg5)

theorem rowD_eq (c : Dev nD) (r : Fin 8192) (k : Fin 1024) : rowD m c r k
    = argD m c (ix3 ⟨(r : ℕ) / 2048, by omega⟩ ⟨(r : ℕ) % 2048, by omega⟩ k) := by
  unfold rowD; entry_read; pointwise
theorem rowW_eq (c : Dev nD) (n : Fin 1024) (k : Fin 1024) : rowW m c n k = argW m c (ix2 n k) := by
  unfold rowW; entry_read; pointwise
theorem rowYa_eq (c : Dev nD) (r : Fin 8192) (k : Fin 1024) : rowYa m c r k
    = argYa m c (ix3 ⟨(r : ℕ) / 2048, by omega⟩ ⟨(r : ℕ) % 2048, by omega⟩ k) := by
  unfold rowYa; entry_read; pointwise
theorem rowYb_eq (c : Dev nD) (r : Fin 8192) (k : Fin 1024) : rowYb m c r k
    = argYb m c (ix3 ⟨(r : ℕ) / 2048, by omega⟩ ⟨(r : ℕ) % 2048, by omega⟩ k) := by
  unfold rowYb; entry_read; pointwise
theorem rowZ_eq (c : Dev nD) (r : Fin 8192) (k : Fin 6144) : rowZ m c r k
    = argZ m c (ix3 ⟨(r : ℕ) / 2048, by omega⟩ ⟨(r : ℕ) % 2048, by omega⟩ k) + argB m c (ix2 0 k) := by
  unfold rowZ; entry_read; pointwise

end Cert.KernelIdeal.Value

namespace Cert.ReferenceIdeal.Value

open Cert.ReferenceIdeal Cert.ReferenceIdeal.Read Cert.KernelIdeal.Value

variable (Ya Yb : FVec Ideal S4x2048x1024 .f32) (Z : FVec Ideal S4x2048x6144 .f32) (b : FVec Ideal S1x6144 .f32)
  (W : FVec Ideal S1024x1024 .f32) (D : FVec Ideal S4x2048x1024 .f32)

/-- The product and the gates of the reference, entry by entry. -/
def dot (a : Fin 4) (s : Fin 2048) (n : Fin 1024) : EReal := ∑ k : Fin 1024, D (ix3 a s k) * W (ix2 n k)
def gA (a : Fin 4) (s : Fin 2048) (n : Fin 1024) : EReal :=
  logi (Z (ix3 a s ⟨4096 + n, by omega⟩) + b (ix2 0 ⟨4096 + n, by omega⟩))
def gB (a : Fin 4) (s : Fin 2048) (n : Fin 1024) : EReal :=
  logi (Z (ix3 a s ⟨5120 + n, by omega⟩) + b (ix2 0 ⟨5120 + n, by omega⟩))

theorem entry_dot (a : Fin 4) (s : Fin 2048) (n : Fin 1024) :
    val_main_v27 (F := Ideal) W D (ix3 a s n) = dot W D a s n := by pointwise [val_main_v27, dot]
theorem entry_gA (a : Fin 4) (s : Fin 2048) (n : Fin 1024) :
    val_main_v10 (F := Ideal) Z b (ix3 a s n) = gA Z b a s n := by
  pointwise [val_main_v10, val_main_v9, val_main_cst_0, val_main_v8, val_main_v7, val_main_cst, val_main_v6, val_main_v5,
    val_main_v3, val_main_v2, val_main_v1, val_main_v0, gA, logi]
theorem entry_gB (a : Fin 4) (s : Fin 2048) (n : Fin 1024) :
    val_main_v20 (F := Ideal) Z b (ix3 a s n) = gB Z b a s n := by
  pointwise [val_main_v20, val_main_v19, val_main_cst_3, val_main_v18, val_main_v17, val_main_cst_2, val_main_v16,
    val_main_v15, val_main_v4, val_main_v2, val_main_v1, val_main_v0, gB, logi]

/-- The gradients of the gates' arguments, of one third of the columns. -/
def gradG (a : Fin 4) (s : Fin 2048) (n : Fin 2048) : EReal :=
  if h : (n : ℕ) < 1024 then dot W D a s ⟨n, h⟩ * Ya (ix3 a s ⟨n, h⟩) * (gA Z b a s ⟨n, h⟩ * (1 - gA Z b a s ⟨n, h⟩))
  else dot W D a s ⟨n - 1024, by omega⟩ * Yb (ix3 a s ⟨n - 1024, by omega⟩)
    * (gB Z b a s ⟨n - 1024, by omega⟩ * (1 - gB Z b a s ⟨n - 1024, by omega⟩))

theorem entry_dya (r : Fin 8192) (n : Fin 1024) : val_main_v42 (F := Ideal) Z b W D (ix2 r n)
    = gA Z b ⟨(r : ℕ) / 2048, by omega⟩ ⟨(r : ℕ) % 2048, by omega⟩ n
      * dot W D ⟨(r : ℕ) / 2048, by omega⟩ ⟨(r : ℕ) % 2048, by omega⟩ n := by
  pointwise [val_main_v42, val_main_v41, val_main_v31]
  rw [entry_gA, entry_dot]
theorem entry_dyb (r : Fin 8192) (n : Fin 1024) : val_main_v44 (F := Ideal) Z b W D (ix2 r n)
    = gB Z b ⟨(r : ℕ) / 2048, by omega⟩ ⟨(r : ℕ) % 2048, by omega⟩ n
      * dot W D ⟨(r : ℕ) / 2048, by omega⟩ ⟨(r : ℕ) % 2048, by omega⟩ n := by
  pointwise [val_main_v44, val_main_v43, val_main_v28]
  rw [entry_gB, entry_dot]
theorem entry_grad (a : Fin 4) (s : Fin 2048) (n : Fin 6144) (h : 4096 ≤ (n : ℕ)) :
    val_main_v36 (F := Ideal) Ya Yb Z b W D (ix3 a s n) = gradG Ya Yb Z b W D a s (tail n) := by
  have ha : (a : ℕ) < 4 := a.isLt
  have hs : (s : ℕ) < 2048 := s.isLt
  unfold gradG
  pointwise [val_main_v36, val_main_v34, val_main_v35, val_main_cst_5, val_main_cst_6, val_main_v30, val_main_v33,
    val_main_v29, val_main_v23, val_main_v22, val_main_cst_4, val_main_v21, val_main_v32, val_main_v13, val_main_v12,
    val_main_v11, val_main_cst_1]
  have ht : (tail n : ℕ) = n - 4096 := rfl
  have hn : (n : ℕ) < 6144 := n.isLt
  by_cases h5 : (n : ℕ) < 5120
  · rw [dif_neg (by omega), dif_pos (by omega), zero_add, dif_pos (by omega), entry_dot, entry_gA]
    rfl
  · have e : (n : ℕ) - 5120 = tail n - 1024 := by rw [ht]; omega
    rw [dif_pos (by omega), dif_neg (by omega), add_zero, dif_neg (by omega), entry_dot, entry_gB]
    simp only [e]
theorem entry_dpre (r : Fin 8192) (n : Fin 6144) (h : 4096 ≤ (n : ℕ)) :
    val_main_v46 (F := Ideal) Ya Yb Z b W D (ix2 r n)
      = gradG Ya Yb Z b W D ⟨(r : ℕ) / 2048, by omega⟩ ⟨(r : ℕ) % 2048, by omega⟩ (tail n) := by
  refine Eq.trans ?_ (entry_grad Ya Yb Z b W D _ _ n h)
  pointwise [val_main_v46, val_main_v45]
theorem entry_sum (l : Fin 6144) : val_main_v37 (F := Ideal) Ya Yb Z b W D (ix1 l)
    = ∑ a : Fin 4, ∑ s : Fin 2048, val_main_v36 (F := Ideal) Ya Yb Z b W D (ix3 a s l) := by
  unfold val_main_v37
  refine (Common.reduce_leading _ _ _ (ix1 l) l (fun q => by obtain rfl : q = 0 := Subsingleton.elim _ _; rfl)).trans ?_
  pointwise [val_main_cst_7]
theorem entry_once (p q : Fin 1) (l : Fin 6144) : val_main_v38 (F := Ideal) Ya Yb Z b W D (ix3 p q l)
    = val_main_v37 (F := Ideal) Ya Yb Z b W D (ix1 l) := by pointwise [val_main_v38]
theorem entry_again (l : Fin 6144) : val_main_v39 (F := Ideal) Ya Yb Z b W D (ix1 l)
    = val_main_v37 (F := Ideal) Ya Yb Z b W D (ix1 l) := by
  unfold val_main_v39
  refine (Common.reduce_leading _ _ _ (ix1 l) l (fun q => by obtain rfl : q = 0 := Subsingleton.elim _ _; rfl)).trans ?_
  rw [Fin.sum_univ_one, Fin.sum_univ_one, entry_once]
  pointwise [val_main_cst_8]
theorem entry_dbias (r : Fin 1) (n : Fin 2048) : val_main_v47 (F := Ideal) Ya Yb Z b W D (ix2 r n)
    = ∑ a : Fin 4, ∑ s : Fin 2048, gradG Ya Yb Z b W D a s n := by
  have e : val_main_v47 (F := Ideal) Ya Yb Z b W D (ix2 r n)
      = val_main_v39 (F := Ideal) Ya Yb Z b W D (ix1 ⟨4096 + n, by omega⟩) := by
    pointwise [val_main_v47, val_main_v40]
  rw [e, entry_again, entry_sum]
  refine Finset.sum_congr rfl fun a _ => Finset.sum_congr rfl fun s _ => ?_
  refine (entry_grad Ya Yb Z b W D a s _ (Nat.le_add_right _ _)).trans (congrArg _ (Fin.ext ?_))
  show 4096 + (n : ℕ) - 4096 = n
  omega

end Cert.ReferenceIdeal.Value

namespace Cert.KernelIdeal.Value

open Cert.KernelIdeal Cert.KernelIdeal.Gen Cert.ReferenceIdeal.Value Cert.ReferenceIdeal.Read

variable (m : (ℓ : Loc nD τ sig) → Buf (Elt Ideal) ℓ)

/-- Batch and position of a row. -/
def bat (r : Fin 8192) : Fin 4 := ⟨(r : ℕ) / 2048, by omega⟩
def pos (r : Fin 8192) : Fin 2048 := ⟨(r : ℕ) % 2048, by omega⟩

theorem dm_eq (c : Dev nD) (r : Fin 8192) (n : Fin 1024) :
    dm m c r n = dot (argW m c) (argD m c) (bat r) (pos r) n :=
  Finset.sum_congr rfl fun k _ => congrArg₂ (fun a b : EReal => a * b) (rowD_eq m c r k) (rowW_eq m c n k)
theorem sA_eq (c : Dev nD) (r : Fin 8192) (n : Fin 1024) :
    sA m c r n = gA (argZ m c) (argB m c) (bat r) (pos r) n := congrArg logi (rowZ_eq m c r _)
theorem sB_eq (c : Dev nD) (r : Fin 8192) (n : Fin 1024) :
    sB m c r n = gB (argZ m c) (argB m c) (bat r) (pos r) n := congrArg logi (rowZ_eq m c r _)
theorem dg_eq (c : Dev nD) (r : Fin 8192) (n : Fin 2048) : dg m c r n
    = gradG (argYa m c) (argYb m c) (argZ m c) (argB m c) (argW m c) (argD m c) (bat r) (pos r) n := by
  unfold dg gradG
  split
  · unfold dga
    rw [dm_eq, sA_eq, rowYa_eq, mul_assoc]
    rfl
  · unfold dgb
    rw [dm_eq, sB_eq, rowYb_eq, mul_assoc]
    rfl

/-- The kernel's arrays are the reference's. -/
theorem agree_dya (c : Dev nD) : (dats m 0 c).arrAt 7 (cfgs 0).N
    = val_main_v42 (F := Ideal) (argZ m c) (argB m c) (argW m c) (argD m c) := by
  rw [final_dya]
  refine funext fun i => ?_
  idx_vars i
  refine Eq.trans ?_ (entry_dya _ _ _ _ i0 i1).symm
  show dm m c i0 i1 * sA m c i0 i1 = _
  rw [dm_eq, sA_eq, mul_comm]
  rfl
theorem agree_dyb (c : Dev nD) : (dats m 0 c).arrAt 8 (cfgs 0).N
    = val_main_v44 (F := Ideal) (argZ m c) (argB m c) (argW m c) (argD m c) := by
  rw [final_dyb]
  refine funext fun i => ?_
  idx_vars i
  refine Eq.trans ?_ (entry_dyb _ _ _ _ i0 i1).symm
  show dm m c i0 i1 * sB m c i0 i1 = _
  rw [dm_eq, sB_eq, mul_comm]
  rfl
theorem agree_dg (c : Dev nD) (r : Fin 8192) (n : Fin 6144) (h : 4096 ≤ (n : ℕ)) :
    ((dats m 0 c).arrAt 9 (cfgs 0).N : FVec Ideal S8192x6144 .bf16) (ix2 r n)
      = val_main_v46 (F := Ideal) (argYa m c) (argYb m c) (argZ m c) (argB m c) (argW m c) (argD m c) (ix2 r n) := by
  refine (final_dg m c r n h).trans (Eq.trans ?_ (entry_dpre _ _ _ _ _ _ r n h).symm)
  exact dg_eq m c r _
theorem agree_dbias (c : Dev nD) : (dats m 0 c).arrAt 10 (cfgs 0).N
    = val_main_v47 (F := Ideal) (argYa m c) (argYb m c) (argZ m c) (argB m c) (argW m c) (argD m c) := by
  rw [final_dbias]
  refine funext fun i => ?_
  idx_vars i
  refine Eq.trans ?_ (entry_dbias _ _ _ _ _ _ i0 i1).symm
  show ∑ r : Fin 8192, dg m c r i1 = _
  rw [Fin.sum_univ_tiles 4 2048 rfl]
  refine Finset.sum_congr rfl fun a _ => Finset.sum_congr rfl fun s _ => (dg_eq m c _ _).trans ?_
  refine congrArg₂ (fun p q => gradG _ _ _ _ _ _ p q i1) (Fin.ext ?_) (Fin.ext ?_)
  · show (a * 2048 + s : ℕ) / 2048 = a; omega
  · show (a * 2048 + s : ℕ) % 2048 = s; omega

end Cert.KernelIdeal.Value
-- ==== Proof.Norm.lean ====
/- Layer normalisation of a row of 1024 entries and its gradient, over the extended reals: the gradient written with the
   normalised row equals the one that differentiates the mean, the variance and the root in turn, where the row and the
   incoming gradient are finite. -/
module

public import proofs.«01_k».proof.Proof.Common

@[expose] public section

noncomputable section

open Idealize.ShloMosaic

namespace Cert.Norm

/-- A finite extended real. -/
def IsReal (x : EReal) : Prop := ∃ r : ℝ, x = (r : EReal)

theorem IsReal.coe (r : ℝ) : IsReal (r : EReal) := ⟨r, rfl⟩
theorem IsReal.one : IsReal 1 := ⟨1, rfl⟩
theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem coe_max (a b : ℝ) : max (a : EReal) (b : EReal) = ((max a b : ℝ) : EReal) :=
  (Monotone.map_max (fun _ _ h => EReal.coe_le_coe_iff.mpr h)).symm
theorem IsReal.max {x y : EReal} (hx : IsReal x) (hy : IsReal y) : IsReal (max x y) := by
  obtain ⟨a, rfl⟩ := hx; obtain ⟨b, rfl⟩ := hy; exact ⟨_, coe_max a b⟩

theorem coe_sum {ι : Type} (s : Finset ι) (f : ι → ℝ) : ∑ k ∈ s, ((f k : ℝ) : EReal) = ((∑ k ∈ s, f k : ℝ) : EReal) := by
  classical
  induction s using Finset.induction_on with
  | empty => simp
  | insert i s hi ih => rw [Finset.sum_insert hi, Finset.sum_insert hi, ih, EReal.coe_add]

theorem IsReal.sum {ι : Type} (s : Finset ι) {f : ι → EReal} (h : ∀ k, IsReal (f k)) : IsReal (∑ k ∈ s, f k) := by
  choose g hg using h
  exact ⟨∑ k ∈ s, g k, by rw [← coe_sum]; exact Finset.sum_congr rfl fun k _ => hg k⟩

/-- The words of 1024, of its reciprocal, of minus one half and of the small constant under the root. -/
def w1024 : EReal := Ideal.ofBits .f32 0x44800000#32
def wEps : EReal := Ideal.ofBits .f32 0x3727C5AC#32
def wNegHalf : EReal := Ideal.ofBits .f32 0xBF000000#32
theorem w1024_eq : w1024 = ((1024 : ℝ) : EReal) := by
  simp [w1024, Ideal.ofBits, Ideal.ieee, -EReal.coe_mul]; norm_num
theorem wInv_eq : Ideal.ofBits .f32 0x3A800000#32 = ((1 / 1024 : ℝ) : EReal) := by
  simp [Ideal.ofBits, Ideal.ieee, -EReal.coe_mul]; norm_num
theorem wNegHalf_eq : wNegHalf = ((-(1 / 2) : ℝ) : EReal) := by
  simp [wNegHalf, Ideal.ofBits, Ideal.ieee, -EReal.coe_mul]; norm_num
theorem wEps_eq : ∃ e : ℝ, 0 < e ∧ wEps = (e : EReal) := by
  refine ⟨10995116 * 2 ^ (-40 : ℤ), by positivity, ?_⟩
  simp [wEps, Ideal.ofBits, Ideal.ieee, -EReal.coe_mul]
theorem wAlpha_fin : IsReal (Ideal.ofBits .f32 0x3F9837F0#32) := by
  refine ⟨9975792 * 2 ^ (-23 : ℤ), ?_⟩
  simp [Ideal.ofBits, Ideal.ieee, -EReal.coe_mul]

theorem div_coe (a : ℝ) {b : ℝ} (hb : b ≠ 0) : Ideal.div (a : EReal) (b : EReal) = ((a / b : ℝ) : EReal) := by
  rw [Common.div_of_ne _ (by exact_mod_cast hb), ← EReal.coe_inv, ← EReal.coe_mul, div_eq_mul_inv]
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The mean of a row, the row less its mean, the variance under the root, the reciprocal root, the normalised row. -/
def mean (f : Fin 1024 → EReal) : EReal := Ideal.div (∑ k, f k) w1024
def cent (z : Fin 1024 → EReal) (j : Fin 1024) : EReal := z j - mean z
def spread (z : Fin 1024 → EReal) : EReal := mean (fun k => cent z k * cent z k) + wEps
def rstd (z : Fin 1024 → EReal) : EReal := Ideal.rsqrt (spread z)
def xhat (z : Fin 1024 → EReal) (j : Fin 1024) : EReal := cent z j * rstd z

/-- The gradient with respect to the row, from the gradient `d` with respect to the normalised row. -/
def back (z d : Fin 1024 → EReal) (j : Fin 1024) : EReal :=
  rstd z * (d j - mean d - xhat z j * mean (fun k => d k * xhat z k))

/-- The same, as the mean, the variance and the root are differentiated in turn. -/
def tangent (z d : Fin 1024 → EReal) : EReal :=
  Ideal.div ((∑ k, cent z k * d k) * (wNegHalf * Ideal.div (rstd z) (spread z))) w1024
def backInTurn (z d : Fin 1024 → EReal) (j : Fin 1024) : EReal :=
  d j * rstd z + tangent z d * (((2 : ℝ) : EReal) * cent z j)
    + Ideal.div ((∑ k, -(d k * rstd z)) + ∑ k, -(tangent z d * (((2 : ℝ) : EReal) * cent z k))) w1024

/-- The same quantities over the reals. -/
def meanR (f : Fin 1024 → ℝ) : ℝ := (∑ k, f k) / 1024
def centR (z : Fin 1024 → ℝ) (j : Fin 1024) : ℝ := z j - meanR z

theorem mean_coe (f : Fin 1024 → ℝ) : mean (fun k => (f k : EReal)) = (meanR f : EReal) := by
  rw [mean, coe_sum, w1024_eq, div_coe _ (by norm_num)]; rfl
theorem cent_coe (z : Fin 1024 → ℝ) (j : Fin 1024) : cent (fun k => (z k : EReal)) j = (centR z j : EReal) := by
  rw [cent, mean_coe, ← EReal.coe_sub]; rfl
theorem spread_coe (z : Fin 1024 → ℝ) : ∃ v : ℝ, 0 < v ∧ spread (fun k => (z k : EReal)) = (v : EReal) := by
  obtain ⟨e, he, hw⟩ := wEps_eq
  refine ⟨meanR (fun k => centR z k * centR z k) + e, ?_, ?_⟩
  · have : 0 ≤ meanR (fun k => centR z k * centR z k) :=
      div_nonneg (Finset.sum_nonneg fun k _ => mul_self_nonneg _) (by norm_num)
    linarith
  · simp only [spread, cent_coe, ← EReal.coe_mul]
    rw [mean_coe, hw, ← EReal.coe_add]

theorem sum_centR (z : Fin 1024 → ℝ) : ∑ k, centR z k = 0 := by
  simp only [centR, Finset.sum_sub_distrib, Finset.sum_const, Finset.card_univ, Fintype.card_fin, meanR, nsmul_eq_mul]
  push_cast
  ring

theorem IsReal.xhat {z : Fin 1024 → EReal} (h : ∀ k, IsReal (z k)) (j : Fin 1024) : IsReal (xhat z j) := by
  choose g hg using h
  obtain rfl : z = fun k => (g k : EReal) := funext hg
  obtain ⟨v, hv, e⟩ := spread_coe g
  rw [Norm.xhat, rstd, e, rsqrt_pos hv, cent_coe]
  exact .mul (.coe _) (.coe _)

/-- The two gradients are equal. -/
theorem back_eq {z d : Fin 1024 → EReal} (hz : ∀ k, IsReal (z k)) (hd : ∀ k, IsReal (d k)) (j : Fin 1024) :
    back z d j = backInTurn z d j := by
  choose g hg using hz
  obtain rfl : z = fun k => (g k : EReal) := funext hg
  choose u hu using hd
  obtain rfl : d = fun k => (u k : EReal) := funext hu
  obtain ⟨v, hv, e⟩ := spread_coe g
  have hs : Real.sqrt v * Real.sqrt v = v := Real.mul_self_sqrt hv.le
  have hp : 0 < Real.sqrt v := Real.sqrt_pos.mpr hv
  have ht : tangent (fun k => (g k : EReal)) (fun k => (u k : EReal))
      = (((∑ k, centR g k * u k) * (-(1 / 2) * ((Real.sqrt v)⁻¹ / v)) / 1024 : ℝ) : EReal) := by
    simp only [tangent, rstd, e, rsqrt_pos hv, cent_coe, ← EReal.coe_mul, coe_sum, w1024_eq, wNegHalf_eq]
    rw [div_coe _ hv.ne', ← EReal.coe_mul, ← EReal.coe_mul, div_coe _ (by norm_num)]
  simp only [back, backInTurn, ht, Norm.xhat, rstd, e, rsqrt_pos hv, cent_coe, ← EReal.coe_mul, mean_coe,
    ← EReal.coe_sub, ← EReal.coe_add, ← EReal.coe_neg, coe_sum, w1024_eq]
  rw [div_coe _ (by norm_num), ← EReal.coe_add]
  refine congrArg _ ?_
  have h0 : ∑ k, centR g k = 0 := sum_centR g
  generalize centR g = c at h0 ⊢
  simp only [meanR, Finset.sum_neg_distrib, ← Finset.mul_sum, h0]
  have h1 : ∑ k, u k * (c k * (Real.sqrt v)⁻¹) = (∑ k, c k * u k) * (Real.sqrt v)⁻¹ := by
    rw [Finset.sum_mul]; exact Finset.sum_congr rfl fun k _ => by ring
  have h2 : ∑ k, u k * (Real.sqrt v)⁻¹ = (∑ k, u k) * (Real.sqrt v)⁻¹ := by rw [Finset.sum_mul]
  rw [h1, h2]
  have h3 : (Real.sqrt v)⁻¹ / v = (Real.sqrt v)⁻¹ * ((Real.sqrt v)⁻¹ * (Real.sqrt v)⁻¹) := by
    rw [← mul_inv, hs, div_eq_mul_inv]
  rw [h3]
  ring

end Cert.Norm

end
-- ==== Proof.LnOut.lean ====
module

public import proofs.«01_k».proof.Proof.Gen.Kernel4Ideal.Value
public import proofs.«01_k».proof.Proof.Gen.Reference4Ideal.Read
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen Cert.Norm

/-- The word of the residual's weight. -/
def wAlpha : EReal := Ideal.ofBits .f32 0x3F9837F0#32
/-- The word of the reciprocal of 1024. -/
def wInv : EReal := Ideal.ofBits .f32 0x3A800000#32

/-- One row: the product with the squared units, the sum normalised, the error, the error's share of the gradient. -/
def prod (u : Fin 4096 → EReal) (w : Fin 4096 → Fin 1024 → EReal) (n : Fin 1024) : EReal := ∑ k, u k * u k * w k n
def resid (u : Fin 4096 → EReal) (w : Fin 4096 → Fin 1024 → EReal) (x gt : Fin 1024 → EReal) (n : Fin 1024) : EReal :=
  wAlpha * x n + (1 + gt n) * prod u w n
def err (z g b t : Fin 1024 → EReal) (n : Fin 1024) : EReal := xhat z n * g n + b n - t n
def dxh (z g b t : Fin 1024 → EReal) (n : Fin 1024) : EReal := err z g b t n * wInv * g n
def dz (z g b t : Fin 1024 → EReal) (n : Fin 1024) : EReal := back z (dxh z g b t) n

section Body

variable (U : FVec Ideal S512x4096 .bf16) (W : FVec Ideal S4096x1024 .bf16) (X T : FVec Ideal S512x1024 .f32)
  (Gt : FVec Ideal S1x1x1024 .f32) (G B : FVec Ideal S1x1024 .f32)

/-- The rows of a block. -/
def prodB (r : Fin 512) : Fin 1024 → EReal := prod (fun k => U (ix2 r k)) (fun k n => W (ix2 k n))
def residB (r : Fin 512) : Fin 1024 → EReal :=
  resid (fun k => U (ix2 r k)) (fun k n => W (ix2 k n)) (fun k => X (ix2 r k)) (fun k => Gt (ix3 0 0 k))

theorem pay_prod (r : Fin 512) (n : Fin 1024) : k0_pay4 (F := Ideal) U W (ix2 r n) = prodB U W r n := by
  unfold prodB prod
  pointwise [k0_pay4]

theorem pay_cent (r : Fin 512) (n : Fin 1024) : k0_pay7 (F := Ideal) U W X Gt (ix2 r n) = cent (residB U W X Gt r) n := by
  have h := pay_prod U W
  generalize hP : k0_pay4 (F := Ideal) U W = P at h
  have h' : ∀ r n, residB U W X Gt r n = wAlpha * X (ix2 r n) + (1 + Gt (ix3 0 0 n)) * P (ix2 r n) := fun r n => by
    rw [h]; rfl
  unfold cent mean
  simp only [h']
  unfold wAlpha w1024
  pointwise [k0_pay7, k0_pay6, hP]

theorem pay_rstd (r : Fin 512) (a : Fin 1) : k0_pay8 (F := Ideal) U W X Gt (ix2 r a) = rstd (residB U W X Gt r) := by
  have h := pay_cent U W X Gt
  unfold rstd spread mean w1024 wEps
  simp only [← h]
  generalize hP : k0_pay7 (F := Ideal) U W X Gt = P
  pointwise [k0_pay8, hP]

theorem pay_rstdB (r : Fin 512) (n : Fin 1024) : k0_pay9 (F := Ideal) U W X Gt (ix2 r n) = rstd (residB U W X Gt r) := by
  rw [← pay_rstd U W X Gt r 0]
  generalize hP : k0_pay8 (F := Ideal) U W X Gt = P
  pointwise [k0_pay9, hP]

end Body

section Rows

variable (v9 : FVec Ideal S512x1024 .f32) (v11 v12 v13 : FVec Ideal S1x1024 .f32) (v26 v35 : FVec Ideal S512x1024 .f32)
  (v34 : FVec Ideal S512x1 .f32) (z : Fin 512 → Fin 1024 → EReal)

abbrev gRow : Fin 1024 → EReal := fun n => v12 (ix2 0 n)
abbrev tRow (r : Fin 512) : Fin 1024 → EReal := fun n => v9 (ix2 r n)

section
include z
variable (h26 : ∀ r n, v26 (ix2 r n) = cent (z r) n) (h35 : ∀ r n, v35 (ix2 r n) = rstd (z r))
include h26 h35

theorem pay_xhat (r : Fin 512) (n : Fin 1024) : k0_pay10 v26 v35 (ix2 r n) = xhat (z r) n := by
  unfold xhat
  rw [← h26, ← h35 r n]
  pointwise [k0_pay10]

theorem pay_err (r : Fin 512) (n : Fin 1024) :
    k0_pay11 v9 v12 v13 v26 v35 (ix2 r n) = err (z r) (gRow v12) (gRow v13) (tRow v9 r) n := by
  unfold err
  rw [← pay_xhat v26 v35 z h26 h35 r n]
  generalize hP : k0_pay10 v26 v35 = P
  pointwise [k0_pay11, hP]

theorem pay_dy (r : Fin 512) (n : Fin 1024) :
    k0_pay13 v9 v12 v13 v26 v35 (ix2 r n) = err (z r) (gRow v12) (gRow v13) (tRow v9 r) n * wInv := by
  rw [← pay_err v9 v12 v13 v26 v35 z h26 h35 r n]
  generalize hP : k0_pay11 v9 v12 v13 v26 v35 = P
  unfold wInv
  pointwise [k0_pay13, hP]

theorem pay_loss : k0_pay12 v9 v12 v13 v26 v35
    = Ideal.ofBits .f32 0x3F000000#32 * ∑ r : Fin 512, mean (fun n => err (z r) (gRow v12) (gRow v13) (tRow v9 r) n
      * err (z r) (gRow v12) (gRow v13) (tRow v9 r) n) := by
  simp only [← pay_err v9 v12 v13 v26 v35 z h26 h35]
  generalize hP : k0_pay11 v9 v12 v13 v26 v35 = P
  unfold mean w1024
  pointwise [k0_pay12, hP]
  exact congrArg _ (Finset.sum_congr rfl fun r _ => Fin.sum_univ_one _)

section
variable (h34 : ∀ r a, v34 (ix2 r a) = rstd (z r))
include h34

theorem pay_dz (r : Fin 512) (n : Fin 1024) :
    k0_pay14 v9 v12 v13 v26 v34 v35 (ix2 r n) = dz (z r) (gRow v12) (gRow v13) (tRow v9 r) n := by
  unfold dz back mean dxh w1024
  simp only [← pay_dy v9 v12 v13 v26 v35 z h26 h35, ← pay_xhat v26 v35 z h26 h35, ← h34 r 0]
  generalize hP : k0_pay10 v26 v35 = P
  generalize hQ : k0_pay13 v9 v12 v13 v26 v35 = Q
  pointwise [k0_pay14, hP, hQ]

theorem pay_df (r : Fin 512) (n : Fin 1024) : k0_pay20 (k0_pay15 v9 v11 v12 v13 v26 v34 v35) (ix2 r n)
    = dz (z r) (gRow v12) (gRow v13) (tRow v9 r) n * (Ideal.ofBits .f32 0x40000000#32 * (1 + v11 (ix2 0 n))) := by
  rw [← pay_dz v9 v12 v13 v26 v35 v34 z h26 h35 h34 r n]
  generalize hP : k0_pay14 v9 v12 v13 v26 v34 v35 = P
  pointwise [k0_pay20, k0_pay15, hP]

theorem pay_dx (r : Fin 512) (n : Fin 1024) : k0_pay16 v9 v12 v13 v26 v34 v35 (ix2 r n)
    = wAlpha * dz (z r) (gRow v12) (gRow v13) (tRow v9 r) n := by
  rw [← pay_dz v9 v12 v13 v26 v35 v34 z h26 h35 h34 r n]
  generalize hP : k0_pay14 v9 v12 v13 v26 v34 v35 = P
  unfold wAlpha
  pointwise [k0_pay16, hP]

theorem pay_dgt (v5 : FVec Ideal S512x1024 .f32) (a : Fin 1) (n : Fin 1024) :
    k0_pay17 v5 v9 v12 v13 v26 v34 v35 (ix2 a n)
    = ∑ r : Fin 512, dz (z r) (gRow v12) (gRow v13) (tRow v9 r) n * v5 (ix2 r n) := by
  simp only [← pay_dz v9 v12 v13 v26 v35 v34 z h26 h35 h34]
  generalize hP : k0_pay14 v9 v12 v13 v26 v34 v35 = P
  pointwise [k0_pay17, hP]

end
end

/-- The sums over the rows of a block, on their own and on top of what is there. -/
theorem pay_dg (v36 v53 : FVec Ideal S512x1024 .f32) (a : Fin 1) (n : Fin 1024) :
    k0_pay18 v36 v53 (ix2 a n) = ∑ r : Fin 512, v53 (ix2 r n) * v36 (ix2 r n) := by
  pointwise [k0_pay18]
theorem pay_dg_add (v36 v53 : FVec Ideal S512x1024 .f32) (S : FVec Ideal S1x1024 .f32) (a : Fin 1) (n : Fin 1024) :
    k0_pay23 v36 v53 S (ix2 a n) = S (ix2 a n) + ∑ r : Fin 512, v53 (ix2 r n) * v36 (ix2 r n) := by
  pointwise [k0_pay23, k0_pay18]
theorem pay_db (v53 : FVec Ideal S512x1024 .f32) (a : Fin 1) (n : Fin 1024) :
    k0_pay19 v53 (ix2 a n) = ∑ r : Fin 512, v53 (ix2 r n) := by
  pointwise [k0_pay19]
theorem pay_db_add (v87 S : FVec Ideal S1x1024 .f32) (a : Fin 1) (n : Fin 1024) :
    k0_pay1 v87 S (ix2 a n) = S (ix2 a n) + v87 (ix2 a n) := by
  pointwise [k0_pay1]
theorem pay_gt_first (v82 : FVec Ideal S1x1024 .f32) (a b : Fin 1) (n : Fin 1024) :
    k0_pay21 v82 (ix3 a b n) = v82 (ix2 0 n) := by
  pointwise [k0_pay21]
theorem pay_gt_add (v82 : FVec Ideal S1x1024 .f32) (S : FVec Ideal S1x1x1024 .f32) (a b : Fin 1) (n : Fin 1024) :
    k0_pay22 v82 S (ix3 a b n) = S (ix3 a b n) + v82 (ix2 0 n) := by
  obtain rfl : a = 0 := Subsingleton.elim _ _
  obtain rfl : b = 0 := Subsingleton.elim _ _
  pointwise [k0_pay22]
theorem pay_loss_first (l : Ideal .f32) (a : Fin 8) (b : Fin 128) : k0_pay2 l (ix2 a b) = l := by
  pointwise [k0_pay2]
theorem pay_loss_add (l : Ideal .f32) (S : FVec Ideal S8x128 .f32) (a : Fin 8) (b : Fin 128) :
    k0_pay3 l S (ix2 a b) = S (ix2 a b) + l := by
  pointwise [k0_pay3]

end Rows

variable (m : (ℓ : Loc nD τ sig) → Buf (Elt Ideal) ℓ)

theorem idx : ∀ t : Fin cfg0.N, win0_0.index t = ![t.val, 0] ∧ win0_1.index t = ![0, 0]
    ∧ win0_2.index t = ![t.val, 0] ∧ win0_3.index t = ![t.val, 0] ∧ win0_4.index t = ![t.val / 4, 0, 0]
    ∧ win0_5.index t = ![0, 0] ∧ win0_6.index t = ![0, 0]
    ∧ win0_7.index t = ![t.val, 0] ∧ win0_8.index t = ![t.val, 0] ∧ win0_9.index t = ![t.val / 4, 0, 0]
    ∧ win0_10.index t = ![0, 0] ∧ win0_11.index t = ![0, 0] ∧ win0_12.index t = ![0, 0] :=
  (by decide +kernel : ∀ t : Fin grid0.N, _)

section
variable (c : Dev nD) (t : Fin cfg0.N)
/-- The body's values at a point, over the blocks the point loads. -/
abbrev b26 := k0_pay7 (F := Ideal) (iblk m c 0 t) (iblk m c 1 t) (iblk m c 2 t) (iblk m c 4 t)
abbrev b34 := k0_pay8 (F := Ideal) (iblk m c 0 t) (iblk m c 1 t) (iblk m c 2 t) (iblk m c 4 t)
abbrev b35 := k0_pay9 (F := Ideal) (iblk m c 0 t) (iblk m c 1 t) (iblk m c 2 t) (iblk m c 4 t)
abbrev b53 := k0_pay13 (k0_pay5 (iblk m c 3 t)) (iblk m c 5 t) (iblk m c 6 t) (b26 m c t) (b35 m c t)
abbrev b51 := k0_pay12 (k0_pay5 (iblk m c 3 t)) (iblk m c 5 t) (iblk m c 6 t) (b26 m c t) (b35 m c t)
abbrev b36 := k0_pay10 (b26 m c t) (b35 m c t)
abbrev b82 := k0_pay17 (k0_pay4 (iblk m c 0 t) (iblk m c 1 t)) (k0_pay5 (iblk m c 3 t)) (iblk m c 5 t) (iblk m c 6 t)
  (b26 m c t) (b34 m c t) (b35 m c t)

theorem out_tiles : (∀ y, (outsAt0 m c t.val t.isLt).1 y = k0_pay20 (k0_pay15 (k0_pay5 (iblk m c 3 t))
      (k0_pay6 (iblk m c 4 t)) (iblk m c 5 t) (iblk m c 6 t) (b26 m c t) (b34 m c t) (b35 m c t)) y)
    ∧ (∀ y, (outsAt0 m c t.val t.isLt).2.1 y = k0_pay16 (k0_pay5 (iblk m c 3 t))
      (iblk m c 5 t) (iblk m c 6 t) (b26 m c t) (b34 m c t) (b35 m c t) y) := by
  by_cases h : t.val % 4 = 0
  · by_cases g : t.val % 16 = 0
    · have g' : ¬1 ≤ t.val := by have := lt_of_lt_of_eq t.isLt N_0; omega
      rw [outsAt0_A m c t h (not_not.2 h) g g' g g' g g']
      exact ⟨fun y => by frame_out, fun y => by frame_out⟩
    · have g' : 1 ≤ t.val := by omega
      rw [outsAt0_C m c t h (not_not.2 h) g g' g g' g g']
      exact ⟨fun y => by frame_out, fun y => by frame_out⟩
  · have g' : 1 ≤ t.val := by omega
    have g : ¬t.val % 16 = 0 := by omega
    rw [outsAt0_B m c t h h g g' g g' g g']
    exact ⟨fun y => by frame_out, fun y => by frame_out⟩

theorem out_gt_first (h : t.val % 4 = 0) : ∀ y, (outsAt0 m c t.val t.isLt).2.2.1 y = k0_pay21 (b82 m c t) y := by
  by_cases g : t.val % 16 = 0
  · have g' : ¬1 ≤ t.val := by have := lt_of_lt_of_eq t.isLt N_0; omega
    rw [outsAt0_A m c t h (not_not.2 h) g g' g g' g g']
    exact fun y => by frame_out
  · have g' : 1 ≤ t.val := by omega
    rw [outsAt0_C m c t h (not_not.2 h) g g' g g' g g']
    exact fun y => by frame_out

theorem out_gt_next (h : ¬t.val % 4 = 0) : ∀ y, (outsAt0 m c t.val t.isLt).2.2.1 y
    = k0_pay22 (b82 m c t) (outsAt0 m c (t.val - 1) (by omega)).2.2.1 y := by
  have g' : 1 ≤ t.val := by omega
  have g : ¬t.val % 16 = 0 := by omega
  rw [outsAt0_B m c t h h g g' g g' g g']
  exact fun y => by frame_out

theorem out_first (g : t.val % 16 = 0) : (∀ y, (outsAt0 m c t.val t.isLt).2.2.2.1 y = k0_pay18 (b36 m c t) (b53 m c t) y)
    ∧ (∀ y, (outsAt0 m c t.val t.isLt).2.2.2.2.1 y = k0_pay19 (b53 m c t) y)
    ∧ (∀ y, (outsAt0 m c t.val t.isLt).2.2.2.2.2 y = k0_pay2 (b51 m c t) y) := by
  have h : t.val % 4 = 0 := by omega
  have g' : ¬1 ≤ t.val := by have := lt_of_lt_of_eq t.isLt N_0; omega
  rw [outsAt0_A m c t h (not_not.2 h) g g' g g' g g']
  exact ⟨fun y => by frame_out, fun y => by frame_out, fun y => by frame_out⟩

theorem out_next (g : ¬t.val % 16 = 0) : (∀ y, (outsAt0 m c t.val t.isLt).2.2.2.1 y
      = k0_pay23 (b36 m c t) (b53 m c t) (outsAt0 m c (t.val - 1) (by omega)).2.2.2.1 y)
    ∧ (∀ y, (outsAt0 m c t.val t.isLt).2.2.2.2.1 y
      = k0_pay1 (k0_pay19 (b53 m c t)) (outsAt0 m c (t.val - 1) (by omega)).2.2.2.2.1 y)
    ∧ (∀ y, (outsAt0 m c t.val t.isLt).2.2.2.2.2 y
      = k0_pay3 (b51 m c t) (outsAt0 m c (t.val - 1) (by omega)).2.2.2.2.2 y) := by
  have g' : 1 ≤ t.val := by omega
  by_cases h : t.val % 4 = 0
  · rw [outsAt0_C m c t h (not_not.2 h) g g' g g' g g']
    exact ⟨fun y => by frame_out, fun y => by frame_out, fun y => by frame_out⟩
  · rw [outsAt0_B m c t h h g g' g g' g g']
    exact ⟨fun y => by frame_out, fun y => by frame_out, fun y => by frame_out⟩

end

/-- The arrays the grid reads, row by row. -/
def rowU (c : Dev nD) (R : Fin 8192) (k : Fin 4096) : EReal := (V m c main_v3 : FVec Ideal S8192x4096 .bf16) (ix2 R k)
def colW (c : Dev nD) (k : Fin 4096) (n : Fin 1024) : EReal := (V m c main_v4 : FVec Ideal S4096x1024 .bf16) (ix2 k n)
def rowX (c : Dev nD) (R : Fin 8192) (n : Fin 1024) : EReal := (V m c main_v5 : FVec Ideal S8192x1024 .f32) (ix2 R n)
def rowT (c : Dev nD) (R : Fin 8192) (n : Fin 1024) : EReal := (V m c main_v6 : FVec Ideal S8192x1024 .f32) (ix2 R n)
def rowGt (c : Dev nD) (b : Fin 4) (n : Fin 1024) : EReal := (V m c main_v7 : FVec Ideal S4x1x1024 .f32) (ix3 b 0 n)
def rowG (c : Dev nD) (n : Fin 1024) : EReal := (V m c main_arg5 : FVec Ideal S1x1024 .f32) (ix2 0 n)
def rowB (c : Dev nD) (n : Fin 1024) : EReal := (V m c main_arg6 : FVec Ideal S1x1024 .f32) (ix2 0 n)

section
variable (c : Dev nD) (t : Fin cfg0.N) (r : Fin 512) (R : Fin 8192) (hR : (R : ℕ) = t.val * 512 + r)

theorem blkW (k : Fin 4096) (n : Fin 1024) :
    (iblk m c 1 t : FVec Ideal S4096x1024 .bf16) (ix2 k n) = colW m c k n := by
  unfold colW; blk_ext [iblk, idx t]
theorem blkGt (b : Fin 4) (hb : (b : ℕ) = t.val / 4) (n : Fin 1024) :
    (iblk m c 4 t : FVec Ideal S1x1x1024 .f32) (ix3 0 0 n) = rowGt m c b n := by
  unfold rowGt; blk_ext [iblk, idx t]
theorem blkG (n : Fin 1024) : (iblk m c 5 t : FVec Ideal S1x1024 .f32) (ix2 0 n) = rowG m c n := by
  unfold rowG; blk_ext [iblk, idx t]
theorem blkB (n : Fin 1024) : (iblk m c 6 t : FVec Ideal S1x1024 .f32) (ix2 0 n) = rowB m c n := by
  unfold rowB; blk_ext [iblk, idx t]
include hR
theorem blkU (k : Fin 4096) : (iblk m c 0 t : FVec Ideal S512x4096 .bf16) (ix2 r k) = rowU m c R k := by
  unfold rowU; blk_ext [iblk, idx t]
theorem blkX (n : Fin 1024) : (iblk m c 2 t : FVec Ideal S512x1024 .f32) (ix2 r n) = rowX m c R n := by
  unfold rowX; blk_ext [iblk, idx t]
theorem blkT (n : Fin 1024) : k0_pay5 (F := Ideal) (iblk m c 3 t) (ix2 r n) = rowT m c R n := by
  have e : (iblk m c 3 t : FVec Ideal S512x1024 .f32) (ix2 r n) = rowT m c R n := by
    unfold rowT; blk_ext [iblk, idx t]
  rw [← e]
  generalize (iblk m c 3 t : FVec Ideal S512x1024 .f32) = P
  pointwise [k0_pay5]
end

/-- Every row's product, its sum before the normalisation, its error and the gradient with respect to that sum. -/
def prodAll (c : Dev nD) (R : Fin 8192) : Fin 1024 → EReal := prod (rowU m c R) (colW m c)
def gtAll (c : Dev nD) (R : Fin 8192) : Fin 1024 → EReal := rowGt m c ⟨(R : ℕ) / 2048, by omega⟩
def residAll (c : Dev nD) (R : Fin 8192) : Fin 1024 → EReal :=
  resid (rowU m c R) (colW m c) (rowX m c R) (gtAll m c R)
def errAll (c : Dev nD) (R : Fin 8192) : Fin 1024 → EReal := err (residAll m c R) (rowG m c) (rowB m c) (rowT m c R)
def dzAll (c : Dev nD) (R : Fin 8192) : Fin 1024 → EReal := dz (residAll m c R) (rowG m c) (rowB m c) (rowT m c R)

section
variable (c : Dev nD) (t : Fin cfg0.N) (r : Fin 512) (R : Fin 8192) (hR : (R : ℕ) = t.val * 512 + r)

theorem gRow_eq : gRow (iblk m c 5 t) = rowG m c := funext (blkG m c t)
theorem bRow_eq : gRow (iblk m c 6 t) = rowB m c := funext (blkB m c t)
include hR
theorem tRow_eq : tRow (k0_pay5 (F := Ideal) (iblk m c 3 t)) r = rowT m c R := funext (blkT m c t r R hR)
theorem prodB_eq : prodB (iblk m c 0 t) (iblk m c 1 t) r = prodAll m c R := by
  unfold prodB prodAll
  exact congrArg₂ prod (funext (blkU m c t r R hR)) (funext fun k => funext (blkW m c t k))
theorem residB_eq : residB (iblk m c 0 t) (iblk m c 1 t) (iblk m c 2 t) (iblk m c 4 t) r = residAll m c R := by
  unfold residB residAll
  exact congr (congr (congrArg₂ resid (funext (blkU m c t r R hR)) (funext fun k => funext (blkW m c t k)))
    (funext (blkX m c t r R hR))) (funext (blkGt m c t _ (by show (R : ℕ) / 2048 = _; omega)))
theorem dzB_eq : dz (residB (iblk m c 0 t) (iblk m c 1 t) (iblk m c 2 t) (iblk m c 4 t) r) (gRow (iblk m c 5 t))
    (gRow (iblk m c 6 t)) (tRow (k0_pay5 (F := Ideal) (iblk m c 3 t)) r) = dzAll m c R := by
  rw [residB_eq m c t r R hR, gRow_eq, bRow_eq, tRow_eq m c t r R hR]; rfl
theorem errB_eq : err (residB (iblk m c 0 t) (iblk m c 1 t) (iblk m c 2 t) (iblk m c 4 t) r) (gRow (iblk m c 5 t))
    (gRow (iblk m c 6 t)) (tRow (k0_pay5 (F := Ideal) (iblk m c 3 t)) r) = errAll m c R := by
  rw [residB_eq m c t r R hR, gRow_eq, bRow_eq, tRow_eq m c t r R hR]; rfl
end

/-- The results over the whole arrays. -/
def df (c : Dev nD) (R : Fin 8192) (n : Fin 1024) : EReal :=
  dzAll m c R n * (Ideal.ofBits .f32 0x40000000#32 * (1 + gtAll m c R n))
def dx (c : Dev nD) (R : Fin 8192) (n : Fin 1024) : EReal := wAlpha * dzAll m c R n
def gtTerm (c : Dev nD) (R : Fin 8192) (n : Fin 1024) : EReal := dzAll m c R n * prodAll m c R n
def gTerm (c : Dev nD) (R : Fin 8192) (n : Fin 1024) : EReal := errAll m c R n * wInv * xhat (residAll m c R) n
def bTerm (c : Dev nD) (R : Fin 8192) (n : Fin 1024) : EReal := errAll m c R n * wInv
def lossTerm (c : Dev nD) (R : Fin 8192) : EReal := mean (fun n => errAll m c R n * errAll m c R n)

theorem lt16 (t : Fin cfg0.N) : t.val < 16 := lt_of_lt_of_eq t.isLt N_0
/-- Row `r` of the tile of a point. -/
abbrev at_ (t : Fin cfg0.N) (r : Fin 512) : Fin 8192 := Common.tileRow t.val (lt16 t) r

section
variable (c : Dev nD) (t : Fin cfg0.N)

theorem b53_eq (r : Fin 512) (n : Fin 1024) : b53 m c t (ix2 r n) = bTerm m c (at_ t r) n := by
  refine (pay_dy _ _ _ _ _ _ (pay_cent _ _ _ _) (pay_rstdB _ _ _ _) r n).trans ?_
  rw [errB_eq m c t r (at_ t r) rfl]; rfl
theorem b36_eq (r : Fin 512) (n : Fin 1024) : b36 m c t (ix2 r n) = xhat (residAll m c (at_ t r)) n := by
  refine (pay_xhat _ _ _ (pay_cent _ _ _ _) (pay_rstdB _ _ _ _) r n).trans ?_
  rw [residB_eq m c t r (at_ t r) rfl]
theorem b82_eq (a : Fin 1) (n : Fin 1024) : b82 m c t (ix2 a n) = ∑ r : Fin 512, gtTerm m c (at_ t r) n := by
  refine (pay_dgt _ _ _ _ _ _ _ (pay_cent _ _ _ _) (pay_rstdB _ _ _ _) (pay_rstd _ _ _ _) _ a n).trans ?_
  refine Finset.sum_congr rfl fun r _ => ?_
  rw [dzB_eq m c t r (at_ t r) rfl, pay_prod, prodB_eq m c t r (at_ t r) rfl]; rfl
theorem b51_eq : b51 m c t = Ideal.ofBits .f32 0x3F000000#32 * ∑ r : Fin 512, lossTerm m c (at_ t r) := by
  refine (pay_loss _ _ _ _ _ _ (pay_cent _ _ _ _) (pay_rstdB _ _ _ _)).trans ?_
  refine congrArg _ (Finset.sum_congr rfl fun r _ => ?_)
  rw [errB_eq m c t r (at_ t r) rfl]; rfl
end

theorem final_df (c : Dev nD) : (dats m 0 c).arrAt 7 (cfgs 0).N = fun i : S8192x1024.Idx => df m c (i 0) (i 1) := by
  refine (dats m 0 c).arrAt_eq_of_covers 7 _ (by decide +kernel) fun t _ y => ?_
  blk_simp
  rw [after0_7]
  idx_vars y
  have key : ∀ (R : Fin 8192) (N : Fin 1024), (R : ℕ) = t.val * 512 + y0 → (N : ℕ) = y1 →
      (outsAt0 m c t.val t.isLt).1 (ix2 y0 y1) = df m c R N := fun R N hR hN => by
    obtain rfl : N = y1 := Fin.ext hN
    refine ((out_tiles m c t).1 _).trans ((pay_df _ _ _ _ _ _ _ _ (pay_cent _ _ _ _) (pay_rstdB _ _ _ _)
      (pay_rstd _ _ _ _) y0 N).trans ?_)
    rw [dzB_eq m c t y0 R hR]
    unfold df gtAll
    rw [← blkGt m c t _ (by show (R : ℕ) / 2048 = _; omega)]
    generalize (iblk m c 4 t : FVec Ideal S1x1x1024 .f32) = P
    pointwise [k0_pay6]
  exact key _ _ (by blk_simp [idx t]) (by blk_simp [idx t])

theorem final_dx (c : Dev nD) : (dats m 0 c).arrAt 8 (cfgs 0).N = fun i : S8192x1024.Idx => dx m c (i 0) (i 1) := by
  refine (dats m 0 c).arrAt_eq_of_covers 8 _ (by decide +kernel) fun t _ y => ?_
  blk_simp
  rw [after0_8]
  idx_vars y
  have key : ∀ (R : Fin 8192) (N : Fin 1024), (R : ℕ) = t.val * 512 + y0 → (N : ℕ) = y1 →
      (outsAt0 m c t.val t.isLt).2.1 (ix2 y0 y1) = dx m c R N := fun R N hR hN => by
    obtain rfl : N = y1 := Fin.ext hN
    refine ((out_tiles m c t).2 _).trans ((pay_dx _ _ _ _ _ _ _ (pay_cent _ _ _ _) (pay_rstdB _ _ _ _)
      (pay_rstd _ _ _ _) y0 N).trans ?_)
    rw [dzB_eq m c t y0 R hR]; rfl
  exact key _ _ (by blk_simp [idx t]) (by blk_simp [idx t])

theorem final_gt (c : Dev nD) : (dats m 0 c).arrAt 9 (cfgs 0).N
    = fun i : S4x1x1024.Idx => ∑ s : Fin 2048, gtTerm m c (Common.batchRow (i 0) s) (i 2) := by
  refine (dats m 0 c).arrAt_eq_of_covers 9 _ (by decide +kernel) fun t hf y => ?_
  blk_simp
  idx_vars y
  rw [after0_9, Pipeline.eq_sum_fin_of_reset_step_apply_of_flush (fun n h => (outsAt0 m c n h).2.2.1) 4 (fun _ => 0)
    (fun t j => ∑ r : Fin 512, gtTerm m c (at_ t r) (j 2))
    (fun t h j => by
      idx_vars j
      rw [zero_add]
      exact (out_gt_first m c t h _).trans ((pay_gt_first _ _ _ _).trans (b82_eq m c t _ _)))
    (fun t h j => by
      idx_vars j
      refine (out_gt_next m c t h _).trans ((pay_gt_add _ _ _ _ _).trans ?_)
      rw [b82_eq m c t _ _])
    t ((flush0_9 t).mp hf) _, zero_add]
  have hN := lt16 t
  refine (Common.sum_batch (fun R => gtTerm m c R y2) ⟨t.val / 4, by omega⟩ _).trans ?_
  refine congrArg₂ (fun b n => ∑ s : Fin 2048, gtTerm m c (Common.batchRow b s) n) (Fin.ext ?_) (Fin.ext ?_) <;>
    blk_simp [idx t]

theorem final_g (c : Dev nD) : (dats m 0 c).arrAt 10 (cfgs 0).N
    = fun i : S1x1024.Idx => ∑ R : Fin 8192, gTerm m c R (i 1) := by
  refine (dats m 0 c).arrAt_eq_of_covers 10 _ (by decide +kernel) fun t hf y => ?_
  blk_simp
  idx_vars y
  rw [after0_10, Pipeline.eq_sum_fin_of_reset_step_apply_of_flush (fun n h => (outsAt0 m c n h).2.2.2.1) 16 (fun _ => 0)
    (fun t j => ∑ r : Fin 512, gTerm m c (at_ t r) (j 1))
    (fun t h j => by
      idx_vars j
      rw [zero_add]
      refine ((out_first m c t h).1 _).trans ((pay_dg _ _ _ _).trans ?_)
      simp only [b53_eq, b36_eq]; rfl)
    (fun t h j => by
      idx_vars j
      refine ((out_next m c t h).1 _).trans ((pay_dg_add _ _ _ _ _).trans ?_)
      simp only [b53_eq, b36_eq]; rfl)
    t ((flush0_10 t).mp hf) _, zero_add]
  refine (Common.sum_tiles (fun R => gTerm m c R y1) (t.val / 16) (by have := lt16 t; omega) _).trans ?_
  exact congrArg (fun n => ∑ R : Fin 8192, gTerm m c R n) (Fin.ext (by blk_simp [idx t]))

theorem final_b (c : Dev nD) : (dats m 0 c).arrAt 11 (cfgs 0).N
    = fun i : S1x1024.Idx => ∑ R : Fin 8192, bTerm m c R (i 1) := by
  refine (dats m 0 c).arrAt_eq_of_covers 11 _ (by decide +kernel) fun t hf y => ?_
  blk_simp
  idx_vars y
  rw [after0_11, Pipeline.eq_sum_fin_of_reset_step_apply_of_flush (fun n h => (outsAt0 m c n h).2.2.2.2.1) 16 (fun _ => 0)
    (fun t j => ∑ r : Fin 512, bTerm m c (at_ t r) (j 1))
    (fun t h j => by
      idx_vars j
      rw [zero_add]
      refine ((out_first m c t h).2.1 _).trans ((pay_db _ _ _).trans ?_)
      simp only [b53_eq])
    (fun t h j => by
      idx_vars j
      refine ((out_next m c t h).2.1 _).trans ((pay_db_add _ _ _ _).trans ?_)
      rw [pay_db]
      simp only [b53_eq])
    t ((flush0_11 t).mp hf) _, zero_add]
  refine (Common.sum_tiles (fun R => bTerm m c R y1) (t.val / 16) (by have := lt16 t; omega) _).trans ?_
  exact congrArg (fun n => ∑ R : Fin 8192, bTerm m c R n) (Fin.ext (by blk_simp [idx t]))

theorem final_loss (c : Dev nD) : (dats m 0 c).arrAt 12 (cfgs 0).N
    = fun i : S8x128.Idx => Ideal.ofBits .f32 0x3F000000#32 * ∑ R : Fin 8192, lossTerm m c R := by
  refine (dats m 0 c).arrAt_eq_of_covers 12 _ (by decide +kernel) fun t hf y => ?_
  blk_simp
  idx_vars y
  rw [after0_12, Pipeline.eq_sum_fin_of_reset_step_apply_of_flush (fun n h => (outsAt0 m c n h).2.2.2.2.2) 16 (fun _ => 0)
    (fun t j => Ideal.ofBits .f32 0x3F000000#32 * ∑ r : Fin 512, lossTerm m c (at_ t r))
    (fun t h j => by
      idx_vars j
      rw [zero_add]
      exact ((out_first m c t h).2.2 _).trans ((pay_loss_first _ _ _).trans (b51_eq m c t)))
    (fun t h j => by
      idx_vars j
      refine ((out_next m c t h).2.2 _).trans ((pay_loss_add _ _ _ _).trans ?_)
      rw [b51_eq])
    t ((flush0_12 t).mp hf) _, zero_add]
  rw [Common.half, Common.factor_sum _ _ (by exact_mod_cast (by norm_num : (0 : ℝ) ≤ 1 / 2)) (EReal.coe_ne_top _)]
  exact congrArg _ (Common.sum_tiles (fun R => lossTerm m c R) (t.val / 16) (by have := lt16 t; omega) _)

end Cert.Kernel4Ideal.Value
-- ==== Proof.Finite.lean ====
/- What a precondition says that asks an array's absolute values to lie below infinity: its entries are finite. -/
module

public import proofs.«01_k».proof.Proof.Norm
public import Idealize.ShloMosaic.Lib.ReduceAll

@[expose] public section

noncomputable section

open Idealize.ShloMosaic

namespace Cert.Norm

abbrev scalar : Shape := ⟨0, ![]⟩

theorem word_inf : Ideal.ofBits .f32 0x7F800000#32 = ⊤ := by simp [Ideal.ofBits, Ideal.ieee]

theorem isReal_of_below {x : EReal} (h : max x (-x) < ⊤) : IsReal x := by
  obtain ⟨h1, h2⟩ := max_lt_iff.mp h
  induction x with
  | bot => exact absurd h2 (by simp)
  | top => exact absurd h1 (by simp)
  | coe r => exact ⟨r, rfl⟩

theorem all_real {s : Shape} {l : List (Fin s.rank)} (x : FVec Ideal s .f32)
    (hb : scalar.BroadcastsInDim s (![] : Fin 0 → Fin s.rank)) (hr : s.ReducesTo l scalar) (hn : 0 < scalar.numel) (j : scalar.Idx)
    (e : Host.reduce IntOp.andi (cmpf .olt (Host.absf x) (broadcastInDim s ![] hb (constant scalar .f32 0x7F800000#32)))
      (constantI scalar 1 1#1) hr hn j = 1#1) (i : s.Idx) : IsReal (x i) := by
  haveI : Subsingleton scalar.Idx := ⟨fun a b => funext fun k => k.elim0⟩
  have h := Host.reduce_andi_all _ _ hr hn _ e i
  refine isReal_of_below (lt_of_lt_of_eq ?_ word_inf)
  have h' : BitVec.ofBool (decide (max (x i) (-(x i)) < Ideal.ofBits .f32 0x7F800000#32)) = 1#1 := h
  by_contra hc
  rw [decide_eq_false hc] at h'
  exact absurd h' (by decide)

theorem and_left {a b : IVec scalar 1} (i : scalar.Idx) (h : andi a b i = 1#1) : a i = 1#1 := (IntOp.andi_eq_one.mp h).1
theorem and_right {a b : IVec scalar 1} (i : scalar.Idx) (h : andi a b i = 1#1) : b i = 1#1 := (IntOp.andi_eq_one.mp h).2

end Cert.Norm

end
-- ==== Proof.LnOutRef.lean ====
/- The reference's entries for the second normalisation, its loss and their gradients, and their agreement with the
   kernel's arrays where the arguments are finite. -/
module

public import proofs.«01_k».proof.Proof.LnOut
public import proofs.«01_k».proof.Proof.Finite
public import proofs.«01_k».proof.Proof.Gen.Reference4Ideal.Read

@[expose] public section

set_option maxRecDepth 16384

noncomputable section

open Idealize.ShloMosaic Idealize.ShloMosaic.TcCoe Idealize.SL.Sem

namespace Cert.Reference4Ideal.Value

open Cert.Reference4Ideal Cert.Reference4Ideal.Read Cert.Kernel4Ideal.Value Cert.Norm

variable (U : FVec Ideal S4x2048x4096 .f32) (W : FVec Ideal S4096x1024 .f32) (X T : FVec Ideal S4x2048x1024 .f32)
  (G : FVec Ideal S4x1024 .f32) (g b : FVec Ideal S1x1024 .f32)

/-- A row's product, its sum before the normalisation, its error, and the gradients of the normalised row and of the
    sum, the last as differentiated in turn. -/
def actR (a : Fin 4) (s : Fin 2048) (k : Fin 4096) : EReal := max (U (ix3 a s k)) 0
def pR (a : Fin 4) (s : Fin 2048) : Fin 1024 → EReal := prod (actR U a s) (fun k n => W (ix2 k n))
def zR (a : Fin 4) (s : Fin 2048) : Fin 1024 → EReal :=
  resid (actR U a s) (fun k n => W (ix2 k n)) (fun n => X (ix3 a s n)) (fun n => G (ix2 a n))
def eR (a : Fin 4) (s : Fin 2048) : Fin 1024 → EReal :=
  err (zR U W X G a s) (fun n => g (ix2 0 n)) (fun n => b (ix2 0 n)) (fun n => T (ix3 a s n))
def dR (a : Fin 4) (s : Fin 2048) (n : Fin 1024) : EReal := eR U W X T G g b a s n * wInv * g (ix2 0 n)
def dzR (a : Fin 4) (s : Fin 2048) : Fin 1024 → EReal := backInTurn (zR U W X G a s) (dR U W X T G g b a s)

theorem entry_prod (a : Fin 4) (s : Fin 2048) (n : Fin 1024) :
    val_main_v2 (F := Ideal) U W (ix3 a s n) = pR U W a s n := by
  unfold pR prod actR
  pointwise [val_main_v2, val_main_v1, val_main_v0, val_main_call0_v0, val_main_call0_cst]
theorem entry_z (a : Fin 4) (s : Fin 2048) (n : Fin 1024) :
    val_main_v10 (F := Ideal) U W X G (ix3 a s n) = zR U W X G a s n := by
  pointwise [val_main_v10, val_main_v4, val_main_v3, val_main_cst, val_main_v9, val_main_v8, val_main_v7, val_main_v6,
    val_main_cst_0, val_main_v5]
  rw [entry_prod]
  rfl
theorem entry_mean (a : Fin 4) (s : Fin 2048) (q : Fin 1) :
    val_main_v14 (F := Ideal) U W X G (ix3 a s q) = mean (zR U W X G a s) := by
  pointwise [val_main_v14, val_main_v13, val_main_cst_2, val_main_v12, val_main_v11, val_main_cst_1]
  simp only [entry_z, zero_add]
  rfl
theorem entry_cent (a : Fin 4) (s : Fin 2048) (n : Fin 1024) :
    val_main_v16 (F := Ideal) U W X G (ix3 a s n) = cent (zR U W X G a s) n := by
  pointwise [val_main_v16, val_main_v15]
  rw [entry_z, entry_mean]
  rfl
theorem entry_cent' (a : Fin 4) (s : Fin 2048) (n : Fin 1024) :
    val_main_v25 (F := Ideal) U W X G (ix3 a s n) = cent (zR U W X G a s) n := by
  pointwise [val_main_v25, val_main_v24]
  rw [entry_z, entry_mean]
  rfl
theorem entry_spread (a : Fin 4) (s : Fin 2048) (q : Fin 1) :
    val_main_v27 (F := Ideal) U W X G (ix3 a s q) = spread (zR U W X G a s) := by
  pointwise [val_main_v27, val_main_v26, val_main_cst_6, val_main_v23, val_main_v22, val_main_cst_5, val_main_v21,
    val_main_v20, val_main_cst_4, val_main_v17]
  simp only [entry_cent, zero_add]
  rfl
theorem entry_rstd (a : Fin 4) (s : Fin 2048) (q : Fin 1) :
    val_main_v28 (F := Ideal) U W X G (ix3 a s q) = rstd (zR U W X G a s) := by
  pointwise [val_main_v28]
  rw [entry_spread]
  rfl
theorem entry_root (a : Fin 4) (s : Fin 2048) (q : Fin 1) : val_main_v31 (F := Ideal) U W X G (ix3 a s q)
    = wNegHalf * Ideal.div (rstd (zR U W X G a s)) (spread (zR U W X G a s)) := by
  pointwise [val_main_v31, val_main_v30, val_main_cst_7, val_main_v29]
  rw [entry_spread, entry_rstd]
  rfl
theorem entry_xhat (a : Fin 4) (s : Fin 2048) (n : Fin 1024) :
    val_main_v33 (F := Ideal) U W X G (ix3 a s n) = xhat (zR U W X G a s) n := by
  pointwise [val_main_v33, val_main_v32]
  rw [entry_cent', entry_rstd]
  rfl
theorem entry_err (a : Fin 4) (s : Fin 2048) (n : Fin 1024) :
    val_main_v40 (F := Ideal) U W X T G g b (ix3 a s n) = eR U W X T G g b a s n := by
  pointwise [val_main_v40, val_main_v39, val_main_v38, val_main_v37, val_main_v36, val_main_v35, val_main_v34]
  rw [entry_xhat]
  rfl

/-- Half of the reciprocal of 1024 times twice a number is that number times the reciprocal. -/
theorem scale (e : EReal) : Ideal.div (Ideal.ofBits .f32 0x3F000000#32 * 1) w1024 * (Ideal.ofBits .f32 0x40000000#32 * e)
    = e * wInv := by
  rw [Common.half, mul_one, w1024_eq, div_coe _ (by norm_num), Common.two, ← mul_assoc, ← EReal.coe_mul, mul_comm, wInv,
    wInv_eq]
  norm_num
theorem entry_dy (a : Fin 4) (s : Fin 2048) (n : Fin 1024) :
    val_main_v54 (F := Ideal) U W X T G g b (ix3 a s n) = eR U W X T G g b a s n * wInv := by
  refine Eq.trans ?_ (scale _)
  pointwise [val_main_v54, val_main_v53, val_main_v52, val_main_v51, val_main_cst_15, val_main_v50, val_main_v49,
    val_main_cst_13, val_main_cst_14, val_main_v43, val_main_v42, val_main_cst_8]
  rw [entry_err]
  rfl
theorem entry_d (a : Fin 4) (s : Fin 2048) (n : Fin 1024) :
    val_main_v63 (F := Ideal) U W X T G g b (ix3 a s n) = dR U W X T G g b a s n := by
  pointwise [val_main_v63, val_main_v62, val_main_v34]
  rw [entry_dy]
  rfl
theorem entry_direct (a : Fin 4) (s : Fin 2048) (n : Fin 1024) : val_main_v70 (F := Ideal) U W X T G g b (ix3 a s n)
    = dR U W X T G g b a s n * rstd (zR U W X G a s) := by
  pointwise [val_main_v70, val_main_v69]
  rw [entry_d, entry_rstd]
theorem entry_tangent (a : Fin 4) (s : Fin 2048) : val_main_v77 (F := Ideal) U W X T G g b (ix2 a s)
    = tangent (zR U W X G a s) (dR U W X T G g b a s) := by
  pointwise [val_main_v77, val_main_cst_23, val_main_v76, val_main_v75, val_main_cst_22, val_main_v71, val_main_v68,
    val_main_v67, val_main_cst_20, val_main_v66]
  simp only [Fin.sum_univ_one, entry_root, entry_cent', entry_d, zero_add]
  rfl
theorem entry_var (a : Fin 4) (s : Fin 2048) (n : Fin 1024) : val_main_v79 (F := Ideal) U W X T G g b (ix3 a s n)
    = tangent (zR U W X G a s) (dR U W X T G g b a s) * (((2 : ℝ) : EReal) * cent (zR U W X G a s) n) := by
  pointwise [val_main_v79, val_main_v78, val_main_v19, val_main_v18, val_main_cst_3]
  rw [entry_tangent, entry_cent, Common.two]
theorem entry_dz (a : Fin 4) (s : Fin 2048) (n : Fin 1024) :
    val_main_v89 (F := Ideal) U W X T G g b (ix3 a s n) = dzR U W X T G g b a s n := by
  pointwise [val_main_v89, val_main_v88, val_main_v87, val_main_cst_26, val_main_v86, val_main_v85, val_main_cst_25,
    val_main_v84, val_main_v83, val_main_v82, val_main_v81, val_main_cst_24, val_main_v80, val_main_v74, val_main_v73,
    val_main_cst_21, val_main_v72]
  simp only [Fin.sum_univ_one, entry_direct, entry_var, zero_add]
  rfl

/-- The results, entry by entry. -/
theorem entry_df (R : Fin 8192) (n : Fin 1024) : val_main_v101 (F := Ideal) U W X T G g b (ix2 R n)
    = Ideal.ofBits .f32 0x40000000#32 * ((1 + G (ix2 ⟨(R : ℕ) / 2048, by omega⟩ n))
      * dzR U W X T G g b ⟨(R : ℕ) / 2048, by omega⟩ ⟨(R : ℕ) % 2048, by omega⟩ n) := by
  pointwise [val_main_v101, val_main_v100, val_main_v99, val_main_v98, val_main_cst_30, val_main_v91, val_main_v90,
    val_main_v7, val_main_v6, val_main_cst_0, val_main_v5]
  rw [entry_dz]
theorem entry_dx (R : Fin 8192) (n : Fin 1024) : val_main_v102 (F := Ideal) U W X T G g b (ix2 R n)
    = wAlpha * dzR U W X T G g b ⟨(R : ℕ) / 2048, by omega⟩ ⟨(R : ℕ) % 2048, by omega⟩ n := by
  pointwise [val_main_v102, val_main_v97, val_main_v96, val_main_cst_29]
  rw [entry_dz]
  rfl
theorem entry_dgt (a : Fin 4) (q : Fin 1) (n : Fin 1024) : val_main_v103 (F := Ideal) U W X T G g b (ix3 a q n)
    = ∑ s : Fin 2048, dzR U W X T G g b a s n * pR U W a s n := by
  pointwise [val_main_v103, val_main_v95, val_main_cst_28, val_main_v94, val_main_v93, val_main_cst_27, val_main_v92]
  simp only [Fin.sum_univ_one, entry_dz, entry_prod, zero_add]
theorem entry_g (q : Fin 1) (n : Fin 1024) : val_main_v65 (F := Ideal) U W X T G g b (ix2 q n)
    = ∑ a : Fin 4, ∑ s : Fin 2048, xhat (zR U W X G a s) n * (eR U W X T G g b a s n * wInv) := by
  have e0 : val_main_v60 (F := Ideal) U W X T G g b (ix1 n)
      = ∑ a : Fin 4, ∑ s : Fin 2048, val_main_v59 (F := Ideal) U W X T G g b (ix3 a s n) := by
    unfold val_main_v60
    refine (Common.reduce_leading _ _ _ (ix1 n) n (fun q => by obtain rfl : q = 0 := Subsingleton.elim _ _; rfl)).trans ?_
    pointwise [val_main_cst_18]
  have e1 : ∀ p r : Fin 1, val_main_v61 (F := Ideal) U W X T G g b (ix3 p r n) = val_main_v60 (F := Ideal) U W X T G g b (ix1 n) :=
    fun p r => by pointwise [val_main_v61]
  have e2 : val_main_v64 (F := Ideal) U W X T G g b (ix1 n) = val_main_v60 (F := Ideal) U W X T G g b (ix1 n) := by
    unfold val_main_v64
    refine (Common.reduce_leading _ _ _ (ix1 n) n (fun q => by obtain rfl : q = 0 := Subsingleton.elim _ _; rfl)).trans ?_
    rw [Fin.sum_univ_one, Fin.sum_univ_one, e1]
    pointwise [val_main_cst_19]
  have e3 : val_main_v65 (F := Ideal) U W X T G g b (ix2 q n) = val_main_v64 (F := Ideal) U W X T G g b (ix1 n) := by
    pointwise [val_main_v65]
  rw [e3, e2, e0]
  refine Finset.sum_congr rfl fun a _ => Finset.sum_congr rfl fun s _ => ?_
  pointwise [val_main_v59]
  rw [entry_xhat, entry_dy]
theorem entry_b (q : Fin 1) (n : Fin 1024) : val_main_v58 (F := Ideal) U W X T G g b (ix2 q n)
    = ∑ a : Fin 4, ∑ s : Fin 2048, eR U W X T G g b a s n * wInv := by
  have e0 : val_main_v55 (F := Ideal) U W X T G g b (ix1 n)
      = ∑ a : Fin 4, ∑ s : Fin 2048, val_main_v54 (F := Ideal) U W X T G g b (ix3 a s n) := by
    unfold val_main_v55
    refine (Common.reduce_leading _ _ _ (ix1 n) n (fun q => by obtain rfl : q = 0 := Subsingleton.elim _ _; rfl)).trans ?_
    pointwise [val_main_cst_16]
  have e1 : ∀ p r : Fin 1, val_main_v56 (F := Ideal) U W X T G g b (ix3 p r n) = val_main_v55 (F := Ideal) U W X T G g b (ix1 n) :=
    fun p r => by pointwise [val_main_v56]
  have e2 : val_main_v57 (F := Ideal) U W X T G g b (ix1 n) = val_main_v55 (F := Ideal) U W X T G g b (ix1 n) := by
    unfold val_main_v57
    refine (Common.reduce_leading _ _ _ (ix1 n) n (fun q => by obtain rfl : q = 0 := Subsingleton.elim _ _; rfl)).trans ?_
    rw [Fin.sum_univ_one, Fin.sum_univ_one, e1]
    pointwise [val_main_cst_17]
  have e3 : val_main_v58 (F := Ideal) U W X T G g b (ix2 q n) = val_main_v57 (F := Ideal) U W X T G g b (ix1 n) := by
    pointwise [val_main_v58]
  rw [e3, e2, e0]
  exact Finset.sum_congr rfl fun a _ => Finset.sum_congr rfl fun s _ => entry_dy U W X T G g b a s n
theorem entry_loss (p : Fin 8) (q : Fin 128) : val_main_v104 (F := Ideal) U W X T G g b (ix2 p q)
    = Ideal.ofBits .f32 0x3F000000#32 * ∑ a : Fin 4, ∑ s : Fin 2048,
      mean (fun n => eR U W X T G g b a s n * eR U W X T G g b a s n) := by
  pointwise [val_main_v104, val_main_v48, val_main_cst_12, val_main_v47, val_main_cst_11, val_main_v46, val_main_v45,
    val_main_cst_10, val_main_v44, val_main_cst_9, val_main_v41]
  simp only [entry_err, zero_add]
  rfl

end Cert.Reference4Ideal.Value

namespace Cert.Kernel4Ideal.Value

open Cert.Kernel4Ideal Cert.Kernel4Ideal.Gen Cert.Reference4Ideal.Value Cert.Reference4Ideal.Read Cert.Norm

variable (m : (ℓ : Loc nD τ sig) → Buf (Elt Ideal) ℓ)

abbrev argU (c : Dev nD) : FVec Ideal S4x2048x4096 .f32 := m ((c : Thread nD τ).loc main_arg0)
abbrev argW (c : Dev nD) : FVec Ideal S4096x1024 .f32 := m ((c : Thread nD τ).loc main_arg1)
abbrev argX (c : Dev nD) : FVec Ideal S4x2048x1024 .f32 := m ((c : Thread nD τ).loc main_arg2)
abbrev argT (c : Dev nD) : FVec Ideal S4x2048x1024 .f32 := m ((c : Thread nD τ).loc main_arg3)
abbrev argGt (c : Dev nD) : FVec Ideal S4x1024 .f32 := m ((c : Thread nD τ).loc main_arg4)
abbrev argG (c : Dev nD) : FVec Ideal S1x1024 .f32 := m ((c : Thread nD τ).loc main_arg5)
abbrev argB (c : Dev nD) : FVec Ideal S1x1024 .f32 := m ((c : Thread nD τ).loc main_arg6)

def bat (r : Fin 8192) : Fin 4 := ⟨(r : ℕ) / 2048, by omega⟩
def pos (r : Fin 8192) : Fin 2048 := ⟨(r : ℕ) % 2048, by omega⟩

section
variable (c : Dev nD) (r : Fin 8192)
theorem rowU_eq (k : Fin 4096) : rowU m c r k = actR (argU m c) (bat r) (pos r) k := by
  unfold rowU actR bat pos; entry_read; pointwise
theorem colW_eq (k : Fin 4096) (n : Fin 1024) : colW m c k n = argW m c (ix2 k n) := by
  unfold colW; entry_read; pointwise
theorem rowX_eq (n : Fin 1024) : rowX m c r n = argX m c (ix3 (bat r) (pos r) n) := by
  unfold rowX bat pos; entry_read; pointwise
theorem rowT_eq (n : Fin 1024) : rowT m c r n = argT m c (ix3 (bat r) (pos r) n) := by
  unfold rowT bat pos; entry_read; pointwise
theorem rowGt_eq (a : Fin 4) (n : Fin 1024) : rowGt m c a n = argGt m c (ix2 a n) := by
  unfold rowGt; entry_read; pointwise
theorem rowG_eq (n : Fin 1024) : rowG m c n = argG m c (ix2 0 n) := by
  unfold rowG; entry_read; pointwise
theorem rowB_eq (n : Fin 1024) : rowB m c n = argB m c (ix2 0 n) := by
  unfold rowB; entry_read; pointwise

theorem prodAll_eq : prodAll m c r = pR (argU m c) (argW m c) (bat r) (pos r) :=
  congrArg₂ prod (funext (rowU_eq m c r)) (funext fun k => funext (colW_eq m c k))
theorem residAll_eq : residAll m c r = zR (argU m c) (argW m c) (argX m c) (argGt m c) (bat r) (pos r) :=
  congr (congr (congrArg₂ resid (funext (rowU_eq m c r)) (funext fun k => funext (colW_eq m c k)))
    (funext (rowX_eq m c r))) (funext (rowGt_eq m c _))
theorem errAll_eq : errAll m c r
    = eR (argU m c) (argW m c) (argX m c) (argT m c) (argGt m c) (argG m c) (argB m c) (bat r) (pos r) :=
  congr (congr (congrArg₂ err (residAll_eq m c r) (funext (rowG_eq m c))) (funext (rowB_eq m c))) (funext (rowT_eq m c r))
end

/-- The arguments' entries are finite numbers. -/
structure Fin7 (c : Dev nD) : Prop where
  u : ∀ i, IsReal (argU m c i)
  w : ∀ i, IsReal (argW m c i)
  x : ∀ i, IsReal (argX m c i)
  t : ∀ i, IsReal (argT m c i)
  gt : ∀ i, IsReal (argGt m c i)
  g : ∀ i, IsReal (argG m c i)
  b : ∀ i, IsReal (argB m c i)

section
variable {m} {c : Dev nD} (h : Fin7 m c)
include h
theorem real_z (a : Fin 4) (s : Fin 2048) (n : Fin 1024) :
    IsReal (zR (argU m c) (argW m c) (argX m c) (argGt m c) a s n) :=
  .add (.mul wAlpha_fin (h.x _)) (.mul (.add .one (h.gt _)) (.sum _ fun k =>
    .mul (.mul (.max (h.u _) .zero) (.max (h.u _) .zero)) (h.w _)))
theorem real_d (a : Fin 4) (s : Fin 2048) (n : Fin 1024) : IsReal (dR (argU m c) (argW m c) (argX m c) (argT m c)
    (argGt m c) (argG m c) (argB m c) a s n) :=
  .mul (.mul (.sub (.add (.mul (IsReal.xhat (real_z h a s) n) (h.g _)) (h.b _)) (h.t _)) (by rw [wInv, wInv_eq]; exact .coe _)) (h.g _)
theorem dzAll_eq (r : Fin 8192) (n : Fin 1024) : dzAll m c r n = dzR (argU m c) (argW m c) (argX m c) (argT m c)
    (argGt m c) (argG m c) (argB m c) (bat r) (pos r) n := by
  have e : dzAll m c r = back (zR (argU m c) (argW m c) (argX m c) (argGt m c) (bat r) (pos r))
      (dR (argU m c) (argW m c) (argX m c) (argT m c) (argGt m c) (argG m c) (argB m c) (bat r) (pos r)) := by
    refine congrArg₂ back (residAll_eq m c r) (funext fun k => ?_)
    exact congrArg₂ (fun p q : EReal => p * wInv * q) (congrFun (errAll_eq m c r) k) (rowG_eq m c k)
  rw [e]
  exact back_eq (real_z h _ _) (real_d h _ _) n

/-- The kernel's arrays are the reference's. -/
theorem agree_df : (dats m 0 c).arrAt 7 (cfgs 0).N = val_main_v101 (F := Ideal) (argU m c) (argW m c) (argX m c)
    (argT m c) (argGt m c) (argG m c) (argB m c) := by
  rw [final_df]
  refine funext fun i => ?_
  idx_vars i
  refine Eq.trans ?_ (entry_df _ _ _ _ _ _ _ i0 i1).symm
  show dzAll m c i0 i1 * (_ * (1 + rowGt m c _ i1)) = _
  rw [dzAll_eq h, rowGt_eq, mul_comm, mul_assoc]
  rfl
theorem agree_dx : (dats m 0 c).arrAt 8 (cfgs 0).N = val_main_v102 (F := Ideal) (argU m c) (argW m c) (argX m c)
    (argT m c) (argGt m c) (argG m c) (argB m c) := by
  rw [final_dx]
  refine funext fun i => ?_
  idx_vars i
  refine Eq.trans ?_ (entry_dx _ _ _ _ _ _ _ i0 i1).symm
  show wAlpha * dzAll m c i0 i1 = _
  rw [dzAll_eq h]
  rfl
omit h in
theorem at_batch {α : Type} (f : Fin 4 → Fin 2048 → α) (a : Fin 4) (s : Fin 2048) :
    f (bat (Common.batchRow a s)) (pos (Common.batchRow a s)) = f a s :=
  congrArg₂ f (Common.batchRow_div a s _) (Common.batchRow_mod a s _)
theorem agree_gt : (dats m 0 c).arrAt 9 (cfgs 0).N = val_main_v103 (F := Ideal) (argU m c) (argW m c) (argX m c)
    (argT m c) (argGt m c) (argG m c) (argB m c) := by
  rw [final_gt]
  refine funext fun i => ?_
  idx_vars i
  refine Eq.trans ?_ (entry_dgt _ _ _ _ _ _ _ i0 i1 i2).symm
  refine Finset.sum_congr rfl fun s _ => ?_
  show dzAll m c _ _ * prodAll m c _ _ = _
  rw [dzAll_eq h, prodAll_eq]
  exact at_batch (fun a s => dzR _ _ _ _ _ _ _ a s i2 * pR _ _ a s i2) i0 s
omit h in
theorem agree_g : (dats m 0 c).arrAt 10 (cfgs 0).N = val_main_v65 (F := Ideal) (argU m c) (argW m c) (argX m c)
    (argT m c) (argGt m c) (argG m c) (argB m c) := by
  rw [final_g]
  refine funext fun i => ?_
  idx_vars i
  refine Eq.trans ?_ (entry_g _ _ _ _ _ _ _ i0 i1).symm
  refine (Common.sum_batches _).trans (Finset.sum_congr rfl fun a _ => Finset.sum_congr rfl fun s _ => ?_)
  show errAll m c _ _ * wInv * xhat (residAll m c _) _ = _
  rw [errAll_eq, residAll_eq, mul_comm]
  exact at_batch (fun a s => xhat (zR _ _ _ _ a s) i1 * (eR _ _ _ _ _ _ _ a s i1 * wInv)) a s
omit h in
theorem agree_b : (dats m 0 c).arrAt 11 (cfgs 0).N = val_main_v58 (F := Ideal) (argU m c) (argW m c) (argX m c)
    (argT m c) (argGt m c) (argG m c) (argB m c) := by
  rw [final_b]
  refine funext fun i => ?_
  idx_vars i
  refine Eq.trans ?_ (entry_b _ _ _ _ _ _ _ i0 i1).symm
  refine (Common.sum_batches _).trans (Finset.sum_congr rfl fun a _ => Finset.sum_congr rfl fun s _ => ?_)
  show errAll m c _ _ * wInv = _
  rw [errAll_eq]
  exact at_batch (fun a s => eR _ _ _ _ _ _ _ a s i1 * wInv) a s
omit h in
theorem agree_loss : (dats m 0 c).arrAt 12 (cfgs 0).N = val_main_v104 (F := Ideal) (argU m c) (argW m c) (argX m c)
    (argT m c) (argGt m c) (argG m c) (argB m c) := by
  rw [final_loss]
  refine funext fun i => ?_
  idx_vars i
  refine Eq.trans ?_ (entry_loss _ _ _ _ _ _ _ i0 i1).symm
  refine congrArg _ ((Common.sum_batches _).trans (Finset.sum_congr rfl fun a _ => Finset.sum_congr rfl fun s _ => ?_))
  show mean (fun n => errAll m c _ n * errAll m c _ n) = _
  rw [errAll_eq]
  exact at_batch (fun a s => mean (fun n => eR _ _ _ _ _ _ _ a s n * eR _ _ _ _ _ _ _ a s n)) a s
end

end Cert.Kernel4Ideal.Value
-- ==== Proof.LnIn.lean ====
module

public import proofs.«01_k».proof.Proof.Gen.Kernel5Ideal.Value
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen Cert.Norm

/-- The word of the residual's weight. -/
def wAlpha : EReal := Ideal.ofBits .f32 0x3F9837F0#32

/-- One row: the product with the transposed weights, and the gradient that reaches the normalised row. -/
def dh (d : Fin 4096 → EReal) (w : Fin 1024 → Fin 4096 → EReal) (n : Fin 1024) : EReal := ∑ k, d k * w n k
def tot (d : Fin 4096 → EReal) (w : Fin 1024 → Fin 4096 → EReal) (e sc : Fin 1024 → EReal) (n : Fin 1024) : EReal :=
  e n + dh d w n * (1 + sc n)
/-- The gradient of the normalisation from the normalised row and its reciprocal root, both given. -/
def backOf (xh : Fin 1024 → EReal) (rs : EReal) (d : Fin 1024 → EReal) (j : Fin 1024) : EReal :=
  rs * (d j - mean d - xh j * mean (fun k => d k * xh k))

section Body

variable (D : FVec Ideal S512x4096 .bf16) (W : FVec Ideal S1024x4096 .bf16) (E : FVec Ideal S512x1024 .f32)
  (Sc : FVec Ideal S1x1x1024 .f32) (G : FVec Ideal S1x1024 .f32)

/-- The rows of a block. -/
def dhB (r : Fin 512) : Fin 1024 → EReal := dh (fun k => D (ix2 r k)) (fun n k => W (ix2 n k))
def totB (r : Fin 512) : Fin 1024 → EReal :=
  tot (fun k => D (ix2 r k)) (fun n k => W (ix2 n k)) (fun n => E (ix2 r n)) (fun n => Sc (ix3 0 0 n))

theorem pay_dh (r : Fin 512) (n : Fin 1024) : k0_pay5 (F := Ideal) D W (ix2 r n) = dhB D W r n := by
  unfold dhB dh
  pointwise [k0_pay5]
theorem pay_tot (r : Fin 512) (n : Fin 1024) : k0_pay9 (F := Ideal) D W E Sc (ix2 r n) = totB D W E Sc r n := by
  unfold totB tot
  refine Eq.trans ?_ (congrArg (fun p : EReal => E (ix2 r n) + p * (1 + Sc (ix3 0 0 n))) (pay_dh D W r n))
  generalize hP : k0_pay5 (F := Ideal) D W = P
  pointwise [k0_pay9, hP]
theorem pay_dxh (r : Fin 512) (n : Fin 1024) :
    k0_pay12 (F := Ideal) D W E Sc G (ix2 r n) = totB D W E Sc r n * G (ix2 0 n) := by
  rw [← pay_tot]
  generalize hP : k0_pay9 (F := Ideal) D W E Sc = P
  pointwise [k0_pay12, hP]
theorem pay_sum (r : Fin 512) (a : Fin 1) :
    k0_pay13 (F := Ideal) D W E Sc G (ix2 r a) = ∑ n : Fin 1024, totB D W E Sc r n * G (ix2 0 n) := by
  simp only [← pay_dxh]
  generalize hP : k0_pay12 (F := Ideal) D W E Sc G = P
  pointwise [k0_pay13, hP]

end Body

section Rows

variable (v26 v29 : FVec Ideal S512x1024 .f32) (v27 v31 : FVec Ideal S512x1 .f32)

section
variable (d : Fin 512 → Fin 1024 → EReal) (h29 : ∀ r n, v29 (ix2 r n) = d r n) (h31 : ∀ r a, v31 (ix2 r a) = ∑ n, d r n)
include h29 h31
theorem pay_dz (r : Fin 512) (n : Fin 1024) : k0_pay15 v26 v27 v29 v31 (k0_pay14 (F := Ideal)) (ix2 r n)
    = backOf (fun k => v26 (ix2 r k)) (v27 (ix2 r 0)) (d r) n := by
  unfold backOf mean w1024
  rw [← h31 r 0]
  simp only [← h29]
  pointwise [k0_pay15, k0_pay14]
end

theorem pay_dx (v32 : FVec Ideal S512x1 .f32) (r : Fin 512) (n : Fin 1024) :
    k0_pay16 v26 v27 v29 v31 v32 (ix2 r n) = wAlpha * k0_pay15 v26 v27 v29 v31 v32 (ix2 r n) := by
  generalize hP : k0_pay15 v26 v27 v29 v31 v32 = P
  unfold wAlpha
  pointwise [k0_pay16, hP]
theorem pay_dmix (v18 : FVec Ideal S1x1024 .f32) (v32 : FVec Ideal S512x1 .f32) (r : Fin 512) (n : Fin 1024) :
    k0_pay22 v18 v26 v27 v29 v31 v32 (ix2 r n) = k0_pay15 v26 v27 v29 v31 v32 (ix2 r n) * (1 + v18 (ix2 0 n)) := by
  generalize hP : k0_pay15 v26 v27 v29 v31 v32 = P
  pointwise [k0_pay22, hP]

/-- The sums over the rows of a block. -/
theorem pay_dgt (v20 : FVec Ideal S512x1024 .f32) (v32 : FVec Ideal S512x1 .f32) (a : Fin 1) (n : Fin 1024) :
    k0_pay19 v20 v26 v27 v29 v31 v32 (ix2 a n)
    = ∑ r : Fin 512, k0_pay15 v26 v27 v29 v31 v32 (ix2 r n) * v20 (ix2 r n) := by
  generalize hP : k0_pay15 v26 v27 v29 v31 v32 = P
  pointwise [k0_pay19, hP]
theorem pay_dsc (P Q : FVec Ideal S512x1024 .f32) (a : Fin 1) (n : Fin 1024) :
    k0_pay17 P Q (ix2 a n) = ∑ r : Fin 512, P (ix2 r n) * Q (ix2 r n) := by
  pointwise [k0_pay17]
theorem pay_dsh (P : FVec Ideal S512x1024 .f32) (a : Fin 1) (n : Fin 1024) :
    k0_pay18 P (ix2 a n) = ∑ r : Fin 512, P (ix2 r n) := by
  pointwise [k0_pay18]
theorem pay_dg (P Q : FVec Ideal S512x1024 .f32) (a : Fin 1) (n : Fin 1024) :
    k0_pay20 P Q (ix2 a n) = ∑ r : Fin 512, P (ix2 r n) * Q (ix2 r n) := by
  pointwise [k0_pay20]
theorem pay_db (P : FVec Ideal S512x1024 .f32) (a : Fin 1) (n : Fin 1024) :
    k0_pay21 P (ix2 a n) = ∑ r : Fin 512, P (ix2 r n) := by
  pointwise [k0_pay21]

/-- The first store of an accumulated row, and the later ones on top of it. -/
theorem pay_first (v : FVec Ideal S1x1024 .f32) (a b : Fin 1) (n : Fin 1024) :
    k0_pay23 v (ix3 a b n) = v (ix2 0 n) ∧ k0_pay25 v (ix3 a b n) = v (ix2 0 n) ∧ k0_pay1 v (ix3 a b n) = v (ix2 0 n) := by
  refine ⟨?_, ?_, ?_⟩
  · pointwise [k0_pay23]
  · pointwise [k0_pay25]
  · pointwise [k0_pay1]
theorem pay_next (v : FVec Ideal S1x1024 .f32) (S : FVec Ideal S1x1x1024 .f32) (a b : Fin 1) (n : Fin 1024) :
    k0_pay24 v S (ix3 a b n) = S (ix3 a b n) + v (ix2 0 n) ∧ k0_pay26 v S (ix3 a b n) = S (ix3 a b n) + v (ix2 0 n)
    ∧ k0_pay2 v S (ix3 a b n) = S (ix3 a b n) + v (ix2 0 n) := by
  obtain rfl : a = 0 := Subsingleton.elim _ _
  obtain rfl : b = 0 := Subsingleton.elim _ _
  refine ⟨?_, ?_, ?_⟩
  · pointwise [k0_pay24]
  · pointwise [k0_pay26]
  · pointwise [k0_pay2]
theorem pay_over (v S : FVec Ideal S1x1024 .f32) (a : Fin 1) (n : Fin 1024) :
    k0_pay3 v S (ix2 a n) = S (ix2 a n) + v (ix2 a n) ∧ k0_pay4 v S (ix2 a n) = S (ix2 a n) + v (ix2 a n) := by
  constructor
  · pointwise [k0_pay3]
  · pointwise [k0_pay4]
theorem pay_id (P : FVec Ideal S512x1024 .f32) (Q : FVec Ideal S512x1024 .bf16) (r : Fin 512) (n : Fin 1024) :
    k0_pay6 P (ix2 r n) = P (ix2 r n) ∧ k0_pay8 (F := Ideal) Q (ix2 r n) = Q (ix2 r n)
    ∧ k0_pay10 (F := Ideal) Q (ix2 r n) = Q (ix2 r n) := by
  refine ⟨?_, ?_, ?_⟩
  · pointwise [k0_pay6]
  · pointwise [k0_pay8]
  · pointwise [k0_pay10]
theorem pay_gt (P : FVec Ideal S1x1x1024 .f32) (n : Fin 1024) : k0_pay7 P (ix2 0 n) = P (ix3 0 0 n) := by
  pointwise [k0_pay7]
theorem pay_rs (P : FVec Ideal S512x128 .f32) (r : Fin 512) : k0_pay11 P (ix2 r 0) = P (ix2 r 0) := by
  pointwise [k0_pay11]

end Rows

variable (m : (ℓ : Loc nD τ sig) → Buf (Elt Ideal) ℓ)

theorem idx : ∀ t : Fin cfg0.N, win0_0.index t = ![t.val, 0] ∧ win0_1.index t = ![0, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val / 4, 0, 0]
    ∧ win0_9.index t = ![t.val / 4, 0, 0] ∧ win0_10.index t = ![0, 0]
    ∧ win0_11.index t = ![t.val, 0] ∧ win0_12.index t = ![t.val, 0] ∧ win0_13.index t = ![t.val / 4, 0, 0]
    ∧ win0_14.index t = ![t.val / 4, 0, 0] ∧ win0_15.index t = ![t.val / 4, 0, 0]
    ∧ win0_16.index t = ![0, 0] ∧ win0_17.index t = ![0, 0] :=
  (by decide +kernel : ∀ t : Fin grid0.N, _)

section
variable (c : Dev nD) (t : Fin cfg0.N)
/-- The body's values at a point, over the blocks the point loads. -/
abbrev b4 := k0_pay5 (F := Ideal) (iblk m c 0 t) (iblk m c 1 t)
abbrev b25 := k0_pay9 (F := Ideal) (iblk m c 0 t) (iblk m c 1 t) (iblk m c 3 t) (iblk m c 8 t)
abbrev b26 := k0_pay10 (F := Ideal) (iblk m c 5 t)
abbrev b27 := k0_pay11 (F := Ideal) (iblk m c 6 t)
abbrev b29 := k0_pay12 (F := Ideal) (iblk m c 0 t) (iblk m c 1 t) (iblk m c 3 t) (iblk m c 8 t) (iblk m c 10 t)
abbrev b31 := k0_pay13 (F := Ideal) (iblk m c 0 t) (iblk m c 1 t) (iblk m c 3 t) (iblk m c 8 t) (iblk m c 10 t)
abbrev b45 := k0_pay15 (b26 m c t) (b27 m c t) (b29 m c t) (b31 m c t) (k0_pay14 (F := Ideal))
abbrev b54 := k0_pay17 (b4 m c t) (k0_pay6 (iblk m c 4 t))
abbrev b56 := k0_pay18 (b4 m c t)
abbrev b59 := k0_pay19 (k0_pay8 (iblk m c 7 t)) (b26 m c t) (b27 m c t) (b29 m c t) (b31 m c t) (k0_pay14 (F := Ideal))
abbrev b62 := k0_pay20 (b25 m c t) (b26 m c t)
abbrev b64 := k0_pay21 (b25 m c t)

theorem out_tiles : (∀ y, (outsAt0 m c t.val t.isLt).1 y
      = k0_pay16 (b26 m c t) (b27 m c t) (b29 m c t) (b31 m c t) (k0_pay14 (F := Ideal)) y)
    ∧ (∀ y, (outsAt0 m c t.val t.isLt).2.1 y = k0_pay22 (k0_pay7 (iblk m c 9 t))
      (b26 m c t) (b27 m c t) (b29 m c t) (b31 m c t) (k0_pay14 (F := Ideal)) y) := by
  by_cases h : t.val % 4 = 0
  · by_cases g : t.val % 16 = 0
    · have g' : ¬1 ≤ t.val := by have := lt_of_lt_of_eq t.isLt N_0; omega
      rw [outsAt0_A m c t h (not_not.2 h) h (not_not.2 h) h (not_not.2 h) g g' g g']
      exact ⟨fun y => by frame_out, fun y => by frame_out⟩
    · have g' : 1 ≤ t.val := by omega
      rw [outsAt0_C m c t h (not_not.2 h) h (not_not.2 h) h (not_not.2 h) g g' g g']
      exact ⟨fun y => by frame_out, fun y => by frame_out⟩
  · have g' : 1 ≤ t.val := by omega
    have g : ¬t.val % 16 = 0 := by omega
    rw [outsAt0_B m c t h h h h h h g g' g g']
    exact ⟨fun y => by frame_out, fun y => by frame_out⟩

theorem out_brow_first (h : t.val % 4 = 0) : (∀ y, (outsAt0 m c t.val t.isLt).2.2.1 y = k0_pay23 (b54 m c t) y)
    ∧ (∀ y, (outsAt0 m c t.val t.isLt).2.2.2.1 y = k0_pay25 (b56 m c t) y)
    ∧ (∀ y, (outsAt0 m c t.val t.isLt).2.2.2.2.1 y = k0_pay1 (b59 m c t) y) := by
  by_cases g : t.val % 16 = 0
  · have g' : ¬1 ≤ t.val := by have := lt_of_lt_of_eq t.isLt N_0; omega
    rw [outsAt0_A m c t h (not_not.2 h) h (not_not.2 h) h (not_not.2 h) g g' g g']
    exact ⟨fun y => by frame_out, fun y => by frame_out, fun y => by frame_out⟩
  · have g' : 1 ≤ t.val := by omega
    rw [outsAt0_C m c t h (not_not.2 h) h (not_not.2 h) h (not_not.2 h) g g' g g']
    exact ⟨fun y => by frame_out, fun y => by frame_out, fun y => by frame_out⟩

theorem out_brow_next (h : ¬t.val % 4 = 0) : (∀ y, (outsAt0 m c t.val t.isLt).2.2.1 y
      = k0_pay24 (b54 m c t) (outsAt0 m c (t.val - 1) (by omega)).2.2.1 y)
    ∧ (∀ y, (outsAt0 m c t.val t.isLt).2.2.2.1 y
      = k0_pay26 (b56 m c t) (outsAt0 m c (t.val - 1) (by omega)).2.2.2.1 y)
    ∧ (∀ y, (outsAt0 m c t.val t.isLt).2.2.2.2.1 y
      = k0_pay2 (b59 m c t) (outsAt0 m c (t.val - 1) (by omega)).2.2.2.2.1 y) := by
  have g' : 1 ≤ t.val := by omega
  have g : ¬t.val % 16 = 0 := by omega
  rw [outsAt0_B m c t h h h h h h g g' g g']
  exact ⟨fun y => by frame_out, fun y => by frame_out, fun y => by frame_out⟩

theorem out_row_first (g : t.val % 16 = 0) : (∀ y, (outsAt0 m c t.val t.isLt).2.2.2.2.2.1 y = b62 m c t y)
    ∧ (∀ y, (outsAt0 m c t.val t.isLt).2.2.2.2.2.2 y = b64 m c t y) := by
  have h : t.val % 4 = 0 := by omega
  have g' : ¬1 ≤ t.val := by have := lt_of_lt_of_eq t.isLt N_0; omega
  rw [outsAt0_A m c t h (not_not.2 h) h (not_not.2 h) h (not_not.2 h) g g' g g']
  exact ⟨fun y => by frame_out, fun y => by frame_out⟩

theorem out_row_next (g : ¬t.val % 16 = 0) : (∀ y, (outsAt0 m c t.val t.isLt).2.2.2.2.2.1 y
      = k0_pay3 (b62 m c t) (outsAt0 m c (t.val - 1) (by omega)).2.2.2.2.2.1 y)
    ∧ (∀ y, (outsAt0 m c t.val t.isLt).2.2.2.2.2.2 y
      = k0_pay4 (b64 m c t) (outsAt0 m c (t.val - 1) (by omega)).2.2.2.2.2.2 y) := by
  have g' : 1 ≤ t.val := by omega
  by_cases h : t.val % 4 = 0
  · rw [outsAt0_C m c t h (not_not.2 h) h (not_not.2 h) h (not_not.2 h) g g' g g']
    exact ⟨fun y => by frame_out, fun y => by frame_out⟩
  · rw [outsAt0_B m c t h h h h h h g g' g g']
    exact ⟨fun y => by frame_out, fun y => by frame_out⟩
end

/-- The arrays the grid reads, row by row. -/
def rowD (c : Dev nD) (R : Fin 8192) (k : Fin 4096) : EReal := (V m c main_v33 : FVec Ideal S8192x4096 .bf16) (ix2 R k)
def matW (c : Dev nD) (n : Fin 1024) (k : Fin 4096) : EReal := (V m c main_v34 : FVec Ideal S1024x4096 .bf16) (ix2 n k)
def rowE (c : Dev nD) (R : Fin 8192) (n : Fin 1024) : EReal := (V m c main_v36 : FVec Ideal S8192x1024 .f32) (ix2 R n)
def rowX (c : Dev nD) (R : Fin 8192) (n : Fin 1024) : EReal := (V m c main_v37 : FVec Ideal S8192x1024 .f32) (ix2 R n)
def rowXh (c : Dev nD) (R : Fin 8192) (n : Fin 1024) : EReal := (V m c main_v39 : FVec Ideal S8192x1024 .bf16) (ix2 R n)
def rowRs (c : Dev nD) (R : Fin 8192) : EReal := (V m c main_v41 : FVec Ideal S8192x128 .f32) (ix2 R 0)
def rowMix (c : Dev nD) (R : Fin 8192) (n : Fin 1024) : EReal := (V m c main_v43 : FVec Ideal S8192x1024 .bf16) (ix2 R n)
def rowSc (c : Dev nD) (b : Fin 4) (n : Fin 1024) : EReal := (V m c main_v44 : FVec Ideal S4x1x1024 .f32) (ix3 b 0 n)
def rowGt (c : Dev nD) (b : Fin 4) (n : Fin 1024) : EReal := (V m c main_v45 : FVec Ideal S4x1x1024 .f32) (ix3 b 0 n)
def rowG (c : Dev nD) (n : Fin 1024) : EReal := (V m c main_arg3 : FVec Ideal S1x1024 .f32) (ix2 0 n)

section
variable (c : Dev nD) (t : Fin cfg0.N) (r : Fin 512) (R : Fin 8192) (hR : (R : ℕ) = t.val * 512 + r)

theorem blkW (n : Fin 1024) (k : Fin 4096) :
    (iblk m c 1 t : FVec Ideal S1024x4096 .bf16) (ix2 n k) = matW m c n k := by
  unfold matW; blk_ext [iblk, idx t]
theorem blkSc (b : Fin 4) (hb : (b : ℕ) = t.val / 4) (n : Fin 1024) :
    (iblk m c 8 t : FVec Ideal S1x1x1024 .f32) (ix3 0 0 n) = rowSc m c b n := by
  unfold rowSc; blk_ext [iblk, idx t]
theorem blkGt (b : Fin 4) (hb : (b : ℕ) = t.val / 4) (n : Fin 1024) :
    (iblk m c 9 t : FVec Ideal S1x1x1024 .f32) (ix3 0 0 n) = rowGt m c b n := by
  unfold rowGt; blk_ext [iblk, idx t]
theorem blkG (n : Fin 1024) : (iblk m c 10 t : FVec Ideal S1x1024 .f32) (ix2 0 n) = rowG m c n := by
  unfold rowG; blk_ext [iblk, idx t]
include hR
theorem blkD (k : Fin 4096) : (iblk m c 0 t : FVec Ideal S512x4096 .bf16) (ix2 r k) = rowD m c R k := by
  unfold rowD; blk_ext [iblk, idx t]
theorem blkE (n : Fin 1024) : (iblk m c 3 t : FVec Ideal S512x1024 .f32) (ix2 r n) = rowE m c R n := by
  unfold rowE; blk_ext [iblk, idx t]
theorem blkX (n : Fin 1024) : (iblk m c 4 t : FVec Ideal S512x1024 .f32) (ix2 r n) = rowX m c R n := by
  unfold rowX; blk_ext [iblk, idx t]
theorem blkXh (n : Fin 1024) : (iblk m c 5 t : FVec Ideal S512x1024 .bf16) (ix2 r n) = rowXh m c R n := by
  unfold rowXh; blk_ext [iblk, idx t]
theorem blkRs : (iblk m c 6 t : FVec Ideal S512x128 .f32) (ix2 r 0) = rowRs m c R := by
  unfold rowRs; blk_ext [iblk, idx t]
theorem blkMix (n : Fin 1024) : (iblk m c 7 t : FVec Ideal S512x1024 .bf16) (ix2 r n) = rowMix m c R n := by
  unfold rowMix; blk_ext [iblk, idx t]
end

/-- Every row's product, the gradient that reaches the normalised row, and the gradient of the row itself. -/
def dhAll (c : Dev nD) (R : Fin 8192) : Fin 1024 → EReal := dh (rowD m c R) (matW m c)
def batchOf (R : Fin 8192) : Fin 4 := ⟨(R : ℕ) / 2048, by omega⟩
def totAll (c : Dev nD) (R : Fin 8192) : Fin 1024 → EReal :=
  tot (rowD m c R) (matW m c) (rowE m c R) (rowSc m c (batchOf R))
def dzAll (c : Dev nD) (R : Fin 8192) : Fin 1024 → EReal :=
  backOf (rowXh m c R) (rowRs m c R) (fun n => totAll m c R n * rowG m c n)

section
variable (c : Dev nD) (t : Fin cfg0.N) (r : Fin 512) (R : Fin 8192) (hR : (R : ℕ) = t.val * 512 + r) (n : Fin 1024)
include hR
theorem b4_eq : b4 m c t (ix2 r n) = dhAll m c R n :=
  (pay_dh _ _ r n).trans (congrFun (congrArg₂ dh (funext (blkD m c t r R hR)) (funext fun k => funext (blkW m c t k))) n)
theorem totB_eq :
    totB (iblk m c 0 t) (iblk m c 1 t) (iblk m c 3 t) (iblk m c 8 t) r = totAll m c R :=
  congr (congr (congrArg₂ tot (funext (blkD m c t r R hR)) (funext fun k => funext (blkW m c t k)))
    (funext (blkE m c t r R hR))) (funext (blkSc m c t _ (by show (R : ℕ) / 2048 = _; omega)))
theorem b25_eq : b25 m c t (ix2 r n) = totAll m c R n :=
  (pay_tot _ _ _ _ r n).trans (congrFun (totB_eq m c t r R hR) n)
theorem b26_eq : b26 m c t (ix2 r n) = rowXh m c R n :=
  (pay_id (iblk m c 4 t) _ r n).2.2.trans (blkXh m c t r R hR n)
theorem b45_eq : b45 m c t (ix2 r n) = dzAll m c R n := by
  refine (pay_dz _ _ _ _ _ (pay_dxh _ _ _ _ _) (pay_sum _ _ _ _ _) r n).trans ?_
  refine congrFun (congr (congrArg₂ backOf (funext (b26_eq m c t r R hR)) ?_) (funext fun k => ?_)) n
  · exact (pay_rs _ r).trans (blkRs m c t r R hR)
  · exact congrArg₂ (fun p q : EReal => p * q) (congrFun (totB_eq m c t r R hR) k) (blkG m c t k)
end

/-- The results over the whole arrays. -/
def dx (c : Dev nD) (R : Fin 8192) (n : Fin 1024) : EReal := wAlpha * dzAll m c R n
def dmix (c : Dev nD) (R : Fin 8192) (n : Fin 1024) : EReal := dzAll m c R n * (1 + rowGt m c (batchOf R) n)
def scTerm (c : Dev nD) (R : Fin 8192) (n : Fin 1024) : EReal := dhAll m c R n * rowX m c R n
def gtTerm (c : Dev nD) (R : Fin 8192) (n : Fin 1024) : EReal := dzAll m c R n * rowMix m c R n
def gTerm (c : Dev nD) (R : Fin 8192) (n : Fin 1024) : EReal := totAll m c R n * rowXh m c R n

theorem lt16 (t : Fin cfg0.N) : t.val < 16 := lt_of_lt_of_eq t.isLt N_0
/-- Row `r` of the tile of a point. -/
abbrev at_ (t : Fin cfg0.N) (r : Fin 512) : Fin 8192 := Common.tileRow t.val (lt16 t) r

section
variable (c : Dev nD) (t : Fin cfg0.N) (a : Fin 1) (n : Fin 1024)

theorem b54_eq : b54 m c t (ix2 a n) = ∑ r : Fin 512, scTerm m c (at_ t r) n :=
  (pay_dsc _ _ a n).trans (Finset.sum_congr rfl fun r _ => congrArg₂ (fun p q : EReal => p * q)
    (b4_eq m c t r (at_ t r) rfl n) ((pay_id _ (iblk m c 7 t) r n).1.trans (blkX m c t r (at_ t r) rfl n)))
theorem b56_eq : b56 m c t (ix2 a n) = ∑ r : Fin 512, dhAll m c (at_ t r) n :=
  (pay_dsh _ a n).trans (Finset.sum_congr rfl fun r _ => b4_eq m c t r (at_ t r) rfl n)
theorem b59_eq : b59 m c t (ix2 a n) = ∑ r : Fin 512, gtTerm m c (at_ t r) n :=
  (pay_dgt _ _ _ _ _ _ a n).trans (Finset.sum_congr rfl fun r _ => congrArg₂ (fun p q : EReal => p * q)
    (b45_eq m c t r (at_ t r) rfl n)
    ((pay_id (iblk m c 4 t) _ r n).2.1.trans (blkMix m c t r (at_ t r) rfl n)))
theorem b62_eq : b62 m c t (ix2 a n) = ∑ r : Fin 512, gTerm m c (at_ t r) n :=
  (pay_dg _ _ a n).trans (Finset.sum_congr rfl fun r _ => congrArg₂ (fun p q : EReal => p * q)
    (b25_eq m c t r (at_ t r) rfl n) (b26_eq m c t r (at_ t r) rfl n))
theorem b64_eq : b64 m c t (ix2 a n) = ∑ r : Fin 512, totAll m c (at_ t r) n :=
  (pay_db _ a n).trans (Finset.sum_congr rfl fun r _ => b25_eq m c t r (at_ t r) rfl n)
end

theorem final_dx (c : Dev nD) : (dats m 0 c).arrAt 11 (cfgs 0).N = fun i : S8192x1024.Idx => dx m c (i 0) (i 1) := by
  refine (dats m 0 c).arrAt_eq_of_covers 11 _ (by decide +kernel) fun t _ y => ?_
  blk_simp
  rw [after0_11]
  idx_vars y
  have key : ∀ (R : Fin 8192) (N : Fin 1024), (R : ℕ) = t.val * 512 + y0 → (N : ℕ) = y1 →
      (outsAt0 m c t.val t.isLt).1 (ix2 y0 y1) = dx m c R N := fun R N hR hN => by
    obtain rfl : N = y1 := Fin.ext hN
    refine ((out_tiles m c t).1 _).trans ((pay_dx _ _ _ _ _ y0 N).trans ?_)
    exact congrArg (fun p : EReal => wAlpha * p) (b45_eq m c t y0 R hR N)
  exact key _ _ (by blk_simp [idx t]) (by blk_simp [idx t])

theorem final_dmix (c : Dev nD) : (dats m 0 c).arrAt 12 (cfgs 0).N = fun i : S8192x1024.Idx => dmix m c (i 0) (i 1) := by
  refine (dats m 0 c).arrAt_eq_of_covers 12 _ (by decide +kernel) fun t _ y => ?_
  blk_simp
  rw [after0_12]
  idx_vars y
  have key : ∀ (R : Fin 8192) (N : Fin 1024), (R : ℕ) = t.val * 512 + y0 → (N : ℕ) = y1 →
      (outsAt0 m c t.val t.isLt).2.1 (ix2 y0 y1) = dmix m c R N := fun R N hR hN => by
    obtain rfl : N = y1 := Fin.ext hN
    refine ((out_tiles m c t).2 _).trans ((pay_dmix _ _ _ _ _ _ y0 N).trans ?_)
    exact congrArg₂ (fun p q : EReal => p * (1 + q)) (b45_eq m c t y0 R hR N)
      ((pay_gt _ N).trans (blkGt m c t _ (by show (R : ℕ) / 2048 = _; omega) N))
  exact key _ _ (by blk_simp [idx t]) (by blk_simp [idx t])

theorem final_sc (c : Dev nD) : (dats m 0 c).arrAt 13 (cfgs 0).N
    = fun i : S4x1x1024.Idx => ∑ s : Fin 2048, scTerm m c (Common.batchRow (i 0) s) (i 2) := by
  refine (dats m 0 c).arrAt_eq_of_covers 13 _ (by decide +kernel) fun t hf y => ?_
  blk_simp
  idx_vars y
  rw [after0_13, Pipeline.eq_sum_fin_of_reset_step_apply_of_flush (fun n h => (outsAt0 m c n h).2.2.1) 4 (fun _ => 0)
    (fun t j => ∑ r : Fin 512, scTerm m c (at_ t r) (j 2))
    (fun t h j => by
      idx_vars j
      rw [zero_add]
      exact ((out_brow_first m c t h).1 _).trans ((pay_first _ _ _ _).1.trans (b54_eq m c t _ _)))
    (fun t h j => by
      idx_vars j
      refine ((out_brow_next m c t h).1 _).trans ((pay_next _ _ _ _ _).1.trans ?_)
      rw [b54_eq m c t _ _])
    t ((flush0_13 t).mp hf) _, zero_add]
  have hN := lt16 t
  refine (Common.sum_batch (fun R => scTerm m c R y2) ⟨t.val / 4, by omega⟩ _).trans ?_
  refine congrArg₂ (fun b n => ∑ s : Fin 2048, scTerm m c (Common.batchRow b s) n) (Fin.ext ?_) (Fin.ext ?_) <;>
    blk_simp [idx t]

theorem final_sh (c : Dev nD) : (dats m 0 c).arrAt 14 (cfgs 0).N
    = fun i : S4x1x1024.Idx => ∑ s : Fin 2048, dhAll m c (Common.batchRow (i 0) s) (i 2) := by
  refine (dats m 0 c).arrAt_eq_of_covers 14 _ (by decide +kernel) fun t hf y => ?_
  blk_simp
  idx_vars y
  rw [after0_14, Pipeline.eq_sum_fin_of_reset_step_apply_of_flush (fun n h => (outsAt0 m c n h).2.2.2.1) 4 (fun _ => 0)
    (fun t j => ∑ r : Fin 512, dhAll m c (at_ t r) (j 2))
    (fun t h j => by
      idx_vars j
      rw [zero_add]
      exact ((out_brow_first m c t h).2.1 _).trans ((pay_first _ _ _ _).2.1.trans (b56_eq m c t _ _)))
    (fun t h j => by
      idx_vars j
      refine ((out_brow_next m c t h).2.1 _).trans ((pay_next _ _ _ _ _).2.1.trans ?_)
      rw [b56_eq m c t _ _])
    t ((flush0_14 t).mp hf) _, zero_add]
  have hN := lt16 t
  refine (Common.sum_batch (fun R => dhAll m c R y2) ⟨t.val / 4, by omega⟩ _).trans ?_
  refine congrArg₂ (fun b n => ∑ s : Fin 2048, dhAll m c (Common.batchRow b s) n) (Fin.ext ?_) (Fin.ext ?_) <;>
    blk_simp [idx t]

theorem final_gt (c : Dev nD) : (dats m 0 c).arrAt 15 (cfgs 0).N
    = fun i : S4x1x1024.Idx => ∑ s : Fin 2048, gtTerm m c (Common.batchRow (i 0) s) (i 2) := by
  refine (dats m 0 c).arrAt_eq_of_covers 15 _ (by decide +kernel) fun t hf y => ?_
  blk_simp
  idx_vars y
  rw [after0_15, Pipeline.eq_sum_fin_of_reset_step_apply_of_flush (fun n h => (outsAt0 m c n h).2.2.2.2.1) 4 (fun _ => 0)
    (fun t j => ∑ r : Fin 512, gtTerm m c (at_ t r) (j 2))
    (fun t h j => by
      idx_vars j
      rw [zero_add]
      exact ((out_brow_first m c t h).2.2 _).trans ((pay_first _ _ _ _).2.2.trans (b59_eq m c t _ _)))
    (fun t h j => by
      idx_vars j
      refine ((out_brow_next m c t h).2.2 _).trans ((pay_next _ _ _ _ _).2.2.trans ?_)
      rw [b59_eq m c t _ _])
    t ((flush0_15 t).mp hf) _, zero_add]
  have hN := lt16 t
  refine (Common.sum_batch (fun R => gtTerm m c R y2) ⟨t.val / 4, by omega⟩ _).trans ?_
  refine congrArg₂ (fun b n => ∑ s : Fin 2048, gtTerm m c (Common.batchRow b s) n) (Fin.ext ?_) (Fin.ext ?_) <;>
    blk_simp [idx t]

theorem final_g (c : Dev nD) : (dats m 0 c).arrAt 16 (cfgs 0).N
    = fun i : S1x1024.Idx => ∑ R : Fin 8192, gTerm m c R (i 1) := by
  refine (dats m 0 c).arrAt_eq_of_covers 16 _ (by decide +kernel) fun t hf y => ?_
  blk_simp
  idx_vars y
  rw [after0_16, Pipeline.eq_sum_fin_of_reset_step_apply_of_flush (fun n h => (outsAt0 m c n h).2.2.2.2.2.1) 16
    (fun _ => 0) (fun t j => ∑ r : Fin 512, gTerm m c (at_ t r) (j 1))
    (fun t h j => by
      idx_vars j
      rw [zero_add]
      exact ((out_row_first m c t h).1 _).trans (b62_eq m c t _ _))
    (fun t h j => by
      idx_vars j
      refine ((out_row_next m c t h).1 _).trans ((pay_over _ _ _ _).1.trans ?_)
      rw [b62_eq m c t _ _])
    t ((flush0_16 t).mp hf) _, zero_add]
  refine (Common.sum_tiles (fun R => gTerm m c R y1) (t.val / 16) (by have := lt16 t; omega) _).trans ?_
  exact congrArg (fun n => ∑ R : Fin 8192, gTerm m c R n) (Fin.ext (by blk_simp [idx t]))

theorem final_b (c : Dev nD) : (dats m 0 c).arrAt 17 (cfgs 0).N
    = fun i : S1x1024.Idx => ∑ R : Fin 8192, totAll m c R (i 1) := by
  refine (dats m 0 c).arrAt_eq_of_covers 17 _ (by decide +kernel) fun t hf y => ?_
  blk_simp
  idx_vars y
  rw [after0_17, Pipeline.eq_sum_fin_of_reset_step_apply_of_flush (fun n h => (outsAt0 m c n h).2.2.2.2.2.2) 16
    (fun _ => 0) (fun t j => ∑ r : Fin 512, totAll m c (at_ t r) (j 1))
    (fun t h j => by
      idx_vars j
      rw [zero_add]
      exact ((out_row_first m c t h).2 _).trans (b64_eq m c t _ _))
    (fun t h j => by
      idx_vars j
      refine ((out_row_next m c t h).2 _).trans ((pay_over _ _ _ _).2.trans ?_)
      rw [b64_eq m c t _ _])
    t ((flush0_17 t).mp hf) _, zero_add]
  refine (Common.sum_tiles (fun R => totAll m c R y1) (t.val / 16) (by have := lt16 t; omega) _).trans ?_
  exact congrArg (fun n => ∑ R : Fin 8192, totAll m c R n) (Fin.ext (by blk_simp [idx t]))

end Cert.Kernel5Ideal.Value
-- ==== Proof.LnInRef.lean ====
/- The reference's entries for the gradient of the first normalisation, and their agreement with the kernel's arrays
   where the arguments are finite. -/
module

public import proofs.«01_k».proof.Proof.LnIn
public import proofs.«01_k».proof.Proof.Finite
public import proofs.«01_k».proof.Proof.Gen.Reference5Ideal.Read

@[expose] public section

set_option maxRecDepth 16384

noncomputable section

open Idealize.ShloMosaic Idealize.ShloMosaic.TcCoe Idealize.SL.Sem

namespace Cert.Reference5Ideal.Value

open Cert.Reference5Ideal Cert.Reference5Ideal.Read Cert.Kernel5Ideal.Value Cert.Norm

variable (X M : FVec Ideal S4x2048x1024 .f32) (G : FVec Ideal S4x1024 .f32) (g b : FVec Ideal S1x1024 .f32)
  (Sc : FVec Ideal S4x1024 .f32) (W : FVec Ideal S1024x4096 .f32) (D : FVec Ideal S4x2048x4096 .f32)
  (E : FVec Ideal S4x2048x1024 .f32)

/-- A row before the normalisation, the product, the gradient that reaches the normalised row, the gradient of the
    normalised row without its weights, and that of the row, as differentiated in turn. -/
def zR (a : Fin 4) (s : Fin 2048) (n : Fin 1024) : EReal := wAlpha * X (ix3 a s n) + (1 + G (ix2 a n)) * M (ix3 a s n)
def dhR (a : Fin 4) (s : Fin 2048) : Fin 1024 → EReal := dh (fun k => D (ix3 a s k)) (fun n k => W (ix2 n k))
def totR (a : Fin 4) (s : Fin 2048) : Fin 1024 → EReal :=
  tot (fun k => D (ix3 a s k)) (fun n k => W (ix2 n k)) (fun n => E (ix3 a s n)) (fun n => Sc (ix2 a n))
def dR (a : Fin 4) (s : Fin 2048) (n : Fin 1024) : EReal := totR Sc W D E a s n * g (ix2 0 n)
def dzR (a : Fin 4) (s : Fin 2048) : Fin 1024 → EReal := backInTurn (zR X M G a s) (dR g Sc W D E a s)

theorem entry_z (a : Fin 4) (s : Fin 2048) (n : Fin 1024) :
    val_main_v7 (F := Ideal) X M G (ix3 a s n) = zR X M G a s n := by
  unfold zR wAlpha
  pointwise [val_main_v7, val_main_v6, val_main_v5, val_main_v4, val_main_v3, val_main_cst_0, val_main_v2, val_main_v1,
    val_main_v0, val_main_cst]
theorem entry_mean (a : Fin 4) (s : Fin 2048) (q : Fin 1) :
    val_main_v11 (F := Ideal) X M G (ix3 a s q) = mean (zR X M G a s) := by
  pointwise [val_main_v11, val_main_v10, val_main_cst_2, val_main_v9, val_main_v8, val_main_cst_1]
  simp only [entry_z, zero_add]
  rfl
theorem entry_cent (a : Fin 4) (s : Fin 2048) (n : Fin 1024) :
    val_main_v13 (F := Ideal) X M G (ix3 a s n) = cent (zR X M G a s) n := by
  pointwise [val_main_v13, val_main_v12]
  rw [entry_z, entry_mean]
  rfl
theorem entry_cent' (a : Fin 4) (s : Fin 2048) (n : Fin 1024) :
    val_main_v22 (F := Ideal) X M G (ix3 a s n) = cent (zR X M G a s) n := by
  pointwise [val_main_v22, val_main_v21]
  rw [entry_z, entry_mean]
  rfl
theorem entry_spread (a : Fin 4) (s : Fin 2048) (q : Fin 1) :
    val_main_v24 (F := Ideal) X M G (ix3 a s q) = spread (zR X M G a s) := by
  pointwise [val_main_v24, val_main_v23, val_main_cst_6, val_main_v20, val_main_v19, val_main_cst_5, val_main_v18,
    val_main_v17, val_main_cst_4, val_main_v14]
  simp only [entry_cent, zero_add]
  rfl
theorem entry_rstd (a : Fin 4) (s : Fin 2048) (q : Fin 1) :
    val_main_v25 (F := Ideal) X M G (ix3 a s q) = rstd (zR X M G a s) := by
  pointwise [val_main_v25]
  rw [entry_spread]
  rfl
theorem entry_root (a : Fin 4) (s : Fin 2048) (q : Fin 1) : val_main_v28 (F := Ideal) X M G (ix3 a s q)
    = wNegHalf * Ideal.div (rstd (zR X M G a s)) (spread (zR X M G a s)) := by
  pointwise [val_main_v28, val_main_v27, val_main_cst_7, val_main_v26]
  rw [entry_spread, entry_rstd]
  rfl
theorem entry_xhat (a : Fin 4) (s : Fin 2048) (n : Fin 1024) :
    val_main_v30 (F := Ideal) X M G (ix3 a s n) = xhat (zR X M G a s) n := by
  pointwise [val_main_v30, val_main_v29]
  rw [entry_cent', entry_rstd]
  rfl
theorem entry_x1 (a : Fin 4) (s : Fin 2048) (n : Fin 1024) : val_main_v36 (F := Ideal) X M G g b (ix3 a s n)
    = xhat (zR X M G a s) n * g (ix2 0 n) + b (ix2 0 n) := by
  pointwise [val_main_v36, val_main_v35, val_main_v34, val_main_v33, val_main_v32, val_main_v31]
  rw [entry_xhat]
theorem entry_dh (a : Fin 4) (s : Fin 2048) (n : Fin 1024) :
    val_main_v46 (F := Ideal) W D (ix3 a s n) = dhR W D a s n := by
  unfold dhR dh
  pointwise [val_main_v46]
theorem entry_tot (a : Fin 4) (s : Fin 2048) (n : Fin 1024) :
    val_main_v55 (F := Ideal) Sc W D E (ix3 a s n) = totR Sc W D E a s n := by
  pointwise [val_main_v55, val_main_v54, val_main_v53, val_main_v39, val_main_v38, val_main_cst_8, val_main_v37]
  rw [entry_dh]
  rfl
theorem entry_tot' (a : Fin 4) (s : Fin 2048) (n : Fin 1024) :
    val_main_v57 (F := Ideal) Sc W D E (ix3 a s n) = totR Sc W D E a s n := by
  rw [← entry_tot]
  generalize hP : val_main_v55 (F := Ideal) Sc W D E = P
  pointwise [val_main_v57, hP]
theorem entry_d (a : Fin 4) (s : Fin 2048) (n : Fin 1024) :
    val_main_v66 (F := Ideal) g Sc W D E (ix3 a s n) = dR g Sc W D E a s n := by
  pointwise [val_main_v66, val_main_v65, val_main_v31]
  rw [entry_tot']
  rfl
theorem entry_direct (a : Fin 4) (s : Fin 2048) (n : Fin 1024) :
    val_main_v73 (F := Ideal) X M G g Sc W D E (ix3 a s n) = dR g Sc W D E a s n * rstd (zR X M G a s) := by
  pointwise [val_main_v73, val_main_v72]
  rw [entry_d, entry_rstd]
theorem entry_tangent (a : Fin 4) (s : Fin 2048) : val_main_v80 (F := Ideal) X M G g Sc W D E (ix2 a s)
    = tangent (zR X M G a s) (dR g Sc W D E a s) := by
  pointwise [val_main_v80, val_main_cst_20, val_main_v79, val_main_v78, val_main_cst_19, val_main_v74, val_main_v71,
    val_main_v70, val_main_cst_17, val_main_v69]
  simp only [Fin.sum_univ_one, entry_root, entry_cent', entry_d, zero_add]
  rfl
theorem entry_var (a : Fin 4) (s : Fin 2048) (n : Fin 1024) :
    val_main_v82 (F := Ideal) X M G g Sc W D E (ix3 a s n)
    = tangent (zR X M G a s) (dR g Sc W D E a s) * (((2 : ℝ) : EReal) * cent (zR X M G a s) n) := by
  pointwise [val_main_v82, val_main_v81, val_main_v16, val_main_v15, val_main_cst_3]
  rw [entry_tangent, entry_cent, Common.two]
theorem entry_dz (a : Fin 4) (s : Fin 2048) (n : Fin 1024) :
    val_main_v92 (F := Ideal) X M G g Sc W D E (ix3 a s n) = dzR X M G g Sc W D E a s n := by
  pointwise [val_main_v92, val_main_v91, val_main_v90, val_main_cst_23, val_main_v89, val_main_v88, val_main_cst_22,
    val_main_v87, val_main_v86, val_main_v85, val_main_v84, val_main_cst_21, val_main_v83, val_main_v77, val_main_v76,
    val_main_cst_18, val_main_v75]
  simp only [Fin.sum_univ_one, entry_direct, entry_var, zero_add]
  rfl

/-- The results, entry by entry. -/
theorem entry_dx (R : Fin 8192) (n : Fin 1024) : val_main_v101 (F := Ideal) X M G g Sc W D E (ix2 R n)
    = wAlpha * dzR X M G g Sc W D E ⟨(R : ℕ) / 2048, by omega⟩ ⟨(R : ℕ) % 2048, by omega⟩ n := by
  pointwise [val_main_v101, val_main_v100, val_main_v99, val_main_cst_26]
  rw [entry_dz]
  rfl
theorem entry_dmix (R : Fin 8192) (n : Fin 1024) : val_main_v103 (F := Ideal) X M G g Sc W D E (ix2 R n)
    = (1 + G (ix2 ⟨(R : ℕ) / 2048, by omega⟩ n))
      * dzR X M G g Sc W D E ⟨(R : ℕ) / 2048, by omega⟩ ⟨(R : ℕ) % 2048, by omega⟩ n := by
  pointwise [val_main_v103, val_main_v102, val_main_v94, val_main_v93, val_main_v4, val_main_v3, val_main_cst_0,
    val_main_v2]
  rw [entry_dz]
theorem entry_dsc (a : Fin 4) (q : Fin 1) (n : Fin 1024) : val_main_v104 (F := Ideal) X M G g b W D (ix3 a q n)
    = ∑ s : Fin 2048, (xhat (zR X M G a s) n * g (ix2 0 n) + b (ix2 0 n)) * dhR W D a s n := by
  pointwise [val_main_v104, val_main_v56, val_main_cst_12, val_main_v52, val_main_v51, val_main_cst_11, val_main_v50]
  simp only [Fin.sum_univ_one, entry_x1, entry_dh, zero_add]
theorem entry_dsh (a : Fin 4) (q : Fin 1) (n : Fin 1024) :
    val_main_v105 (F := Ideal) W D (ix3 a q n) = ∑ s : Fin 2048, dhR W D a s n := by
  pointwise [val_main_v105, val_main_v49, val_main_cst_10, val_main_v48, val_main_v47, val_main_cst_9]
  simp only [Fin.sum_univ_one, entry_dh, zero_add]
theorem entry_dgt (a : Fin 4) (q : Fin 1) (n : Fin 1024) : val_main_v106 (F := Ideal) X M G g Sc W D E (ix3 a q n)
    = ∑ s : Fin 2048, dzR X M G g Sc W D E a s n * M (ix3 a s n) := by
  pointwise [val_main_v106, val_main_v98, val_main_cst_25, val_main_v97, val_main_v96, val_main_cst_24, val_main_v95]
  simp only [Fin.sum_univ_one, entry_dz, zero_add]
theorem entry_dg (q : Fin 1) (n : Fin 1024) : val_main_v68 (F := Ideal) X M G Sc W D E (ix2 q n)
    = ∑ a : Fin 4, ∑ s : Fin 2048, xhat (zR X M G a s) n * totR Sc W D E a s n := by
  have e0 : val_main_v63 (F := Ideal) X M G Sc W D E (ix1 n)
      = ∑ a : Fin 4, ∑ s : Fin 2048, val_main_v62 (F := Ideal) X M G Sc W D E (ix3 a s n) := by
    unfold val_main_v63
    refine (Common.reduce_leading _ _ _ (ix1 n) n (fun q => by obtain rfl : q = 0 := Subsingleton.elim _ _; rfl)).trans ?_
    pointwise [val_main_cst_15]
  have e1 : ∀ p r : Fin 1, val_main_v64 (F := Ideal) X M G Sc W D E (ix3 p r n)
      = val_main_v63 (F := Ideal) X M G Sc W D E (ix1 n) := fun p r => by pointwise [val_main_v64]
  have e2 : val_main_v67 (F := Ideal) X M G Sc W D E (ix1 n) = val_main_v63 (F := Ideal) X M G Sc W D E (ix1 n) := by
    unfold val_main_v67
    refine (Common.reduce_leading _ _ _ (ix1 n) n (fun q => by obtain rfl : q = 0 := Subsingleton.elim _ _; rfl)).trans ?_
    rw [Fin.sum_univ_one, Fin.sum_univ_one, e1]
    pointwise [val_main_cst_16]
  have e3 : val_main_v68 (F := Ideal) X M G Sc W D E (ix2 q n) = val_main_v67 (F := Ideal) X M G Sc W D E (ix1 n) := by
    pointwise [val_main_v68]
  rw [e3, e2, e0]
  refine Finset.sum_congr rfl fun a _ => Finset.sum_congr rfl fun s _ => ?_
  pointwise [val_main_v62]
  rw [entry_xhat, entry_tot']
theorem entry_db (q : Fin 1) (n : Fin 1024) : val_main_v61 (F := Ideal) Sc W D E (ix2 q n)
    = ∑ a : Fin 4, ∑ s : Fin 2048, totR Sc W D E a s n := by
  have e0 : val_main_v58 (F := Ideal) Sc W D E (ix1 n)
      = ∑ a : Fin 4, ∑ s : Fin 2048, val_main_v55 (F := Ideal) Sc W D E (ix3 a s n) := by
    unfold val_main_v58
    refine (Common.reduce_leading _ _ _ (ix1 n) n (fun q => by obtain rfl : q = 0 := Subsingleton.elim _ _; rfl)).trans ?_
    pointwise [val_main_cst_13]
  have e1 : ∀ p r : Fin 1, val_main_v59 (F := Ideal) Sc W D E (ix3 p r n) = val_main_v58 (F := Ideal) Sc W D E (ix1 n) :=
    fun p r => by pointwise [val_main_v59]
  have e2 : val_main_v60 (F := Ideal) Sc W D E (ix1 n) = val_main_v58 (F := Ideal) Sc W D E (ix1 n) := by
    unfold val_main_v60
    refine (Common.reduce_leading _ _ _ (ix1 n) n (fun q => by obtain rfl : q = 0 := Subsingleton.elim _ _; rfl)).trans ?_
    rw [Fin.sum_univ_one, Fin.sum_univ_one, e1]
    pointwise [val_main_cst_14]
  have e3 : val_main_v61 (F := Ideal) Sc W D E (ix2 q n) = val_main_v60 (F := Ideal) Sc W D E (ix1 n) := by
    pointwise [val_main_v61]
  rw [e3, e2, e0]
  exact Finset.sum_congr rfl fun a _ => Finset.sum_congr rfl fun s _ => entry_tot Sc W D E a s n

end Cert.Reference5Ideal.Value

namespace Cert.Kernel5Ideal.Value

open Cert.Kernel5Ideal Cert.Kernel5Ideal.Gen Cert.Reference5Ideal.Value Cert.Reference5Ideal.Read Cert.Norm

variable (m : (ℓ : Loc nD τ sig) → Buf (Elt Ideal) ℓ)

abbrev argX (c : Dev nD) : FVec Ideal S4x2048x1024 .f32 := m ((c : Thread nD τ).loc main_arg0)
abbrev argM (c : Dev nD) : FVec Ideal S4x2048x1024 .f32 := m ((c : Thread nD τ).loc main_arg1)
abbrev argGt (c : Dev nD) : FVec Ideal S4x1024 .f32 := m ((c : Thread nD τ).loc main_arg2)
abbrev argG (c : Dev nD) : FVec Ideal S1x1024 .f32 := m ((c : Thread nD τ).loc main_arg3)
abbrev argB (c : Dev nD) : FVec Ideal S1x1024 .f32 := m ((c : Thread nD τ).loc main_arg4)
abbrev argSc (c : Dev nD) : FVec Ideal S4x1024 .f32 := m ((c : Thread nD τ).loc main_arg5)
abbrev argW (c : Dev nD) : FVec Ideal S1024x4096 .f32 := m ((c : Thread nD τ).loc main_arg7)
abbrev argD (c : Dev nD) : FVec Ideal S4x2048x4096 .f32 := m ((c : Thread nD τ).loc main_arg8)
abbrev argE (c : Dev nD) : FVec Ideal S4x2048x1024 .f32 := m ((c : Thread nD τ).loc main_arg9)

abbrev bat (r : Fin 8192) : Fin 4 := batchOf r
def pos (r : Fin 8192) : Fin 2048 := ⟨(r : ℕ) % 2048, by omega⟩

section
variable (c : Dev nD) (r : Fin 8192)
theorem rowD_eq (k : Fin 4096) : rowD m c r k = argD m c (ix3 (bat r) (pos r) k) := by
  unfold rowD bat batchOf pos; entry_read; pointwise
theorem matW_eq (n : Fin 1024) (k : Fin 4096) : matW m c n k = argW m c (ix2 n k) := by
  unfold matW; entry_read; pointwise
theorem rowE_eq (n : Fin 1024) : rowE m c r n = argE m c (ix3 (bat r) (pos r) n) := by
  unfold rowE bat batchOf pos; entry_read; pointwise
theorem rowMix_eq (n : Fin 1024) : rowMix m c r n = argM m c (ix3 (bat r) (pos r) n) := by
  unfold rowMix bat batchOf pos; entry_read; pointwise
theorem rowSc_eq (a : Fin 4) (n : Fin 1024) : rowSc m c a n = argSc m c (ix2 a n) := by
  unfold rowSc; entry_read; pointwise
theorem rowGt_eq (a : Fin 4) (n : Fin 1024) : rowGt m c a n = argGt m c (ix2 a n) := by
  unfold rowGt; entry_read; pointwise
theorem rowG_eq (n : Fin 1024) : rowG m c n = argG m c (ix2 0 n) := by
  unfold rowG; entry_read; pointwise
theorem rowXh_eq (n : Fin 1024) : rowXh m c r n = xhat (zR (argX m c) (argM m c) (argGt m c) (bat r) (pos r)) n := by
  unfold rowXh xhat rstd spread cent mean w1024 wEps zR wAlpha bat batchOf pos; entry_read; pointwise
theorem rowRs_eq : rowRs m c r = rstd (zR (argX m c) (argM m c) (argGt m c) (bat r) (pos r)) := by
  unfold rowRs rstd spread cent mean w1024 wEps zR wAlpha bat batchOf pos; entry_read; pointwise
theorem rowX_eq (n : Fin 1024) : rowX m c r n = xhat (zR (argX m c) (argM m c) (argGt m c) (bat r) (pos r)) n
    * argG m c (ix2 0 n) + argB m c (ix2 0 n) := by
  unfold rowX xhat rstd spread cent mean w1024 wEps zR wAlpha bat batchOf pos; entry_read; pointwise

theorem dhAll_eq : dhAll m c r = dhR (argW m c) (argD m c) (bat r) (pos r) :=
  congrArg₂ dh (funext (rowD_eq m c r)) (funext fun n => funext (matW_eq m c n))
theorem totAll_eq : totAll m c r = totR (argSc m c) (argW m c) (argD m c) (argE m c) (bat r) (pos r) :=
  congr (congr (congrArg₂ tot (funext (rowD_eq m c r)) (funext fun n => funext (matW_eq m c n)))
    (funext (rowE_eq m c r))) (funext (rowSc_eq m c _))
end

/-- The arguments' entries that the gradient of the row depends on are finite numbers. -/
structure Fin8 (c : Dev nD) : Prop where
  x : ∀ i, IsReal (argX m c i)
  mix : ∀ i, IsReal (argM m c i)
  gt : ∀ i, IsReal (argGt m c i)
  g : ∀ i, IsReal (argG m c i)
  sc : ∀ i, IsReal (argSc m c i)
  w : ∀ i, IsReal (argW m c i)
  d : ∀ i, IsReal (argD m c i)
  e : ∀ i, IsReal (argE m c i)

section
variable {m} {c : Dev nD} (h : Fin8 m c)
include h
theorem real_z (a : Fin 4) (s : Fin 2048) (n : Fin 1024) : IsReal (zR (argX m c) (argM m c) (argGt m c) a s n) :=
  .add (.mul wAlpha_fin (h.x _)) (.mul (.add .one (h.gt _)) (h.mix _))
theorem real_d (a : Fin 4) (s : Fin 2048) (n : Fin 1024) :
    IsReal (dR (argG m c) (argSc m c) (argW m c) (argD m c) (argE m c) a s n) :=
  .mul (.add (h.e _) (.mul (.sum _ fun k => .mul (h.d _) (h.w _)) (.add .one (h.sc _)))) (h.g _)
theorem dzAll_eq (r : Fin 8192) (n : Fin 1024) : dzAll m c r n = dzR (argX m c) (argM m c) (argGt m c) (argG m c)
    (argSc m c) (argW m c) (argD m c) (argE m c) (bat r) (pos r) n := by
  have e : dzAll m c r = back (zR (argX m c) (argM m c) (argGt m c) (bat r) (pos r))
      (dR (argG m c) (argSc m c) (argW m c) (argD m c) (argE m c) (bat r) (pos r)) := by
    refine congr (congrArg₂ backOf (funext (rowXh_eq m c r)) (rowRs_eq m c r)) (funext fun k => ?_)
    exact congrArg₂ (fun p q : EReal => p * q) (congrFun (totAll_eq m c r) k) (rowG_eq m c k)
  rw [e]
  exact back_eq (real_z h _ _) (real_d h _ _) n

/-- The kernel's arrays are the reference's. -/
theorem agree_dx : (dats m 0 c).arrAt 11 (cfgs 0).N = val_main_v101 (F := Ideal) (argX m c) (argM m c) (argGt m c)
    (argG m c) (argSc m c) (argW m c) (argD m c) (argE m c) := by
  rw [final_dx]
  refine funext fun i => ?_
  idx_vars i
  refine Eq.trans ?_ (entry_dx _ _ _ _ _ _ _ _ i0 i1).symm
  exact congrArg (fun p : EReal => wAlpha * p) (dzAll_eq h i0 i1)
theorem agree_dmix : (dats m 0 c).arrAt 12 (cfgs 0).N = val_main_v103 (F := Ideal) (argX m c) (argM m c) (argGt m c)
    (argG m c) (argSc m c) (argW m c) (argD m c) (argE m c) := by
  rw [final_dmix]
  refine funext fun i => ?_
  idx_vars i
  refine Eq.trans ?_ (entry_dmix _ _ _ _ _ _ _ _ i0 i1).symm
  show dzAll m c i0 i1 * (1 + rowGt m c _ i1) = _
  rw [dzAll_eq h, rowGt_eq, mul_comm]
  rfl
omit h in
theorem at_batch {α : Type} (f : Fin 4 → Fin 2048 → α) (a : Fin 4) (s : Fin 2048) :
    f (bat (Common.batchRow a s)) (pos (Common.batchRow a s)) = f a s :=
  congrArg₂ f (Common.batchRow_div a s _) (Common.batchRow_mod a s _)
omit h in
theorem agree_sc : (dats m 0 c).arrAt 13 (cfgs 0).N = val_main_v104 (F := Ideal) (argX m c) (argM m c) (argGt m c)
    (argG m c) (argB m c) (argW m c) (argD m c) := by
  rw [final_sc]
  refine funext fun i => ?_
  idx_vars i
  refine Eq.trans ?_ (entry_dsc _ _ _ _ _ _ _ i0 i1 i2).symm
  refine Finset.sum_congr rfl fun s _ => ?_
  show dhAll m c _ _ * rowX m c _ _ = _
  rw [dhAll_eq, rowX_eq, mul_comm]
  exact at_batch (fun a s => (xhat (zR _ _ _ a s) i2 * argG m c (ix2 0 i2) + argB m c (ix2 0 i2)) * dhR _ _ a s i2) i0 s
omit h in
theorem agree_sh : (dats m 0 c).arrAt 14 (cfgs 0).N = val_main_v105 (F := Ideal) (argW m c) (argD m c) := by
  rw [final_sh]
  refine funext fun i => ?_
  idx_vars i
  refine Eq.trans ?_ (entry_dsh _ _ i0 i1 i2).symm
  refine Finset.sum_congr rfl fun s _ => ?_
  show dhAll m c _ _ = _
  rw [dhAll_eq]
  exact at_batch (fun a s => dhR _ _ a s i2) i0 s
theorem agree_gt : (dats m 0 c).arrAt 15 (cfgs 0).N = val_main_v106 (F := Ideal) (argX m c) (argM m c) (argGt m c)
    (argG m c) (argSc m c) (argW m c) (argD m c) (argE m c) := by
  rw [final_gt]
  refine funext fun i => ?_
  idx_vars i
  refine Eq.trans ?_ (entry_dgt _ _ _ _ _ _ _ _ i0 i1 i2).symm
  refine Finset.sum_congr rfl fun s _ => ?_
  show dzAll m c _ _ * rowMix m c _ _ = _
  rw [dzAll_eq h, rowMix_eq]
  exact at_batch (fun a s => dzR _ _ _ _ _ _ _ _ a s i2 * argM m c (ix3 a s i2)) i0 s
omit h in
theorem agree_g : (dats m 0 c).arrAt 16 (cfgs 0).N = val_main_v68 (F := Ideal) (argX m c) (argM m c) (argGt m c)
    (argSc m c) (argW m c) (argD m c) (argE m c) := by
  rw [final_g]
  refine funext fun i => ?_
  idx_vars i
  refine Eq.trans ?_ (entry_dg _ _ _ _ _ _ _ i0 i1).symm
  refine (Common.sum_batches _).trans (Finset.sum_congr rfl fun a _ => Finset.sum_congr rfl fun s _ => ?_)
  show totAll m c _ _ * rowXh m c _ _ = _
  rw [totAll_eq, rowXh_eq, mul_comm]
  exact at_batch (fun a s => xhat (zR _ _ _ a s) i1 * totR _ _ _ _ a s i1) a s
omit h in
theorem agree_b : (dats m 0 c).arrAt 17 (cfgs 0).N = val_main_v61 (F := Ideal) (argSc m c) (argW m c) (argD m c)
    (argE m c) := by
  rw [final_b]
  refine funext fun i => ?_
  idx_vars i
  refine Eq.trans ?_ (entry_db _ _ _ _ i0 i1).symm
  refine (Common.sum_batches _).trans (Finset.sum_congr rfl fun a _ => Finset.sum_congr rfl fun s _ => ?_)
  show totAll m c _ _ = _
  rw [totAll_eq]
  exact at_batch (fun a s => totR _ _ _ _ a s i1) a s
end

end Cert.Kernel5Ideal.Value
-- ==== Proof.Claims.lean ====
module

public import proofs.«01_k».proof.Defs
public import proofs.«01_k».proof.Proof.Dup
public import proofs.«01_k».proof.Proof.Final
public import proofs.«01_k».proof.Proof.Merge
public import proofs.«01_k».proof.Proof.LnOutRef
public import proofs.«01_k».proof.Proof.LnInRef
public import proofs.«01_k».proof.Proof.Gen.Pre_ln2_finite
public import proofs.«01_k».proof.Proof.Gen.Pre_ln1_finite
public import proofs.«01_k».proof.Proof.Gen.Reference4Ideal.Run
public import proofs.«01_k».proof.Proof.Gen.Reference5Ideal.Run
public import proofs.«01_k».proof.Proof.Gen.On_gate_columns
public import proofs.«01_k».proof.Proof.Gen.ReferenceIdeal.Run
public import proofs.«01_k».proof.Proof.Gen.Reference2Ideal.Run
public import proofs.«01_k».proof.Proof.Gen.Reference3Ideal.Run

@[expose] public section

set_option maxRecDepth 16384

noncomputable section

open Idealize.ShloMosaic Idealize.ShloMosaic.TcCoe Idealize.SL.Sem

namespace Cert.Claims

/-- The columns the claim is about are those from 4096 on. -/
theorem columns (Ya Yb : FVec Ideal Cert.KernelIdeal.S4x2048x1024 .f32) (Z : FVec Ideal Cert.KernelIdeal.S4x2048x6144 .f32)
    (b : FVec Ideal Cert.KernelIdeal.S1x6144 .f32) (W : FVec Ideal Cert.KernelIdeal.S1024x1024 .f32)
    (D : FVec Ideal Cert.KernelIdeal.S4x2048x1024 .f32) (r : Fin 8192) (n : Fin 6144)
    (h : (Cert.On_gate_columns.fn (F := Ideal) Ya Yb Z b W D).2.2.1 (ix2 r n) = 1#1) : 4096 ≤ (n : ℕ) := by
  have e : (Cert.On_gate_columns.fn (F := Ideal) Ya Yb Z b W D).2.2.1 (ix2 r n)
      = IntOp.cmpi .sge (BitVec.ofNat 32 (n : ℕ)) (BitVec.ofNat 32 4096) := by
    pointwise [Cert.On_gate_columns.fn]
  exact (WordCmp.cmpi_sge_ofNat_eq_one_iff (by omega) (by omega)).mp (e.symm.trans h)

theorem merge : Cert.algebraic_KernelIdeal_ReferenceIdeal_on_gate_columns := by
  intro m g m' g' hpre hagree
  refine ⟨fun c => (Cert.KernelIdeal.Gen.dats m 0 c).arrAt 7 (Cert.KernelIdeal.cfgs 0).N,
    fun c => (Cert.KernelIdeal.Gen.dats m 0 c).arrAt 8 (Cert.KernelIdeal.cfgs 0).N,
    fun c => (Cert.KernelIdeal.Gen.dats m 0 c).arrAt 9 (Cert.KernelIdeal.cfgs 0).N,
    fun c => (Cert.KernelIdeal.Gen.dats m 0 c).arrAt 10 (Cert.KernelIdeal.cfgs 0).N, ?_, ?_⟩
  · refine (θ_run _ _ _).mono (fun r h c => ?_) (Cert.KernelIdeal.Value.run_blocks m g)
    obtain ⟨h0, h1, h2, h3, ha⟩ := h c
    exact ⟨fun i _ => congrFun h0 i, fun i _ => congrFun h1 i, fun i _ => congrFun h2 i, fun i _ => congrFun h3 i, ha⟩
  · refine (θ_run _ _ _).mono (fun r h c => ?_) (Cert.ReferenceIdeal.Value.run m' g')
    obtain ⟨h0, h1, h2, h3, ha⟩ := h c
    obtain ⟨e0, e1, e2, e3, e4, e5⟩ := hagree c
    refine ⟨fun i _ => congrFun (h0.trans ?_) i, fun i _ => congrFun (h1.trans ?_) i, fun i hi => ?_,
      fun i _ => congrFun (h3.trans ?_) i, ha⟩
    · refine (Cert.ReferenceIdeal.Read.val_main_v42_eq _ _ _ _).trans ?_
      rw [e2, e3, e4, e5]
      exact (Cert.KernelIdeal.Value.agree_dya m c).symm
    · refine (Cert.ReferenceIdeal.Read.val_main_v44_eq _ _ _ _).trans ?_
      rw [e2, e3, e4, e5]
      exact (Cert.KernelIdeal.Value.agree_dyb m c).symm
    · idx_vars i
      refine (congrFun (h2.trans (Cert.ReferenceIdeal.Read.val_main_v46_eq _ _ _ _ _ _)) _).trans ?_
      rw [e0, e1, e2, e3, e4, e5]
      exact (Cert.KernelIdeal.Value.agree_dg m c i0 i1 (columns _ _ _ _ _ _ i0 i1 hi)).symm
    · refine (Cert.ReferenceIdeal.Read.val_main_v47_eq _ _ _ _ _ _).trans ?_
      rw [e0, e1, e2, e3, e4, e5]
      exact (Cert.KernelIdeal.Value.agree_dbias m c).symm

theorem dup : Cert.algebraic_Kernel2Ideal_Reference2Ideal := by
  pair_intro
  · run_from Cert.Kernel2Ideal.Gen.run_main m g
  · run_from Cert.Reference2Ideal.Value.run m' g'
    exact (Cert.Reference2Ideal.Value.agree m c).symm

theorem final : Cert.algebraic_Kernel3Ideal_Reference3Ideal := by
  pair_intro
  · run_from Cert.Kernel3Ideal.Gen.run_main m g
  · run_from Cert.Reference3Ideal.Value.run m' g'
    · exact (Cert.Kernel3Ideal.Value.agree_dx m c).symm
    · exact (Cert.Kernel3Ideal.Value.agree_dsc m c).symm
    · exact (Cert.Kernel3Ideal.Value.agree_dsh m c).symm

/-- What the precondition of the second normalisation says. -/
theorem finite_out {m : (ℓ : Loc Cert.Kernel4Ideal.nD Cert.Kernel4Ideal.τ Cert.Kernel4Ideal.sig) → Buf (Elt Ideal) ℓ}
    (h : Cert.Pre_Kernel4Ideal_ln2_finite m) (c : Dev Cert.Kernel4Ideal.nD) : Cert.Kernel4Ideal.Value.Fin7 m c := by
  have e := congrFun (h c) (fun a => a.elim0)
  unfold Cert.Pre_ln2_finite.fn at e
  exact ⟨Norm.all_real _ _ _ _ _ (Norm.and_left _ (Norm.and_left _ (Norm.and_left _ (Norm.and_left _ (Norm.and_left _
      (Norm.and_left _ e)))))),
    Norm.all_real _ _ _ _ _ (Norm.and_right _ (Norm.and_left _ (Norm.and_left _ (Norm.and_left _ (Norm.and_left _
      (Norm.and_left _ e)))))),
    Norm.all_real _ _ _ _ _ (Norm.and_right _ (Norm.and_left _ (Norm.and_left _ (Norm.and_left _ (Norm.and_left _ e))))),
    Norm.all_real _ _ _ _ _ (Norm.and_right _ (Norm.and_left _ (Norm.and_left _ (Norm.and_left _ e)))),
    Norm.all_real _ _ _ _ _ (Norm.and_right _ (Norm.and_left _ (Norm.and_left _ e))),
    Norm.all_real _ _ _ _ _ (Norm.and_right _ (Norm.and_left _ e)),
    Norm.all_real _ _ _ _ _ (Norm.and_right _ e)⟩

/-- What the precondition of the first normalisation says. -/
theorem finite_in {m : (ℓ : Loc Cert.Kernel5Ideal.nD Cert.Kernel5Ideal.τ Cert.Kernel5Ideal.sig) → Buf (Elt Ideal) ℓ}
    (h : Cert.Pre_Kernel5Ideal_ln1_finite m) (c : Dev Cert.Kernel5Ideal.nD) : Cert.Kernel5Ideal.Value.Fin8 m c := by
  have e := congrFun (h c) (fun a => a.elim0)
  unfold Cert.Pre_ln1_finite.fn at e
  have e6 := Norm.and_left _ (Norm.and_left _ e)
  have e3 := Norm.and_left _ (Norm.and_left _ e6)
  have e1 := Norm.and_left _ (Norm.and_left _ e3)
  exact ⟨Norm.all_real _ _ _ _ _ (Norm.and_left _ e1), Norm.all_real _ _ _ _ _ (Norm.and_right _ e1),
    Norm.all_real _ _ _ _ _ (Norm.and_right _ (Norm.and_left _ e3)), Norm.all_real _ _ _ _ _ (Norm.and_right _ e3),
    Norm.all_real _ _ _ _ _ (Norm.and_right _ (Norm.and_left _ e6)), Norm.all_real _ _ _ _ _ (Norm.and_right _ e6),
    Norm.all_real _ _ _ _ _ (Norm.and_right _ (Norm.and_left _ e)), Norm.all_real _ _ _ _ _ (Norm.and_right _ e)⟩

theorem lnOut : Cert.algebraic_Kernel4Ideal_Reference4Ideal_pre_ln2_finite := by
  intro m g m' g' hpre hagree
  refine ⟨fun c => (Cert.Kernel4Ideal.Gen.dats m 0 c).arrAt 7 (Cert.Kernel4Ideal.cfgs 0).N,
    fun c => (Cert.Kernel4Ideal.Gen.dats m 0 c).arrAt 8 (Cert.Kernel4Ideal.cfgs 0).N,
    fun c => (Cert.Kernel4Ideal.Gen.dats m 0 c).arrAt 9 (Cert.Kernel4Ideal.cfgs 0).N,
    fun c => (Cert.Kernel4Ideal.Gen.dats m 0 c).arrAt 10 (Cert.Kernel4Ideal.cfgs 0).N,
    fun c => (Cert.Kernel4Ideal.Gen.dats m 0 c).arrAt 11 (Cert.Kernel4Ideal.cfgs 0).N,
    fun c => (Cert.Kernel4Ideal.Gen.dats m 0 c).arrAt 12 (Cert.Kernel4Ideal.cfgs 0).N,
    Cert.Kernel4Ideal.Value.run_blocks m g, ?_⟩
  refine (θ_run _ _ _).mono (fun r h c => ?_) (Cert.Reference4Ideal.Value.run m' g')
  obtain ⟨h0, h1, h2, h3, h4, h5, ha⟩ := h c
  obtain ⟨e0, e1, e2, e3, e4, e5, e6⟩ := hagree c
  have hf := finite_out hpre c
  refine ⟨h0.trans ((Cert.Reference4Ideal.Read.val_main_v101_eq m' c).trans ?_),
    h1.trans ((Cert.Reference4Ideal.Read.val_main_v102_eq m' c).trans ?_),
    h2.trans ((Cert.Reference4Ideal.Read.val_main_v103_eq m' c).trans ?_),
    h3.trans ((Cert.Reference4Ideal.Read.val_main_v65_eq m' c).trans ?_),
    h4.trans ((Cert.Reference4Ideal.Read.val_main_v58_eq m' c).trans ?_),
    h5.trans ((Cert.Reference4Ideal.Read.val_main_v104_eq m' c).trans ?_), ha⟩ <;> rw [e0, e1, e2, e3, e4, e5, e6]
  · exact (Cert.Kernel4Ideal.Value.agree_df hf).symm
  · exact (Cert.Kernel4Ideal.Value.agree_dx hf).symm
  · exact (Cert.Kernel4Ideal.Value.agree_gt hf).symm
  · exact Cert.Kernel4Ideal.Value.agree_g.symm
  · exact Cert.Kernel4Ideal.Value.agree_b.symm
  · exact Cert.Kernel4Ideal.Value.agree_loss.symm

set_option maxHeartbeats 1000000 in
theorem lnIn : Cert.algebraic_Kernel5Ideal_Reference5Ideal_pre_ln1_finite := by
  intro m g m' g' hpre hagree
  refine ⟨fun c => (Cert.Kernel5Ideal.Gen.dats m 0 c).arrAt 11 (Cert.Kernel5Ideal.cfgs 0).N,
    fun c => (Cert.Kernel5Ideal.Gen.dats m 0 c).arrAt 12 (Cert.Kernel5Ideal.cfgs 0).N,
    fun c => (Cert.Kernel5Ideal.Gen.dats m 0 c).arrAt 13 (Cert.Kernel5Ideal.cfgs 0).N,
    fun c => (Cert.Kernel5Ideal.Gen.dats m 0 c).arrAt 14 (Cert.Kernel5Ideal.cfgs 0).N,
    fun c => (Cert.Kernel5Ideal.Gen.dats m 0 c).arrAt 15 (Cert.Kernel5Ideal.cfgs 0).N,
    fun c => (Cert.Kernel5Ideal.Gen.dats m 0 c).arrAt 16 (Cert.Kernel5Ideal.cfgs 0).N,
    fun c => (Cert.Kernel5Ideal.Gen.dats m 0 c).arrAt 17 (Cert.Kernel5Ideal.cfgs 0).N,
    Cert.Kernel5Ideal.Value.run_blocks m g, ?_⟩
  refine (θ_run _ _ _).mono (fun r h c => ?_) (Cert.Reference5Ideal.Value.run m' g')
  obtain ⟨h0, h1, h2, h3, h4, h5, h6, ha⟩ := h c
  obtain ⟨e0, e1, e2, e3, e4, e5, e6, e7, e8, e9⟩ := hagree c
  have hf := finite_in hpre c
  refine ⟨h0.trans ((Cert.Reference5Ideal.Read.val_main_v101_eq m' c).trans ?_),
    h1.trans ((Cert.Reference5Ideal.Read.val_main_v103_eq m' c).trans ?_),
    h2.trans ((Cert.Reference5Ideal.Read.val_main_v104_eq m' c).trans ?_),
    h3.trans ((Cert.Reference5Ideal.Read.val_main_v105_eq (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8))).trans ?_),
    h4.trans ((Cert.Reference5Ideal.Read.val_main_v106_eq m' c).trans ?_),
    h5.trans ((Cert.Reference5Ideal.Read.val_main_v68_eq m' c).trans ?_),
    h6.trans ((Cert.Reference5Ideal.Read.val_main_v61_eq _ _ _ _).trans ?_), ha⟩
  · rw [e0, e1, e2, e3, e5, e7, e8, e9]; exact (Cert.Kernel5Ideal.Value.agree_dx hf).symm
  · rw [e0, e1, e2, e3, e5, e7, e8, e9]; exact (Cert.Kernel5Ideal.Value.agree_dmix hf).symm
  · rw [e0, e1, e2, e3, e4, e7, e8]; exact Cert.Kernel5Ideal.Value.agree_sc.symm
  · rw [e7, e8]; exact Cert.Kernel5Ideal.Value.agree_sh.symm
  · rw [e0, e1, e2, e3, e5, e7, e8, e9]; exact (Cert.Kernel5Ideal.Value.agree_gt hf).symm
  · rw [e0, e1, e2, e5, e7, e8, e9]; exact Cert.Kernel5Ideal.Value.agree_g.symm
  · rw [e5, e7, e8, e9]; exact Cert.Kernel5Ideal.Value.agree_b.symm

end Cert.Claims
-- ==== Proof.Gwdown.lean ====
module

public import proofs.«01_k».proof.Proof.Gen.Kernel8Ideal.Value
public import proofs.«01_k».proof.Proof.Gen.Reference8Ideal.Read
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.Kernel8Ideal.Value

open Cert.Kernel8Ideal Cert.Kernel8Ideal.Gen

variable (m : (ℓ : Loc nD τ sig) → Buf (Elt Ideal) ℓ)

theorem idx : ∀ t : Fin cfg0.N, win0_0.index t = ![t.val % 2, t.val / 2] ∧ win0_1.index t = ![t.val % 2, 0]
    ∧ win0_2.index t = ![t.val / 2, 0] :=
  (by decide +kernel : ∀ t : Fin grid0.N, _)

/-- The arrays the grid reads, entry by entry. -/
def rowX (c : Dev nD) (r : Fin 8192) (i : Fin 4096) : EReal := (V m c main_v3 : FVec Ideal S8192x4096 .bf16) (ix2 r i)
def rowD (c : Dev nD) (r : Fin 8192) (j : Fin 1024) : EReal := (V m c main_v7 : FVec Ideal S8192x1024 .bf16) (ix2 r j)

/-- The blocks of a point are those arrays' entries. -/
theorem blkX (c : Dev nD) (t : Fin cfg0.N) (k : Fin 4096) (R : Fin 8192) (hR : (R : ℕ) = t.val % 2 * 4096 + k)
    (i : Fin 1024) (I : Fin 4096) (hI : (I : ℕ) = t.val / 2 * 1024 + i) :
    (iblk m c 0 t : FVec Ideal S4096x1024 .bf16) (ix2 k i) = rowX m c R I := by
  unfold rowX; blk_ext [iblk, idx t]
theorem blkD (c : Dev nD) (t : Fin cfg0.N) (k : Fin 4096) (R : Fin 8192) (hR : (R : ℕ) = t.val % 2 * 4096 + k)
    (j : Fin 1024) : (iblk m c 1 t : FVec Ideal S4096x1024 .bf16) (ix2 k j) = rowD m c R j := by
  unfold rowD; blk_ext [iblk, idx t]

/-- The body's arithmetic, entry by entry. -/
theorem pay_dot (X D : FVec Ideal S4096x1024 .bf16) (i j : Fin 1024) :
    k0_pay1 (F := Ideal) X D (ix2 i j) = ∑ k : Fin 4096, X (ix2 k i) * X (ix2 k i) * D (ix2 k j) := by
  pointwise [k0_pay1]
theorem pay_first (X D : FVec Ideal S4096x1024 .bf16) (i j : Fin 1024) :
    k0_pay2 (F := Ideal) X D (ix2 i j) = ∑ k : Fin 4096, X (ix2 k i) * X (ix2 k i) * D (ix2 k j) := by
  rw [← pay_dot]
  generalize hP : k0_pay1 (F := Ideal) X D = P
  pointwise [k0_pay2, hP]
theorem pay_later (X D : FVec Ideal S4096x1024 .bf16) (A : FVec Ideal S1024x1024 .f32) (i j : Fin 1024) :
    k0_pay3 (F := Ideal) X D A (ix2 i j)
      = A (ix2 i j) + ∑ k : Fin 4096, X (ix2 k i) * X (ix2 k i) * D (ix2 k j) := by
  rw [← pay_dot]
  generalize hP : k0_pay1 (F := Ideal) X D = P
  pointwise [k0_pay3, hP]
theorem pay_out (A : FVec Ideal S1024x1024 .f32) (i j : Fin 1024) :
    k0_pay4 (F := Ideal) A (ix2 i j) = ((1 / 2 : ℝ) : EReal) * A (ix2 i j) := by
  pointwise [k0_pay4]
  rw [Common.half]

/-- What the first point of a tile keeps, and what the second writes over it. -/
theorem outA (c : Dev nD) (t : Fin cfg0.N) (h : t.val % 2 = 0) (y) :
    (outsAt0 m c t.val t.isLt).2 y = k0_pay2 (iblk m c 0 t) (iblk m c 1 t) y := by
  rw [outsAt0_A m c t h (by omega) (by omega)]; frame_out
theorem outB (c : Dev nD) (t : Fin cfg0.N) (h : t.val % 2 = 1) (y) : (outsAt0 m c t.val t.isLt).1 y
    = k0_pay4 (k0_pay3 (iblk m c 0 t) (iblk m c 1 t) (outsAt0 m c (t.val - 1) (by omega)).2) y := by
  rw [outsAt0_B m c t (by omega) h h]; frame_out
  exact congrArg (fun s => k0_pay4 (k0_pay3 (iblk m c 0 t) (iblk m c 1 t) s) y) (Memref.IsWhole.read_unread _ _)

/-- The sum over the rows, in the two halves the two points take. -/
def half (q : Fin 2) (k : Fin 4096) : Fin 8192 := ⟨q * 4096 + k, by omega⟩
def halfSum (c : Dev nD) (q : Fin 2) (i : Fin 4096) (j : Fin 1024) : EReal :=
  ∑ k : Fin 4096, rowX m c (half q k) i * rowX m c (half q k) i * rowD m c (half q k) j
theorem sum_halves (f : Fin 8192 → EReal) :
    ∑ k : Fin 4096, f (half 0 k) + ∑ k : Fin 4096, f (half 1 k) = ∑ r : Fin 8192, f r := by
  rw [Fin.sum_univ_tiles 2 4096 rfl f, Fin.sum_univ_two]
  rfl

theorem point (c : Dev nD) (t : Fin cfg0.N) (q : Fin 2) (hq : (q : ℕ) = t.val % 2) (i j : Fin 1024) (I : Fin 4096)
    (hI : (I : ℕ) = t.val / 2 * 1024 + i) (X D : FVec Ideal S4096x1024 .bf16) (hX : X = iblk m c 0 t)
    (hD : D = iblk m c 1 t) : ∑ k : Fin 4096, X (ix2 k i) * X (ix2 k i) * D (ix2 k j) = halfSum m c q I j := by
  subst hX hD
  refine Finset.sum_congr rfl fun k _ => ?_
  have hR : (half q k : ℕ) = t.val % 2 * 4096 + k := by show (q : ℕ) * 4096 + k = _; rw [hq]
  rw [blkX m c t k _ hR i I hI, blkD m c t k _ hR j]

theorem out_at (c : Dev nD) (t : Fin cfg0.N) (h : t.val % 2 = 1) (i j : Fin 1024) (I : Fin 4096) (J : Fin 1024)
    (hI : (I : ℕ) = t.val / 2 * 1024 + i) (hJ : (J : ℕ) = j) : (outsAt0 m c t.val t.isLt).1 (ix2 i j)
      = ((1 / 2 : ℝ) : EReal) * ∑ r : Fin 8192, rowX m c r I * rowX m c r I * rowD m c r J := by
  obtain rfl : J = j := Fin.ext hJ
  have hb : t.val - 1 < cfg0.N := by omega
  have e : (outsAt0 m c (t.val - 1) hb).2 (ix2 i J) = halfSum m c 0 I J := by
    refine (outA m c ⟨t.val - 1, hb⟩ (by show (t.val - 1) % 2 = 0; omega) _).trans ((pay_first _ _ i J).trans ?_)
    exact point m c ⟨t.val - 1, hb⟩ 0 (by show 0 = (t.val - 1) % 2; omega) i J I
      (by show (I : ℕ) = (t.val - 1) / 2 * 1024 + i; omega) _ _ rfl rfl
  refine (outB m c t h _).trans ((pay_out _ i J).trans ?_)
  refine congrArg (((1 / 2 : ℝ) : EReal) * ·) ?_
  rw [← sum_halves, pay_later]
  exact congrArg₂ (· + ·) e (point m c t 1 (by show 1 = t.val % 2; omega) i J I hI _ _ rfl rfl)

theorem final (c : Dev nD) : (dats m 0 c).arrAt 2 (cfgs 0).N = fun i : S4096x1024.Idx =>
    ((1 / 2 : ℝ) : EReal) * ∑ r : Fin 8192, rowX m c r (i 0) * rowX m c r (i 0) * rowD m c r (i 1) := by
  refine (dats m 0 c).arrAt_eq_of_covers 2 _ (by decide +kernel) fun t hf y => ?_
  blk_simp
  rw [after0_2]
  idx_vars y
  exact out_at m c t ((flush0_2 t).mp hf) y0 y1 _ _ (by blk_simp [idx t]) (by blk_simp [idx t])

/-- The arguments, as arrays of extended reals. -/
abbrev argX (c : Dev nD) : FVec Ideal S4x2048x4096 .f32 := m ((c : Thread nD τ).loc main_arg0)
abbrev argD (c : Dev nD) : FVec Ideal S4x2048x1024 .f32 := m ((c : Thread nD τ).loc main_arg2)

theorem rowX_eq (c : Dev nD) (r : Fin 8192) (i : Fin 4096) : rowX m c r i
    = max (argX m c (ix3 ⟨(r : ℕ) / 2048, by omega⟩ ⟨(r : ℕ) % 2048, by omega⟩ i)) 0 := by
  unfold rowX; entry_read; pointwise
theorem rowD_eq (c : Dev nD) (r : Fin 8192) (j : Fin 1024) : rowD m c r j = Ideal.ofBits .f32 0x40000000#32
    * argD m c (ix3 ⟨(r : ℕ) / 2048, by omega⟩ ⟨(r : ℕ) % 2048, by omega⟩ j) := by
  unfold rowD; entry_read; pointwise

end Cert.Kernel8Ideal.Value

namespace Cert.Reference8Ideal.Value

open Cert.Reference8Ideal Cert.Reference8Ideal.Read

variable (X : FVec Ideal S4x2048x4096 .f32) (D : FVec Ideal S4x2048x1024 .f32)

theorem entry_dot (j : Fin 1024) (i : Fin 4096) : val_main_v3 (F := Ideal) X D (ix2 j i) = ∑ a : Fin 4, ∑ s : Fin 2048,
    D (ix3 a s j) * (max (X (ix3 a s i)) 0 * max (X (ix3 a s i)) 0) := by
  pointwise [val_main_v3, val_main_v1, val_main_v0, val_main_call0_v0, val_main_call0_cst]
theorem entry (i : Fin 4096) (j : Fin 1024) : val_main_v5 (F := Ideal) X D (ix2 i j) = ∑ a : Fin 4, ∑ s : Fin 2048,
    D (ix3 a s j) * (max (X (ix3 a s i)) 0 * max (X (ix3 a s i)) 0) := by
  rw [← entry_dot]
  generalize hP : val_main_v3 (F := Ideal) X D = P
  pointwise [val_main_v5, val_main_v4, hP]

/-- Half of a square times twice a number is the number times the square. -/
theorem half_twice {ι : Type} (s : Finset ι) (x d : ι → EReal) :
    ((1 / 2 : ℝ) : EReal) * ∑ k ∈ s, x k * (((2 : ℝ) : EReal) * d k) = ∑ k ∈ s, d k * x k := by
  rw [← Common.factor_sum _ _ (by norm_num) (EReal.coe_ne_top _)]
  refine Finset.sum_congr rfl fun k _ => ?_
  rw [mul_left_comm (x k), ← mul_assoc, ← EReal.coe_mul, mul_comm (x k)]
  norm_num

/-- The kernel's array is the reference's. -/
theorem agree (m : (ℓ : Loc Kernel8Ideal.nD Kernel8Ideal.τ Kernel8Ideal.sig) → Buf (Elt Ideal) ℓ) (c : Dev Kernel8Ideal.nD) :
    (Kernel8Ideal.Gen.dats m 0 c).arrAt 2 (Kernel8Ideal.cfgs 0).N
      = val_main_v5 (F := Ideal) (Kernel8Ideal.Value.argX m c) (Kernel8Ideal.Value.argD m c) := by
  rw [Kernel8Ideal.Value.final]
  refine funext fun i => ?_
  idx_vars i
  refine Eq.trans ?_ (entry _ _ i0 i1).symm
  show ((1 / 2 : ℝ) : EReal) * ∑ r : Fin 8192, _ = _
  simp only [Kernel8Ideal.Value.rowX_eq, Kernel8Ideal.Value.rowD_eq, Common.two]
  rw [half_twice, Common.sum_batches]
  simp only [Common.batchRow_div, Common.batchRow_mod]

end Cert.Reference8Ideal.Value

end
-- ==== Proof.Logistic.lean ====
module

public import proofs.«01_k».proof.Proof.Common

@[expose] public section

noncomputable section

open Idealize.ShloMosaic

namespace Cert.Common

/-- The logistic function, as the references spell it, and the unit made of it. -/
def sigm (z : EReal) : EReal := Ideal.div 1 (1 + Ideal.exp (-z))
def silu (z : EReal) : EReal := z * sigm z

/-- The kernels spell it with the hyperbolic tangent. -/
theorem sigm_eq (z : EReal) : sigm z = Ideal.ofBits .f32 0x3F000000#32
    * Ideal.tanh (Ideal.ofBits .f32 0x3F000000#32 * z) + Ideal.ofBits .f32 0x3F000000#32 := by
  rw [half]
  exact (half_tanh z).symm

end Cert.Common

end
-- ==== Proof.AdaBwd.lean ====
module

public import proofs.«01_k».proof.Proof.Gen.Kernel9Ideal.Value
public import proofs.«01_k».proof.Proof.Gen.Reference9Ideal.Read
public import proofs.«01_k».proof.Proof.Logistic

@[expose] public section

set_option maxRecDepth 16384

noncomputable section

open Idealize.ShloMosaic Idealize.ShloMosaic.TcCoe Idealize.SL.Sem
open Idealize.ShloMosaic.Pipeline (Dat)

namespace Cert.Kernel9Ideal.Value

open Cert.Kernel9Ideal Cert.Kernel9Ideal.Gen Cert.Common

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] :=
  (by decide +kernel : ∀ t : Fin grid0.N, _)

/-- What the one point leaves, over the arrays it reads: the columns of the first times the columns of the second, and
    the sums of the second's columns. -/
def weights (A : FVec Ideal S64x1024 .bf16) (D : FVec Ideal S64x768 .f32) : FVec Ideal S1024x768 .f32 := fun i =>
  ∑ r : Fin 64, A (ix2 r (i 0)) * D (ix2 r (i 1))
def bias (D : FVec Ideal S64x768 .f32) : FVec Ideal S1x768 .f32 := fun i => ∑ r : Fin 64, D (ix2 r (i 1))

theorem point_weights (c : Dev nD) (t : Fin cfg0.N) (y) : k0_pay1 (iblk m c 0 t) (iblk m c 1 t) y
    = weights (V m c main_v8) (V m c main_arg3) (((cfg0.win 2).blk t).view.emb y) := by
  pointwise [k0_pay1, weights]
  blk_point [iblk, idx t]
theorem point_bias (c : Dev nD) (t : Fin cfg0.N) (y) : k0_pay2 (iblk m c 1 t) y
    = bias (V m c main_arg3) (((cfg0.win 3).blk t).view.emb y) := by
  pointwise [k0_pay2, bias]
  blk_point [iblk, idx t]

theorem final_weights (c : Dev nD) : (dats m 0 c).arrAt 2 (cfgs 0).N = weights (V m c main_v8) (V m c main_arg3) := by
  refine (dats m 0 c).arrAt_eq_of_covers 2 _ (by decide +kernel) fun t _ y => ?_
  blk_simp
  rw [after0_2]; frame_out
  exact point_weights m c t y
theorem final_bias (c : Dev nD) : (dats m 0 c).arrAt 3 (cfgs 0).N = bias (V m c main_arg3) := by
  refine (dats m 0 c).arrAt_eq_of_covers 3 _ (by decide +kernel) fun t _ y => ?_
  blk_simp
  rw [after0_3]; frame_out
  exact point_bias m c t y

/-- The arguments, as arrays of extended reals. -/
abbrev argC (c : Dev nD) : FVec Ideal S64x1024 .f32 := m ((c : Thread nD τ).loc main_arg0)
abbrev argD (c : Dev nD) : FVec Ideal S64x768 .f32 := m ((c : Thread nD τ).loc main_arg3)

/-- The arrays the point reads, at an entry, over the arguments. -/
theorem ent_act (c : Dev nD) (r : Fin 64) (k : Fin 1024) :
    (V m c main_v8 : FVec Ideal S64x1024 .bf16) (ix2 r k) = silu (argC m c (ix2 r k)) := by
  rw [silu, sigm_eq]
  entry_read
  pointwise
theorem ent_D (c : Dev nD) (r : Fin 64) (n : Fin 768) :
    (V m c main_arg3 : FVec Ideal S64x768 .f32) (ix2 r n) = argD m c (ix2 r n) := by
  entry_read
  rfl

end Cert.Kernel9Ideal.Value

namespace Cert.Reference9Ideal.Value

open Cert.Reference9Ideal Cert.Reference9Ideal.Read Cert.Common Cert.Kernel9Ideal.Value

variable (C : FVec Ideal S64x1024 .f32) (D : FVec Ideal S64x768 .f32)

theorem entry_unit (r : Fin 64) (k : Fin 1024) : val_main_v0 (F := Ideal) C (ix2 r k) = silu (C (ix2 r k)) := by
  pointwise [val_main_v0, val_main_call0_v5, val_main_call0_v4, val_main_call0_cst_0, val_main_call0_v3, val_main_call0_v2,
    val_main_call0_cst, val_main_call0_v1, val_main_call0_v0, silu, sigm]
theorem entry_weights (k : Fin 1024) (n : Fin 768) :
    val_main_v8 (F := Ideal) C D (ix2 k n) = ∑ r : Fin 64, D (ix2 r n) * silu (C (ix2 r k)) := by
  simp only [← entry_unit]
  generalize hP : val_main_v0 (F := Ideal) C = P
  pointwise [val_main_v8, val_main_v7, val_main_v4, hP]
theorem entry_bias (q : Fin 1) (n : Fin 768) : val_main_v6 (F := Ideal) D (ix2 q n) = ∑ r : Fin 64, D (ix2 r n) := by
  pointwise [val_main_v6, val_main_v5, val_main_cst]

variable (m : (ℓ : Loc Kernel9Ideal.nD Kernel9Ideal.τ Kernel9Ideal.sig) → Buf (Elt Ideal) ℓ) (c : Dev Kernel9Ideal.nD)

/-- The kernel's arrays are the reference's. -/
theorem agree_weights : (Kernel9Ideal.Gen.dats m 0 c).arrAt 2 (Kernel9Ideal.cfgs 0).N
    = val_main_v8 (F := Ideal) (argC m c) (argD m c) := by
  rw [Kernel9Ideal.Value.final_weights]
  refine funext fun i => ?_
  idx_vars i
  refine Eq.trans ?_ (entry_weights _ _ i0 i1).symm
  exact Finset.sum_congr rfl fun r _ => (congrArg₂ (fun a b : EReal => a * b) (ent_act m c r i0) (ent_D m c r i1)).trans
    (mul_comm _ _)
theorem agree_bias : (Kernel9Ideal.Gen.dats m 0 c).arrAt 3 (Kernel9Ideal.cfgs 0).N = val_main_v6 (F := Ideal) (argD m c) := by
  rw [Kernel9Ideal.Value.final_bias]
  refine funext fun i => ?_
  idx_vars i
  refine Eq.trans ?_ (entry_bias _ i0 i1).symm
  exact Finset.sum_congr rfl fun r _ => ent_D m c r i1

end Cert.Reference9Ideal.Value

end
-- ==== Proof.LnMix.lean ====
module

public import proofs.«01_k».proof.Proof.Gen.Kernel10Ideal.Value
public import proofs.«01_k».proof.Proof.Gen.Reference10Ideal.Read
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.Kernel10Ideal.Value

open Cert.Kernel10Ideal Cert.Kernel10Ideal.Gen Cert.Norm

/-- The word of the residual's weight. -/
def wAlpha : EReal := Ideal.ofBits .f32 0x3F9837F0#32

/-- One row: its product, the sum before the normalisation, the normalised row scaled and shifted, and that modulated. -/
def prod (u : Fin 1024 → EReal) (w : Fin 1024 → Fin 1024 → EReal) (n : Fin 1024) : EReal := ∑ k, u k * w k n
def resid (u : Fin 1024 → EReal) (w : Fin 1024 → Fin 1024 → EReal) (x gt : Fin 1024 → EReal) (n : Fin 1024) : EReal :=
  wAlpha * x n + (1 + gt n) * prod u w n
def normed (z g b : Fin 1024 → EReal) (n : Fin 1024) : EReal := xhat z n * g n + b n
def modulated (z g b sc sh : Fin 1024 → EReal) (n : Fin 1024) : EReal := normed z g b n * (1 + sc n) + sh n

section Body

variable (U : FVec Ideal S512x1024 .bf16) (W : FVec Ideal S1024x1024 .bf16) (X : FVec Ideal S512x1024 .f32)
  (Gt Sc Sh : FVec Ideal S1x1x1024 .f32) (G B : FVec Ideal S1x1024 .f32)

/-- The rows of a block. -/
def prodB (r : Fin 512) : Fin 1024 → EReal := prod (fun k => U (ix2 r k)) (fun k n => W (ix2 k n))
def residB (r : Fin 512) : Fin 1024 → EReal :=
  resid (fun k => U (ix2 r k)) (fun k n => W (ix2 k n)) (fun k => X (ix2 r k)) (fun k => Gt (ix3 0 0 k))
abbrev vec (v : FVec Ideal S1x1024 .f32) (n : Fin 1024) : EReal := v (ix2 0 n)
abbrev vec3 (v : FVec Ideal S1x1x1024 .f32) (n : Fin 1024) : EReal := v (ix3 0 0 n)
/-- The word the body divides its sums by. -/
abbrev count : Ideal .f32 := Scalar.ofBits .f32 0x44800000#32

theorem pay_prod (r : Fin 512) (n : Fin 1024) : k0_pay10 (F := Ideal) U W (ix2 r n) = prodB U W r n := by
  unfold prodB prod
  pointwise [k0_pay10]
theorem pay_prodOut (r : Fin 512) (n : Fin 1024) : k0_pay5 (k0_pay10 (F := Ideal) U W) (ix2 r n) = prodB U W r n := by
  rw [← pay_prod]
  generalize hP : k0_pay10 (F := Ideal) U W = P
  pointwise [k0_pay5]

theorem pay_cent (r : Fin 512) (n : Fin 1024) : k0_pay11 (F := Ideal) U W X Gt (ix2 r n) = cent (residB U W X Gt r) n := by
  have h := pay_prod U W
  generalize hP : k0_pay10 (F := Ideal) U W = P at h
  have h' : ∀ r n, residB U W X Gt r n = wAlpha * X (ix2 r n) + (1 + Gt (ix3 0 0 n)) * P (ix2 r n) := fun r n => by
    rw [h]; rfl
  unfold cent mean
  simp only [h']
  unfold wAlpha w1024
  pointwise [k0_pay11, hP]

theorem pay_rstd (r : Fin 512) (a : Fin 1) :
    k0_pay1 (k0_pay12 (F := Ideal) U W X Gt) count (ix2 r a) = rstd (residB U W X Gt r) := by
  have h := pay_cent U W X Gt
  unfold rstd spread mean w1024 wEps
  simp only [← h]
  generalize hP : k0_pay11 (F := Ideal) U W X Gt = P
  pointwise [k0_pay1, k0_pay12, hP]

theorem pay_rstdOut (r : Fin 512) (n : Fin 128) :
    k0_pay4 (k0_pay12 (F := Ideal) U W X Gt) count (ix2 r n) = rstd (residB U W X Gt r) := by
  rw [← pay_rstd U W X Gt r 0]
  generalize hP : k0_pay1 (k0_pay12 (F := Ideal) U W X Gt) count = P
  pointwise [k0_pay4]
  subst hP; rfl

theorem pay_xhat (r : Fin 512) (n : Fin 1024) :
    k0_pay2 (k0_pay11 (F := Ideal) U W X Gt) (k0_pay12 U W X Gt) count (ix2 r n) = xhat (residB U W X Gt r) n := by
  rw [xhat, ← pay_rstd U W X Gt r 0, ← pay_cent]
  generalize hQ : k0_pay11 (F := Ideal) U W X Gt = Q
  generalize hP : k0_pay1 (k0_pay12 (F := Ideal) U W X Gt) count = P
  pointwise [k0_pay2]
  subst hP; rfl
theorem pay_xhatOut (r : Fin 512) (n : Fin 1024) :
    k0_pay7 (k0_pay11 (F := Ideal) U W X Gt) (k0_pay12 U W X Gt) count (ix2 r n) = xhat (residB U W X Gt r) n := by
  rw [← pay_xhat]
  generalize hP : k0_pay2 (k0_pay11 (F := Ideal) U W X Gt) (k0_pay12 U W X Gt) count = P
  pointwise [k0_pay7]
  subst hP; rfl

theorem pay_normed (r : Fin 512) (n : Fin 1024) :
    k0_pay3 G B (k0_pay11 (F := Ideal) U W X Gt) (k0_pay12 U W X Gt) count (ix2 r n)
      = normed (residB U W X Gt r) (vec G) (vec B) n := by
  rw [normed, ← pay_xhat]
  generalize hP : k0_pay2 (k0_pay11 (F := Ideal) U W X Gt) (k0_pay12 U W X Gt) count = P
  pointwise [k0_pay3]
  subst hP; rfl

theorem pay_modulated (r : Fin 512) (n : Fin 1024) : k0_pay6 G B (k0_pay8 Sc) (k0_pay9 Sh)
      (k0_pay11 (F := Ideal) U W X Gt) (k0_pay12 U W X Gt) count (ix2 r n)
      = modulated (residB U W X Gt r) (vec G) (vec B) (vec3 Sc) (vec3 Sh) n := by
  rw [modulated, ← pay_normed]
  generalize hP : k0_pay3 G B (k0_pay11 (F := Ideal) U W X Gt) (k0_pay12 U W X Gt) count = P
  pointwise [k0_pay6, k0_pay8, k0_pay9]
  subst hP; rfl

end Body

variable (m : (ℓ : Loc nD τ sig) → Buf (Elt Ideal) ℓ)

theorem idx : ∀ t : Fin cfg0.N, win0_0.index t = ![t.val, 0] ∧ win0_1.index t = ![0, 0]
    ∧ win0_2.index t = ![t.val, 0] ∧ win0_3.index t = ![t.val / 4, 0, 0] ∧ win0_4.index t = ![0, 0]
    ∧ win0_5.index t = ![0, 0] ∧ win0_6.index t = ![t.val / 4, 0, 0] ∧ win0_7.index t = ![t.val / 4, 0, 0]
    ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

/-- The arrays the grid reads, row by row. -/
def rowU (c : Dev nD) (R : Fin 8192) (k : Fin 1024) : EReal := (V m c main_v1 : FVec Ideal S8192x1024 .bf16) (ix2 R k)
def colW (c : Dev nD) (k : Fin 1024) (n : Fin 1024) : EReal := (V m c main_v2 : FVec Ideal S1024x1024 .bf16) (ix2 k n)
def rowX (c : Dev nD) (R : Fin 8192) (n : Fin 1024) : EReal := (V m c main_v3 : FVec Ideal S8192x1024 .f32) (ix2 R n)
def rowGt (c : Dev nD) (b : Fin 4) (n : Fin 1024) : EReal := (V m c main_v4 : FVec Ideal S4x1x1024 .f32) (ix3 b 0 n)
def rowG (c : Dev nD) (n : Fin 1024) : EReal := (V m c main_arg4 : FVec Ideal S1x1024 .f32) (ix2 0 n)
def rowB (c : Dev nD) (n : Fin 1024) : EReal := (V m c main_arg5 : FVec Ideal S1x1024 .f32) (ix2 0 n)
def rowSc (c : Dev nD) (b : Fin 4) (n : Fin 1024) : EReal := (V m c main_v5 : FVec Ideal S4x1x1024 .f32) (ix3 b 0 n)
def rowSh (c : Dev nD) (b : Fin 4) (n : Fin 1024) : EReal := (V m c main_v6 : FVec Ideal S4x1x1024 .f32) (ix3 b 0 n)

section
variable (c : Dev nD) (t : Fin cfg0.N) (r : Fin 512) (R : Fin 8192) (hR : (R : ℕ) = t.val * 512 + r)

theorem blkW (k : Fin 1024) (n : Fin 1024) : (iblk m c 1 t : FVec Ideal S1024x1024 .bf16) (ix2 k n) = colW m c k n := by
  unfold colW; blk_ext [iblk, idx t]
theorem blkG (n : Fin 1024) : (iblk m c 4 t : FVec Ideal S1x1024 .f32) (ix2 0 n) = rowG m c n := by
  unfold rowG; blk_ext [iblk, idx t]
theorem blkB (n : Fin 1024) : (iblk m c 5 t : FVec Ideal S1x1024 .f32) (ix2 0 n) = rowB m c n := by
  unfold rowB; blk_ext [iblk, idx t]
section
variable (b : Fin 4) (hb : (b : ℕ) = t.val / 4)
include hb
theorem blkGt (n : Fin 1024) : (iblk m c 3 t : FVec Ideal S1x1x1024 .f32) (ix3 0 0 n) = rowGt m c b n := by
  unfold rowGt; blk_ext [iblk, idx t]
theorem blkSc (n : Fin 1024) : (iblk m c 6 t : FVec Ideal S1x1x1024 .f32) (ix3 0 0 n) = rowSc m c b n := by
  unfold rowSc; blk_ext [iblk, idx t]
theorem blkSh (n : Fin 1024) : (iblk m c 7 t : FVec Ideal S1x1x1024 .f32) (ix3 0 0 n) = rowSh m c b n := by
  unfold rowSh; blk_ext [iblk, idx t]
end
include hR
theorem blkU (k : Fin 1024) : (iblk m c 0 t : FVec Ideal S512x1024 .bf16) (ix2 r k) = rowU m c R k := by
  unfold rowU; blk_ext [iblk, idx t]
theorem blkX (n : Fin 1024) : (iblk m c 2 t : FVec Ideal S512x1024 .f32) (ix2 r n) = rowX m c R n := by
  unfold rowX; blk_ext [iblk, idx t]
end

/-- Every row's product, its sum before the normalisation, and the two rows made of it. -/
def batch (R : Fin 8192) : Fin 4 := ⟨(R : ℕ) / 2048, by omega⟩
def prodAll (c : Dev nD) (R : Fin 8192) : Fin 1024 → EReal := prod (rowU m c R) (colW m c)
def residAll (c : Dev nD) (R : Fin 8192) : Fin 1024 → EReal :=
  resid (rowU m c R) (colW m c) (rowX m c R) (rowGt m c (batch R))
def normedAll (c : Dev nD) (R : Fin 8192) : Fin 1024 → EReal := normed (residAll m c R) (rowG m c) (rowB m c)
def modulatedAll (c : Dev nD) (R : Fin 8192) : Fin 1024 → EReal :=
  modulated (residAll m c R) (rowG m c) (rowB m c) (rowSc m c (batch R)) (rowSh m c (batch R))

section
variable (c : Dev nD) (t : Fin cfg0.N) (r : Fin 512) (R : Fin 8192) (hR : (R : ℕ) = t.val * 512 + r)

theorem vecG : vec (iblk m c 4 t) = rowG m c := funext (blkG m c t)
theorem vecB : vec (iblk m c 5 t) = rowB m c := funext (blkB m c t)
include hR
theorem batch_eq : (batch R : ℕ) = t.val / 4 := by show (R : ℕ) / 2048 = _; omega
theorem vecSc : vec3 (iblk m c 6 t) = rowSc m c (batch R) := funext (blkSc m c t _ (batch_eq t r R hR))
theorem vecSh : vec3 (iblk m c 7 t) = rowSh m c (batch R) := funext (blkSh m c t _ (batch_eq t r R hR))
theorem prodB_eq : prodB (iblk m c 0 t) (iblk m c 1 t) r = prodAll m c R := by
  unfold prodB prodAll
  exact congrArg₂ prod (funext (blkU m c t r R hR)) (funext fun k => funext (blkW m c t k))
theorem residB_eq : residB (iblk m c 0 t) (iblk m c 1 t) (iblk m c 2 t) (iblk m c 3 t) r = residAll m c R := by
  unfold residB residAll
  exact congr (congr (congrArg₂ resid (funext (blkU m c t r R hR)) (funext fun k => funext (blkW m c t k)))
    (funext (blkX m c t r R hR))) (funext (blkGt m c t _ (batch_eq t r R hR)))

/-- The body's values at a point, over the blocks the point loads. -/
abbrev bCent := k0_pay11 (F := Ideal) (iblk m c 0 t) (iblk m c 1 t) (iblk m c 2 t) (iblk m c 3 t)
abbrev bSum := k0_pay12 (F := Ideal) (iblk m c 0 t) (iblk m c 1 t) (iblk m c 2 t) (iblk m c 3 t)

theorem point_prod (n : Fin 1024) :
    k0_pay5 (k0_pay10 (F := Ideal) (iblk m c 0 t) (iblk m c 1 t)) (ix2 r n) = prodAll m c R n :=
  (pay_prodOut _ _ r n).trans (congrFun (prodB_eq m c t r R hR) n)
theorem point_normed (n : Fin 1024) :
    k0_pay3 (iblk m c 4 t) (iblk m c 5 t) (bCent m c t) (bSum m c t) count (ix2 r n) = normedAll m c R n := by
  refine (pay_normed _ _ _ _ _ _ r n).trans ?_
  rw [residB_eq m c t r R hR, vecG, vecB]; rfl
theorem point_modulated (n : Fin 1024) : k0_pay6 (iblk m c 4 t) (iblk m c 5 t) (k0_pay8 (iblk m c 6 t))
    (k0_pay9 (iblk m c 7 t)) (bCent m c t) (bSum m c t) count (ix2 r n) = modulatedAll m c R n := by
  refine (pay_modulated _ _ _ _ _ _ _ _ r n).trans ?_
  rw [residB_eq m c t r R hR, vecG, vecB, vecSc m c t r R hR, vecSh m c t r R hR]; rfl
theorem point_xhat (n : Fin 1024) : k0_pay7 (bCent m c t) (bSum m c t) count (ix2 r n) = xhat (residAll m c R) n := by
  refine (pay_xhatOut _ _ _ _ r n).trans ?_
  rw [residB_eq m c t r R hR]
theorem point_rstd (n : Fin 128) : k0_pay4 (bSum m c t) count (ix2 r n) = rstd (residAll m c R) := by
  refine (pay_rstdOut _ _ _ _ r n).trans ?_
  rw [residB_eq m c t r R hR]
end

theorem final_prod (c : Dev nD) : (dats m 0 c).arrAt 8 (cfgs 0).N = fun i : S8192x1024.Idx => prodAll m c (i 0) (i 1) := by
  refine (dats m 0 c).arrAt_eq_of_covers 8 _ (by decide +kernel) fun t _ y => ?_
  blk_simp
  rw [after0_8]; frame_out
  idx_vars y
  exact (point_prod m c t y0 _ (by blk_simp [idx t]) y1).trans (congrArg (prodAll m c _) (Fin.ext (by blk_simp [idx t])))
theorem final_normed (c : Dev nD) :
    (dats m 0 c).arrAt 9 (cfgs 0).N = fun i : S8192x1024.Idx => normedAll m c (i 0) (i 1) := by
  refine (dats m 0 c).arrAt_eq_of_covers 9 _ (by decide +kernel) fun t _ y => ?_
  blk_simp
  rw [after0_9]; unfold_out out0_9; frame_out
  idx_vars y
  exact (point_normed m c t y0 _ (by blk_simp [idx t]) y1).trans
    (congrArg (normedAll m c _) (Fin.ext (by blk_simp [idx t])))
theorem final_modulated (c : Dev nD) :
    (dats m 0 c).arrAt 10 (cfgs 0).N = fun i : S8192x1024.Idx => modulatedAll m c (i 0) (i 1) := by
  refine (dats m 0 c).arrAt_eq_of_covers 10 _ (by decide +kernel) fun t _ y => ?_
  blk_simp
  rw [after0_10]; unfold_out out0_10; frame_out
  idx_vars y
  exact (point_modulated m c t y0 _ (by blk_simp [idx t]) y1).trans
    (congrArg (modulatedAll m c _) (Fin.ext (by blk_simp [idx t])))
theorem final_xhat (c : Dev nD) :
    (dats m 0 c).arrAt 11 (cfgs 0).N = fun i : S8192x1024.Idx => xhat (residAll m c (i 0)) (i 1) := by
  refine (dats m 0 c).arrAt_eq_of_covers 11 _ (by decide +kernel) fun t _ y => ?_
  blk_simp
  rw [after0_11]; unfold_out out0_11; frame_out
  idx_vars y
  exact (point_xhat m c t y0 _ (by blk_simp [idx t]) y1).trans
    (congrArg (xhat (residAll m c _)) (Fin.ext (by blk_simp [idx t])))
theorem final_rstd (c : Dev nD) : (dats m 0 c).arrAt 12 (cfgs 0).N = fun i : S8192x128.Idx => rstd (residAll m c (i 0)) := by
  refine (dats m 0 c).arrAt_eq_of_covers 12 _ (by decide +kernel) fun t _ y => ?_
  blk_simp
  rw [after0_12]; unfold_out out0_12; frame_out
  idx_vars y
  exact point_rstd m c t y0 _ (by blk_simp [idx t]) y1

/-- The arguments, as arrays of extended reals. -/
abbrev argX (c : Dev nD) : FVec Ideal S4x2048x1024 .f32 := m ((c : Thread nD τ).loc main_arg0)
abbrev argU (c : Dev nD) : FVec Ideal S4x2048x1024 .f32 := m ((c : Thread nD τ).loc main_arg1)
abbrev argW (c : Dev nD) : FVec Ideal S1024x1024 .f32 := m ((c : Thread nD τ).loc main_arg2)
abbrev argGt (c : Dev nD) : FVec Ideal S4x1024 .f32 := m ((c : Thread nD τ).loc main_arg3)
abbrev argG (c : Dev nD) : FVec Ideal S1x1024 .f32 := m ((c : Thread nD τ).loc main_arg4)
abbrev argB (c : Dev nD) : FVec Ideal S1x1024 .f32 := m ((c : Thread nD τ).loc main_arg5)
abbrev argSc (c : Dev nD) : FVec Ideal S4x1024 .f32 := m ((c : Thread nD τ).loc main_arg6)
abbrev argSh (c : Dev nD) : FVec Ideal S4x1024 .f32 := m ((c : Thread nD τ).loc main_arg7)

theorem rowU_eq (c : Dev nD) (r : Fin 8192) (k : Fin 1024) : rowU m c r k
    = argU m c (ix3 ⟨(r : ℕ) / 2048, by omega⟩ ⟨(r : ℕ) % 2048, by omega⟩ k) := by
  unfold rowU; entry_read; pointwise
theorem rowX_eq (c : Dev nD) (r : Fin 8192) (k : Fin 1024) : rowX m c r k
    = argX m c (ix3 ⟨(r : ℕ) / 2048, by omega⟩ ⟨(r : ℕ) % 2048, by omega⟩ k) := by
  unfold rowX; entry_read; pointwise
theorem colW_eq (c : Dev nD) (k : Fin 1024) (n : Fin 1024) : colW m c k n = argW m c (ix2 k n) := by
  unfold colW; entry_read; pointwise
theorem rowGt_eq (c : Dev nD) (b : Fin 4) (n : Fin 1024) : rowGt m c b n = argGt m c (ix2 b n) := by
  unfold rowGt; entry_read; pointwise
theorem rowSc_eq (c : Dev nD) (b : Fin 4) (n : Fin 1024) : rowSc m c b n = argSc m c (ix2 b n) := by
  unfold rowSc; entry_read; pointwise
theorem rowSh_eq (c : Dev nD) (b : Fin 4) (n : Fin 1024) : rowSh m c b n = argSh m c (ix2 b n) := by
  unfold rowSh; entry_read; pointwise
theorem rowG_eq (c : Dev nD) (n : Fin 1024) : rowG m c n = argG m c (ix2 0 n) := by
  unfold rowG; entry_read; rfl
theorem rowB_eq (c : Dev nD) (n : Fin 1024) : rowB m c n = argB m c (ix2 0 n) := by
  unfold rowB; entry_read; rfl

end Cert.Kernel10Ideal.Value

namespace Cert.Reference10Ideal.Value

open Cert.Reference10Ideal Cert.Reference10Ideal.Read Cert.Kernel10Ideal.Value Cert.Norm

variable (X U : FVec Ideal S4x2048x1024 .f32) (W : FVec Ideal S1024x1024 .f32) (Gt Sc Sh : FVec Ideal S4x1024 .f32)
  (g b : FVec Ideal S1x1024 .f32)

/-- The rows of the reference. -/
def pR (a : Fin 4) (s : Fin 2048) : Fin 1024 → EReal := prod (fun k => U (ix3 a s k)) (fun k n => W (ix2 k n))
def zR (a : Fin 4) (s : Fin 2048) : Fin 1024 → EReal :=
  resid (fun k => U (ix3 a s k)) (fun k n => W (ix2 k n)) (fun n => X (ix3 a s n)) (fun n => Gt (ix2 a n))
def nR (a : Fin 4) (s : Fin 2048) : Fin 1024 → EReal :=
  normed (zR X U W Gt a s) (fun n => g (ix2 0 n)) (fun n => b (ix2 0 n))
def mR (a : Fin 4) (s : Fin 2048) : Fin 1024 → EReal := modulated (zR X U W Gt a s) (fun n => g (ix2 0 n))
  (fun n => b (ix2 0 n)) (fun n => Sc (ix2 a n)) (fun n => Sh (ix2 a n))

theorem entry_prod (a : Fin 4) (s : Fin 2048) (n : Fin 1024) : val_main_v0 (F := Ideal) U W (ix3 a s n) = pR U W a s n := by
  unfold pR prod
  pointwise [val_main_v0]
theorem entry_z (a : Fin 4) (s : Fin 2048) (n : Fin 1024) :
    val_main_v8 (F := Ideal) X U W Gt (ix3 a s n) = zR X U W Gt a s n := by
  pointwise [val_main_v8, val_main_v2, val_main_v1, val_main_cst, val_main_v7, val_main_v6, val_main_v5, val_main_v4,
    val_main_cst_0, val_main_v3]
  rw [entry_prod]
  rfl
theorem entry_mean (a : Fin 4) (s : Fin 2048) (q : Fin 1) :
    val_main_v12 (F := Ideal) X U W Gt (ix3 a s q) = mean (zR X U W Gt a s) := by
  pointwise [val_main_v12, val_main_v11, val_main_cst_2, val_main_v10, val_main_v9, val_main_cst_1]
  simp only [entry_z, zero_add]
  rfl
theorem entry_cent (a : Fin 4) (s : Fin 2048) (n : Fin 1024) :
    val_main_v14 (F := Ideal) X U W Gt (ix3 a s n) = cent (zR X U W Gt a s) n := by
  pointwise [val_main_v14, val_main_v13]
  rw [entry_z, entry_mean]
  rfl
theorem entry_cent' (a : Fin 4) (s : Fin 2048) (n : Fin 1024) :
    val_main_v24 (F := Ideal) X U W Gt (ix3 a s n) = cent (zR X U W Gt a s) n := by
  pointwise [val_main_v24, val_main_v23]
  rw [entry_z, entry_mean]
  rfl
theorem entry_rstd (a : Fin 4) (s : Fin 2048) (q : Fin 1) :
    val_main_v22 (F := Ideal) X U W Gt (ix3 a s q) = rstd (zR X U W Gt a s) := by
  pointwise [val_main_v22, val_main_v21, val_main_v20, val_main_cst_5, val_main_v19, val_main_v18, val_main_cst_4,
    val_main_v17, val_main_v16, val_main_cst_3, val_main_v15]
  simp only [entry_cent, zero_add]
  rfl
theorem entry_xhat (a : Fin 4) (s : Fin 2048) (n : Fin 1024) :
    val_main_v26 (F := Ideal) X U W Gt (ix3 a s n) = xhat (zR X U W Gt a s) n := by
  pointwise [val_main_v26, val_main_v25]
  rw [entry_cent', entry_rstd]
  rfl
theorem entry_normed (a : Fin 4) (s : Fin 2048) (n : Fin 1024) :
    val_main_v32 (F := Ideal) X U W Gt g b (ix3 a s n) = nR X U W Gt g b a s n := by
  pointwise [val_main_v32, val_main_v31, val_main_v30, val_main_v29, val_main_v28, val_main_v27]
  rw [entry_xhat]
  rfl
theorem entry_modulated (a : Fin 4) (s : Fin 2048) (n : Fin 1024) :
    val_main_v40 (F := Ideal) X U W Gt g b Sc Sh (ix3 a s n) = mR X U W Gt Sc Sh g b a s n := by
  pointwise [val_main_v40, val_main_v39, val_main_v38, val_main_v37, val_main_v36, val_main_v35, val_main_v34,
    val_main_cst_6, val_main_v33]
  rw [entry_normed]
  rfl

/-- The rows as the results lay them out. -/
theorem row_prod (r : Fin 8192) (n : Fin 1024) : val_main_v42 (F := Ideal) U W (ix2 r n)
    = pR U W ⟨(r : ℕ) / 2048, by omega⟩ ⟨(r : ℕ) % 2048, by omega⟩ n := by
  pointwise [val_main_v42, val_main_v41]
  exact entry_prod _ _ _ _ _
theorem row_normed (r : Fin 8192) (n : Fin 1024) : val_main_v43 (F := Ideal) X U W Gt g b (ix2 r n)
    = nR X U W Gt g b ⟨(r : ℕ) / 2048, by omega⟩ ⟨(r : ℕ) % 2048, by omega⟩ n := by
  pointwise [val_main_v43]
  exact entry_normed _ _ _ _ _ _ _ _ _
theorem row_modulated (r : Fin 8192) (n : Fin 1024) : val_main_v45 (F := Ideal) X U W Gt g b Sc Sh (ix2 r n)
    = mR X U W Gt Sc Sh g b ⟨(r : ℕ) / 2048, by omega⟩ ⟨(r : ℕ) % 2048, by omega⟩ n := by
  pointwise [val_main_v45, val_main_v44]
  exact entry_modulated _ _ _ _ _ _ _ _ _ _ _
theorem row_xhat (r : Fin 8192) (n : Fin 1024) : val_main_v47 (F := Ideal) X U W Gt (ix2 r n)
    = xhat (zR X U W Gt ⟨(r : ℕ) / 2048, by omega⟩ ⟨(r : ℕ) % 2048, by omega⟩) n := by
  pointwise [val_main_v47, val_main_v46]
  exact entry_xhat _ _ _ _ _ _ _
theorem row_rstd (r : Fin 8192) (n : Fin 128) : val_main_v49 (F := Ideal) X U W Gt (ix2 r n)
    = rstd (zR X U W Gt ⟨(r : ℕ) / 2048, by omega⟩ ⟨(r : ℕ) % 2048, by omega⟩) := by
  pointwise [val_main_v49, val_main_v48]
  exact entry_rstd _ _ _ _ _ _ _

variable (m : (ℓ : Loc Kernel10Ideal.nD Kernel10Ideal.τ Kernel10Ideal.sig) → Buf (Elt Ideal) ℓ) (c : Dev Kernel10Ideal.nD)

/-- The kernel's rows are the reference's. -/
theorem prodAll_eq (r : Fin 8192) : prodAll m c r
    = pR (argU m c) (argW m c) ⟨(r : ℕ) / 2048, by omega⟩ ⟨(r : ℕ) % 2048, by omega⟩ :=
  congrArg₂ prod (funext (rowU_eq m c r)) (funext fun k => funext (colW_eq m c k))
theorem residAll_eq (r : Fin 8192) : residAll m c r = zR (argX m c) (argU m c) (argW m c) (argGt m c)
    ⟨(r : ℕ) / 2048, by omega⟩ ⟨(r : ℕ) % 2048, by omega⟩ :=
  congr (congr (congrArg₂ resid (funext (rowU_eq m c r)) (funext fun k => funext (colW_eq m c k)))
    (funext (rowX_eq m c r))) (funext (rowGt_eq m c _))

/-- The kernel's arrays are the reference's. -/
theorem agree_prod : (Kernel10Ideal.Gen.dats m 0 c).arrAt 8 (Kernel10Ideal.cfgs 0).N
    = val_main_v42 (F := Ideal) (argU m c) (argW m c) := by
  refine (final_prod m c).trans (funext fun i => ?_)
  idx_vars i
  exact (congrFun (prodAll_eq m c i0) i1).trans (row_prod _ _ i0 i1).symm
theorem agree_normed : (Kernel10Ideal.Gen.dats m 0 c).arrAt 9 (Kernel10Ideal.cfgs 0).N
    = val_main_v43 (F := Ideal) (argX m c) (argU m c) (argW m c) (argGt m c) (argG m c) (argB m c) := by
  refine (final_normed m c).trans (funext fun i => ?_)
  idx_vars i
  refine Eq.trans ?_ (row_normed _ _ _ _ _ _ i0 i1).symm
  show normed (residAll m c i0) (rowG m c) (rowB m c) i1 = _
  rw [residAll_eq, funext (rowG_eq m c), funext (rowB_eq m c)]; rfl
theorem agree_modulated : (Kernel10Ideal.Gen.dats m 0 c).arrAt 10 (Kernel10Ideal.cfgs 0).N = val_main_v45 (F := Ideal)
    (argX m c) (argU m c) (argW m c) (argGt m c) (argG m c) (argB m c) (argSc m c) (argSh m c) := by
  refine (final_modulated m c).trans (funext fun i => ?_)
  idx_vars i
  refine Eq.trans ?_ (row_modulated _ _ _ _ _ _ _ _ i0 i1).symm
  show modulated (residAll m c i0) (rowG m c) (rowB m c) (rowSc m c (batch i0)) (rowSh m c (batch i0)) i1 = _
  rw [residAll_eq, funext (rowG_eq m c), funext (rowB_eq m c), funext (rowSc_eq m c _), funext (rowSh_eq m c _)]; rfl
theorem agree_xhat : (Kernel10Ideal.Gen.dats m 0 c).arrAt 11 (Kernel10Ideal.cfgs 0).N
    = val_main_v47 (F := Ideal) (argX m c) (argU m c) (argW m c) (argGt m c) := by
  refine (final_xhat m c).trans (funext fun i => ?_)
  idx_vars i
  exact (congrArg (fun z => xhat z i1) (residAll_eq m c i0)).trans (row_xhat _ _ _ _ i0 i1).symm
theorem agree_rstd : (Kernel10Ideal.Gen.dats m 0 c).arrAt 12 (Kernel10Ideal.cfgs 0).N
    = val_main_v49 (F := Ideal) (argX m c) (argU m c) (argW m c) (argGt m c) := by
  refine (final_rstd m c).trans (funext fun i => ?_)
  idx_vars i
  exact (congrArg rstd (residAll_eq m c i0)).trans (row_rstd _ _ _ _ i0 i1).symm

end Cert.Reference10Ideal.Value

end
-- ==== Proof.YabMerge.lean ====
module

public import proofs.«01_k».proof.Proof.Gen.Kernel11Ideal.Value
public import proofs.«01_k».proof.Proof.Gen.Reference11Ideal.Read
public import proofs.«01_k».proof.Proof.Logistic

@[expose] public section

set_option maxRecDepth 16384

noncomputable section

open Idealize.ShloMosaic Idealize.ShloMosaic.TcCoe Idealize.SL.Sem
open Idealize.ShloMosaic.Pipeline (Dat)

namespace Cert.Kernel11Ideal.Value

open Cert.Kernel11Ideal Cert.Kernel11Ideal.Gen Cert.Common

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 4] ∧ win0_5.index t = ![t.val, 5]
    ∧ win0_6.index t = ![t.val, 0] ∧ win0_7.index t = ![t.val, 0] ∧ win0_8.index t = ![t.val, 0] :=
  (by decide +kernel : ∀ t : Fin grid0.N, _)

/-- The body's arithmetic, entry by entry. -/
theorem pay_a (A : FVec Ideal S512x1280 .bf16) (W : FVec Ideal S1280x1024 .bf16) (r : Fin 512) (n : Fin 1024) :
    k0_pay3 (F := Ideal) A W (ix2 r n) = ∑ k : Fin 1280, A (ix2 r k) * W (ix2 k n) := by
  pointwise [k0_pay3]
theorem pay_b (A : FVec Ideal S512x768 .bf16) (W : FVec Ideal S768x1024 .bf16) (r : Fin 512) (n : Fin 1024) :
    k0_pay4 (F := Ideal) A W (ix2 r n) = ∑ k : Fin 768, A (ix2 r k) * W (ix2 k n) := by
  pointwise [k0_pay4]
theorem pay_sum (A : FVec Ideal S512x1280 .bf16) (Wa : FVec Ideal S1280x1024 .bf16) (B : FVec Ideal S512x768 .bf16)
    (Wb : FVec Ideal S768x1024 .bf16) (Za Zb : FVec Ideal S512x1024 .bf16) (r : Fin 512) (n : Fin 1024) :
    k0_pay2 (F := Ideal) (k0_pay5 (F := Ideal) B Wb A Wa Za Zb) (ix2 r n)
      = sigm (Za (ix2 r n)) * (∑ k : Fin 1280, A (ix2 r k) * Wa (ix2 k n))
        + sigm (Zb (ix2 r n)) * ∑ k : Fin 768, B (ix2 r k) * Wb (ix2 k n) := by
  rw [← pay_a, ← pay_b, sigm_eq, sigm_eq]
  generalize hP : k0_pay3 (F := Ideal) A Wa = P
  generalize hQ : k0_pay4 (F := Ideal) B Wb = Q
  pointwise [k0_pay2, k0_pay5, hP, hQ]
theorem pay_outA (A : FVec Ideal S512x1280 .bf16) (W : FVec Ideal S1280x1024 .bf16) (r : Fin 512) (n : Fin 1024) :
    k0_pay6 (F := Ideal) A W (ix2 r n) = ∑ k : Fin 1280, A (ix2 r k) * W (ix2 k n) := by
  rw [← pay_a]
  generalize hP : k0_pay3 (F := Ideal) A W = P
  pointwise [k0_pay6, hP]
theorem pay_outB (A : FVec Ideal S512x768 .bf16) (W : FVec Ideal S768x1024 .bf16) (r : Fin 512) (n : Fin 1024) :
    k0_pay1 (F := Ideal) (k0_pay4 (F := Ideal) A W) (ix2 r n) = ∑ k : Fin 768, A (ix2 r k) * W (ix2 k n) := by
  rw [← pay_b]
  generalize hP : k0_pay4 (F := Ideal) A W = P
  pointwise [k0_pay1]

/-- The arrays the grid reads, entry by entry. -/
def rowA (c : Dev nD) (r : Fin 8192) (k : Fin 1280) : EReal := (V m c main_v9 : FVec Ideal S8192x1280 .bf16) (ix2 r k)
def colA (c : Dev nD) (k : Fin 1280) (n : Fin 1024) : EReal := (V m c main_v10 : FVec Ideal S1280x1024 .bf16) (ix2 k n)
def rowB (c : Dev nD) (r : Fin 8192) (k : Fin 768) : EReal := (V m c main_v6 : FVec Ideal S8192x768 .bf16) (ix2 r k)
def colB (c : Dev nD) (k : Fin 768) (n : Fin 1024) : EReal := (V m c main_v7 : FVec Ideal S768x1024 .bf16) (ix2 k n)
def rowZ (c : Dev nD) (r : Fin 8192) (n : Fin 6144) : EReal := (V m c main_v4 : FVec Ideal S8192x6144 .bf16) (ix2 r n)

/-- The blocks of a point are those arrays' entries. -/
theorem blkA (c : Dev nD) (t : Fin cfg0.N) (r : Fin 512) (R : Fin 8192) (hR : (R : ℕ) = t.val * 512 + r) (k : Fin 1280) :
    (iblk m c 2 t : FVec Ideal S512x1280 .bf16) (ix2 r k) = rowA m c R k := by
  unfold rowA; blk_ext [iblk, idx t]
theorem blkWa (c : Dev nD) (t : Fin cfg0.N) (k : Fin 1280) (n : Fin 1024) :
    (iblk m c 3 t : FVec Ideal S1280x1024 .bf16) (ix2 k n) = colA m c k n := by
  unfold colA; blk_ext [iblk, idx t]
theorem blkB (c : Dev nD) (t : Fin cfg0.N) (r : Fin 512) (R : Fin 8192) (hR : (R : ℕ) = t.val * 512 + r) (k : Fin 768) :
    (iblk m c 0 t : FVec Ideal S512x768 .bf16) (ix2 r k) = rowB m c R k := by
  unfold rowB; blk_ext [iblk, idx t]
theorem blkWb (c : Dev nD) (t : Fin cfg0.N) (k : Fin 768) (n : Fin 1024) :
    (iblk m c 1 t : FVec Ideal S768x1024 .bf16) (ix2 k n) = colB m c k n := by
  unfold colB; blk_ext [iblk, idx t]
theorem blkZa (c : Dev nD) (t : Fin cfg0.N) (r : Fin 512) (R : Fin 8192) (hR : (R : ℕ) = t.val * 512 + r) (n : Fin 1024) :
    (iblk m c 4 t : FVec Ideal S512x1024 .bf16) (ix2 r n) = rowZ m c R ⟨4096 + n, by omega⟩ := by
  unfold rowZ; blk_ext [iblk, idx t]
theorem blkZb (c : Dev nD) (t : Fin cfg0.N) (r : Fin 512) (R : Fin 8192) (hR : (R : ℕ) = t.val * 512 + r) (n : Fin 1024) :
    (iblk m c 5 t : FVec Ideal S512x1024 .bf16) (ix2 r n) = rowZ m c R ⟨5120 + n, by omega⟩ := by
  unfold rowZ; blk_ext [iblk, idx t]

/-- The three results over the whole arrays. -/
def ya (c : Dev nD) (r : Fin 8192) (n : Fin 1024) : EReal := ∑ k : Fin 1280, rowA m c r k * colA m c k n
def yb (c : Dev nD) (r : Fin 8192) (n : Fin 1024) : EReal := ∑ k : Fin 768, rowB m c r k * colB m c k n
def merged (c : Dev nD) (r : Fin 8192) (n : Fin 1024) : EReal :=
  sigm (rowZ m c r ⟨4096 + n, by omega⟩) * ya m c r n + sigm (rowZ m c r ⟨5120 + n, by omega⟩) * yb m c r n

section point
variable (c : Dev nD) (t : Fin cfg0.N) (r : Fin 512) (R : Fin 8192) (hR : (R : ℕ) = t.val * 512 + r) (n : Fin 1024)
  (A : FVec Ideal S512x1280 .bf16) (Wa : FVec Ideal S1280x1024 .bf16) (B : FVec Ideal S512x768 .bf16)
  (Wb : FVec Ideal S768x1024 .bf16)
include hR
theorem sumA (hA : A = iblk m c 2 t) (hW : Wa = iblk m c 3 t) :
    ∑ k : Fin 1280, A (ix2 r k) * Wa (ix2 k n) = ya m c R n := by
  subst hA hW
  exact Finset.sum_congr rfl fun k _ => congrArg₂ (fun a b : EReal => a * b) (blkA m c t r R hR k) (blkWa m c t k n)
theorem sumB (hB : B = iblk m c 0 t) (hW : Wb = iblk m c 1 t) :
    ∑ k : Fin 768, B (ix2 r k) * Wb (ix2 k n) = yb m c R n := by
  subst hB hW
  exact Finset.sum_congr rfl fun k _ => congrArg₂ (fun a b : EReal => a * b) (blkB m c t r R hR k) (blkWb m c t k n)
theorem point_a : k0_pay6 (F := Ideal) (iblk m c 2 t) (iblk m c 3 t) (ix2 r n) = ya m c R n :=
  (pay_outA _ _ r n).trans (sumA m c t r R hR n _ _ rfl rfl)
theorem point_b : k0_pay1 (F := Ideal) (k0_pay4 (F := Ideal) (iblk m c 0 t) (iblk m c 1 t)) (ix2 r n) = yb m c R n :=
  (pay_outB _ _ r n).trans (sumB m c t r R hR n _ _ rfl rfl)
theorem point_sum : k0_pay2 (F := Ideal) (k0_pay5 (F := Ideal) (iblk m c 0 t) (iblk m c 1 t) (iblk m c 2 t) (iblk m c 3 t)
    (iblk m c 4 t) (iblk m c 5 t)) (ix2 r n) = merged m c R n := by
  refine (pay_sum _ _ _ _ _ _ r n).trans ?_
  rw [sumA m c t r R hR n _ _ rfl rfl, sumB m c t r R hR n _ _ rfl rfl, blkZa m c t r R hR, blkZb m c t r R hR]
  rfl
end point

theorem final_a (c : Dev nD) : (dats m 0 c).arrAt 6 (cfgs 0).N = fun i : S8192x1024.Idx => ya m c (i 0) (i 1) := by
  refine (dats m 0 c).arrAt_eq_of_covers 6 _ (by decide +kernel) fun t _ y => ?_
  blk_simp
  rw [after0_6]; frame_out
  idx_vars y
  exact (point_a m c t y0 _ (by blk_simp [idx t]) y1).trans (congrArg (ya m c _) (Fin.ext (by blk_simp [idx t])))
theorem final_b (c : Dev nD) : (dats m 0 c).arrAt 7 (cfgs 0).N = fun i : S8192x1024.Idx => yb m c (i 0) (i 1) := by
  refine (dats m 0 c).arrAt_eq_of_covers 7 _ (by decide +kernel) fun t _ y => ?_
  blk_simp
  rw [after0_7]; frame_out
  idx_vars y
  exact (point_b m c t y0 _ (by blk_simp [idx t]) y1).trans (congrArg (yb m c _) (Fin.ext (by blk_simp [idx t])))
theorem final_sum (c : Dev nD) : (dats m 0 c).arrAt 8 (cfgs 0).N = fun i : S8192x1024.Idx => merged m c (i 0) (i 1) := by
  refine (dats m 0 c).arrAt_eq_of_covers 8 _ (by decide +kernel) fun t _ y => ?_
  blk_simp
  rw [after0_8]; frame_out
  idx_vars y
  exact (point_sum m c t y0 _ (by blk_simp [idx t]) y1).trans (congrArg (merged m c _) (Fin.ext (by blk_simp [idx t])))

/-- The arguments, as arrays of extended reals. -/
abbrev argA (c : Dev nD) : FVec Ideal S4x2048x1280 .f32 := m ((c : Thread nD τ).loc main_arg0)
abbrev argB (c : Dev nD) : FVec Ideal S4x2048x768 .f32 := m ((c : Thread nD τ).loc main_arg1)
abbrev argWa (c : Dev nD) : FVec Ideal S1280x1024 .f32 := m ((c : Thread nD τ).loc main_arg2)
abbrev argWb (c : Dev nD) : FVec Ideal S768x1024 .f32 := m ((c : Thread nD τ).loc main_arg3)
abbrev argZ (c : Dev nD) : FVec Ideal S4x2048x6144 .f32 := m ((c : Thread nD τ).loc main_arg4)
abbrev argV (c : Dev nD) : FVec Ideal S1x6144 .f32 := m ((c : Thread nD τ).loc main_arg5)

theorem rowA_eq (c : Dev nD) (r : Fin 8192) (k : Fin 1280) : rowA m c r k
    = argA m c (ix3 ⟨(r : ℕ) / 2048, by omega⟩ ⟨(r : ℕ) % 2048, by omega⟩ k) := by
  unfold rowA; entry_read; pointwise
theorem colA_eq (c : Dev nD) (k : Fin 1280) (n : Fin 1024) : colA m c k n = argWa m c (ix2 k n) := by
  unfold colA; entry_read; pointwise
theorem rowB_eq (c : Dev nD) (r : Fin 8192) (k : Fin 768) : rowB m c r k
    = argB m c (ix3 ⟨(r : ℕ) / 2048, by omega⟩ ⟨(r : ℕ) % 2048, by omega⟩ k) := by
  unfold rowB; entry_read; pointwise
theorem colB_eq (c : Dev nD) (k : Fin 768) (n : Fin 1024) : colB m c k n = argWb m c (ix2 k n) := by
  unfold colB; entry_read; pointwise
theorem rowZ_eq (c : Dev nD) (r : Fin 8192) (n : Fin 6144) : rowZ m c r n
    = argZ m c (ix3 ⟨(r : ℕ) / 2048, by omega⟩ ⟨(r : ℕ) % 2048, by omega⟩ n) + argV m c (ix2 0 n) := by
  unfold rowZ; entry_read; pointwise

end Cert.Kernel11Ideal.Value

namespace Cert.Reference11Ideal.Value

open Cert.Reference11Ideal Cert.Reference11Ideal.Read Cert.Common Cert.Kernel11Ideal.Value

variable (A : FVec Ideal S4x2048x1280 .f32) (B : FVec Ideal S4x2048x768 .f32) (Wa : FVec Ideal S1280x1024 .f32)
  (Wb : FVec Ideal S768x1024 .f32) (Z : FVec Ideal S4x2048x6144 .f32) (v : FVec Ideal S1x6144 .f32)

/-- The products and the gates of the reference, entry by entry. -/
theorem entry_dotA (a : Fin 4) (s : Fin 2048) (n : Fin 1024) :
    val_main_v3 (F := Ideal) A Wa (ix3 a s n) = ∑ k : Fin 1280, A (ix3 a s k) * Wa (ix2 k n) := by pointwise [val_main_v3]
theorem entry_dotB (a : Fin 4) (s : Fin 2048) (n : Fin 1024) :
    val_main_v4 (F := Ideal) B Wb (ix3 a s n) = ∑ k : Fin 768, B (ix3 a s k) * Wb (ix2 k n) := by pointwise [val_main_v4]
theorem entry_gA (a : Fin 4) (s : Fin 2048) (n : Fin 1024) : val_main_v11 (F := Ideal) Z v (ix3 a s n)
    = sigm (Z (ix3 a s ⟨4096 + n, by omega⟩) + v (ix2 0 ⟨4096 + n, by omega⟩)) := by
  pointwise [val_main_v11, val_main_v10, val_main_cst_0, val_main_v9, val_main_v8, val_main_cst, val_main_v7, val_main_v6,
    val_main_v5, val_main_v2, val_main_v1, val_main_v0, sigm]
theorem entry_gB (a : Fin 4) (s : Fin 2048) (n : Fin 1024) : val_main_v19 (F := Ideal) Z v (ix3 a s n)
    = sigm (Z (ix3 a s ⟨5120 + n, by omega⟩) + v (ix2 0 ⟨5120 + n, by omega⟩)) := by
  pointwise [val_main_v19, val_main_v18, val_main_cst_2, val_main_v17, val_main_v16, val_main_cst_1, val_main_v15,
    val_main_v14, val_main_v13, val_main_v2, val_main_v1, val_main_v0, sigm]

theorem entry_a (r : Fin 8192) (n : Fin 1024) : val_main_v23 (F := Ideal) A Wa (ix2 r n) = ∑ k : Fin 1280,
    A (ix3 ⟨(r : ℕ) / 2048, by omega⟩ ⟨(r : ℕ) % 2048, by omega⟩ k) * Wa (ix2 k n) := by
  pointwise [val_main_v23, val_main_v22]
  exact entry_dotA _ _ _ _ _
theorem entry_b (r : Fin 8192) (n : Fin 1024) : val_main_v25 (F := Ideal) B Wb (ix2 r n) = ∑ k : Fin 768,
    B (ix3 ⟨(r : ℕ) / 2048, by omega⟩ ⟨(r : ℕ) % 2048, by omega⟩ k) * Wb (ix2 k n) := by
  pointwise [val_main_v25, val_main_v24]
  exact entry_dotB _ _ _ _ _
theorem entry_sum (r : Fin 8192) (n : Fin 1024) : val_main_v27 (F := Ideal) A B Wa Wb Z v (ix2 r n)
    = val_main_v11 (F := Ideal) Z v (ix3 ⟨(r : ℕ) / 2048, by omega⟩ ⟨(r : ℕ) % 2048, by omega⟩ n)
        * val_main_v3 (F := Ideal) A Wa (ix3 ⟨(r : ℕ) / 2048, by omega⟩ ⟨(r : ℕ) % 2048, by omega⟩ n)
      + val_main_v19 (F := Ideal) Z v (ix3 ⟨(r : ℕ) / 2048, by omega⟩ ⟨(r : ℕ) % 2048, by omega⟩ n)
        * val_main_v4 (F := Ideal) B Wb (ix3 ⟨(r : ℕ) / 2048, by omega⟩ ⟨(r : ℕ) % 2048, by omega⟩ n) := by
  pointwise [val_main_v27, val_main_v26, val_main_v21, val_main_v12, val_main_v20]

variable (m : (ℓ : Loc Kernel11Ideal.nD Kernel11Ideal.τ Kernel11Ideal.sig) → Buf (Elt Ideal) ℓ) (c : Dev Kernel11Ideal.nD)

/-- The kernel's products are the reference's. -/
theorem ya_eq (r : Fin 8192) (n : Fin 1024) : ya m c r n = ∑ k : Fin 1280,
    argA m c (ix3 ⟨(r : ℕ) / 2048, by omega⟩ ⟨(r : ℕ) % 2048, by omega⟩ k) * argWa m c (ix2 k n) :=
  Finset.sum_congr rfl fun k _ => congrArg₂ (fun a b : EReal => a * b) (rowA_eq m c r k) (colA_eq m c k n)
theorem yb_eq (r : Fin 8192) (n : Fin 1024) : yb m c r n = ∑ k : Fin 768,
    argB m c (ix3 ⟨(r : ℕ) / 2048, by omega⟩ ⟨(r : ℕ) % 2048, by omega⟩ k) * argWb m c (ix2 k n) :=
  Finset.sum_congr rfl fun k _ => congrArg₂ (fun a b : EReal => a * b) (rowB_eq m c r k) (colB_eq m c k n)

/-- The kernel's arrays are the reference's. -/
theorem agree_a : (Kernel11Ideal.Gen.dats m 0 c).arrAt 6 (Kernel11Ideal.cfgs 0).N
    = val_main_v23 (F := Ideal) (argA m c) (argWa m c) := by
  refine (final_a m c).trans (funext fun i => ?_)
  idx_vars i
  exact (ya_eq m c i0 i1).trans (entry_a _ _ i0 i1).symm
theorem agree_b : (Kernel11Ideal.Gen.dats m 0 c).arrAt 7 (Kernel11Ideal.cfgs 0).N
    = val_main_v25 (F := Ideal) (argB m c) (argWb m c) := by
  refine (final_b m c).trans (funext fun i => ?_)
  idx_vars i
  exact (yb_eq m c i0 i1).trans (entry_b _ _ i0 i1).symm
theorem agree_sum : (Kernel11Ideal.Gen.dats m 0 c).arrAt 8 (Kernel11Ideal.cfgs 0).N
    = val_main_v27 (F := Ideal) (argA m c) (argB m c) (argWa m c) (argWb m c) (argZ m c) (argV m c) := by
  refine (final_sum m c).trans (funext fun i => ?_)
  idx_vars i
  refine Eq.trans ?_ (entry_sum _ _ _ _ _ _ i0 i1).symm
  rw [entry_gA, entry_gB, entry_dotA, entry_dotB, ← ya_eq, ← yb_eq, ← rowZ_eq, ← rowZ_eq]
  rfl

end Cert.Reference11Ideal.Value

end
-- ==== Proof.AdaFwd.lean ====
module

public import proofs.«01_k».proof.Proof.Gen.Kernel12Ideal.Value
public import proofs.«01_k».proof.Proof.Gen.Reference12Ideal.Read
public import proofs.«01_k».proof.Proof.Logistic

@[expose] public section

set_option maxRecDepth 16384

noncomputable section

open Idealize.ShloMosaic Idealize.ShloMosaic.TcCoe Idealize.SL.Sem
open Idealize.ShloMosaic.Pipeline (Dat)

namespace Cert.Kernel12Ideal.Value

open Cert.Kernel12Ideal Cert.Kernel12Ideal.Gen Cert.Common

variable (m : (ℓ : Loc nD τ sig) → Buf (Elt Ideal) ℓ)

/-- The body's arithmetic, entry by entry. -/
theorem pay_act (A : FVec Ideal S64x1024 .f32) (r : Fin 64) (k : Fin 1024) :
    k0_pay1 (F := Ideal) A (ix2 r k) = silu (A (ix2 r k)) := by
  rw [silu, sigm_eq]
  pointwise [k0_pay1]
theorem pay_mod (A : FVec Ideal S64x1024 .f32) (W : FVec Ideal S1024x768 .f32) (r : Fin 64) (n : Fin 768) :
    k0_pay2 (F := Ideal) A W (ix2 r n) = ∑ k : Fin 1024, silu (A (ix2 r k)) * W (ix2 k n) := by
  simp only [← pay_act]
  generalize hP : k0_pay1 (F := Ideal) A = P
  pointwise [k0_pay2, hP]

/-- The arguments, as arrays of extended reals. -/
abbrev argC (c : Dev nD) : FVec Ideal S64x1024 .f32 := m ((c : Thread nD τ).loc main_arg0)
abbrev argW (c : Dev nD) : FVec Ideal S1024x768 .f32 := m ((c : Thread nD τ).loc main_arg1)

end Cert.Kernel12Ideal.Value

namespace Cert.Reference12Ideal.Value

open Cert.Reference12Ideal Cert.Reference12Ideal.Read Cert.Common Cert.Kernel12Ideal.Value

theorem entry_unit (A : FVec Ideal S64x1024 .f32) (r : Fin 64) (k : Fin 1024) :
    val_main_v0 (F := Ideal) A (ix2 r k) = silu (A (ix2 r k)) := by
  pointwise [val_main_v0, val_main_call0_v5, val_main_call0_v4, val_main_call0_cst_0, val_main_call0_v3, val_main_call0_v2,
    val_main_call0_cst, val_main_call0_v1, val_main_call0_v0, silu, sigm]
theorem entry_act (A : FVec Ideal S64x1024 .f32) (r : Fin 64) (k : Fin 1024) :
    val_main_v1 (F := Ideal) A (ix2 r k) = silu (A (ix2 r k)) := by
  rw [← entry_unit]
  generalize hP : val_main_v0 (F := Ideal) A = P
  pointwise [val_main_v1, hP]
theorem entry_mod (A : FVec Ideal S64x1024 .f32) (W : FVec Ideal S1024x768 .f32) (r : Fin 64) (n : Fin 768) :
    val_main_v2 (F := Ideal) A W (ix2 r n) = ∑ k : Fin 1024, silu (A (ix2 r k)) * W (ix2 k n) := by
  simp only [← entry_unit]
  generalize hP : val_main_v0 (F := Ideal) A = P
  pointwise [val_main_v2, hP]

variable (m : (ℓ : Loc Kernel12Ideal.nD Kernel12Ideal.τ Kernel12Ideal.sig) → Buf (Elt Ideal) ℓ) (c : Dev Kernel12Ideal.nD)

/-- The kernel's arrays are the reference's. -/
theorem agree_act : (Kernel12Ideal.Gen.dats m 0 c).arrAt 2 (Kernel12Ideal.cfgs 0).N
    = val_main_v1 (F := Ideal) (argC m c) := by
  refine (Kernel12Ideal.Value.final2 m c).trans (funext fun i => ?_)
  idx_vars i
  exact (pay_act _ i0 i1).trans (entry_act _ i0 i1).symm
theorem agree_mod : (Kernel12Ideal.Gen.dats m 0 c).arrAt 3 (Kernel12Ideal.cfgs 0).N
    = val_main_v2 (F := Ideal) (argC m c) (argW m c) := by
  refine (Kernel12Ideal.Value.final3 m c).trans (funext fun i => ?_)
  idx_vars i
  exact (pay_mod _ _ i0 i1).trans (entry_mod _ _ i0 i1).symm

end Cert.Reference12Ideal.Value

end
-- ==== Proof.Modulate.lean ====
module

public import proofs.«01_k».proof.Proof.Gen.Kernel13Ideal.Value
public import proofs.«01_k».proof.Proof.Gen.Reference13Ideal.Read
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.Kernel13Ideal.Value

open Cert.Kernel13Ideal Cert.Kernel13Ideal.Gen

variable (m : (ℓ : Loc nD τ sig) → Buf (Elt Ideal) ℓ)

/-- What the grid leaves, over the arrays it reads: an entry scaled and shifted by its batch's pair. -/
def modulated (X : FVec Ideal S4x2048x1024 .f32) (C B : FVec Ideal S4x1x1024 .f32) : FVec Ideal S4x2048x1024 .bf16 := fun i =>
  X (ix3 (i 0) (i 1) (i 2)) * (1 + C (ix3 (i 0) 0 (i 2))) + B (ix3 (i 0) 0 (i 2))

theorem idx : ∀ t : Fin cfg0.N, win0_0.index t = ![t.val, 0, 0] ∧ win0_1.index t = ![t.val, 0, 0]
    ∧ win0_2.index t = ![t.val, 0, 0] ∧ win0_3.index t = ![t.val, 0, 0] :=
  (by decide +kernel : ∀ t : Fin grid0.N, _)

theorem point (c : Dev nD) (t : Fin cfg0.N) (y) : k0_pay1 (iblk m c 0 t) (iblk m c 1 t) (iblk m c 2 t) y
    = modulated (V m c main_arg0) (V m c main_v0) (V m c main_v1) (((cfg0.win 3).blk t).view.emb y) := by
  pointwise [k0_pay1, modulated]
  blk_point [iblk, idx t]

theorem final (c : Dev nD) : (dats m 0 c).arrAt 3 (cfgs 0).N
    = modulated (V m c main_arg0) (V m c main_v0) (V m c main_v1) := by
  refine (dats m 0 c).arrAt_eq_of_covers 3 _ (by decide +kernel) fun t _ y => ?_
  blk_simp
  rw [after0_3]; frame_out
  exact point m c t y

/-- The arguments, as arrays of extended reals. -/
abbrev argX (c : Dev nD) : FVec Ideal S4x2048x1024 .f32 := m ((c : Thread nD τ).loc main_arg0)
abbrev argC (c : Dev nD) : FVec Ideal S4x1024 .f32 := m ((c : Thread nD τ).loc main_arg1)
abbrev argB (c : Dev nD) : FVec Ideal S4x1024 .f32 := m ((c : Thread nD τ).loc main_arg2)

/-- The arrays the grid reads, at an entry, over the arguments. -/
theorem entX (c : Dev nD) (a : Fin 4) (s : Fin 2048) (n : Fin 1024) :
    (V m c main_arg0 : FVec Ideal S4x2048x1024 .f32) (ix3 a s n) = argX m c (ix3 a s n) := by
  entry_read
  rfl
theorem entC (c : Dev nD) (a : Fin 4) (n : Fin 1024) :
    (V m c main_v0 : FVec Ideal S4x1x1024 .f32) (ix3 a 0 n) = argC m c (ix2 a n) := by
  entry_read
  pointwise
theorem entB (c : Dev nD) (a : Fin 4) (n : Fin 1024) :
    (V m c main_v1 : FVec Ideal S4x1x1024 .f32) (ix3 a 0 n) = argB m c (ix2 a n) := by
  entry_read
  pointwise

end Cert.Kernel13Ideal.Value

namespace Cert.Reference13Ideal.Value

open Cert.Reference13Ideal Cert.Reference13Ideal.Read

theorem entry (X : FVec Ideal S4x2048x1024 .f32) (C B : FVec Ideal S4x1024 .f32) (a : Fin 4) (s : Fin 2048) (n : Fin 1024) :
    val_main_v8 (F := Ideal) X C B (ix3 a s n) = X (ix3 a s n) * (1 + C (ix2 a n)) + B (ix2 a n) := by
  pointwise [val_main_v8, val_main_v7, val_main_v6, val_main_v5, val_main_v4, val_main_v3, val_main_v2, val_main_v1,
    val_main_cst, val_main_v0]

/-- The kernel's array is the reference's. -/
theorem agree (m : (ℓ : Loc Kernel13Ideal.nD Kernel13Ideal.τ Kernel13Ideal.sig) → Buf (Elt Ideal) ℓ)
    (c : Dev Kernel13Ideal.nD) : (Kernel13Ideal.Gen.dats m 0 c).arrAt 3 (Kernel13Ideal.cfgs 0).N
      = val_main_v8 (F := Ideal) (Kernel13Ideal.Value.argX m c) (Kernel13Ideal.Value.argC m c)
          (Kernel13Ideal.Value.argB m c) := by
  rw [Kernel13Ideal.Value.final]
  refine funext fun i => ?_
  idx_vars i
  refine Eq.trans ?_ (entry _ _ _ i0 i1 i2).symm
  exact congrArg₂ (fun a b : EReal => a + b) (congrArg₂ (fun a b : EReal => a * b) (Kernel13Ideal.Value.entX m c i0 i1 i2)
    (congrArg (fun a : EReal => 1 + a) (Kernel13Ideal.Value.entC m c i0 i2))) (Kernel13Ideal.Value.entB m c i0 i2)

end Cert.Reference13Ideal.Value

end
-- ==== Proof.Up.lean ====
module

public import proofs.«01_k».proof.Proof.Gen.Kernel14Ideal.Value
public import proofs.«01_k».proof.Proof.Gen.Reference14Ideal.Read
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.Kernel14Ideal.Value

open Cert.Kernel14Ideal Cert.Kernel14Ideal.Gen

variable (m : (ℓ : Loc nD τ sig) → Buf (Elt Ideal) ℓ)

/-- What the grid leaves, over the arrays it reads: a row of the first times a column of the second, where positive. -/
def product (A : FVec Ideal S8192x1024 .bf16) (B : FVec Ideal S1024x4096 .bf16) : FVec Ideal S8192x4096 .bf16 := fun i =>
  max (∑ k : Fin 1024, A (ix2 (i 0) k) * B (ix2 k (i 1))) 0

theorem idx : ∀ t : Fin cfg0.N, win0_0.index t = ![t.val / 4, 0] ∧ win0_1.index t = ![0, t.val % 4]
    ∧ win0_2.index t = ![t.val / 4, t.val % 4] :=
  (by decide +kernel : ∀ t : Fin grid0.N, _)

theorem point (c : Dev nD) (t : Fin cfg0.N) (y) : k0_pay1 (iblk m c 0 t) (iblk m c 1 t) y
    = product (V m c main_v1) (V m c main_v2) (((cfg0.win 2).blk t).view.emb y) := by
  pointwise [k0_pay1, product]
  blk_point [iblk, idx t]

theorem final (c : Dev nD) : (dats m 0 c).arrAt 2 (cfgs 0).N = product (V m c main_v1) (V m c main_v2) := by
  refine (dats m 0 c).arrAt_eq_of_covers 2 _ (by decide +kernel) fun t _ y => ?_
  blk_simp
  rw [after0_2]; frame_out
  exact point m c t y

/-- The arguments, as arrays of extended reals. -/
abbrev argH (c : Dev nD) : FVec Ideal S4x2048x1024 .f32 := m ((c : Thread nD τ).loc main_arg0)
abbrev argW (c : Dev nD) : FVec Ideal S1024x4096 .f32 := m ((c : Thread nD τ).loc main_arg1)

/-- The two arrays the grid reads, at an entry, over the arguments. -/
theorem rowsH (c : Dev nD) (r : Fin 8192) (k : Fin 1024) : (V m c main_v1 : FVec Ideal S8192x1024 .bf16) (ix2 r k)
    = argH m c (ix3 ⟨(r : ℕ) / 2048, by omega⟩ ⟨(r : ℕ) % 2048, by omega⟩ k) := by
  entry_read
  pointwise
theorem colsW (c : Dev nD) (k : Fin 1024) (n : Fin 4096) :
    (V m c main_v2 : FVec Ideal S1024x4096 .bf16) (ix2 k n) = argW m c (ix2 k n) := by
  entry_read
  pointwise

end Cert.Kernel14Ideal.Value

namespace Cert.Reference14Ideal.Value

open Cert.Reference14Ideal Cert.Reference14Ideal.Read

theorem entry (H : FVec Ideal S4x2048x1024 .f32) (W : FVec Ideal S1024x4096 .f32) (r : Fin 8192) (n : Fin 4096) :
    val_main_v3 (F := Ideal) H W (ix2 r n) = max (∑ k : Fin 1024,
      H (ix3 ⟨(r : ℕ) / 2048, by omega⟩ ⟨(r : ℕ) % 2048, by omega⟩ k) * W (ix2 k n)) 0 := by
  pointwise [val_main_v3, val_main_v2, val_main_v1, val_main_v0, val_main_call0_v0, val_main_call0_cst]

/-- The kernel's array is the reference's. -/
theorem agree (m : (ℓ : Loc Kernel14Ideal.nD Kernel14Ideal.τ Kernel14Ideal.sig) → Buf (Elt Ideal) ℓ)
    (c : Dev Kernel14Ideal.nD) : (Kernel14Ideal.Gen.dats m 0 c).arrAt 2 (Kernel14Ideal.cfgs 0).N
      = val_main_v3 (F := Ideal) (Kernel14Ideal.Value.argH m c) (Kernel14Ideal.Value.argW m c) := by
  rw [Kernel14Ideal.Value.final]
  refine funext fun i => ?_
  idx_vars i
  refine Eq.trans ?_ (entry _ _ i0 i1).symm
  exact congrArg (fun a : EReal => max a 0) (Finset.sum_congr rfl fun k _ => congrArg₂ (fun a b : EReal => a * b)
    (Kernel14Ideal.Value.rowsH m c i0 k) (Kernel14Ideal.Value.colsW m c k i1))

end Cert.Reference14Ideal.Value

end
-- ==== Proof.Dya.lean ====
module

public import proofs.«01_k».proof.Proof.Gen.Kernel15Ideal.Value
public import proofs.«01_k».proof.Proof.Gen.Reference15Ideal.Read
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.Kernel15Ideal.Value

open Cert.Kernel15Ideal Cert.Kernel15Ideal.Gen

variable (m : (ℓ : Loc nD τ sig) → Buf (Elt Ideal) ℓ)

/-- What the grid leaves, over the arrays it reads: the rows of the first times the rows of the second. -/
def productA (A : FVec Ideal S8192x1024 .bf16) (B : FVec Ideal S1280x1024 .bf16) : FVec Ideal S8192x1280 .bf16 := fun i =>
  ∑ k : Fin 1024, A (ix2 (i 0) k) * B (ix2 (i 1) k)
def productB (A : FVec Ideal S8192x1024 .bf16) (B : FVec Ideal S768x1024 .bf16) : FVec Ideal S8192x768 .bf16 := fun i =>
  ∑ k : Fin 1024, A (ix2 (i 0) k) * B (ix2 (i 1) k)

theorem idx : ∀ t : Fin cfg0.N, win0_0.index t = ![t.val, 0] ∧ win0_1.index t = ![0, 0] ∧ win0_3.index t = ![t.val, 0]
    ∧ win0_4.index t = ![0, 0] ∧ win0_5.index t = ![t.val, 0] ∧ win0_6.index t = ![t.val, 0] :=
  (by decide +kernel : ∀ t : Fin grid0.N, _)

theorem pointA (c : Dev nD) (t : Fin cfg0.N) (y) : k0_pay1 (iblk m c 0 t) (iblk m c 1 t) y
    = productA (V m c main_v1) (V m c main_v2) (((cfg0.win 5).blk t).view.emb y) := by
  pointwise [k0_pay1, productA]
  blk_point [iblk, idx t]
theorem pointB (c : Dev nD) (t : Fin cfg0.N) (y) : k0_pay2 (iblk m c 3 t) (iblk m c 4 t) y
    = productB (V m c main_v5) (V m c main_v6) (((cfg0.win 6).blk t).view.emb y) := by
  pointwise [k0_pay2, productB]
  blk_point [iblk, idx t]

theorem finalA (c : Dev nD) : (dats m 0 c).arrAt 5 (cfgs 0).N = productA (V m c main_v1) (V m c main_v2) := by
  refine (dats m 0 c).arrAt_eq_of_covers 5 _ (by decide +kernel) fun t _ y => ?_
  blk_simp
  rw [after0_5]; frame_out
  exact pointA m c t y
theorem finalB (c : Dev nD) : (dats m 0 c).arrAt 6 (cfgs 0).N = productB (V m c main_v5) (V m c main_v6) := by
  refine (dats m 0 c).arrAt_eq_of_covers 6 _ (by decide +kernel) fun t _ y => ?_
  blk_simp
  rw [after0_6]; frame_out
  exact pointB m c t y

/-- The arguments, as arrays of extended reals. -/
abbrev argDa (c : Dev nD) : FVec Ideal S4x2048x1024 .f32 := m ((c : Thread nD τ).loc main_arg0)
abbrev argDb (c : Dev nD) : FVec Ideal S4x2048x1024 .f32 := m ((c : Thread nD τ).loc main_arg1)
abbrev argWa (c : Dev nD) : FVec Ideal S1280x1024 .f32 := m ((c : Thread nD τ).loc main_arg2)
abbrev argWb (c : Dev nD) : FVec Ideal S768x1024 .f32 := m ((c : Thread nD τ).loc main_arg3)

/-- The arrays the grid reads, at an entry, over the arguments. -/
theorem rowsDa (c : Dev nD) (r : Fin 8192) (k : Fin 1024) : (V m c main_v1 : FVec Ideal S8192x1024 .bf16) (ix2 r k)
    = argDa m c (ix3 ⟨(r : ℕ) / 2048, by omega⟩ ⟨(r : ℕ) % 2048, by omega⟩ k) := by
  entry_read
  pointwise
theorem rowsDb (c : Dev nD) (r : Fin 8192) (k : Fin 1024) : (V m c main_v5 : FVec Ideal S8192x1024 .bf16) (ix2 r k)
    = argDb m c (ix3 ⟨(r : ℕ) / 2048, by omega⟩ ⟨(r : ℕ) % 2048, by omega⟩ k) := by
  entry_read
  pointwise
theorem rowsWa (c : Dev nD) (n : Fin 1280) (k : Fin 1024) :
    (V m c main_v2 : FVec Ideal S1280x1024 .bf16) (ix2 n k) = argWa m c (ix2 n k) := by
  entry_read
  pointwise
theorem rowsWb (c : Dev nD) (n : Fin 768) (k : Fin 1024) :
    (V m c main_v6 : FVec Ideal S768x1024 .bf16) (ix2 n k) = argWb m c (ix2 n k) := by
  entry_read
  pointwise

end Cert.Kernel15Ideal.Value

namespace Cert.Reference15Ideal.Value

open Cert.Reference15Ideal Cert.Reference15Ideal.Read

theorem entryA (D : FVec Ideal S4x2048x1024 .f32) (W : FVec Ideal S1280x1024 .f32) (r : Fin 8192) (n : Fin 1280) :
    val_main_v7 (F := Ideal) D W (ix2 r n) = ∑ k : Fin 1024,
      D (ix3 ⟨(r : ℕ) / 2048, by omega⟩ ⟨(r : ℕ) % 2048, by omega⟩ k) * W (ix2 n k) := by
  pointwise [val_main_v7, val_main_v6, val_main_v5]
theorem entryB (D : FVec Ideal S4x2048x1024 .f32) (W : FVec Ideal S768x1024 .f32) (r : Fin 8192) (n : Fin 768) :
    val_main_v9 (F := Ideal) D W (ix2 r n) = ∑ k : Fin 1024,
      D (ix3 ⟨(r : ℕ) / 2048, by omega⟩ ⟨(r : ℕ) % 2048, by omega⟩ k) * W (ix2 n k) := by
  pointwise [val_main_v9, val_main_v8, val_main_v4]

variable (m : (ℓ : Loc Kernel15Ideal.nD Kernel15Ideal.τ Kernel15Ideal.sig) → Buf (Elt Ideal) ℓ) (c : Dev Kernel15Ideal.nD)

/-- The kernel's arrays are the reference's. -/
theorem agreeA : (Kernel15Ideal.Gen.dats m 0 c).arrAt 5 (Kernel15Ideal.cfgs 0).N
    = val_main_v7 (F := Ideal) (Kernel15Ideal.Value.argDa m c) (Kernel15Ideal.Value.argWa m c) := by
  rw [Kernel15Ideal.Value.finalA]
  refine funext fun i => ?_
  idx_vars i
  refine Eq.trans ?_ (entryA _ _ i0 i1).symm
  exact Finset.sum_congr rfl fun k _ => congrArg₂ (fun a b : EReal => a * b)
    (Kernel15Ideal.Value.rowsDa m c i0 k) (Kernel15Ideal.Value.rowsWa m c i1 k)
theorem agreeB : (Kernel15Ideal.Gen.dats m 0 c).arrAt 6 (Kernel15Ideal.cfgs 0).N
    = val_main_v9 (F := Ideal) (Kernel15Ideal.Value.argDb m c) (Kernel15Ideal.Value.argWb m c) := by
  rw [Kernel15Ideal.Value.finalB]
  refine funext fun i => ?_
  idx_vars i
  refine Eq.trans ?_ (entryB _ _ i0 i1).symm
  exact Finset.sum_congr rfl fun k _ => congrArg₂ (fun a b : EReal => a * b)
    (Kernel15Ideal.Value.rowsDb m c i0 k) (Kernel15Ideal.Value.rowsWb m c i1 k)

end Cert.Reference15Ideal.Value

end
-- ==== Proof.Gwin.lean ====
/- The gradient of the input projection, a plain product of `_mm` over four steps of its rows, written in eight column
   slots: at every entry the sum over the rows of the input times the gradient. -/
module

public import proofs.«01_k».proof.Proof.Gen.Kernel16Ideal.Value
public import proofs.«01_k».proof.Proof.Gen.Reference16Ideal.Read
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.Kernel16Ideal.Value

open Cert.Kernel16Ideal Cert.Kernel16Ideal.Gen

variable (m : (ℓ : Loc nD τ sig) → Buf (Elt Ideal) ℓ)

theorem idx : ∀ t : Fin cfg0.N, win0_0.index t = ![t.val % 4, 0] ∧ win0_1.index t = ![t.val % 4, t.val / 4]
    ∧ win0_3.index t = ![t.val / 4, 0, 0] :=
  (by decide +kernel : ∀ t : Fin grid0.N, _)

/-- The arrays the grid reads, entry by entry. -/
def rowX (c : Dev nD) (r : Fin 8192) (i : Fin 1024) : EReal := (V m c main_v1 : FVec Ideal S8192x1024 .bf16) (ix2 r i)
def rowD (c : Dev nD) (r : Fin 8192) (j : Fin 6144) : EReal := (V m c main_v3 : FVec Ideal S8192x6144 .bf16) (ix2 r j)

theorem blkX (c : Dev nD) (t : Fin cfg0.N) (k : Fin 2048) (R : Fin 8192) (hR : (R : ℕ) = t.val % 4 * 2048 + k)
    (i : Fin 1024) : (iblk m c 0 t : FVec Ideal S2048x1024 .bf16) (ix2 k i) = rowX m c R i := by
  unfold rowX; blk_ext [iblk, idx t]
theorem blkD (c : Dev nD) (t : Fin cfg0.N) (k : Fin 2048) (R : Fin 8192) (hR : (R : ℕ) = t.val % 4 * 2048 + k)
    (j : Fin 1536) (J : Fin 6144) (hJ : (J : ℕ) = t.val / 4 * 1536 + j) :
    (iblk m c 1 t : FVec Ideal S2048x1536 .bf16) (ix2 k j) = rowD m c R J := by
  unfold rowD; blk_ext [iblk, idx t]

/-- The body's arithmetic, entry by entry. -/
theorem pay_dot (X : FVec Ideal S2048x1024 .bf16) (D : FVec Ideal S2048x1536 .bf16) (i : Fin 1024) (j : Fin 1536) :
    k0_pay1 (F := Ideal) X D (ix2 i j) = ∑ k : Fin 2048, X (ix2 k i) * D (ix2 k j) := by
  pointwise [k0_pay1]
theorem pay_first (X : FVec Ideal S2048x1024 .bf16) (D : FVec Ideal S2048x1536 .bf16) (i : Fin 1024) (j : Fin 1536) :
    k0_pay2 (F := Ideal) X D (ix2 i j) = ∑ k : Fin 2048, X (ix2 k i) * D (ix2 k j) := by
  rw [← pay_dot]
  generalize hP : k0_pay1 (F := Ideal) X D = P
  pointwise [k0_pay2, hP]
theorem pay_later (X : FVec Ideal S2048x1024 .bf16) (D : FVec Ideal S2048x1536 .bf16) (A : FVec Ideal S1024x1536 .f32)
    (i : Fin 1024) (j : Fin 1536) : k0_pay3 (F := Ideal) X D A (ix2 i j)
      = A (ix2 i j) + ∑ k : Fin 2048, X (ix2 k i) * D (ix2 k j) := by
  rw [← pay_dot]
  generalize hP : k0_pay1 (F := Ideal) X D = P
  pointwise [k0_pay3, hP]

/-- What each of a tile's four points keeps. -/
theorem keepA (c : Dev nD) (t : Fin cfg0.N) (h : t.val % 4 = 0) (y) :
    (outsAt0 m c t.val t.isLt).2 y = k0_pay2 (iblk m c 0 t) (iblk m c 1 t) y := by
  rw [outsAt0_A m c t h (by omega) (by omega)]; frame_out
theorem keepB (c : Dev nD) (t : Fin cfg0.N) (h : 1 ≤ t.val % 4) (h' : ¬t.val % 4 = 3) (y) : (outsAt0 m c t.val t.isLt).2 y
    = k0_pay3 (iblk m c 0 t) (iblk m c 1 t) (outsAt0 m c (t.val - 1) (by omega)).2 y := by
  rw [outsAt0_B m c t (by omega) h h']; frame_out
  exact congrArg (fun s => k0_pay3 (iblk m c 0 t) (iblk m c 1 t) s y) (Memref.IsWhole.read_unread _ _)

theorem pay_slot0 (A : FVec Ideal S1024x1536 .f32) (q : Fin 1) (i : Fin 1024) (j : Fin 768) :
    k0_pay5 (F := Ideal) A (ix3 q i j) = A (ix2 i ⟨j, by omega⟩) := by
  pointwise [k0_pay5, k0_pay4]
theorem pay_slot1 (A : FVec Ideal S1024x1536 .f32) (q : Fin 1) (i : Fin 1024) (j : Fin 768) :
    k0_pay6 (F := Ideal) A (ix3 q i j) = A (ix2 i ⟨768 + j, by omega⟩) := by
  pointwise [k0_pay6, k0_pay4]

/-- The fourth point writes the sum in two slots of 768 columns. -/
theorem outC (c : Dev nD) (t : Fin cfg0.N) (h : t.val % 4 = 3) (q : Fin 2) (i : Fin 1024) (j : Fin 768) :
    (outsAt0 m c t.val t.isLt).1 (ix3 q i j) = k0_pay3 (iblk m c 0 t) (iblk m c 1 t) (outsAt0 m c (t.val - 1) (by omega)).2
      (ix2 i ⟨(q : ℕ) * 768 + j, by omega⟩) := by
  rw [outsAt0_C m c t (by omega) (by omega) h]; frame_out
  canon_tiles x hx
  case piece0 =>
    idx_vars x
    refine (pay_slot1 _ x0 x1 x2).trans ?_
    refine (congrArg (fun s => k0_pay3 (iblk m c 0 t) (iblk m c 1 t) s _) (Memref.IsWhole.read_unread _ _)).trans ?_
    refine congrArg _ (congrArg₂ ix2 (Fin.ext hx1.symm) (Fin.ext ?_))
    show 768 + (x2 : ℕ) = (q : ℕ) * 768 + (j : ℕ)
    omega
  case piece1 =>
    idx_vars x
    refine (pay_slot0 _ x0 x1 x2).trans ?_
    refine (congrArg (fun s => k0_pay3 (iblk m c 0 t) (iblk m c 1 t) s _) (Memref.IsWhole.read_unread _ _)).trans ?_
    refine congrArg _ (congrArg₂ ix2 (Fin.ext hx1.symm) (Fin.ext ?_))
    show (x2 : ℕ) = (q : ℕ) * 768 + (j : ℕ)
    omega

/-- The sum over the rows, in the four quarters the four points take. -/
def quarter (q : Fin 4) (k : Fin 2048) : Fin 8192 := ⟨q * 2048 + k, by omega⟩
def quarterSum (c : Dev nD) (q : Fin 4) (i : Fin 1024) (j : Fin 6144) : EReal :=
  ∑ k : Fin 2048, rowX m c (quarter q k) i * rowD m c (quarter q k) j

theorem point (c : Dev nD) (t : Fin cfg0.N) (q : Fin 4) (hq : (q : ℕ) = t.val % 4) (i : Fin 1024) (j : Fin 1536)
    (J : Fin 6144) (hJ : (J : ℕ) = t.val / 4 * 1536 + j) (X : FVec Ideal S2048x1024 .bf16)
    (D : FVec Ideal S2048x1536 .bf16) (hX : X = iblk m c 0 t) (hD : D = iblk m c 1 t) :
    ∑ k : Fin 2048, X (ix2 k i) * D (ix2 k j) = quarterSum m c q i J := by
  subst hX hD
  refine Finset.sum_congr rfl fun k _ => ?_
  have hR : (quarter q k : ℕ) = t.val % 4 * 2048 + k := by show (q : ℕ) * 2048 + k = _; rw [hq]
  rw [blkX m c t k _ hR i, blkD m c t k _ hR j J hJ]

theorem first (c : Dev nD) (n : ℕ) (hn : n < cfg0.N) (h : n % 4 = 0) (i : Fin 1024) (j : Fin 1536) (J : Fin 6144)
    (hJ : (J : ℕ) = n / 4 * 1536 + j) : (outsAt0 m c n hn).2 (ix2 i j) = quarterSum m c 0 i J :=
  (keepA m c ⟨n, hn⟩ h _).trans ((pay_first _ _ i j).trans (point m c ⟨n, hn⟩ 0 h.symm i j J hJ _ _ rfl rfl))
theorem next (c : Dev nD) (n : ℕ) (hn : n < cfg0.N) (q : Fin 4) (hq : (q : ℕ) = n % 4) (h : 1 ≤ n % 4) (h' : ¬n % 4 = 3)
    (i : Fin 1024) (j : Fin 1536) (J : Fin 6144) (hJ : (J : ℕ) = n / 4 * 1536 + j) (s : EReal)
    (hs : (outsAt0 m c (n - 1) (by omega)).2 (ix2 i j) = s) :
    (outsAt0 m c n hn).2 (ix2 i j) = s + quarterSum m c q i J :=
  (keepB m c ⟨n, hn⟩ h h' _).trans ((pay_later _ _ _ i j).trans
    (congrArg₂ (· + ·) hs (point m c ⟨n, hn⟩ q hq i j J hJ _ _ rfl rfl)))

theorem out_at (c : Dev nD) (t : Fin cfg0.N) (h : t.val % 4 = 3) (q : Fin 2) (i : Fin 1024) (j : Fin 768)
    (J : Fin 6144) (hJ : (J : ℕ) = t.val / 4 * 1536 + (q * 768 + j)) :
    (outsAt0 m c t.val t.isLt).1 (ix3 q i j) = ∑ r : Fin 8192, rowX m c r i * rowD m c r J := by
  have hN := t.isLt
  have e0 := first m c (t.val - 1 - 1 - 1) (by omega) (by omega) i ⟨(q : ℕ) * 768 + j, by omega⟩ J
    (by show (J : ℕ) = (t.val - 1 - 1 - 1) / 4 * 1536 + (q * 768 + j); omega)
  have e1 := next m c (t.val - 1 - 1) (by omega) 1 (by show 1 = _; omega) (by omega) (by omega) i
    ⟨(q : ℕ) * 768 + j, by omega⟩ J (by show (J : ℕ) = (t.val - 1 - 1) / 4 * 1536 + (q * 768 + j); omega) _ e0
  have e2 := next m c (t.val - 1) (by omega) 2 (by show 2 = _; omega) (by omega) (by omega) i
    ⟨(q : ℕ) * 768 + j, by omega⟩ J (by show (J : ℕ) = (t.val - 1) / 4 * 1536 + (q * 768 + j); omega) _ e1
  rw [outC m c t h q i j, pay_later, e2, point m c t 3 h.symm i ⟨(q : ℕ) * 768 + j, by omega⟩ J hJ _ _ rfl rfl,
    Fin.sum_univ_tiles 4 2048 rfl fun r => rowX m c r i * rowD m c r J, Fin.sum_univ_four]
  rfl

/-- The column of a slot. -/
def column (s : Fin 8) (j : Fin 768) : Fin 6144 := ⟨s * 768 + j, by omega⟩

theorem out_slot (c : Dev nD) (t : Fin cfg0.N) (h : t.val % 4 = 3) (q : Fin 2) (i : Fin 1024) (j : Fin 768) (S : Fin 8)
    (I : Fin 1024) (J : Fin 768) (hS : (S : ℕ) = t.val / 4 * 2 + q) (hI : (I : ℕ) = i) (hJ : (J : ℕ) = j) :
    (outsAt0 m c t.val t.isLt).1 (ix3 q i j) = ∑ r : Fin 8192, rowX m c r I * rowD m c r (column S J) := by
  obtain rfl : I = i := Fin.ext hI
  obtain rfl : J = j := Fin.ext hJ
  exact out_at m c t h q I J _ (by show (S : ℕ) * 768 + J = t.val / 4 * 1536 + (q * 768 + J); omega)

theorem final (c : Dev nD) : (dats m 0 c).arrAt 3 (cfgs 0).N = fun i : S8x1024x768.Idx =>
    ∑ r : Fin 8192, rowX m c r (i 1) * rowD m c r (column (i 0) (i 2)) := by
  refine (dats m 0 c).arrAt_eq_of_covers 3 _ (by decide +kernel) fun t hf y => ?_
  blk_simp
  rw [after0_3]
  idx_vars y
  exact out_slot m c t ((flush0_3 t).mp hf) y0 y1 y2 _ _ _ (by blk_simp [idx t]) (by blk_simp [idx t])
    (by blk_simp [idx t])

/-- The arguments, as arrays of extended reals. -/
abbrev argX (c : Dev nD) : FVec Ideal S4x2048x1024 .f32 := m ((c : Thread nD τ).loc main_arg0)
abbrev argD (c : Dev nD) : FVec Ideal S4x2048x6144 .f32 := m ((c : Thread nD τ).loc main_arg2)

theorem rowX_eq (c : Dev nD) (r : Fin 8192) (i : Fin 1024) : rowX m c r i
    = argX m c (ix3 ⟨(r : ℕ) / 2048, by omega⟩ ⟨(r : ℕ) % 2048, by omega⟩ i) := by
  unfold rowX; entry_read; pointwise
theorem rowD_eq (c : Dev nD) (r : Fin 8192) (j : Fin 6144) : rowD m c r j
    = argD m c (ix3 ⟨(r : ℕ) / 2048, by omega⟩ ⟨(r : ℕ) % 2048, by omega⟩ j) := by
  unfold rowD; entry_read; pointwise

end Cert.Kernel16Ideal.Value

namespace Cert.Reference16Ideal.Value

open Cert.Reference16Ideal Cert.Reference16Ideal.Read

variable (X : FVec Ideal S4x2048x1024 .f32) (D : FVec Ideal S4x2048x6144 .f32)

theorem entry_dot (j : Fin 6144) (i : Fin 1024) : val_main_v1 (F := Ideal) X D (ix2 j i) = ∑ a : Fin 4, ∑ s : Fin 2048,
    D (ix3 a s j) * X (ix3 a s i) := by
  pointwise [val_main_v1]
theorem entry (s : Fin 8) (i : Fin 1024) (j : Fin 768) : val_main_v4 (F := Ideal) X D (ix3 s i j)
    = ∑ a : Fin 4, ∑ b : Fin 2048, D (ix3 a b (Kernel16Ideal.Value.column s j)) * X (ix3 a b i) := by
  rw [← entry_dot]
  generalize hP : val_main_v1 (F := Ideal) X D = P
  pointwise [val_main_v4, val_main_v3, val_main_v2, hP]
  rfl
theorem entry_out (s : Fin 8) (i : Fin 1024) (j : Fin 768) : val_main_v5 (F := Ideal) X D (ix3 s i j)
    = ∑ a : Fin 4, ∑ b : Fin 2048, D (ix3 a b (Kernel16Ideal.Value.column s j)) * X (ix3 a b i) := by
  rw [← entry]
  generalize hP : val_main_v4 (F := Ideal) X D = P
  pointwise [val_main_v5, hP]

/-- The kernel's array is the reference's. -/
theorem agree (m : (ℓ : Loc Kernel16Ideal.nD Kernel16Ideal.τ Kernel16Ideal.sig) → Buf (Elt Ideal) ℓ) (c : Dev Kernel16Ideal.nD) :
    (Kernel16Ideal.Gen.dats m 0 c).arrAt 3 (Kernel16Ideal.cfgs 0).N
      = val_main_v5 (F := Ideal) (Kernel16Ideal.Value.argX m c) (Kernel16Ideal.Value.argD m c) := by
  rw [Kernel16Ideal.Value.final]
  refine funext fun i => ?_
  idx_vars i
  refine Eq.trans ?_ (entry_out _ _ i0 i1 i2).symm
  show ∑ r : Fin 8192, _ = _
  simp only [Kernel16Ideal.Value.rowX_eq, Kernel16Ideal.Value.rowD_eq, Common.sum_batches, Common.batchRow_div,
    Common.batchRow_mod]
  exact Finset.sum_congr rfl fun a _ => Finset.sum_congr rfl fun b _ => mul_comm _ _

end Cert.Reference16Ideal.Value

end
-- ==== Proof.ClaimsMore.lean ====
/- The value claims of the weight gradients, of the adaptive modulation's calls, of the first normalisation's forward call,
   of the other row calls and of one step of the optimiser. -/
module

public import proofs.«01_k».proof.Defs
public import proofs.«01_k».proof.Proof.Gwdown
public import proofs.«01_k».proof.Proof.AdaBwd
public import proofs.«01_k».proof.Proof.LnMix
public import proofs.«01_k».proof.Proof.YabMerge
public import proofs.«01_k».proof.Proof.AdaFwd
public import proofs.«01_k».proof.Proof.Modulate
public import proofs.«01_k».proof.Proof.Up
public import proofs.«01_k».proof.Proof.Dya
public import proofs.«01_k».proof.Proof.Gwin
public import proofs.«01_k».proof.Proof.Adam
public import proofs.«01_k».proof.Proof.Sum
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run

@[expose] public section

set_option maxRecDepth 16384

noncomputable section

open Idealize.ShloMosaic Idealize.ShloMosaic.TcCoe Idealize.SL.Sem

namespace Cert.Claims

theorem gwdown : Cert.algebraic_Kernel8Ideal_Reference8Ideal := by
  intro m g m' g' hpre hagree
  refine ⟨fun c => (Cert.Kernel8Ideal.Gen.dats m 0 c).arrAt 2 (Cert.Kernel8Ideal.cfgs 0).N,
    Cert.Kernel8Ideal.Value.run_blocks m g, ?_⟩
  refine (θ_run _ _ _).mono (fun r h c => ?_) (Cert.Reference8Ideal.Value.run m' g')
  obtain ⟨h0, ha⟩ := h c
  obtain ⟨e0, e1, e2⟩ := hagree c
  refine ⟨h0.trans ((Cert.Reference8Ideal.Read.val_main_v5_eq _ _).trans ?_), ha⟩
  rw [e0, e2]; exact (Cert.Reference8Ideal.Value.agree m c).symm

theorem adaBwd : Cert.algebraic_Kernel9Ideal_Reference9Ideal := by
  intro m g m' g' hpre hagree
  refine ⟨fun c => (Cert.Kernel9Ideal.Gen.dats m 0 c).arrAt 2 (Cert.Kernel9Ideal.cfgs 0).N,
    fun c => (Cert.Kernel9Ideal.Gen.dats m 0 c).arrAt 3 (Cert.Kernel9Ideal.cfgs 0).N,
    Cert.Kernel9Ideal.Value.run_blocks m g, ?_⟩
  refine (θ_run _ _ _).mono (fun r h c => ?_) (Cert.Reference9Ideal.Value.run m' g')
  obtain ⟨h0, h1, ha⟩ := h c
  obtain ⟨e0, e1, e2, e3⟩ := hagree c
  refine ⟨h0.trans ((Cert.Reference9Ideal.Read.val_main_v8_eq _ _).trans ?_),
    h1.trans ((Cert.Reference9Ideal.Read.val_main_v6_eq _).trans ?_), ha⟩
  · rw [e0, e3]; exact (Cert.Reference9Ideal.Value.agree_weights m c).symm
  · rw [e3]; exact (Cert.Reference9Ideal.Value.agree_bias m c).symm

theorem lnMix : Cert.algebraic_Kernel10Ideal_Reference10Ideal := by
  intro m g m' g' hpre hagree
  refine ⟨fun c => (Cert.Kernel10Ideal.Gen.dats m 0 c).arrAt 8 (Cert.Kernel10Ideal.cfgs 0).N,
    fun c => (Cert.Kernel10Ideal.Gen.dats m 0 c).arrAt 9 (Cert.Kernel10Ideal.cfgs 0).N,
    fun c => (Cert.Kernel10Ideal.Gen.dats m 0 c).arrAt 10 (Cert.Kernel10Ideal.cfgs 0).N,
    fun c => (Cert.Kernel10Ideal.Gen.dats m 0 c).arrAt 11 (Cert.Kernel10Ideal.cfgs 0).N,
    fun c => (Cert.Kernel10Ideal.Gen.dats m 0 c).arrAt 12 (Cert.Kernel10Ideal.cfgs 0).N,
    Cert.Kernel10Ideal.Value.run_blocks m g, ?_⟩
  refine (θ_run _ _ _).mono (fun r h c => ?_) (Cert.Reference10Ideal.Value.run m' g')
  obtain ⟨h0, h1, h2, h3, h4, ha⟩ := h c
  obtain ⟨e0, e1, e2, e3, e4, e5, e6, e7⟩ := hagree c
  refine ⟨h0.trans ((Cert.Reference10Ideal.Read.val_main_v42_eq _ _).trans ?_),
    h1.trans ((Cert.Reference10Ideal.Read.val_main_v43_eq m' c).trans ?_),
    h2.trans ((Cert.Reference10Ideal.Read.val_main_v45_eq m' c).trans ?_),
    h3.trans ((Cert.Reference10Ideal.Read.val_main_v47_eq m' c).trans ?_),
    h4.trans ((Cert.Reference10Ideal.Read.val_main_v49_eq _ _ _ _).trans ?_), ha⟩
  · rw [e1, e2]; exact (Cert.Reference10Ideal.Value.agree_prod m c).symm
  · rw [e0, e1, e2, e3, e4, e5]; exact (Cert.Reference10Ideal.Value.agree_normed m c).symm
  · rw [e0, e1, e2, e3, e4, e5, e6, e7]; exact (Cert.Reference10Ideal.Value.agree_modulated m c).symm
  · rw [e0, e1, e2, e3]; exact (Cert.Reference10Ideal.Value.agree_xhat m c).symm
  · rw [e0, e1, e2, e3]; exact (Cert.Reference10Ideal.Value.agree_rstd m c).symm

theorem yabMerge : Cert.algebraic_Kernel11Ideal_Reference11Ideal := by
  intro m g m' g' hpre hagree
  refine ⟨fun c => (Cert.Kernel11Ideal.Gen.dats m 0 c).arrAt 6 (Cert.Kernel11Ideal.cfgs 0).N,
    fun c => (Cert.Kernel11Ideal.Gen.dats m 0 c).arrAt 7 (Cert.Kernel11Ideal.cfgs 0).N,
    fun c => (Cert.Kernel11Ideal.Gen.dats m 0 c).arrAt 8 (Cert.Kernel11Ideal.cfgs 0).N,
    Cert.Kernel11Ideal.Value.run_blocks m g, ?_⟩
  refine (θ_run _ _ _).mono (fun r h c => ?_) (Cert.Reference11Ideal.Value.run m' g')
  obtain ⟨h0, h1, h2, ha⟩ := h c
  obtain ⟨e0, e1, e2, e3, e4, e5⟩ := hagree c
  refine ⟨h0.trans ((Cert.Reference11Ideal.Read.val_main_v23_eq _ _).trans ?_),
    h1.trans ((Cert.Reference11Ideal.Read.val_main_v25_eq _ _).trans ?_),
    h2.trans ((Cert.Reference11Ideal.Read.val_main_v27_eq _ _ _ _ _ _).trans ?_), ha⟩
  · rw [e0, e2]; exact (Cert.Reference11Ideal.Value.agree_a m c).symm
  · rw [e1, e3]; exact (Cert.Reference11Ideal.Value.agree_b m c).symm
  · rw [e0, e1, e2, e3, e4, e5]; exact (Cert.Reference11Ideal.Value.agree_sum m c).symm

theorem adaFwd : Cert.algebraic_Kernel12Ideal_Reference12Ideal := by
  intro m g m' g' hpre hagree
  refine ⟨fun c => (Cert.Kernel12Ideal.Gen.dats m 0 c).arrAt 2 (Cert.Kernel12Ideal.cfgs 0).N,
    fun c => (Cert.Kernel12Ideal.Gen.dats m 0 c).arrAt 3 (Cert.Kernel12Ideal.cfgs 0).N,
    Cert.Kernel12Ideal.Value.run_blocks m g, ?_⟩
  refine (θ_run _ _ _).mono (fun r h c => ?_) (Cert.Reference12Ideal.Value.run m' g')
  obtain ⟨h0, h1, ha⟩ := h c
  obtain ⟨e0, e1⟩ := hagree c
  refine ⟨h0.trans ((Cert.Reference12Ideal.Read.val_main_v1_eq _).trans ?_),
    h1.trans ((Cert.Reference12Ideal.Read.val_main_v2_eq _ _).trans ?_), ha⟩
  · rw [e0]; exact (Cert.Reference12Ideal.Value.agree_act m c).symm
  · rw [e0, e1]; exact (Cert.Reference12Ideal.Value.agree_mod m c).symm

theorem modulate : Cert.algebraic_Kernel13Ideal_Reference13Ideal := by
  intro m g m' g' hpre hagree
  refine ⟨fun c => (Cert.Kernel13Ideal.Gen.dats m 0 c).arrAt 3 (Cert.Kernel13Ideal.cfgs 0).N,
    Cert.Kernel13Ideal.Value.run_blocks m g, ?_⟩
  refine (θ_run _ _ _).mono (fun r h c => ?_) (Cert.Reference13Ideal.Value.run m' g')
  obtain ⟨h0, ha⟩ := h c
  obtain ⟨e0, e1, e2⟩ := hagree c
  refine ⟨h0.trans ((Cert.Reference13Ideal.Read.val_main_v8_eq _ _ _).trans ?_), ha⟩
  rw [e0, e1, e2]; exact (Cert.Reference13Ideal.Value.agree m c).symm

theorem up : Cert.algebraic_Kernel14Ideal_Reference14Ideal := by
  intro m g m' g' hpre hagree
  refine ⟨fun c => (Cert.Kernel14Ideal.Gen.dats m 0 c).arrAt 2 (Cert.Kernel14Ideal.cfgs 0).N,
    Cert.Kernel14Ideal.Value.run_blocks m g, ?_⟩
  refine (θ_run _ _ _).mono (fun r h c => ?_) (Cert.Reference14Ideal.Value.run m' g')
  obtain ⟨h0, ha⟩ := h c
  obtain ⟨e0, e1⟩ := hagree c
  refine ⟨h0.trans ((Cert.Reference14Ideal.Read.val_main_v3_eq _ _).trans ?_), ha⟩
  rw [e0, e1]; exact (Cert.Reference14Ideal.Value.agree m c).symm

theorem dya : Cert.algebraic_Kernel15Ideal_Reference15Ideal := by
  intro m g m' g' hpre hagree
  refine ⟨fun c => (Cert.Kernel15Ideal.Gen.dats m 0 c).arrAt 5 (Cert.Kernel15Ideal.cfgs 0).N,
    fun c => (Cert.Kernel15Ideal.Gen.dats m 0 c).arrAt 6 (Cert.Kernel15Ideal.cfgs 0).N,
    Cert.Kernel15Ideal.Value.run_blocks m g, ?_⟩
  refine (θ_run _ _ _).mono (fun r h c => ?_) (Cert.Reference15Ideal.Value.run m' g')
  obtain ⟨h0, h1, ha⟩ := h c
  obtain ⟨e0, e1, e2, e3⟩ := hagree c
  refine ⟨h0.trans ((Cert.Reference15Ideal.Read.val_main_v7_eq _ _).trans ?_),
    h1.trans ((Cert.Reference15Ideal.Read.val_main_v9_eq _ _).trans ?_), ha⟩
  · rw [e0, e2]; exact (Cert.Reference15Ideal.Value.agreeA m c).symm
  · rw [e1, e3]; exact (Cert.Reference15Ideal.Value.agreeB m c).symm

theorem gwin : Cert.algebraic_Kernel16Ideal_Reference16Ideal := by
  intro m g m' g' hpre hagree
  refine ⟨fun c => (Cert.Kernel16Ideal.Gen.dats m 0 c).arrAt 3 (Cert.Kernel16Ideal.cfgs 0).N,
    Cert.Kernel16Ideal.Value.run_blocks m g, ?_⟩
  refine (θ_run _ _ _).mono (fun r h c => ?_) (Cert.Reference16Ideal.Value.run m' g')
  obtain ⟨h0, ha⟩ := h c
  obtain ⟨e0, e1, e2⟩ := hagree c
  refine ⟨h0.trans ((Cert.Reference16Ideal.Read.val_main_v5_eq _ _).trans ?_), ha⟩
  rw [e0, e2]; exact (Cert.Reference16Ideal.Value.agree m c).symm

open Cert.Kernel17Ideal.Value in
theorem adam : Cert.algebraic_Kernel17Ideal_Reference17Ideal := by
  intro m g m' g' hpre hagree
  refine ⟨argG m, fun c i => change (argW m c i) (argG m c i) (argM m c i) (argN m c i),
    fun c i => mean (argG m c i) (argM m c i), fun c i => square (argG m c i) (argN m c i), run m g, ?_⟩
  refine (θ_run _ _ _).mono (fun r h c => ?_) (Cert.Reference17Ideal.Value.run m' g')
  obtain ⟨h0, h1, h2, h3, ha⟩ := h c
  obtain ⟨e0, e1, e2, e3⟩ := hagree c
  refine ⟨h0.trans e1, h1.trans ((Cert.Reference17Ideal.Read.val_main_v23_eq _ _ _ _).trans ?_),
    h2.trans ((Cert.Reference17Ideal.Read.val_main_v4_eq _ _).trans ?_),
    h3.trans ((Cert.Reference17Ideal.Read.val_main_v10_eq _ _).trans ?_), ha⟩
  · rw [e0, e1, e2, e3]; exact Cert.Reference17Ideal.Value.agree_change _ _ _ _
  · rw [e1, e2]; exact Cert.Reference17Ideal.Value.agree_mean _ _
  · rw [e1, e3]; exact Cert.Reference17Ideal.Value.agree_square _ _

open Cert.Kernel18Ideal.Value in
open Cert.Kernel17Ideal.Value (mean square change) in
/-- The step of the optimiser on the sum of the devices' parts. -/
theorem adamSum : Cert.algebraic_Kernel18Ideal_Reference18Ideal := by
  intro m g m' g' hpre hagree
  refine ⟨gradient m, fun c i => change (argW m c i) (gradient m c i) (argM m c i) (argN m c i),
    fun c i => mean (gradient m c i) (argM m c i), fun c i => square (gradient m c i) (argN m c i), run m g, ?_⟩
  refine (θ_run _ _ _).mono (fun r h c => ?_) (Cert.Reference18Ideal.Value.run m' g')
  obtain ⟨h0, h1, h2, h3, ha⟩ := h c
  obtain ⟨e0, e1, e2, e3, e4⟩ := hagree c
  refine ⟨h0.trans ((Cert.Reference18Ideal.Read.val_main_v8_eq _ _).trans ?_),
    h1.trans ((Cert.Reference18Ideal.Read.val_main_v32_eq _ _ _ _ _).trans ?_),
    h2.trans ((Cert.Reference18Ideal.Read.val_main_v13_eq _ _ _).trans ?_),
    h3.trans ((Cert.Reference18Ideal.Read.val_main_v19_eq _ _ _).trans ?_), ha⟩
  · rw [e1, e2]; exact Cert.Reference18Ideal.Value.agree_sum _ _
  · rw [e0, e1, e2, e3, e4]; exact Cert.Reference18Ideal.Value.agree_change _ _ _ _ _
  · rw [e1, e2, e3]; exact Cert.Reference18Ideal.Value.agree_mean _ _ _
  · rw [e1, e2, e4]; exact Cert.Reference18Ideal.Value.agree_square _ _ _

end Cert.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Pre_ln2_finite
public import proofs.«01_k».proof.Proof.Gen.Pre_ln1_finite
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.On_gate_columns
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel6
public import proofs.«01_k».proof.Proof.Gen.Kernel6Ideal
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel7
public import proofs.«01_k».proof.Proof.Gen.Kernel7Ideal
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Reference18Ideal.Read
public import proofs.«01_k».proof.Proof.Frames
public import proofs.«01_k».proof.Proof.MixFrames
public import proofs.«01_k».proof.Proof.Claims
public import proofs.«01_k».proof.Proof.ClaimsMore
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Kernel7.Gen.facts, Cert.Kernel7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Pre_ln2_finite.Gen.facts,
    Cert.Pre_ln1_finite.Gen.facts, Cert.On_gate_columns.Gen.facts,
    Cert.Frames.kernel, Cert.Frames.kernelIdeal, Cert.Frames.referenceIdeal,
    Cert.Frames.kernel2, Cert.Frames.kernel2Ideal, Cert.Frames.reference2Ideal,
    Cert.Frames.kernel3, Cert.Frames.kernel3Ideal, Cert.Frames.reference3Ideal,
    Cert.Frames.kernel4, Cert.Frames.kernel4Ideal, Cert.Frames.kernel4Ideal_pre, Cert.Frames.reference4Ideal,
    Cert.Frames.reference4Ideal_pre,
    Cert.Frames.kernel5, Cert.Frames.kernel5Ideal, Cert.Frames.kernel5Ideal_pre, Cert.Frames.reference5Ideal,
    Cert.Frames.reference5Ideal_pre,
    Cert.Frames.kernel6, Cert.Frames.kernel6Ideal, Cert.Frames.kernel7, Cert.Frames.kernel7Ideal,
    Cert.Frames.kernel8, Cert.Frames.kernel8Ideal, Cert.Frames.reference8Ideal,
    Cert.Frames.kernel9, Cert.Frames.kernel9Ideal, Cert.Frames.reference9Ideal,
    Cert.Frames.kernel10, Cert.Frames.kernel10Ideal, Cert.Frames.reference10Ideal,
    Cert.Frames.kernel11, Cert.Frames.kernel11Ideal, Cert.Frames.reference11Ideal,
    Cert.Frames.kernel12, Cert.Frames.kernel12Ideal, Cert.Frames.reference12Ideal,
    Cert.Frames.kernel13, Cert.Frames.kernel13Ideal, Cert.Frames.reference13Ideal,
    Cert.Frames.kernel14, Cert.Frames.kernel14Ideal, Cert.Frames.reference14Ideal,
    Cert.Frames.kernel15, Cert.Frames.kernel15Ideal, Cert.Frames.reference15Ideal,
    Cert.Frames.kernel16, Cert.Frames.kernel16Ideal, Cert.Frames.reference16Ideal,
    Cert.Frames.kernel17, Cert.Frames.kernel17Ideal, Cert.Frames.reference17Ideal,
    Cert.Frames.kernel18, Cert.Frames.kernel18Ideal, Cert.Frames.reference18Ideal,
    trivial, Cert.Claims.merge,
    trivial, Cert.Claims.dup,
    trivial, Cert.Claims.final,
    trivial, Cert.Claims.lnOut,
    trivial, Cert.Claims.lnIn,
    trivial, trivial,
    trivial, Cert.Claims.gwdown,
    trivial, Cert.Claims.adaBwd,
    trivial, Cert.Claims.lnMix,
    trivial, Cert.Claims.yabMerge,
    trivial, Cert.Claims.adaFwd,
    trivial, Cert.Claims.modulate,
    trivial, Cert.Claims.up,
    trivial, Cert.Claims.dya,
    trivial, Cert.Claims.gwin,
    ⟨IdealRules.named_const.statement Cert.Kernel17Ideal.κ "c1" .f32 0x3FC48605#32 ((8388608 / 5463681 : ℝ) : EReal) rfl,
      IdealRules.named_const.statement Cert.Kernel17Ideal.κ "c2" .f32 0x42C8E6D3#32 ((268435456 / 2672307 : ℝ) : EReal) rfl⟩,
    Cert.Claims.adam,
    ⟨IdealRules.named_const.statement Cert.Kernel18Ideal.κ "c1" .f32 0x3FC48605#32 ((8388608 / 5463681 : ℝ) : EReal) rfl,
      IdealRules.named_const.statement Cert.Kernel18Ideal.κ "c2" .f32 0x42C8E6D3#32 ((268435456 / 2672307 : ℝ) : EReal) rfl⟩,
    Cert.Claims.adamSum⟩

end Cert.Proof

end
